-- ==== Defs.lean ====
def Pre_FfnBwdKernel (m : (ℓ : Loc Cert.FfnBwdKernel.nD Cert.FfnBwdKernel.τ Cert.FfnBwdKernel.sig) → Buf (Elt Bits) ℓ) : Prop :=
  True

def Pre_FfnBwdKernelIdeal (m : (ℓ : Loc Cert.FfnBwdKernelIdeal.nD Cert.FfnBwdKernelIdeal.τ Cert.FfnBwdKernelIdeal.sig) → Buf (Elt Ideal) ℓ) : Prop :=
  True

def Pre_FfnBwdKernelIdeal_finite_inputs [hPre_finite_inputs : Cert.Pre_finite_inputs.Facts] (m : (ℓ : Loc Cert.FfnBwdKernelIdeal.nD Cert.FfnBwdKernelIdeal.τ Cert.FfnBwdKernelIdeal.sig) → Buf (Elt Ideal) ℓ) : Prop :=
  ∀ c : Dev Cert.FfnBwdKernelIdeal.nD,
    (Cert.Pre_finite_inputs.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).1 = (fun _ => 1#1)
    ∧ (Cert.Pre_finite_inputs.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.1 = (fun _ => 1#1)
    ∧ (Cert.Pre_finite_inputs.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.2.1 = (fun _ => 1#1)
    ∧ (Cert.Pre_finite_inputs.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.2.2 = (fun _ => 1#1)

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_FfnBwdReferenceIdeal_finite_inputs [hPre_finite_inputs : Cert.Pre_finite_inputs.Facts] (m : (ℓ : Loc Cert.FfnBwdReferenceIdeal.nD Cert.FfnBwdReferenceIdeal.τ Cert.FfnBwdReferenceIdeal.sig) → Buf (Elt Ideal) ℓ) : Prop :=
  ∀ c : Dev Cert.FfnBwdReferenceIdeal.nD,
    (Cert.Pre_finite_inputs.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).1 = (fun _ => 1#1)
    ∧ (Cert.Pre_finite_inputs.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.1 = (fun _ => 1#1)
    ∧ (Cert.Pre_finite_inputs.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.2.1 = (fun _ => 1#1)
    ∧ (Cert.Pre_finite_inputs.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.2.2 = (fun _ => 1#1)

def Pre_FfnDwKernel (m : (ℓ : Loc Cert.FfnDwKernel.nD Cert.FfnDwKernel.τ Cert.FfnDwKernel.sig) → Buf (Elt Bits) ℓ) : Prop :=
  True

def Pre_FfnDwKernelIdeal (m : (ℓ : Loc Cert.FfnDwKernelIdeal.nD Cert.FfnDwKernelIdeal.τ Cert.FfnDwKernelIdeal.sig) → Buf (Elt Ideal) ℓ) : Prop :=
  True

def Pre_FfnDwReferenceIdeal (m : (ℓ : Loc Cert.FfnDwReferenceIdeal.nD Cert.FfnDwReferenceIdeal.τ Cert.FfnDwReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FgateBwdKernel (m : (ℓ : Loc Cert.FgateBwdKernel.nD Cert.FgateBwdKernel.τ Cert.FgateBwdKernel.sig) → Buf (Elt Bits) ℓ) : Prop :=
  True

def Pre_FgateBwdKernelIdeal (m : (ℓ : Loc Cert.FgateBwdKernelIdeal.nD Cert.FgateBwdKernelIdeal.τ Cert.FgateBwdKernelIdeal.sig) → Buf (Elt Ideal) ℓ) : Prop :=
  True

def Pre_FgateBwdReferenceIdeal (m : (ℓ : Loc Cert.FgateBwdReferenceIdeal.nD Cert.FgateBwdReferenceIdeal.τ Cert.FgateBwdReferenceIdeal.sig) → Buf (Elt Ideal) ℓ) : Prop :=
  True

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixInDxKernel (m : (ℓ : Loc Cert.MixInDxKernel.nD Cert.MixInDxKernel.τ Cert.MixInDxKernel.sig) → Buf (Elt Bits) ℓ) : Prop :=
  True

def Pre_MixInDxKernelIdeal (m : (ℓ : Loc Cert.MixInDxKernelIdeal.nD Cert.MixInDxKernelIdeal.τ Cert.MixInDxKernelIdeal.sig) → Buf (Elt Ideal) ℓ) : Prop :=
  True

def Pre_MixInDxReferenceIdeal (m : (ℓ : Loc Cert.MixInDxReferenceIdeal.nD Cert.MixInDxReferenceIdeal.τ Cert.MixInDxReferenceIdeal.sig) → Buf (Elt Ideal) ℓ) : Prop :=
  True

def Pre_MixInDwKernel (m : (ℓ : Loc Cert.MixInDwKernel.nD Cert.MixInDwKernel.τ Cert.MixInDwKernel.sig) → Buf (Elt Bits) ℓ) : Prop :=
  True

def Pre_MixInDwKernelIdeal (m : (ℓ : Loc Cert.MixInDwKernelIdeal.nD Cert.MixInDwKernelIdeal.τ Cert.MixInDwKernelIdeal.sig) → Buf (Elt Ideal) ℓ) : Prop :=
  True

def Pre_MixInDwReferenceIdeal (m : (ℓ : Loc Cert.MixInDwReferenceIdeal.nD Cert.MixInDwReferenceIdeal.τ Cert.MixInDwReferenceIdeal.sig) → Buf (Elt Ideal) ℓ) : Prop :=
  True

def Pre_LnBwdKernel (m : (ℓ : Loc Cert.LnBwdKernel.nD Cert.LnBwdKernel.τ Cert.LnBwdKernel.sig) → Buf (Elt Bits) ℓ) : Prop :=
  True

def Pre_LnBwdKernelIdeal (m : (ℓ : Loc Cert.LnBwdKernelIdeal.nD Cert.LnBwdKernelIdeal.τ Cert.LnBwdKernelIdeal.sig) → Buf (Elt Ideal) ℓ) : Prop :=
  True

def Pre_LnBwdKernelIdeal_finite_norm [hPre_finite_norm : Cert.Pre_finite_norm.Facts] (m : (ℓ : Loc Cert.LnBwdKernelIdeal.nD Cert.LnBwdKernelIdeal.τ Cert.LnBwdKernelIdeal.sig) → Buf (Elt Ideal) ℓ) : Prop :=
  ∀ c : Dev Cert.LnBwdKernelIdeal.nD,
    (Cert.Pre_finite_norm.fn (F := Ideal) (m ((c.tc : Thread Cert.LnBwdKernelIdeal.nD Cert.LnBwdKernelIdeal.τ).loc Cert.LnBwdKernelIdeal.main_arg0)) (m ((c.tc : Thread Cert.LnBwdKernelIdeal.nD Cert.LnBwdKernelIdeal.τ).loc Cert.LnBwdKernelIdeal.main_arg1)) (m ((c.tc : Thread Cert.LnBwdKernelIdeal.nD Cert.LnBwdKernelIdeal.τ).loc Cert.LnBwdKernelIdeal.main_arg2)) (m ((c.tc : Thread Cert.LnBwdKernelIdeal.nD Cert.LnBwdKernelIdeal.τ).loc Cert.LnBwdKernelIdeal.main_arg3))).1 = (fun _ => 1#1)
    ∧ (Cert.Pre_finite_norm.fn (F := Ideal) (m ((c.tc : Thread Cert.LnBwdKernelIdeal.nD Cert.LnBwdKernelIdeal.τ).loc Cert.LnBwdKernelIdeal.main_arg0)) (m ((c.tc : Thread Cert.LnBwdKernelIdeal.nD Cert.LnBwdKernelIdeal.τ).loc Cert.LnBwdKernelIdeal.main_arg1)) (m ((c.tc : Thread Cert.LnBwdKernelIdeal.nD Cert.LnBwdKernelIdeal.τ).loc Cert.LnBwdKernelIdeal.main_arg2)) (m ((c.tc : Thread Cert.LnBwdKernelIdeal.nD Cert.LnBwdKernelIdeal.τ).loc Cert.LnBwdKernelIdeal.main_arg3))).2 = (fun _ => 1#1)

def Pre_LnBwdReferenceIdeal (m : (ℓ : Loc Cert.LnBwdReferenceIdeal.nD Cert.LnBwdReferenceIdeal.τ Cert.LnBwdReferenceIdeal.sig) → Buf (Elt Ideal) ℓ) : Prop :=
  True

def Pre_LnBwdReferenceIdeal_finite_norm [hPre_finite_norm : Cert.Pre_finite_norm.Facts] (m : (ℓ : Loc Cert.LnBwdReferenceIdeal.nD Cert.LnBwdReferenceIdeal.τ Cert.LnBwdReferenceIdeal.sig) → Buf (Elt Ideal) ℓ) : Prop :=
  ∀ c : Dev Cert.LnBwdReferenceIdeal.nD,
    (Cert.Pre_finite_norm.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3))).1 = (fun _ => 1#1)
    ∧ (Cert.Pre_finite_norm.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3))).2 = (fun _ => 1#1)

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutBwdKernel (m : (ℓ : Loc Cert.MixOutBwdKernel.nD Cert.MixOutBwdKernel.τ Cert.MixOutBwdKernel.sig) → Buf (Elt Bits) ℓ) : Prop :=
  True

def Pre_MixOutBwdKernelIdeal (m : (ℓ : Loc Cert.MixOutBwdKernelIdeal.nD Cert.MixOutBwdKernelIdeal.τ Cert.MixOutBwdKernelIdeal.sig) → Buf (Elt Ideal) ℓ) : Prop :=
  True

def Pre_MixOutBwdKernelIdeal_finite_out [hPre_finite_out : Cert.Pre_finite_out.Facts] (m : (ℓ : Loc Cert.MixOutBwdKernelIdeal.nD Cert.MixOutBwdKernelIdeal.τ Cert.MixOutBwdKernelIdeal.sig) → Buf (Elt Ideal) ℓ) : Prop :=
  ∀ c : Dev Cert.MixOutBwdKernelIdeal.nD,
    (Cert.Pre_finite_out.fn (F := Ideal) (m ((c.tc : Thread Cert.MixOutBwdKernelIdeal.nD Cert.MixOutBwdKernelIdeal.τ).loc Cert.MixOutBwdKernelIdeal.main_arg0)) (m ((c.tc : Thread Cert.MixOutBwdKernelIdeal.nD Cert.MixOutBwdKernelIdeal.τ).loc Cert.MixOutBwdKernelIdeal.main_arg1)) (m ((c.tc : Thread Cert.MixOutBwdKernelIdeal.nD Cert.MixOutBwdKernelIdeal.τ).loc Cert.MixOutBwdKernelIdeal.main_arg2)) (m ((c.tc : Thread Cert.MixOutBwdKernelIdeal.nD Cert.MixOutBwdKernelIdeal.τ).loc Cert.MixOutBwdKernelIdeal.main_arg3)) (m ((c.tc : Thread Cert.MixOutBwdKernelIdeal.nD Cert.MixOutBwdKernelIdeal.τ).loc Cert.MixOutBwdKernelIdeal.main_arg4)) (m ((c.tc : Thread Cert.MixOutBwdKernelIdeal.nD Cert.MixOutBwdKernelIdeal.τ).loc Cert.MixOutBwdKernelIdeal.main_arg5)) (m ((c.tc : Thread Cert.MixOutBwdKernelIdeal.nD Cert.MixOutBwdKernelIdeal.τ).loc Cert.MixOutBwdKernelIdeal.main_arg6)) (m ((c.tc : Thread Cert.MixOutBwdKernelIdeal.nD Cert.MixOutBwdKernelIdeal.τ).loc Cert.MixOutBwdKernelIdeal.main_arg7)) (m ((c.tc : Thread Cert.MixOutBwdKernelIdeal.nD Cert.MixOutBwdKernelIdeal.τ).loc Cert.MixOutBwdKernelIdeal.main_arg8)) (m ((c.tc : Thread Cert.MixOutBwdKernelIdeal.nD Cert.MixOutBwdKernelIdeal.τ).loc Cert.MixOutBwdKernelIdeal.main_arg9))).1 = (fun _ => 1#1)
    ∧ (Cert.Pre_finite_out.fn (F := Ideal) (m ((c.tc : Thread Cert.MixOutBwdKernelIdeal.nD Cert.MixOutBwdKernelIdeal.τ).loc Cert.MixOutBwdKernelIdeal.main_arg0)) (m ((c.tc : Thread Cert.MixOutBwdKernelIdeal.nD Cert.MixOutBwdKernelIdeal.τ).loc Cert.MixOutBwdKernelIdeal.main_arg1)) (m ((c.tc : Thread Cert.MixOutBwdKernelIdeal.nD Cert.MixOutBwdKernelIdeal.τ).loc Cert.MixOutBwdKernelIdeal.main_arg2)) (m ((c.tc : Thread Cert.MixOutBwdKernelIdeal.nD Cert.MixOutBwdKernelIdeal.τ).loc Cert.MixOutBwdKernelIdeal.main_arg3)) (m ((c.tc : Thread Cert.MixOutBwdKernelIdeal.nD Cert.MixOutBwdKernelIdeal.τ).loc Cert.MixOutBwdKernelIdeal.main_arg4)) (m ((c.tc : Thread Cert.MixOutBwdKernelIdeal.nD Cert.MixOutBwdKernelIdeal.τ).loc Cert.MixOutBwdKernelIdeal.main_arg5)) (m ((c.tc : Thread Cert.MixOutBwdKernelIdeal.nD Cert.MixOutBwdKernelIdeal.τ).loc Cert.MixOutBwdKernelIdeal.main_arg6)) (m ((c.tc : Thread Cert.MixOutBwdKernelIdeal.nD Cert.MixOutBwdKernelIdeal.τ).loc Cert.MixOutBwdKernelIdeal.main_arg7)) (m ((c.tc : Thread Cert.MixOutBwdKernelIdeal.nD Cert.MixOutBwdKernelIdeal.τ).loc Cert.MixOutBwdKernelIdeal.main_arg8)) (m ((c.tc : Thread Cert.MixOutBwdKernelIdeal.nD Cert.MixOutBwdKernelIdeal.τ).loc Cert.MixOutBwdKernelIdeal.main_arg9))).2 = (fun _ => 1#1)

def Pre_MixOutBwdReferenceIdeal (m : (ℓ : Loc Cert.MixOutBwdReferenceIdeal.nD Cert.MixOutBwdReferenceIdeal.τ Cert.MixOutBwdReferenceIdeal.sig) → Buf (Elt Ideal) ℓ) : Prop :=
  True

def Pre_MixOutBwdReferenceIdeal_finite_out [hPre_finite_out : Cert.Pre_finite_out.Facts] (m : (ℓ : Loc Cert.MixOutBwdReferenceIdeal.nD Cert.MixOutBwdReferenceIdeal.τ Cert.MixOutBwdReferenceIdeal.sig) → Buf (Elt Ideal) ℓ) : Prop :=
  ∀ c : Dev Cert.MixOutBwdReferenceIdeal.nD,
    (Cert.Pre_finite_out.fn (F := Ideal) (m ((c.tc : Thread Cert.MixOutBwdReferenceIdeal.nD Cert.MixOutBwdReferenceIdeal.τ).loc Cert.MixOutBwdReferenceIdeal.main_arg0)) (m ((c.tc : Thread Cert.MixOutBwdReferenceIdeal.nD Cert.MixOutBwdReferenceIdeal.τ).loc Cert.MixOutBwdReferenceIdeal.main_arg1)) (m ((c.tc : Thread Cert.MixOutBwdReferenceIdeal.nD Cert.MixOutBwdReferenceIdeal.τ).loc Cert.MixOutBwdReferenceIdeal.main_arg2)) (m ((c.tc : Thread Cert.MixOutBwdReferenceIdeal.nD Cert.MixOutBwdReferenceIdeal.τ).loc Cert.MixOutBwdReferenceIdeal.main_arg3)) (m ((c.tc : Thread Cert.MixOutBwdReferenceIdeal.nD Cert.MixOutBwdReferenceIdeal.τ).loc Cert.MixOutBwdReferenceIdeal.main_arg4)) (m ((c.tc : Thread Cert.MixOutBwdReferenceIdeal.nD Cert.MixOutBwdReferenceIdeal.τ).loc Cert.MixOutBwdReferenceIdeal.main_arg5)) (m ((c.tc : Thread Cert.MixOutBwdReferenceIdeal.nD Cert.MixOutBwdReferenceIdeal.τ).loc Cert.MixOutBwdReferenceIdeal.main_arg6)) (m ((c.tc : Thread Cert.MixOutBwdReferenceIdeal.nD Cert.MixOutBwdReferenceIdeal.τ).loc Cert.MixOutBwdReferenceIdeal.main_arg7)) (m ((c.tc : Thread Cert.MixOutBwdReferenceIdeal.nD Cert.MixOutBwdReferenceIdeal.τ).loc Cert.MixOutBwdReferenceIdeal.main_arg8)) (m ((c.tc : Thread Cert.MixOutBwdReferenceIdeal.nD Cert.MixOutBwdReferenceIdeal.τ).loc Cert.MixOutBwdReferenceIdeal.main_arg9))).1 = (fun _ => 1#1)
    ∧ (Cert.Pre_finite_out.fn (F := Ideal) (m ((c.tc : Thread Cert.MixOutBwdReferenceIdeal.nD Cert.MixOutBwdReferenceIdeal.τ).loc Cert.MixOutBwdReferenceIdeal.main_arg0)) (m ((c.tc : Thread Cert.MixOutBwdReferenceIdeal.nD Cert.MixOutBwdReferenceIdeal.τ).loc Cert.MixOutBwdReferenceIdeal.main_arg1)) (m ((c.tc : Thread Cert.MixOutBwdReferenceIdeal.nD Cert.MixOutBwdReferenceIdeal.τ).loc Cert.MixOutBwdReferenceIdeal.main_arg2)) (m ((c.tc : Thread Cert.MixOutBwdReferenceIdeal.nD Cert.MixOutBwdReferenceIdeal.τ).loc Cert.MixOutBwdReferenceIdeal.main_arg3)) (m ((c.tc : Thread Cert.MixOutBwdReferenceIdeal.nD Cert.MixOutBwdReferenceIdeal.τ).loc Cert.MixOutBwdReferenceIdeal.main_arg4)) (m ((c.tc : Thread Cert.MixOutBwdReferenceIdeal.nD Cert.MixOutBwdReferenceIdeal.τ).loc Cert.MixOutBwdReferenceIdeal.main_arg5)) (m ((c.tc : Thread Cert.MixOutBwdReferenceIdeal.nD Cert.MixOutBwdReferenceIdeal.τ).loc Cert.MixOutBwdReferenceIdeal.main_arg6)) (m ((c.tc : Thread Cert.MixOutBwdReferenceIdeal.nD Cert.MixOutBwdReferenceIdeal.τ).loc Cert.MixOutBwdReferenceIdeal.main_arg7)) (m ((c.tc : Thread Cert.MixOutBwdReferenceIdeal.nD Cert.MixOutBwdReferenceIdeal.τ).loc Cert.MixOutBwdReferenceIdeal.main_arg8)) (m ((c.tc : Thread Cert.MixOutBwdReferenceIdeal.nD Cert.MixOutBwdReferenceIdeal.τ).loc Cert.MixOutBwdReferenceIdeal.main_arg9))).2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamFfnKernel (m : (ℓ : Loc Cert.AdamFfnKernel.nD Cert.AdamFfnKernel.τ Cert.AdamFfnKernel.sig) → Buf (Elt Bits) ℓ) : Prop :=
  True

def Pre_AdamFfnKernelIdeal (m : (ℓ : Loc Cert.AdamFfnKernelIdeal.nD Cert.AdamFfnKernelIdeal.τ Cert.AdamFfnKernelIdeal.sig) → Buf (Elt Ideal) ℓ) : Prop :=
  True

def Pre_AdamFfnReferenceIdeal (m : (ℓ : Loc Cert.AdamFfnReferenceIdeal.nD Cert.AdamFfnReferenceIdeal.τ Cert.AdamFfnReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamGluKernel (m : (ℓ : Loc Cert.AdamGluKernel.nD Cert.AdamGluKernel.τ Cert.AdamGluKernel.sig) → Buf (Elt Bits) ℓ) : Prop :=
  True

def Pre_AdamGluKernelIdeal (m : (ℓ : Loc Cert.AdamGluKernelIdeal.nD Cert.AdamGluKernelIdeal.τ Cert.AdamGluKernelIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamConvKernel (m : (ℓ : Loc Cert.AdamConvKernel.nD Cert.AdamConvKernel.τ Cert.AdamConvKernel.sig) → Buf (Elt Bits) ℓ) : Prop :=
  True

def Pre_AdamConvKernelIdeal (m : (ℓ : Loc Cert.AdamConvKernelIdeal.nD Cert.AdamConvKernelIdeal.τ Cert.AdamConvKernelIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_FgateFwdKernel (m : (ℓ : Loc Cert.FgateFwdKernel.nD Cert.FgateFwdKernel.τ Cert.FgateFwdKernel.sig) → Buf (Elt Bits) ℓ) : Prop :=
  True

def Pre_FgateFwdKernelIdeal (m : (ℓ : Loc Cert.FgateFwdKernelIdeal.nD Cert.FgateFwdKernelIdeal.τ Cert.FgateFwdKernelIdeal.sig) → Buf (Elt Ideal) ℓ) : Prop :=
  True

def Pre_FgateFwdReferenceIdeal (m : (ℓ : Loc Cert.FgateFwdReferenceIdeal.nD Cert.FgateFwdReferenceIdeal.τ Cert.FgateFwdReferenceIdeal.sig) → Buf (Elt Ideal) ℓ) : Prop :=
  True

def Pre_SumSmallKernel (m : (ℓ : Loc Cert.SumSmallKernel.nD Cert.SumSmallKernel.τ Cert.SumSmallKernel.sig) → Buf (Elt Bits) ℓ) : Prop :=
  True

def Pre_SumSmallKernelIdeal (m : (ℓ : Loc Cert.SumSmallKernelIdeal.nD Cert.SumSmallKernelIdeal.τ Cert.SumSmallKernelIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def quiescent_FfnBwdKernel [hFfnBwdKernel : Cert.FfnBwdKernel.Facts] : Prop :=
  ∀ (m : (ℓ : Loc Cert.FfnBwdKernel.nD Cert.FfnBwdKernel.τ Cert.FfnBwdKernel.sig) → Buf (Elt Bits) ℓ) (g : Dev Cert.FfnBwdKernel.nD → PrngReg), Pre_FfnBwdKernel m →
    θ_run (Cert.FfnBwdKernel.defs (F := Bits)) (onTc (τ := Cert.FfnBwdKernel.τ) (Cert.FfnBwdKernel.main (F := Bits))) ⟨m, fun _ => 0, g⟩ (fun r => (∀ c : Dev Cert.FfnBwdKernel.nD,
      r.2.mem ((c.tc : Thread Cert.FfnBwdKernel.nD Cert.FfnBwdKernel.τ).loc Cert.FfnBwdKernel.main_arg0) = m ((c.tc : Thread Cert.FfnBwdKernel.nD Cert.FfnBwdKernel.τ).loc Cert.FfnBwdKernel.main_arg0)
      ∧ r.2.mem ((c.tc : Thread Cert.FfnBwdKernel.nD Cert.FfnBwdKernel.τ).loc Cert.FfnBwdKernel.main_arg1) = m ((c.tc : Thread Cert.FfnBwdKernel.nD Cert.FfnBwdKernel.τ).loc Cert.FfnBwdKernel.main_arg1)
      ∧ r.2.mem ((c.tc : Thread Cert.FfnBwdKernel.nD Cert.FfnBwdKernel.τ).loc Cert.FfnBwdKernel.main_arg2) = m ((c.tc : Thread Cert.FfnBwdKernel.nD Cert.FfnBwdKernel.τ).loc Cert.FfnBwdKernel.main_arg2)
      ∧ r.2.mem ((c.tc : Thread Cert.FfnBwdKernel.nD Cert.FfnBwdKernel.τ).loc Cert.FfnBwdKernel.main_arg3) = m ((c.tc : Thread Cert.FfnBwdKernel.nD Cert.FfnBwdKernel.τ).loc Cert.FfnBwdKernel.main_arg3)
      ∧ r.2.mem ((c.tc : Thread Cert.FfnBwdKernel.nD Cert.FfnBwdKernel.τ).loc Cert.FfnBwdKernel.main_arg4) = m ((c.tc : Thread Cert.FfnBwdKernel.nD Cert.FfnBwdKernel.τ).loc Cert.FfnBwdKernel.main_arg4))
      ∧ r.2.sem = fun _ => 0)

def quiescent_FfnBwdKernelIdeal [hFfnBwdKernelIdeal : Cert.FfnBwdKernelIdeal.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ r.2.sem = fun _ => 0)

def quiescent_FfnBwdKernelIdeal_pre_finite_inputs [hFfnBwdKernelIdeal : Cert.FfnBwdKernelIdeal.Facts] [hPre_finite_inputs : Cert.Pre_finite_inputs.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal_finite_inputs m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_FfnBwdReferenceIdeal_pre_finite_inputs [hFfnBwdReferenceIdeal : Cert.FfnBwdReferenceIdeal.Facts] [hPre_finite_inputs : Cert.Pre_finite_inputs.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal_finite_inputs m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_FfnDwKernel [hFfnDwKernel : Cert.FfnDwKernel.Facts] : Prop :=
  ∀ (m : (ℓ : Loc Cert.FfnDwKernel.nD Cert.FfnDwKernel.τ Cert.FfnDwKernel.sig) → Buf (Elt Bits) ℓ) (g : Dev Cert.FfnDwKernel.nD → PrngReg), Pre_FfnDwKernel m →
    θ_run (Cert.FfnDwKernel.defs (F := Bits)) (onTc (τ := Cert.FfnDwKernel.τ) (Cert.FfnDwKernel.main (F := Bits))) ⟨m, fun _ => 0, g⟩ (fun r => (∀ c : Dev Cert.FfnDwKernel.nD,
      r.2.mem ((c.tc : Thread Cert.FfnDwKernel.nD Cert.FfnDwKernel.τ).loc Cert.FfnDwKernel.main_arg0) = m ((c.tc : Thread Cert.FfnDwKernel.nD Cert.FfnDwKernel.τ).loc Cert.FfnDwKernel.main_arg0)
      ∧ r.2.mem ((c.tc : Thread Cert.FfnDwKernel.nD Cert.FfnDwKernel.τ).loc Cert.FfnDwKernel.main_arg1) = m ((c.tc : Thread Cert.FfnDwKernel.nD Cert.FfnDwKernel.τ).loc Cert.FfnDwKernel.main_arg1))
      ∧ r.2.sem = fun _ => 0)

def quiescent_FfnDwKernelIdeal [hFfnDwKernelIdeal : Cert.FfnDwKernelIdeal.Facts] : Prop :=
  ∀ (m : (ℓ : Loc Cert.FfnDwKernelIdeal.nD Cert.FfnDwKernelIdeal.τ Cert.FfnDwKernelIdeal.sig) → Buf (Elt Ideal) ℓ) (g : Dev Cert.FfnDwKernelIdeal.nD → PrngReg), Pre_FfnDwKernelIdeal m →
    θ_run (Cert.FfnDwKernelIdeal.defs (F := Ideal)) (onTc (τ := Cert.FfnDwKernelIdeal.τ) (Cert.FfnDwKernelIdeal.main (F := Ideal))) ⟨m, fun _ => 0, g⟩ (fun r => (∀ c : Dev Cert.FfnDwKernelIdeal.nD,
      r.2.mem ((c.tc : Thread Cert.FfnDwKernelIdeal.nD Cert.FfnDwKernelIdeal.τ).loc Cert.FfnDwKernelIdeal.main_arg0) = m ((c.tc : Thread Cert.FfnDwKernelIdeal.nD Cert.FfnDwKernelIdeal.τ).loc Cert.FfnDwKernelIdeal.main_arg0)
      ∧ r.2.mem ((c.tc : Thread Cert.FfnDwKernelIdeal.nD Cert.FfnDwKernelIdeal.τ).loc Cert.FfnDwKernelIdeal.main_arg1) = m ((c.tc : Thread Cert.FfnDwKernelIdeal.nD Cert.FfnDwKernelIdeal.τ).loc Cert.FfnDwKernelIdeal.main_arg1))
      ∧ r.2.sem = fun _ => 0)

def quiescent_FfnDwReferenceIdeal [hFfnDwReferenceIdeal : Cert.FfnDwReferenceIdeal.Facts] : Prop :=
  ∀ (m : (ℓ : Loc Cert.FfnDwReferenceIdeal.nD Cert.FfnDwReferenceIdeal.τ Cert.FfnDwReferenceIdeal.sig) → Buf (Elt Ideal) ℓ) (g : Dev Cert.FfnDwReferenceIdeal.nD → PrngReg), Pre_FfnDwReferenceIdeal m →
    θ_run (Cert.FfnDwReferenceIdeal.defs (F := Ideal)) (onTc (τ := Cert.FfnDwReferenceIdeal.τ) (Cert.FfnDwReferenceIdeal.main (F := Ideal))) ⟨m, fun _ => 0, g⟩ (fun r => (∀ c : Dev Cert.FfnDwReferenceIdeal.nD,
      r.2.mem ((c.tc : Thread Cert.FfnDwReferenceIdeal.nD Cert.FfnDwReferenceIdeal.τ).loc Cert.FfnDwReferenceIdeal.main_arg0) = m ((c.tc : Thread Cert.FfnDwReferenceIdeal.nD Cert.FfnDwReferenceIdeal.τ).loc Cert.FfnDwReferenceIdeal.main_arg0)
      ∧ r.2.mem ((c.tc : Thread Cert.FfnDwReferenceIdeal.nD Cert.FfnDwReferenceIdeal.τ).loc Cert.FfnDwReferenceIdeal.main_arg1) = m ((c.tc : Thread Cert.FfnDwReferenceIdeal.nD Cert.FfnDwReferenceIdeal.τ).loc Cert.FfnDwReferenceIdeal.main_arg1))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5))
      ∧ r.2.sem = fun _ => 0)

def quiescent_FgateBwdKernel [hFgateBwdKernel : Cert.FgateBwdKernel.Facts] : Prop :=
  ∀ (m : (ℓ : Loc Cert.FgateBwdKernel.nD Cert.FgateBwdKernel.τ Cert.FgateBwdKernel.sig) → Buf (Elt Bits) ℓ) (g : Dev Cert.FgateBwdKernel.nD → PrngReg), Pre_FgateBwdKernel m →
    θ_run (Cert.FgateBwdKernel.defs (F := Bits)) (onTc (τ := Cert.FgateBwdKernel.τ) (Cert.FgateBwdKernel.main (F := Bits))) ⟨m, fun _ => 0, g⟩ (fun r => (∀ c : Dev Cert.FgateBwdKernel.nD,
      r.2.mem ((c.tc : Thread Cert.FgateBwdKernel.nD Cert.FgateBwdKernel.τ).loc Cert.FgateBwdKernel.main_arg0) = m ((c.tc : Thread Cert.FgateBwdKernel.nD Cert.FgateBwdKernel.τ).loc Cert.FgateBwdKernel.main_arg0)
      ∧ r.2.mem ((c.tc : Thread Cert.FgateBwdKernel.nD Cert.FgateBwdKernel.τ).loc Cert.FgateBwdKernel.main_arg1) = m ((c.tc : Thread Cert.FgateBwdKernel.nD Cert.FgateBwdKernel.τ).loc Cert.FgateBwdKernel.main_arg1)
      ∧ r.2.mem ((c.tc : Thread Cert.FgateBwdKernel.nD Cert.FgateBwdKernel.τ).loc Cert.FgateBwdKernel.main_arg2) = m ((c.tc : Thread Cert.FgateBwdKernel.nD Cert.FgateBwdKernel.τ).loc Cert.FgateBwdKernel.main_arg2))
      ∧ r.2.sem = fun _ => 0)

def quiescent_FgateBwdKernelIdeal [hFgateBwdKernelIdeal : Cert.FgateBwdKernelIdeal.Facts] : Prop :=
  ∀ (m : (ℓ : Loc Cert.FgateBwdKernelIdeal.nD Cert.FgateBwdKernelIdeal.τ Cert.FgateBwdKernelIdeal.sig) → Buf (Elt Ideal) ℓ) (g : Dev Cert.FgateBwdKernelIdeal.nD → PrngReg), Pre_FgateBwdKernelIdeal m →
    θ_run (Cert.FgateBwdKernelIdeal.defs (F := Ideal)) (onTc (τ := Cert.FgateBwdKernelIdeal.τ) (Cert.FgateBwdKernelIdeal.main (F := Ideal))) ⟨m, fun _ => 0, g⟩ (fun r => (∀ c : Dev Cert.FgateBwdKernelIdeal.nD,
      r.2.mem ((c.tc : Thread Cert.FgateBwdKernelIdeal.nD Cert.FgateBwdKernelIdeal.τ).loc Cert.FgateBwdKernelIdeal.main_arg0) = m ((c.tc : Thread Cert.FgateBwdKernelIdeal.nD Cert.FgateBwdKernelIdeal.τ).loc Cert.FgateBwdKernelIdeal.main_arg0)
      ∧ r.2.mem ((c.tc : Thread Cert.FgateBwdKernelIdeal.nD Cert.FgateBwdKernelIdeal.τ).loc Cert.FgateBwdKernelIdeal.main_arg1) = m ((c.tc : Thread Cert.FgateBwdKernelIdeal.nD Cert.FgateBwdKernelIdeal.τ).loc Cert.FgateBwdKernelIdeal.main_arg1)
      ∧ r.2.mem ((c.tc : Thread Cert.FgateBwdKernelIdeal.nD Cert.FgateBwdKernelIdeal.τ).loc Cert.FgateBwdKernelIdeal.main_arg2) = m ((c.tc : Thread Cert.FgateBwdKernelIdeal.nD Cert.FgateBwdKernelIdeal.τ).loc Cert.FgateBwdKernelIdeal.main_arg2))
      ∧ r.2.sem = fun _ => 0)

def quiescent_FgateBwdReferenceIdeal [hFgateBwdReferenceIdeal : Cert.FgateBwdReferenceIdeal.Facts] : Prop :=
  ∀ (m : (ℓ : Loc Cert.FgateBwdReferenceIdeal.nD Cert.FgateBwdReferenceIdeal.τ Cert.FgateBwdReferenceIdeal.sig) → Buf (Elt Ideal) ℓ) (g : Dev Cert.FgateBwdReferenceIdeal.nD → PrngReg), Pre_FgateBwdReferenceIdeal m →
    θ_run (Cert.FgateBwdReferenceIdeal.defs (F := Ideal)) (onTc (τ := Cert.FgateBwdReferenceIdeal.τ) (Cert.FgateBwdReferenceIdeal.main (F := Ideal))) ⟨m, fun _ => 0, g⟩ (fun r => (∀ c : Dev Cert.FgateBwdReferenceIdeal.nD,
      r.2.mem ((c.tc : Thread Cert.FgateBwdReferenceIdeal.nD Cert.FgateBwdReferenceIdeal.τ).loc Cert.FgateBwdReferenceIdeal.main_arg0) = m ((c.tc : Thread Cert.FgateBwdReferenceIdeal.nD Cert.FgateBwdReferenceIdeal.τ).loc Cert.FgateBwdReferenceIdeal.main_arg0)
      ∧ r.2.mem ((c.tc : Thread Cert.FgateBwdReferenceIdeal.nD Cert.FgateBwdReferenceIdeal.τ).loc Cert.FgateBwdReferenceIdeal.main_arg1) = m ((c.tc : Thread Cert.FgateBwdReferenceIdeal.nD Cert.FgateBwdReferenceIdeal.τ).loc Cert.FgateBwdReferenceIdeal.main_arg1)
      ∧ r.2.mem ((c.tc : Thread Cert.FgateBwdReferenceIdeal.nD Cert.FgateBwdReferenceIdeal.τ).loc Cert.FgateBwdReferenceIdeal.main_arg2) = m ((c.tc : Thread Cert.FgateBwdReferenceIdeal.nD Cert.FgateBwdReferenceIdeal.τ).loc Cert.FgateBwdReferenceIdeal.main_arg2))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1))
      ∧ r.2.sem = fun _ => 0)

def quiescent_MixInDxKernel [hMixInDxKernel : Cert.MixInDxKernel.Facts] : Prop :=
  ∀ (m : (ℓ : Loc Cert.MixInDxKernel.nD Cert.MixInDxKernel.τ Cert.MixInDxKernel.sig) → Buf (Elt Bits) ℓ) (g : Dev Cert.MixInDxKernel.nD → PrngReg), Pre_MixInDxKernel m →
    θ_run (Cert.MixInDxKernel.defs (F := Bits)) (onTc (τ := Cert.MixInDxKernel.τ) (Cert.MixInDxKernel.main (F := Bits))) ⟨m, fun _ => 0, g⟩ (fun r => (∀ c : Dev Cert.MixInDxKernel.nD,
      r.2.mem ((c.tc : Thread Cert.MixInDxKernel.nD Cert.MixInDxKernel.τ).loc Cert.MixInDxKernel.main_arg0) = m ((c.tc : Thread Cert.MixInDxKernel.nD Cert.MixInDxKernel.τ).loc Cert.MixInDxKernel.main_arg0)
      ∧ r.2.mem ((c.tc : Thread Cert.MixInDxKernel.nD Cert.MixInDxKernel.τ).loc Cert.MixInDxKernel.main_arg1) = m ((c.tc : Thread Cert.MixInDxKernel.nD Cert.MixInDxKernel.τ).loc Cert.MixInDxKernel.main_arg1)
      ∧ r.2.mem ((c.tc : Thread Cert.MixInDxKernel.nD Cert.MixInDxKernel.τ).loc Cert.MixInDxKernel.main_arg2) = m ((c.tc : Thread Cert.MixInDxKernel.nD Cert.MixInDxKernel.τ).loc Cert.MixInDxKernel.main_arg2))
      ∧ r.2.sem = fun _ => 0)

def quiescent_MixInDxKernelIdeal [hMixInDxKernelIdeal : Cert.MixInDxKernelIdeal.Facts] : Prop :=
  ∀ (m : (ℓ : Loc Cert.MixInDxKernelIdeal.nD Cert.MixInDxKernelIdeal.τ Cert.MixInDxKernelIdeal.sig) → Buf (Elt Ideal) ℓ) (g : Dev Cert.MixInDxKernelIdeal.nD → PrngReg), Pre_MixInDxKernelIdeal m →
    θ_run (Cert.MixInDxKernelIdeal.defs (F := Ideal)) (onTc (τ := Cert.MixInDxKernelIdeal.τ) (Cert.MixInDxKernelIdeal.main (F := Ideal))) ⟨m, fun _ => 0, g⟩ (fun r => (∀ c : Dev Cert.MixInDxKernelIdeal.nD,
      r.2.mem ((c.tc : Thread Cert.MixInDxKernelIdeal.nD Cert.MixInDxKernelIdeal.τ).loc Cert.MixInDxKernelIdeal.main_arg0) = m ((c.tc : Thread Cert.MixInDxKernelIdeal.nD Cert.MixInDxKernelIdeal.τ).loc Cert.MixInDxKernelIdeal.main_arg0)
      ∧ r.2.mem ((c.tc : Thread Cert.MixInDxKernelIdeal.nD Cert.MixInDxKernelIdeal.τ).loc Cert.MixInDxKernelIdeal.main_arg1) = m ((c.tc : Thread Cert.MixInDxKernelIdeal.nD Cert.MixInDxKernelIdeal.τ).loc Cert.MixInDxKernelIdeal.main_arg1)
      ∧ r.2.mem ((c.tc : Thread Cert.MixInDxKernelIdeal.nD Cert.MixInDxKernelIdeal.τ).loc Cert.MixInDxKernelIdeal.main_arg2) = m ((c.tc : Thread Cert.MixInDxKernelIdeal.nD Cert.MixInDxKernelIdeal.τ).loc Cert.MixInDxKernelIdeal.main_arg2))
      ∧ r.2.sem = fun _ => 0)

def quiescent_MixInDxReferenceIdeal [hMixInDxReferenceIdeal : Cert.MixInDxReferenceIdeal.Facts] : Prop :=
  ∀ (m : (ℓ : Loc Cert.MixInDxReferenceIdeal.nD Cert.MixInDxReferenceIdeal.τ Cert.MixInDxReferenceIdeal.sig) → Buf (Elt Ideal) ℓ) (g : Dev Cert.MixInDxReferenceIdeal.nD → PrngReg), Pre_MixInDxReferenceIdeal m →
    θ_run (Cert.MixInDxReferenceIdeal.defs (F := Ideal)) (onTc (τ := Cert.MixInDxReferenceIdeal.τ) (Cert.MixInDxReferenceIdeal.main (F := Ideal))) ⟨m, fun _ => 0, g⟩ (fun r => (∀ c : Dev Cert.MixInDxReferenceIdeal.nD,
      r.2.mem ((c.tc : Thread Cert.MixInDxReferenceIdeal.nD Cert.MixInDxReferenceIdeal.τ).loc Cert.MixInDxReferenceIdeal.main_arg0) = m ((c.tc : Thread Cert.MixInDxReferenceIdeal.nD Cert.MixInDxReferenceIdeal.τ).loc Cert.MixInDxReferenceIdeal.main_arg0)
      ∧ r.2.mem ((c.tc : Thread Cert.MixInDxReferenceIdeal.nD Cert.MixInDxReferenceIdeal.τ).loc Cert.MixInDxReferenceIdeal.main_arg1) = m ((c.tc : Thread Cert.MixInDxReferenceIdeal.nD Cert.MixInDxReferenceIdeal.τ).loc Cert.MixInDxReferenceIdeal.main_arg1)
      ∧ r.2.mem ((c.tc : Thread Cert.MixInDxReferenceIdeal.nD Cert.MixInDxReferenceIdeal.τ).loc Cert.MixInDxReferenceIdeal.main_arg2) = m ((c.tc : Thread Cert.MixInDxReferenceIdeal.nD Cert.MixInDxReferenceIdeal.τ).loc Cert.MixInDxReferenceIdeal.main_arg2))
      ∧ r.2.sem = fun _ => 0)

def quiescent_MixInDwKernel [hMixInDwKernel : Cert.MixInDwKernel.Facts] : Prop :=
  ∀ (m : (ℓ : Loc Cert.MixInDwKernel.nD Cert.MixInDwKernel.τ Cert.MixInDwKernel.sig) → Buf (Elt Bits) ℓ) (g : Dev Cert.MixInDwKernel.nD → PrngReg), Pre_MixInDwKernel m →
    θ_run (Cert.MixInDwKernel.defs (F := Bits)) (onTc (τ := Cert.MixInDwKernel.τ) (Cert.MixInDwKernel.main (F := Bits))) ⟨m, fun _ => 0, g⟩ (fun r => (∀ c : Dev Cert.MixInDwKernel.nD,
      r.2.mem ((c.tc : Thread Cert.MixInDwKernel.nD Cert.MixInDwKernel.τ).loc Cert.MixInDwKernel.main_arg0) = m ((c.tc : Thread Cert.MixInDwKernel.nD Cert.MixInDwKernel.τ).loc Cert.MixInDwKernel.main_arg0)
      ∧ r.2.mem ((c.tc : Thread Cert.MixInDwKernel.nD Cert.MixInDwKernel.τ).loc Cert.MixInDwKernel.main_arg1) = m ((c.tc : Thread Cert.MixInDwKernel.nD Cert.MixInDwKernel.τ).loc Cert.MixInDwKernel.main_arg1))
      ∧ r.2.sem = fun _ => 0)

def quiescent_MixInDwKernelIdeal [hMixInDwKernelIdeal : Cert.MixInDwKernelIdeal.Facts] : Prop :=
  ∀ (m : (ℓ : Loc Cert.MixInDwKernelIdeal.nD Cert.MixInDwKernelIdeal.τ Cert.MixInDwKernelIdeal.sig) → Buf (Elt Ideal) ℓ) (g : Dev Cert.MixInDwKernelIdeal.nD → PrngReg), Pre_MixInDwKernelIdeal m →
    θ_run (Cert.MixInDwKernelIdeal.defs (F := Ideal)) (onTc (τ := Cert.MixInDwKernelIdeal.τ) (Cert.MixInDwKernelIdeal.main (F := Ideal))) ⟨m, fun _ => 0, g⟩ (fun r => (∀ c : Dev Cert.MixInDwKernelIdeal.nD,
      r.2.mem ((c.tc : Thread Cert.MixInDwKernelIdeal.nD Cert.MixInDwKernelIdeal.τ).loc Cert.MixInDwKernelIdeal.main_arg0) = m ((c.tc : Thread Cert.MixInDwKernelIdeal.nD Cert.MixInDwKernelIdeal.τ).loc Cert.MixInDwKernelIdeal.main_arg0)
      ∧ r.2.mem ((c.tc : Thread Cert.MixInDwKernelIdeal.nD Cert.MixInDwKernelIdeal.τ).loc Cert.MixInDwKernelIdeal.main_arg1) = m ((c.tc : Thread Cert.MixInDwKernelIdeal.nD Cert.MixInDwKernelIdeal.τ).loc Cert.MixInDwKernelIdeal.main_arg1))
      ∧ r.2.sem = fun _ => 0)

def quiescent_MixInDwReferenceIdeal [hMixInDwReferenceIdeal : Cert.MixInDwReferenceIdeal.Facts] : Prop :=
  ∀ (m : (ℓ : Loc Cert.MixInDwReferenceIdeal.nD Cert.MixInDwReferenceIdeal.τ Cert.MixInDwReferenceIdeal.sig) → Buf (Elt Ideal) ℓ) (g : Dev Cert.MixInDwReferenceIdeal.nD → PrngReg), Pre_MixInDwReferenceIdeal m →
    θ_run (Cert.MixInDwReferenceIdeal.defs (F := Ideal)) (onTc (τ := Cert.MixInDwReferenceIdeal.τ) (Cert.MixInDwReferenceIdeal.main (F := Ideal))) ⟨m, fun _ => 0, g⟩ (fun r => (∀ c : Dev Cert.MixInDwReferenceIdeal.nD,
      r.2.mem ((c.tc : Thread Cert.MixInDwReferenceIdeal.nD Cert.MixInDwReferenceIdeal.τ).loc Cert.MixInDwReferenceIdeal.main_arg0) = m ((c.tc : Thread Cert.MixInDwReferenceIdeal.nD Cert.MixInDwReferenceIdeal.τ).loc Cert.MixInDwReferenceIdeal.main_arg0)
      ∧ r.2.mem ((c.tc : Thread Cert.MixInDwReferenceIdeal.nD Cert.MixInDwReferenceIdeal.τ).loc Cert.MixInDwReferenceIdeal.main_arg1) = m ((c.tc : Thread Cert.MixInDwReferenceIdeal.nD Cert.MixInDwReferenceIdeal.τ).loc Cert.MixInDwReferenceIdeal.main_arg1))
      ∧ r.2.sem = fun _ => 0)

def quiescent_LnBwdKernel [hLnBwdKernel : Cert.LnBwdKernel.Facts] : Prop :=
  ∀ (m : (ℓ : Loc Cert.LnBwdKernel.nD Cert.LnBwdKernel.τ Cert.LnBwdKernel.sig) → Buf (Elt Bits) ℓ) (g : Dev Cert.LnBwdKernel.nD → PrngReg), Pre_LnBwdKernel m →
    θ_run (Cert.LnBwdKernel.defs (F := Bits)) (onTc (τ := Cert.LnBwdKernel.τ) (Cert.LnBwdKernel.main (F := Bits))) ⟨m, fun _ => 0, g⟩ (fun r => (∀ c : Dev Cert.LnBwdKernel.nD,
      r.2.mem ((c.tc : Thread Cert.LnBwdKernel.nD Cert.LnBwdKernel.τ).loc Cert.LnBwdKernel.main_arg0) = m ((c.tc : Thread Cert.LnBwdKernel.nD Cert.LnBwdKernel.τ).loc Cert.LnBwdKernel.main_arg0)
      ∧ r.2.mem ((c.tc : Thread Cert.LnBwdKernel.nD Cert.LnBwdKernel.τ).loc Cert.LnBwdKernel.main_arg1) = m ((c.tc : Thread Cert.LnBwdKernel.nD Cert.LnBwdKernel.τ).loc Cert.LnBwdKernel.main_arg1)
      ∧ r.2.mem ((c.tc : Thread Cert.LnBwdKernel.nD Cert.LnBwdKernel.τ).loc Cert.LnBwdKernel.main_arg2) = m ((c.tc : Thread Cert.LnBwdKernel.nD Cert.LnBwdKernel.τ).loc Cert.LnBwdKernel.main_arg2)
      ∧ r.2.mem ((c.tc : Thread Cert.LnBwdKernel.nD Cert.LnBwdKernel.τ).loc Cert.LnBwdKernel.main_arg3) = m ((c.tc : Thread Cert.LnBwdKernel.nD Cert.LnBwdKernel.τ).loc Cert.LnBwdKernel.main_arg3))
      ∧ r.2.sem = fun _ => 0)

def quiescent_LnBwdKernelIdeal [hLnBwdKernelIdeal : Cert.LnBwdKernelIdeal.Facts] : Prop :=
  ∀ (m : (ℓ : Loc Cert.LnBwdKernelIdeal.nD Cert.LnBwdKernelIdeal.τ Cert.LnBwdKernelIdeal.sig) → Buf (Elt Ideal) ℓ) (g : Dev Cert.LnBwdKernelIdeal.nD → PrngReg), Pre_LnBwdKernelIdeal m →
    θ_run (Cert.LnBwdKernelIdeal.defs (F := Ideal)) (onTc (τ := Cert.LnBwdKernelIdeal.τ) (Cert.LnBwdKernelIdeal.main (F := Ideal))) ⟨m, fun _ => 0, g⟩ (fun r => (∀ c : Dev Cert.LnBwdKernelIdeal.nD,
      r.2.mem ((c.tc : Thread Cert.LnBwdKernelIdeal.nD Cert.LnBwdKernelIdeal.τ).loc Cert.LnBwdKernelIdeal.main_arg0) = m ((c.tc : Thread Cert.LnBwdKernelIdeal.nD Cert.LnBwdKernelIdeal.τ).loc Cert.LnBwdKernelIdeal.main_arg0)
      ∧ r.2.mem ((c.tc : Thread Cert.LnBwdKernelIdeal.nD Cert.LnBwdKernelIdeal.τ).loc Cert.LnBwdKernelIdeal.main_arg1) = m ((c.tc : Thread Cert.LnBwdKernelIdeal.nD Cert.LnBwdKernelIdeal.τ).loc Cert.LnBwdKernelIdeal.main_arg1)
      ∧ r.2.mem ((c.tc : Thread Cert.LnBwdKernelIdeal.nD Cert.LnBwdKernelIdeal.τ).loc Cert.LnBwdKernelIdeal.main_arg2) = m ((c.tc : Thread Cert.LnBwdKernelIdeal.nD Cert.LnBwdKernelIdeal.τ).loc Cert.LnBwdKernelIdeal.main_arg2)
      ∧ r.2.mem ((c.tc : Thread Cert.LnBwdKernelIdeal.nD Cert.LnBwdKernelIdeal.τ).loc Cert.LnBwdKernelIdeal.main_arg3) = m ((c.tc : Thread Cert.LnBwdKernelIdeal.nD Cert.LnBwdKernelIdeal.τ).loc Cert.LnBwdKernelIdeal.main_arg3))
      ∧ r.2.sem = fun _ => 0)

def quiescent_LnBwdKernelIdeal_pre_finite_norm [hLnBwdKernelIdeal : Cert.LnBwdKernelIdeal.Facts] [hPre_finite_norm : Cert.Pre_finite_norm.Facts] : Prop :=
  ∀ (m : (ℓ : Loc Cert.LnBwdKernelIdeal.nD Cert.LnBwdKernelIdeal.τ Cert.LnBwdKernelIdeal.sig) → Buf (Elt Ideal) ℓ) (g : Dev Cert.LnBwdKernelIdeal.nD → PrngReg), Pre_LnBwdKernelIdeal_finite_norm m →
    θ_run (Cert.LnBwdKernelIdeal.defs (F := Ideal)) (onTc (τ := Cert.LnBwdKernelIdeal.τ) (Cert.LnBwdKernelIdeal.main (F := Ideal))) ⟨m, fun _ => 0, g⟩ (fun r => (∀ c : Dev Cert.LnBwdKernelIdeal.nD,
      r.2.mem ((c.tc : Thread Cert.LnBwdKernelIdeal.nD Cert.LnBwdKernelIdeal.τ).loc Cert.LnBwdKernelIdeal.main_arg0) = m ((c.tc : Thread Cert.LnBwdKernelIdeal.nD Cert.LnBwdKernelIdeal.τ).loc Cert.LnBwdKernelIdeal.main_arg0)
      ∧ r.2.mem ((c.tc : Thread Cert.LnBwdKernelIdeal.nD Cert.LnBwdKernelIdeal.τ).loc Cert.LnBwdKernelIdeal.main_arg1) = m ((c.tc : Thread Cert.LnBwdKernelIdeal.nD Cert.LnBwdKernelIdeal.τ).loc Cert.LnBwdKernelIdeal.main_arg1)
      ∧ r.2.mem ((c.tc : Thread Cert.LnBwdKernelIdeal.nD Cert.LnBwdKernelIdeal.τ).loc Cert.LnBwdKernelIdeal.main_arg2) = m ((c.tc : Thread Cert.LnBwdKernelIdeal.nD Cert.LnBwdKernelIdeal.τ).loc Cert.LnBwdKernelIdeal.main_arg2)
      ∧ r.2.mem ((c.tc : Thread Cert.LnBwdKernelIdeal.nD Cert.LnBwdKernelIdeal.τ).loc Cert.LnBwdKernelIdeal.main_arg3) = m ((c.tc : Thread Cert.LnBwdKernelIdeal.nD Cert.LnBwdKernelIdeal.τ).loc Cert.LnBwdKernelIdeal.main_arg3))
      ∧ r.2.sem = fun _ => 0)

def quiescent_LnBwdReferenceIdeal [hLnBwdReferenceIdeal : Cert.LnBwdReferenceIdeal.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3))
      ∧ r.2.sem = fun _ => 0)

def quiescent_LnBwdReferenceIdeal_pre_finite_norm [hLnBwdReferenceIdeal : Cert.LnBwdReferenceIdeal.Facts] [hPre_finite_norm : Cert.Pre_finite_norm.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal_finite_norm m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3)
      ∧ r.2.mem ((c.tc : Thread Cert.MixOutKernel.nD Cert.MixOutKernel.τ).loc Cert.MixOutKernel.main_arg4) = m ((c.tc : Thread Cert.MixOutKernel.nD Cert.MixOutKernel.τ).loc Cert.MixOutKernel.main_arg4)
      ∧ r.2.mem ((c.tc : Thread Cert.MixOutKernel.nD Cert.MixOutKernel.τ).loc Cert.MixOutKernel.main_arg5) = m ((c.tc : Thread Cert.MixOutKernel.nD Cert.MixOutKernel.τ).loc Cert.MixOutKernel.main_arg5)
      ∧ r.2.mem ((c.tc : Thread Cert.MixOutKernel.nD Cert.MixOutKernel.τ).loc Cert.MixOutKernel.main_arg6) = m ((c.tc : Thread Cert.MixOutKernel.nD Cert.MixOutKernel.τ).loc Cert.MixOutKernel.main_arg6)
      ∧ r.2.mem ((c.tc : Thread Cert.MixOutKernel.nD Cert.MixOutKernel.τ).loc Cert.MixOutKernel.main_arg7) = m ((c.tc : Thread Cert.MixOutKernel.nD Cert.MixOutKernel.τ).loc Cert.MixOutKernel.main_arg7)
      ∧ r.2.mem ((c.tc : Thread Cert.MixOutKernel.nD Cert.MixOutKernel.τ).loc Cert.MixOutKernel.main_arg8) = m ((c.tc : Thread Cert.MixOutKernel.nD Cert.MixOutKernel.τ).loc Cert.MixOutKernel.main_arg8))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
      ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6)
      ∧ r.2.mem ((c.tc : Thread Cert.MixOutKernelIdeal.nD Cert.MixOutKernelIdeal.τ).loc Cert.MixOutKernelIdeal.main_arg7) = m ((c.tc : Thread Cert.MixOutKernelIdeal.nD Cert.MixOutKernelIdeal.τ).loc Cert.MixOutKernelIdeal.main_arg7)
      ∧ r.2.mem ((c.tc : Thread Cert.MixOutKernelIdeal.nD Cert.MixOutKernelIdeal.τ).loc Cert.MixOutKernelIdeal.main_arg8) = m ((c.tc : Thread Cert.MixOutKernelIdeal.nD Cert.MixOutKernelIdeal.τ).loc Cert.MixOutKernelIdeal.main_arg8))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8))
      ∧ r.2.sem = fun _ => 0)

def quiescent_MixOutBwdKernel [hMixOutBwdKernel : Cert.MixOutBwdKernel.Facts] : Prop :=
  ∀ (m : (ℓ : Loc Cert.MixOutBwdKernel.nD Cert.MixOutBwdKernel.τ Cert.MixOutBwdKernel.sig) → Buf (Elt Bits) ℓ) (g : Dev Cert.MixOutBwdKernel.nD → PrngReg), Pre_MixOutBwdKernel m →
    θ_run (Cert.MixOutBwdKernel.defs (F := Bits)) (onTc (τ := Cert.MixOutBwdKernel.τ) (Cert.MixOutBwdKernel.main (F := Bits))) ⟨m, fun _ => 0, g⟩ (fun r => (∀ c : Dev Cert.MixOutBwdKernel.nD,
      r.2.mem ((c.tc : Thread Cert.MixOutBwdKernel.nD Cert.MixOutBwdKernel.τ).loc Cert.MixOutBwdKernel.main_arg0) = m ((c.tc : Thread Cert.MixOutBwdKernel.nD Cert.MixOutBwdKernel.τ).loc Cert.MixOutBwdKernel.main_arg0)
      ∧ r.2.mem ((c.tc : Thread Cert.MixOutBwdKernel.nD Cert.MixOutBwdKernel.τ).loc Cert.MixOutBwdKernel.main_arg1) = m ((c.tc : Thread Cert.MixOutBwdKernel.nD Cert.MixOutBwdKernel.τ).loc Cert.MixOutBwdKernel.main_arg1)
      ∧ r.2.mem ((c.tc : Thread Cert.MixOutBwdKernel.nD Cert.MixOutBwdKernel.τ).loc Cert.MixOutBwdKernel.main_arg2) = m ((c.tc : Thread Cert.MixOutBwdKernel.nD Cert.MixOutBwdKernel.τ).loc Cert.MixOutBwdKernel.main_arg2)
      ∧ r.2.mem ((c.tc : Thread Cert.MixOutBwdKernel.nD Cert.MixOutBwdKernel.τ).loc Cert.MixOutBwdKernel.main_arg3) = m ((c.tc : Thread Cert.MixOutBwdKernel.nD Cert.MixOutBwdKernel.τ).loc Cert.MixOutBwdKernel.main_arg3)
      ∧ r.2.mem ((c.tc : Thread Cert.MixOutBwdKernel.nD Cert.MixOutBwdKernel.τ).loc Cert.MixOutBwdKernel.main_arg4) = m ((c.tc : Thread Cert.MixOutBwdKernel.nD Cert.MixOutBwdKernel.τ).loc Cert.MixOutBwdKernel.main_arg4)
      ∧ r.2.mem ((c.tc : Thread Cert.MixOutBwdKernel.nD Cert.MixOutBwdKernel.τ).loc Cert.MixOutBwdKernel.main_arg5) = m ((c.tc : Thread Cert.MixOutBwdKernel.nD Cert.MixOutBwdKernel.τ).loc Cert.MixOutBwdKernel.main_arg5)
      ∧ r.2.mem ((c.tc : Thread Cert.MixOutBwdKernel.nD Cert.MixOutBwdKernel.τ).loc Cert.MixOutBwdKernel.main_arg6) = m ((c.tc : Thread Cert.MixOutBwdKernel.nD Cert.MixOutBwdKernel.τ).loc Cert.MixOutBwdKernel.main_arg6)
      ∧ r.2.mem ((c.tc : Thread Cert.MixOutBwdKernel.nD Cert.MixOutBwdKernel.τ).loc Cert.MixOutBwdKernel.main_arg7) = m ((c.tc : Thread Cert.MixOutBwdKernel.nD Cert.MixOutBwdKernel.τ).loc Cert.MixOutBwdKernel.main_arg7)
      ∧ r.2.mem ((c.tc : Thread Cert.MixOutBwdKernel.nD Cert.MixOutBwdKernel.τ).loc Cert.MixOutBwdKernel.main_arg8) = m ((c.tc : Thread Cert.MixOutBwdKernel.nD Cert.MixOutBwdKernel.τ).loc Cert.MixOutBwdKernel.main_arg8)
      ∧ r.2.mem ((c.tc : Thread Cert.MixOutBwdKernel.nD Cert.MixOutBwdKernel.τ).loc Cert.MixOutBwdKernel.main_arg9) = m ((c.tc : Thread Cert.MixOutBwdKernel.nD Cert.MixOutBwdKernel.τ).loc Cert.MixOutBwdKernel.main_arg9))
      ∧ r.2.sem = fun _ => 0)

def quiescent_MixOutBwdKernelIdeal [hMixOutBwdKernelIdeal : Cert.MixOutBwdKernelIdeal.Facts] : Prop :=
  ∀ (m : (ℓ : Loc Cert.MixOutBwdKernelIdeal.nD Cert.MixOutBwdKernelIdeal.τ Cert.MixOutBwdKernelIdeal.sig) → Buf (Elt Ideal) ℓ) (g : Dev Cert.MixOutBwdKernelIdeal.nD → PrngReg), Pre_MixOutBwdKernelIdeal m →
    θ_run (Cert.MixOutBwdKernelIdeal.defs (F := Ideal)) (onTc (τ := Cert.MixOutBwdKernelIdeal.τ) (Cert.MixOutBwdKernelIdeal.main (F := Ideal))) ⟨m, fun _ => 0, g⟩ (fun r => (∀ c : Dev Cert.MixOutBwdKernelIdeal.nD,
      r.2.mem ((c.tc : Thread Cert.MixOutBwdKernelIdeal.nD Cert.MixOutBwdKernelIdeal.τ).loc Cert.MixOutBwdKernelIdeal.main_arg0) = m ((c.tc : Thread Cert.MixOutBwdKernelIdeal.nD Cert.MixOutBwdKernelIdeal.τ).loc Cert.MixOutBwdKernelIdeal.main_arg0)
      ∧ r.2.mem ((c.tc : Thread Cert.MixOutBwdKernelIdeal.nD Cert.MixOutBwdKernelIdeal.τ).loc Cert.MixOutBwdKernelIdeal.main_arg1) = m ((c.tc : Thread Cert.MixOutBwdKernelIdeal.nD Cert.MixOutBwdKernelIdeal.τ).loc Cert.MixOutBwdKernelIdeal.main_arg1)
      ∧ r.2.mem ((c.tc : Thread Cert.MixOutBwdKernelIdeal.nD Cert.MixOutBwdKernelIdeal.τ).loc Cert.MixOutBwdKernelIdeal.main_arg2) = m ((c.tc : Thread Cert.MixOutBwdKernelIdeal.nD Cert.MixOutBwdKernelIdeal.τ).loc Cert.MixOutBwdKernelIdeal.main_arg2)
      ∧ r.2.mem ((c.tc : Thread Cert.MixOutBwdKernelIdeal.nD Cert.MixOutBwdKernelIdeal.τ).loc Cert.MixOutBwdKernelIdeal.main_arg3) = m ((c.tc : Thread Cert.MixOutBwdKernelIdeal.nD Cert.MixOutBwdKernelIdeal.τ).loc Cert.MixOutBwdKernelIdeal.main_arg3)
      ∧ r.2.mem ((c.tc : Thread Cert.MixOutBwdKernelIdeal.nD Cert.MixOutBwdKernelIdeal.τ).loc Cert.MixOutBwdKernelIdeal.main_arg4) = m ((c.tc : Thread Cert.MixOutBwdKernelIdeal.nD Cert.MixOutBwdKernelIdeal.τ).loc Cert.MixOutBwdKernelIdeal.main_arg4)
      ∧ r.2.mem ((c.tc : Thread Cert.MixOutBwdKernelIdeal.nD Cert.MixOutBwdKernelIdeal.τ).loc Cert.MixOutBwdKernelIdeal.main_arg5) = m ((c.tc : Thread Cert.MixOutBwdKernelIdeal.nD Cert.MixOutBwdKernelIdeal.τ).loc Cert.MixOutBwdKernelIdeal.main_arg5)
      ∧ r.2.mem ((c.tc : Thread Cert.MixOutBwdKernelIdeal.nD Cert.MixOutBwdKernelIdeal.τ).loc Cert.MixOutBwdKernelIdeal.main_arg6) = m ((c.tc : Thread Cert.MixOutBwdKernelIdeal.nD Cert.MixOutBwdKernelIdeal.τ).loc Cert.MixOutBwdKernelIdeal.main_arg6)
      ∧ r.2.mem ((c.tc : Thread Cert.MixOutBwdKernelIdeal.nD Cert.MixOutBwdKernelIdeal.τ).loc Cert.MixOutBwdKernelIdeal.main_arg7) = m ((c.tc : Thread Cert.MixOutBwdKernelIdeal.nD Cert.MixOutBwdKernelIdeal.τ).loc Cert.MixOutBwdKernelIdeal.main_arg7)
      ∧ r.2.mem ((c.tc : Thread Cert.MixOutBwdKernelIdeal.nD Cert.MixOutBwdKernelIdeal.τ).loc Cert.MixOutBwdKernelIdeal.main_arg8) = m ((c.tc : Thread Cert.MixOutBwdKernelIdeal.nD Cert.MixOutBwdKernelIdeal.τ).loc Cert.MixOutBwdKernelIdeal.main_arg8)
      ∧ r.2.mem ((c.tc : Thread Cert.MixOutBwdKernelIdeal.nD Cert.MixOutBwdKernelIdeal.τ).loc Cert.MixOutBwdKernelIdeal.main_arg9) = m ((c.tc : Thread Cert.MixOutBwdKernelIdeal.nD Cert.MixOutBwdKernelIdeal.τ).loc Cert.MixOutBwdKernelIdeal.main_arg9))
      ∧ r.2.sem = fun _ => 0)

def quiescent_MixOutBwdKernelIdeal_pre_finite_out [hMixOutBwdKernelIdeal : Cert.MixOutBwdKernelIdeal.Facts] [hPre_finite_out : Cert.Pre_finite_out.Facts] : Prop :=
  ∀ (m : (ℓ : Loc Cert.MixOutBwdKernelIdeal.nD Cert.MixOutBwdKernelIdeal.τ Cert.MixOutBwdKernelIdeal.sig) → Buf (Elt Ideal) ℓ) (g : Dev Cert.MixOutBwdKernelIdeal.nD → PrngReg), Pre_MixOutBwdKernelIdeal_finite_out m →
    θ_run (Cert.MixOutBwdKernelIdeal.defs (F := Ideal)) (onTc (τ := Cert.MixOutBwdKernelIdeal.τ) (Cert.MixOutBwdKernelIdeal.main (F := Ideal))) ⟨m, fun _ => 0, g⟩ (fun r => (∀ c : Dev Cert.MixOutBwdKernelIdeal.nD,
      r.2.mem ((c.tc : Thread Cert.MixOutBwdKernelIdeal.nD Cert.MixOutBwdKernelIdeal.τ).loc Cert.MixOutBwdKernelIdeal.main_arg0) = m ((c.tc : Thread Cert.MixOutBwdKernelIdeal.nD Cert.MixOutBwdKernelIdeal.τ).loc Cert.MixOutBwdKernelIdeal.main_arg0)
      ∧ r.2.mem ((c.tc : Thread Cert.MixOutBwdKernelIdeal.nD Cert.MixOutBwdKernelIdeal.τ).loc Cert.MixOutBwdKernelIdeal.main_arg1) = m ((c.tc : Thread Cert.MixOutBwdKernelIdeal.nD Cert.MixOutBwdKernelIdeal.τ).loc Cert.MixOutBwdKernelIdeal.main_arg1)
      ∧ r.2.mem ((c.tc : Thread Cert.MixOutBwdKernelIdeal.nD Cert.MixOutBwdKernelIdeal.τ).loc Cert.MixOutBwdKernelIdeal.main_arg2) = m ((c.tc : Thread Cert.MixOutBwdKernelIdeal.nD Cert.MixOutBwdKernelIdeal.τ).loc Cert.MixOutBwdKernelIdeal.main_arg2)
      ∧ r.2.mem ((c.tc : Thread Cert.MixOutBwdKernelIdeal.nD Cert.MixOutBwdKernelIdeal.τ).loc Cert.MixOutBwdKernelIdeal.main_arg3) = m ((c.tc : Thread Cert.MixOutBwdKernelIdeal.nD Cert.MixOutBwdKernelIdeal.τ).loc Cert.MixOutBwdKernelIdeal.main_arg3)
      ∧ r.2.mem ((c.tc : Thread Cert.MixOutBwdKernelIdeal.nD Cert.MixOutBwdKernelIdeal.τ).loc Cert.MixOutBwdKernelIdeal.main_arg4) = m ((c.tc : Thread Cert.MixOutBwdKernelIdeal.nD Cert.MixOutBwdKernelIdeal.τ).loc Cert.MixOutBwdKernelIdeal.main_arg4)
      ∧ r.2.mem ((c.tc : Thread Cert.MixOutBwdKernelIdeal.nD Cert.MixOutBwdKernelIdeal.τ).loc Cert.MixOutBwdKernelIdeal.main_arg5) = m ((c.tc : Thread Cert.MixOutBwdKernelIdeal.nD Cert.MixOutBwdKernelIdeal.τ).loc Cert.MixOutBwdKernelIdeal.main_arg5)
      ∧ r.2.mem ((c.tc : Thread Cert.MixOutBwdKernelIdeal.nD Cert.MixOutBwdKernelIdeal.τ).loc Cert.MixOutBwdKernelIdeal.main_arg6) = m ((c.tc : Thread Cert.MixOutBwdKernelIdeal.nD Cert.MixOutBwdKernelIdeal.τ).loc Cert.MixOutBwdKernelIdeal.main_arg6)
      ∧ r.2.mem ((c.tc : Thread Cert.MixOutBwdKernelIdeal.nD Cert.MixOutBwdKernelIdeal.τ).loc Cert.MixOutBwdKernelIdeal.main_arg7) = m ((c.tc : Thread Cert.MixOutBwdKernelIdeal.nD Cert.MixOutBwdKernelIdeal.τ).loc Cert.MixOutBwdKernelIdeal.main_arg7)
      ∧ r.2.mem ((c.tc : Thread Cert.MixOutBwdKernelIdeal.nD Cert.MixOutBwdKernelIdeal.τ).loc Cert.MixOutBwdKernelIdeal.main_arg8) = m ((c.tc : Thread Cert.MixOutBwdKernelIdeal.nD Cert.MixOutBwdKernelIdeal.τ).loc Cert.MixOutBwdKernelIdeal.main_arg8)
      ∧ r.2.mem ((c.tc : Thread Cert.MixOutBwdKernelIdeal.nD Cert.MixOutBwdKernelIdeal.τ).loc Cert.MixOutBwdKernelIdeal.main_arg9) = m ((c.tc : Thread Cert.MixOutBwdKernelIdeal.nD Cert.MixOutBwdKernelIdeal.τ).loc Cert.MixOutBwdKernelIdeal.main_arg9))
      ∧ r.2.sem = fun _ => 0)

def quiescent_MixOutBwdReferenceIdeal [hMixOutBwdReferenceIdeal : Cert.MixOutBwdReferenceIdeal.Facts] : Prop :=
  ∀ (m : (ℓ : Loc Cert.MixOutBwdReferenceIdeal.nD Cert.MixOutBwdReferenceIdeal.τ Cert.MixOutBwdReferenceIdeal.sig) → Buf (Elt Ideal) ℓ) (g : Dev Cert.MixOutBwdReferenceIdeal.nD → PrngReg), Pre_MixOutBwdReferenceIdeal m →
    θ_run (Cert.MixOutBwdReferenceIdeal.defs (F := Ideal)) (onTc (τ := Cert.MixOutBwdReferenceIdeal.τ) (Cert.MixOutBwdReferenceIdeal.main (F := Ideal))) ⟨m, fun _ => 0, g⟩ (fun r => (∀ c : Dev Cert.MixOutBwdReferenceIdeal.nD,
      r.2.mem ((c.tc : Thread Cert.MixOutBwdReferenceIdeal.nD Cert.MixOutBwdReferenceIdeal.τ).loc Cert.MixOutBwdReferenceIdeal.main_arg0) = m ((c.tc : Thread Cert.MixOutBwdReferenceIdeal.nD Cert.MixOutBwdReferenceIdeal.τ).loc Cert.MixOutBwdReferenceIdeal.main_arg0)
      ∧ r.2.mem ((c.tc : Thread Cert.MixOutBwdReferenceIdeal.nD Cert.MixOutBwdReferenceIdeal.τ).loc Cert.MixOutBwdReferenceIdeal.main_arg1) = m ((c.tc : Thread Cert.MixOutBwdReferenceIdeal.nD Cert.MixOutBwdReferenceIdeal.τ).loc Cert.MixOutBwdReferenceIdeal.main_arg1)
      ∧ r.2.mem ((c.tc : Thread Cert.MixOutBwdReferenceIdeal.nD Cert.MixOutBwdReferenceIdeal.τ).loc Cert.MixOutBwdReferenceIdeal.main_arg2) = m ((c.tc : Thread Cert.MixOutBwdReferenceIdeal.nD Cert.MixOutBwdReferenceIdeal.τ).loc Cert.MixOutBwdReferenceIdeal.main_arg2)
      ∧ r.2.mem ((c.tc : Thread Cert.MixOutBwdReferenceIdeal.nD Cert.MixOutBwdReferenceIdeal.τ).loc Cert.MixOutBwdReferenceIdeal.main_arg3) = m ((c.tc : Thread Cert.MixOutBwdReferenceIdeal.nD Cert.MixOutBwdReferenceIdeal.τ).loc Cert.MixOutBwdReferenceIdeal.main_arg3)
      ∧ r.2.mem ((c.tc : Thread Cert.MixOutBwdReferenceIdeal.nD Cert.MixOutBwdReferenceIdeal.τ).loc Cert.MixOutBwdReferenceIdeal.main_arg4) = m ((c.tc : Thread Cert.MixOutBwdReferenceIdeal.nD Cert.MixOutBwdReferenceIdeal.τ).loc Cert.MixOutBwdReferenceIdeal.main_arg4)
      ∧ r.2.mem ((c.tc : Thread Cert.MixOutBwdReferenceIdeal.nD Cert.MixOutBwdReferenceIdeal.τ).loc Cert.MixOutBwdReferenceIdeal.main_arg5) = m ((c.tc : Thread Cert.MixOutBwdReferenceIdeal.nD Cert.MixOutBwdReferenceIdeal.τ).loc Cert.MixOutBwdReferenceIdeal.main_arg5)
      ∧ r.2.mem ((c.tc : Thread Cert.MixOutBwdReferenceIdeal.nD Cert.MixOutBwdReferenceIdeal.τ).loc Cert.MixOutBwdReferenceIdeal.main_arg6) = m ((c.tc : Thread Cert.MixOutBwdReferenceIdeal.nD Cert.MixOutBwdReferenceIdeal.τ).loc Cert.MixOutBwdReferenceIdeal.main_arg6)
      ∧ r.2.mem ((c.tc : Thread Cert.MixOutBwdReferenceIdeal.nD Cert.MixOutBwdReferenceIdeal.τ).loc Cert.MixOutBwdReferenceIdeal.main_arg7) = m ((c.tc : Thread Cert.MixOutBwdReferenceIdeal.nD Cert.MixOutBwdReferenceIdeal.τ).loc Cert.MixOutBwdReferenceIdeal.main_arg7)
      ∧ r.2.mem ((c.tc : Thread Cert.MixOutBwdReferenceIdeal.nD Cert.MixOutBwdReferenceIdeal.τ).loc Cert.MixOutBwdReferenceIdeal.main_arg8) = m ((c.tc : Thread Cert.MixOutBwdReferenceIdeal.nD Cert.MixOutBwdReferenceIdeal.τ).loc Cert.MixOutBwdReferenceIdeal.main_arg8)
      ∧ r.2.mem ((c.tc : Thread Cert.MixOutBwdReferenceIdeal.nD Cert.MixOutBwdReferenceIdeal.τ).loc Cert.MixOutBwdReferenceIdeal.main_arg9) = m ((c.tc : Thread Cert.MixOutBwdReferenceIdeal.nD Cert.MixOutBwdReferenceIdeal.τ).loc Cert.MixOutBwdReferenceIdeal.main_arg9))
      ∧ r.2.sem = fun _ => 0)

def quiescent_MixOutBwdReferenceIdeal_pre_finite_out [hMixOutBwdReferenceIdeal : Cert.MixOutBwdReferenceIdeal.Facts] [hPre_finite_out : Cert.Pre_finite_out.Facts] : Prop :=
  ∀ (m : (ℓ : Loc Cert.MixOutBwdReferenceIdeal.nD Cert.MixOutBwdReferenceIdeal.τ Cert.MixOutBwdReferenceIdeal.sig) → Buf (Elt Ideal) ℓ) (g : Dev Cert.MixOutBwdReferenceIdeal.nD → PrngReg), Pre_MixOutBwdReferenceIdeal_finite_out m →
    θ_run (Cert.MixOutBwdReferenceIdeal.defs (F := Ideal)) (onTc (τ := Cert.MixOutBwdReferenceIdeal.τ) (Cert.MixOutBwdReferenceIdeal.main (F := Ideal))) ⟨m, fun _ => 0, g⟩ (fun r => (∀ c : Dev Cert.MixOutBwdReferenceIdeal.nD,
      r.2.mem ((c.tc : Thread Cert.MixOutBwdReferenceIdeal.nD Cert.MixOutBwdReferenceIdeal.τ).loc Cert.MixOutBwdReferenceIdeal.main_arg0) = m ((c.tc : Thread Cert.MixOutBwdReferenceIdeal.nD Cert.MixOutBwdReferenceIdeal.τ).loc Cert.MixOutBwdReferenceIdeal.main_arg0)
      ∧ r.2.mem ((c.tc : Thread Cert.MixOutBwdReferenceIdeal.nD Cert.MixOutBwdReferenceIdeal.τ).loc Cert.MixOutBwdReferenceIdeal.main_arg1) = m ((c.tc : Thread Cert.MixOutBwdReferenceIdeal.nD Cert.MixOutBwdReferenceIdeal.τ).loc Cert.MixOutBwdReferenceIdeal.main_arg1)
      ∧ r.2.mem ((c.tc : Thread Cert.MixOutBwdReferenceIdeal.nD Cert.MixOutBwdReferenceIdeal.τ).loc Cert.MixOutBwdReferenceIdeal.main_arg2) = m ((c.tc : Thread Cert.MixOutBwdReferenceIdeal.nD Cert.MixOutBwdReferenceIdeal.τ).loc Cert.MixOutBwdReferenceIdeal.main_arg2)
      ∧ r.2.mem ((c.tc : Thread Cert.MixOutBwdReferenceIdeal.nD Cert.MixOutBwdReferenceIdeal.τ).loc Cert.MixOutBwdReferenceIdeal.main_arg3) = m ((c.tc : Thread Cert.MixOutBwdReferenceIdeal.nD Cert.MixOutBwdReferenceIdeal.τ).loc Cert.MixOutBwdReferenceIdeal.main_arg3)
      ∧ r.2.mem ((c.tc : Thread Cert.MixOutBwdReferenceIdeal.nD Cert.MixOutBwdReferenceIdeal.τ).loc Cert.MixOutBwdReferenceIdeal.main_arg4) = m ((c.tc : Thread Cert.MixOutBwdReferenceIdeal.nD Cert.MixOutBwdReferenceIdeal.τ).loc Cert.MixOutBwdReferenceIdeal.main_arg4)
      ∧ r.2.mem ((c.tc : Thread Cert.MixOutBwdReferenceIdeal.nD Cert.MixOutBwdReferenceIdeal.τ).loc Cert.MixOutBwdReferenceIdeal.main_arg5) = m ((c.tc : Thread Cert.MixOutBwdReferenceIdeal.nD Cert.MixOutBwdReferenceIdeal.τ).loc Cert.MixOutBwdReferenceIdeal.main_arg5)
      ∧ r.2.mem ((c.tc : Thread Cert.MixOutBwdReferenceIdeal.nD Cert.MixOutBwdReferenceIdeal.τ).loc Cert.MixOutBwdReferenceIdeal.main_arg6) = m ((c.tc : Thread Cert.MixOutBwdReferenceIdeal.nD Cert.MixOutBwdReferenceIdeal.τ).loc Cert.MixOutBwdReferenceIdeal.main_arg6)
      ∧ r.2.mem ((c.tc : Thread Cert.MixOutBwdReferenceIdeal.nD Cert.MixOutBwdReferenceIdeal.τ).loc Cert.MixOutBwdReferenceIdeal.main_arg7) = m ((c.tc : Thread Cert.MixOutBwdReferenceIdeal.nD Cert.MixOutBwdReferenceIdeal.τ).loc Cert.MixOutBwdReferenceIdeal.main_arg7)
      ∧ r.2.mem ((c.tc : Thread Cert.MixOutBwdReferenceIdeal.nD Cert.MixOutBwdReferenceIdeal.τ).loc Cert.MixOutBwdReferenceIdeal.main_arg8) = m ((c.tc : Thread Cert.MixOutBwdReferenceIdeal.nD Cert.MixOutBwdReferenceIdeal.τ).loc Cert.MixOutBwdReferenceIdeal.main_arg8)
      ∧ r.2.mem ((c.tc : Thread Cert.MixOutBwdReferenceIdeal.nD Cert.MixOutBwdReferenceIdeal.τ).loc Cert.MixOutBwdReferenceIdeal.main_arg9) = m ((c.tc : Thread Cert.MixOutBwdReferenceIdeal.nD Cert.MixOutBwdReferenceIdeal.τ).loc Cert.MixOutBwdReferenceIdeal.main_arg9))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamFfnKernel [hAdamFfnKernel : Cert.AdamFfnKernel.Facts] : Prop :=
  ∀ (m : (ℓ : Loc Cert.AdamFfnKernel.nD Cert.AdamFfnKernel.τ Cert.AdamFfnKernel.sig) → Buf (Elt Bits) ℓ) (g : Dev Cert.AdamFfnKernel.nD → PrngReg), Pre_AdamFfnKernel m →
    θ_run (Cert.AdamFfnKernel.defs (F := Bits)) (onTc (τ := Cert.AdamFfnKernel.τ) (Cert.AdamFfnKernel.main (F := Bits))) ⟨m, fun _ => 0, g⟩ (fun r => (∀ c : Dev Cert.AdamFfnKernel.nD,
      r.2.mem ((c.tc : Thread Cert.AdamFfnKernel.nD Cert.AdamFfnKernel.τ).loc Cert.AdamFfnKernel.main_arg0) = m ((c.tc : Thread Cert.AdamFfnKernel.nD Cert.AdamFfnKernel.τ).loc Cert.AdamFfnKernel.main_arg0)
      ∧ r.2.mem ((c.tc : Thread Cert.AdamFfnKernel.nD Cert.AdamFfnKernel.τ).loc Cert.AdamFfnKernel.main_arg1) = m ((c.tc : Thread Cert.AdamFfnKernel.nD Cert.AdamFfnKernel.τ).loc Cert.AdamFfnKernel.main_arg1)
      ∧ r.2.mem ((c.tc : Thread Cert.AdamFfnKernel.nD Cert.AdamFfnKernel.τ).loc Cert.AdamFfnKernel.main_arg2) = m ((c.tc : Thread Cert.AdamFfnKernel.nD Cert.AdamFfnKernel.τ).loc Cert.AdamFfnKernel.main_arg2)
      ∧ r.2.mem ((c.tc : Thread Cert.AdamFfnKernel.nD Cert.AdamFfnKernel.τ).loc Cert.AdamFfnKernel.main_arg3) = m ((c.tc : Thread Cert.AdamFfnKernel.nD Cert.AdamFfnKernel.τ).loc Cert.AdamFfnKernel.main_arg3))
      ∧ r.2.sem = fun _ => 0)

def quiescent_AdamFfnKernelIdeal [hAdamFfnKernelIdeal : Cert.AdamFfnKernelIdeal.Facts] : Prop :=
  ∀ (m : (ℓ : Loc Cert.AdamFfnKernelIdeal.nD Cert.AdamFfnKernelIdeal.τ Cert.AdamFfnKernelIdeal.sig) → Buf (Elt Ideal) ℓ) (g : Dev Cert.AdamFfnKernelIdeal.nD → PrngReg), Pre_AdamFfnKernelIdeal m →
    θ_run (Cert.AdamFfnKernelIdeal.defs (F := Ideal)) (onTc (τ := Cert.AdamFfnKernelIdeal.τ) (Cert.AdamFfnKernelIdeal.main (F := Ideal))) ⟨m, fun _ => 0, g⟩ (fun r => (∀ c : Dev Cert.AdamFfnKernelIdeal.nD,
      r.2.mem ((c.tc : Thread Cert.AdamFfnKernelIdeal.nD Cert.AdamFfnKernelIdeal.τ).loc Cert.AdamFfnKernelIdeal.main_arg0) = m ((c.tc : Thread Cert.AdamFfnKernelIdeal.nD Cert.AdamFfnKernelIdeal.τ).loc Cert.AdamFfnKernelIdeal.main_arg0)
      ∧ r.2.mem ((c.tc : Thread Cert.AdamFfnKernelIdeal.nD Cert.AdamFfnKernelIdeal.τ).loc Cert.AdamFfnKernelIdeal.main_arg1) = m ((c.tc : Thread Cert.AdamFfnKernelIdeal.nD Cert.AdamFfnKernelIdeal.τ).loc Cert.AdamFfnKernelIdeal.main_arg1)
      ∧ r.2.mem ((c.tc : Thread Cert.AdamFfnKernelIdeal.nD Cert.AdamFfnKernelIdeal.τ).loc Cert.AdamFfnKernelIdeal.main_arg2) = m ((c.tc : Thread Cert.AdamFfnKernelIdeal.nD Cert.AdamFfnKernelIdeal.τ).loc Cert.AdamFfnKernelIdeal.main_arg2)
      ∧ r.2.mem ((c.tc : Thread Cert.AdamFfnKernelIdeal.nD Cert.AdamFfnKernelIdeal.τ).loc Cert.AdamFfnKernelIdeal.main_arg3) = m ((c.tc : Thread Cert.AdamFfnKernelIdeal.nD Cert.AdamFfnKernelIdeal.τ).loc Cert.AdamFfnKernelIdeal.main_arg3))
      ∧ r.2.sem = fun _ => 0)

def quiescent_AdamFfnReferenceIdeal [hAdamFfnReferenceIdeal : Cert.AdamFfnReferenceIdeal.Facts] : Prop :=
  ∀ (m : (ℓ : Loc Cert.AdamFfnReferenceIdeal.nD Cert.AdamFfnReferenceIdeal.τ Cert.AdamFfnReferenceIdeal.sig) → Buf (Elt Ideal) ℓ) (g : Dev Cert.AdamFfnReferenceIdeal.nD → PrngReg), Pre_AdamFfnReferenceIdeal m →
    θ_run (Cert.AdamFfnReferenceIdeal.defs (F := Ideal)) (onTc (τ := Cert.AdamFfnReferenceIdeal.τ) (Cert.AdamFfnReferenceIdeal.main (F := Ideal))) ⟨m, fun _ => 0, g⟩ (fun r => (∀ c : Dev Cert.AdamFfnReferenceIdeal.nD,
      r.2.mem ((c.tc : Thread Cert.AdamFfnReferenceIdeal.nD Cert.AdamFfnReferenceIdeal.τ).loc Cert.AdamFfnReferenceIdeal.main_arg0) = m ((c.tc : Thread Cert.AdamFfnReferenceIdeal.nD Cert.AdamFfnReferenceIdeal.τ).loc Cert.AdamFfnReferenceIdeal.main_arg0)
      ∧ r.2.mem ((c.tc : Thread Cert.AdamFfnReferenceIdeal.nD Cert.AdamFfnReferenceIdeal.τ).loc Cert.AdamFfnReferenceIdeal.main_arg1) = m ((c.tc : Thread Cert.AdamFfnReferenceIdeal.nD Cert.AdamFfnReferenceIdeal.τ).loc Cert.AdamFfnReferenceIdeal.main_arg1)
      ∧ r.2.mem ((c.tc : Thread Cert.AdamFfnReferenceIdeal.nD Cert.AdamFfnReferenceIdeal.τ).loc Cert.AdamFfnReferenceIdeal.main_arg2) = m ((c.tc : Thread Cert.AdamFfnReferenceIdeal.nD Cert.AdamFfnReferenceIdeal.τ).loc Cert.AdamFfnReferenceIdeal.main_arg2)
      ∧ r.2.mem ((c.tc : Thread Cert.AdamFfnReferenceIdeal.nD Cert.AdamFfnReferenceIdeal.τ).loc Cert.AdamFfnReferenceIdeal.main_arg3) = m ((c.tc : Thread Cert.AdamFfnReferenceIdeal.nD Cert.AdamFfnReferenceIdeal.τ).loc Cert.AdamFfnReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamGluKernel [hAdamGluKernel : Cert.AdamGluKernel.Facts] : Prop :=
  ∀ (m : (ℓ : Loc Cert.AdamGluKernel.nD Cert.AdamGluKernel.τ Cert.AdamGluKernel.sig) → Buf (Elt Bits) ℓ) (g : Dev Cert.AdamGluKernel.nD → PrngReg), Pre_AdamGluKernel m →
    θ_run (Cert.AdamGluKernel.defs (F := Bits)) (onTc (τ := Cert.AdamGluKernel.τ) (Cert.AdamGluKernel.main (F := Bits))) ⟨m, fun _ => 0, g⟩ (fun r => (∀ c : Dev Cert.AdamGluKernel.nD,
      r.2.mem ((c.tc : Thread Cert.AdamGluKernel.nD Cert.AdamGluKernel.τ).loc Cert.AdamGluKernel.main_arg0) = m ((c.tc : Thread Cert.AdamGluKernel.nD Cert.AdamGluKernel.τ).loc Cert.AdamGluKernel.main_arg0)
      ∧ r.2.mem ((c.tc : Thread Cert.AdamGluKernel.nD Cert.AdamGluKernel.τ).loc Cert.AdamGluKernel.main_arg1) = m ((c.tc : Thread Cert.AdamGluKernel.nD Cert.AdamGluKernel.τ).loc Cert.AdamGluKernel.main_arg1)
      ∧ r.2.mem ((c.tc : Thread Cert.AdamGluKernel.nD Cert.AdamGluKernel.τ).loc Cert.AdamGluKernel.main_arg2) = m ((c.tc : Thread Cert.AdamGluKernel.nD Cert.AdamGluKernel.τ).loc Cert.AdamGluKernel.main_arg2)
      ∧ r.2.mem ((c.tc : Thread Cert.AdamGluKernel.nD Cert.AdamGluKernel.τ).loc Cert.AdamGluKernel.main_arg3) = m ((c.tc : Thread Cert.AdamGluKernel.nD Cert.AdamGluKernel.τ).loc Cert.AdamGluKernel.main_arg3))
      ∧ r.2.sem = fun _ => 0)

def quiescent_AdamGluKernelIdeal [hAdamGluKernelIdeal : Cert.AdamGluKernelIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg), Pre_AdamGluKernelIdeal m →
    θ_run (Cert.AdamGluKernelIdeal.defs (F := Ideal)) (onTc (τ := Cert.AdamGluKernelIdeal.τ) (Cert.AdamGluKernelIdeal.main (F := Ideal))) ⟨m, fun _ => 0, g⟩ (fun r => (∀ c : Dev Cert.AdamGluKernelIdeal.nD,
      r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
      ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
      ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
      ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamConvKernel [hAdamConvKernel : Cert.AdamConvKernel.Facts] : Prop :=
  ∀ (m : (ℓ : Loc Cert.AdamConvKernel.nD Cert.AdamConvKernel.τ Cert.AdamConvKernel.sig) → Buf (Elt Bits) ℓ) (g : Dev Cert.AdamConvKernel.nD → PrngReg), Pre_AdamConvKernel m →
    θ_run (Cert.AdamConvKernel.defs (F := Bits)) (onTc (τ := Cert.AdamConvKernel.τ) (Cert.AdamConvKernel.main (F := Bits))) ⟨m, fun _ => 0, g⟩ (fun r => (∀ c : Dev Cert.AdamConvKernel.nD,
      r.2.mem ((c.tc : Thread Cert.AdamConvKernel.nD Cert.AdamConvKernel.τ).loc Cert.AdamConvKernel.main_arg0) = m ((c.tc : Thread Cert.AdamConvKernel.nD Cert.AdamConvKernel.τ).loc Cert.AdamConvKernel.main_arg0)
      ∧ r.2.mem ((c.tc : Thread Cert.AdamConvKernel.nD Cert.AdamConvKernel.τ).loc Cert.AdamConvKernel.main_arg1) = m ((c.tc : Thread Cert.AdamConvKernel.nD Cert.AdamConvKernel.τ).loc Cert.AdamConvKernel.main_arg1)
      ∧ r.2.mem ((c.tc : Thread Cert.AdamConvKernel.nD Cert.AdamConvKernel.τ).loc Cert.AdamConvKernel.main_arg2) = m ((c.tc : Thread Cert.AdamConvKernel.nD Cert.AdamConvKernel.τ).loc Cert.AdamConvKernel.main_arg2)
      ∧ r.2.mem ((c.tc : Thread Cert.AdamConvKernel.nD Cert.AdamConvKernel.τ).loc Cert.AdamConvKernel.main_arg3) = m ((c.tc : Thread Cert.AdamConvKernel.nD Cert.AdamConvKernel.τ).loc Cert.AdamConvKernel.main_arg3))
      ∧ r.2.sem = fun _ => 0)

def quiescent_AdamConvKernelIdeal [hAdamConvKernelIdeal : Cert.AdamConvKernelIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg), Pre_AdamConvKernelIdeal m →
    θ_run (Cert.AdamConvKernelIdeal.defs (F := Ideal)) (onTc (τ := Cert.AdamConvKernelIdeal.τ) (Cert.AdamConvKernelIdeal.main (F := Ideal))) ⟨m, fun _ => 0, g⟩ (fun r => (∀ c : Dev Cert.AdamConvKernelIdeal.nD,
      r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_FgateFwdKernel [hFgateFwdKernel : Cert.FgateFwdKernel.Facts] : Prop :=
  ∀ (m : (ℓ : Loc Cert.FgateFwdKernel.nD Cert.FgateFwdKernel.τ Cert.FgateFwdKernel.sig) → Buf (Elt Bits) ℓ) (g : Dev Cert.FgateFwdKernel.nD → PrngReg), Pre_FgateFwdKernel m →
    θ_run (Cert.FgateFwdKernel.defs (F := Bits)) (onTc (τ := Cert.FgateFwdKernel.τ) (Cert.FgateFwdKernel.main (F := Bits))) ⟨m, fun _ => 0, g⟩ (fun r => (∀ c : Dev Cert.FgateFwdKernel.nD,
      r.2.mem ((c.tc : Thread Cert.FgateFwdKernel.nD Cert.FgateFwdKernel.τ).loc Cert.FgateFwdKernel.main_arg0) = m ((c.tc : Thread Cert.FgateFwdKernel.nD Cert.FgateFwdKernel.τ).loc Cert.FgateFwdKernel.main_arg0)
      ∧ r.2.mem ((c.tc : Thread Cert.FgateFwdKernel.nD Cert.FgateFwdKernel.τ).loc Cert.FgateFwdKernel.main_arg1) = m ((c.tc : Thread Cert.FgateFwdKernel.nD Cert.FgateFwdKernel.τ).loc Cert.FgateFwdKernel.main_arg1))
      ∧ r.2.sem = fun _ => 0)

def quiescent_FgateFwdKernelIdeal [hFgateFwdKernelIdeal : Cert.FgateFwdKernelIdeal.Facts] : Prop :=
  ∀ (m : (ℓ : Loc Cert.FgateFwdKernelIdeal.nD Cert.FgateFwdKernelIdeal.τ Cert.FgateFwdKernelIdeal.sig) → Buf (Elt Ideal) ℓ) (g : Dev Cert.FgateFwdKernelIdeal.nD → PrngReg), Pre_FgateFwdKernelIdeal m →
    θ_run (Cert.FgateFwdKernelIdeal.defs (F := Ideal)) (onTc (τ := Cert.FgateFwdKernelIdeal.τ) (Cert.FgateFwdKernelIdeal.main (F := Ideal))) ⟨m, fun _ => 0, g⟩ (fun r => (∀ c : Dev Cert.FgateFwdKernelIdeal.nD,
      r.2.mem ((c.tc : Thread Cert.FgateFwdKernelIdeal.nD Cert.FgateFwdKernelIdeal.τ).loc Cert.FgateFwdKernelIdeal.main_arg0) = m ((c.tc : Thread Cert.FgateFwdKernelIdeal.nD Cert.FgateFwdKernelIdeal.τ).loc Cert.FgateFwdKernelIdeal.main_arg0)
      ∧ r.2.mem ((c.tc : Thread Cert.FgateFwdKernelIdeal.nD Cert.FgateFwdKernelIdeal.τ).loc Cert.FgateFwdKernelIdeal.main_arg1) = m ((c.tc : Thread Cert.FgateFwdKernelIdeal.nD Cert.FgateFwdKernelIdeal.τ).loc Cert.FgateFwdKernelIdeal.main_arg1))
      ∧ r.2.sem = fun _ => 0)

def quiescent_FgateFwdReferenceIdeal [hFgateFwdReferenceIdeal : Cert.FgateFwdReferenceIdeal.Facts] : Prop :=
  ∀ (m : (ℓ : Loc Cert.FgateFwdReferenceIdeal.nD Cert.FgateFwdReferenceIdeal.τ Cert.FgateFwdReferenceIdeal.sig) → Buf (Elt Ideal) ℓ) (g : Dev Cert.FgateFwdReferenceIdeal.nD → PrngReg), Pre_FgateFwdReferenceIdeal m →
    θ_run (Cert.FgateFwdReferenceIdeal.defs (F := Ideal)) (onTc (τ := Cert.FgateFwdReferenceIdeal.τ) (Cert.FgateFwdReferenceIdeal.main (F := Ideal))) ⟨m, fun _ => 0, g⟩ (fun r => (∀ c : Dev Cert.FgateFwdReferenceIdeal.nD,
      r.2.mem ((c.tc : Thread Cert.FgateFwdReferenceIdeal.nD Cert.FgateFwdReferenceIdeal.τ).loc Cert.FgateFwdReferenceIdeal.main_arg0) = m ((c.tc : Thread Cert.FgateFwdReferenceIdeal.nD Cert.FgateFwdReferenceIdeal.τ).loc Cert.FgateFwdReferenceIdeal.main_arg0)
      ∧ r.2.mem ((c.tc : Thread Cert.FgateFwdReferenceIdeal.nD Cert.FgateFwdReferenceIdeal.τ).loc Cert.FgateFwdReferenceIdeal.main_arg1) = m ((c.tc : Thread Cert.FgateFwdReferenceIdeal.nD Cert.FgateFwdReferenceIdeal.τ).loc Cert.FgateFwdReferenceIdeal.main_arg1))
      ∧ r.2.sem = fun _ => 0)

def quiescent_SumSmallKernel [hSumSmallKernel : Cert.SumSmallKernel.Facts] : Prop :=
  ∀ (m : (ℓ : Loc Cert.SumSmallKernel.nD Cert.SumSmallKernel.τ Cert.SumSmallKernel.sig) → Buf (Elt Bits) ℓ) (g : Dev Cert.SumSmallKernel.nD → PrngReg), Pre_SumSmallKernel m →
    θ_run (Cert.SumSmallKernel.defs (F := Bits)) (onTc (τ := Cert.SumSmallKernel.τ) (Cert.SumSmallKernel.main (F := Bits))) ⟨m, fun _ => 0, g⟩ (fun r => (∀ c : Dev Cert.SumSmallKernel.nD,
      r.2.mem ((c.tc : Thread Cert.SumSmallKernel.nD Cert.SumSmallKernel.τ).loc Cert.SumSmallKernel.main_arg0) = m ((c.tc : Thread Cert.SumSmallKernel.nD Cert.SumSmallKernel.τ).loc Cert.SumSmallKernel.main_arg0))
      ∧ r.2.sem = fun _ => 0)

def quiescent_SumSmallKernelIdeal [hSumSmallKernelIdeal : Cert.SumSmallKernelIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg), Pre_SumSmallKernelIdeal m →
    θ_run (Cert.SumSmallKernelIdeal.defs (F := Ideal)) (onTc (τ := Cert.SumSmallKernelIdeal.τ) (Cert.SumSmallKernelIdeal.main (F := Ideal))) ⟨m, fun _ => 0, g⟩ (fun r => (∀ c : Dev Cert.SumSmallKernelIdeal.nD,
      r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def preserves_FfnBwdKernel_FfnBwdKernelIdeal : Prop :=
  True

def algebraic_FfnBwdKernelIdeal_FfnBwdReferenceIdeal_pre_finite_inputs [hFfnBwdKernelIdeal : Cert.FfnBwdKernelIdeal.Facts] [hFfnBwdReferenceIdeal : Cert.FfnBwdReferenceIdeal.Facts] [hPre_finite_inputs : Cert.Pre_finite_inputs.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdKernelIdeal_finite_inputs m →
    (∀ c : Dev Cert.FfnBwdKernelIdeal.nD,
      m' ((c.tc : Thread Cert.FfnBwdReferenceIdeal.nD Cert.FfnBwdReferenceIdeal.τ).loc Cert.FfnBwdReferenceIdeal.main_arg0) = m ((c.tc : Thread Cert.FfnBwdKernelIdeal.nD Cert.FfnBwdKernelIdeal.τ).loc Cert.FfnBwdKernelIdeal.main_arg0)
      ∧ m' ((c.tc : Thread Cert.FfnBwdReferenceIdeal.nD Cert.FfnBwdReferenceIdeal.τ).loc Cert.FfnBwdReferenceIdeal.main_arg1) = m ((c.tc : Thread Cert.FfnBwdKernelIdeal.nD Cert.FfnBwdKernelIdeal.τ).loc Cert.FfnBwdKernelIdeal.main_arg1)
      ∧ m' ((c.tc : Thread Cert.FfnBwdReferenceIdeal.nD Cert.FfnBwdReferenceIdeal.τ).loc Cert.FfnBwdReferenceIdeal.main_arg2) = m ((c.tc : Thread Cert.FfnBwdKernelIdeal.nD Cert.FfnBwdKernelIdeal.τ).loc Cert.FfnBwdKernelIdeal.main_arg2)
      ∧ m' ((c.tc : Thread Cert.FfnBwdReferenceIdeal.nD Cert.FfnBwdReferenceIdeal.τ).loc Cert.FfnBwdReferenceIdeal.main_arg3) = m ((c.tc : Thread Cert.FfnBwdKernelIdeal.nD Cert.FfnBwdKernelIdeal.τ).loc Cert.FfnBwdKernelIdeal.main_arg3)
      ∧ m' ((c.tc : Thread Cert.FfnBwdReferenceIdeal.nD Cert.FfnBwdReferenceIdeal.τ).loc Cert.FfnBwdReferenceIdeal.main_arg4) = m ((c.tc : Thread Cert.FfnBwdKernelIdeal.nD Cert.FfnBwdKernelIdeal.τ).loc Cert.FfnBwdKernelIdeal.main_arg4)) →
    ∃ (v0 : (c : Dev Cert.FfnBwdKernelIdeal.nD) → Buf (Elt Ideal) ((c.tc : Thread Cert.FfnBwdKernelIdeal.nD Cert.FfnBwdKernelIdeal.τ).loc Cert.FfnBwdKernelIdeal.main_v9_0)) (v1 : (c : Dev Cert.FfnBwdKernelIdeal.nD) → Buf (Elt Ideal) ((c.tc : Thread Cert.FfnBwdKernelIdeal.nD Cert.FfnBwdKernelIdeal.τ).loc Cert.FfnBwdKernelIdeal.main_v9_1)) (v2 : (c : Dev Cert.FfnBwdKernelIdeal.nD) → Buf (Elt Ideal) ((c.tc : Thread Cert.FfnBwdKernelIdeal.nD Cert.FfnBwdKernelIdeal.τ).loc Cert.FfnBwdKernelIdeal.main_v9_2)) (v3 : (c : Dev Cert.FfnBwdKernelIdeal.nD) → Buf (Elt Ideal) ((c.tc : Thread Cert.FfnBwdKernelIdeal.nD Cert.FfnBwdKernelIdeal.τ).loc Cert.FfnBwdKernelIdeal.main_v9_3)),
      θ_run (Cert.FfnBwdKernelIdeal.defs (F := Ideal)) (onTc (τ := Cert.FfnBwdKernelIdeal.τ) (Cert.FfnBwdKernelIdeal.main (F := Ideal))) ⟨m, fun _ => 0, g⟩ (fun r => ∀ c : Dev Cert.FfnBwdKernelIdeal.nD,
          r.2.mem ((c.tc : Thread Cert.FfnBwdKernelIdeal.nD Cert.FfnBwdKernelIdeal.τ).loc Cert.FfnBwdKernelIdeal.main_v9_0) = v0 c
          ∧ r.2.mem ((c.tc : Thread Cert.FfnBwdKernelIdeal.nD Cert.FfnBwdKernelIdeal.τ).loc Cert.FfnBwdKernelIdeal.main_v9_1) = v1 c
          ∧ r.2.mem ((c.tc : Thread Cert.FfnBwdKernelIdeal.nD Cert.FfnBwdKernelIdeal.τ).loc Cert.FfnBwdKernelIdeal.main_v9_2) = v2 c
          ∧ r.2.mem ((c.tc : Thread Cert.FfnBwdKernelIdeal.nD Cert.FfnBwdKernelIdeal.τ).loc Cert.FfnBwdKernelIdeal.main_v9_3) = v3 c
          ∧ r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
          ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
          ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
          ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
          ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v23) = v0 c
          ∧ r.2.mem ((c.tc : Thread Cert.FfnBwdReferenceIdeal.nD Cert.FfnBwdReferenceIdeal.τ).loc Cert.FfnBwdReferenceIdeal.main_v41) = v1 c
          ∧ r.2.mem ((c.tc : Thread Cert.FfnBwdReferenceIdeal.nD Cert.FfnBwdReferenceIdeal.τ).loc Cert.FfnBwdReferenceIdeal.main_v42) = v2 c
          ∧ r.2.mem ((c.tc : Thread Cert.FfnBwdReferenceIdeal.nD Cert.FfnBwdReferenceIdeal.τ).loc Cert.FfnBwdReferenceIdeal.main_v43) = v3 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4))

def preserves_FfnDwKernel_FfnDwKernelIdeal : Prop :=
  True

def algebraic_FfnDwKernelIdeal_FfnDwReferenceIdeal [hFfnDwKernelIdeal : Cert.FfnDwKernelIdeal.Facts] [hFfnDwReferenceIdeal : Cert.FfnDwReferenceIdeal.Facts] : Prop :=
  ∀ (m : (ℓ : Loc Cert.FfnDwKernelIdeal.nD Cert.FfnDwKernelIdeal.τ Cert.FfnDwKernelIdeal.sig) → Buf (Elt Ideal) ℓ) (g : Dev Cert.FfnDwKernelIdeal.nD → PrngReg)
    (m' : (ℓ : Loc Cert.FfnDwReferenceIdeal.nD Cert.FfnDwReferenceIdeal.τ Cert.FfnDwReferenceIdeal.sig) → Buf (Elt Ideal) ℓ) (g' : Dev Cert.FfnDwReferenceIdeal.nD → PrngReg), Pre_FfnDwKernelIdeal m →
    (∀ c : Dev Cert.FfnDwKernelIdeal.nD,
      m' ((c.tc : Thread Cert.FfnDwReferenceIdeal.nD Cert.FfnDwReferenceIdeal.τ).loc Cert.FfnDwReferenceIdeal.main_arg0) = m ((c.tc : Thread Cert.FfnDwKernelIdeal.nD Cert.FfnDwKernelIdeal.τ).loc Cert.FfnDwKernelIdeal.main_arg0)
      ∧ m' ((c.tc : Thread Cert.FfnDwReferenceIdeal.nD Cert.FfnDwReferenceIdeal.τ).loc Cert.FfnDwReferenceIdeal.main_arg1) = m ((c.tc : Thread Cert.FfnDwKernelIdeal.nD Cert.FfnDwKernelIdeal.τ).loc Cert.FfnDwKernelIdeal.main_arg1)) →
    ∃ (v0 : (c : Dev Cert.FfnDwKernelIdeal.nD) → Buf (Elt Ideal) ((c.tc : Thread Cert.FfnDwKernelIdeal.nD Cert.FfnDwKernelIdeal.τ).loc Cert.FfnDwKernelIdeal.main_v1)),
      θ_run (Cert.FfnDwKernelIdeal.defs (F := Ideal)) (onTc (τ := Cert.FfnDwKernelIdeal.τ) (Cert.FfnDwKernelIdeal.main (F := Ideal))) ⟨m, fun _ => 0, g⟩ (fun r => ∀ c : Dev Cert.FfnDwKernelIdeal.nD,
          r.2.mem ((c.tc : Thread Cert.FfnDwKernelIdeal.nD Cert.FfnDwKernelIdeal.τ).loc Cert.FfnDwKernelIdeal.main_v1) = v0 c
          ∧ r.2.mem ((c.tc : Thread Cert.FfnDwKernelIdeal.nD Cert.FfnDwKernelIdeal.τ).loc Cert.FfnDwKernelIdeal.main_arg0) = m ((c.tc : Thread Cert.FfnDwKernelIdeal.nD Cert.FfnDwKernelIdeal.τ).loc Cert.FfnDwKernelIdeal.main_arg0)
          ∧ r.2.mem ((c.tc : Thread Cert.FfnDwKernelIdeal.nD Cert.FfnDwKernelIdeal.τ).loc Cert.FfnDwKernelIdeal.main_arg1) = m ((c.tc : Thread Cert.FfnDwKernelIdeal.nD Cert.FfnDwKernelIdeal.τ).loc Cert.FfnDwKernelIdeal.main_arg1))
      ∧ θ_run (Cert.FfnDwReferenceIdeal.defs (F := Ideal)) (onTc (τ := Cert.FfnDwReferenceIdeal.τ) (Cert.FfnDwReferenceIdeal.main (F := Ideal))) ⟨m', fun _ => 0, g'⟩ (fun r => ∀ c : Dev Cert.FfnDwReferenceIdeal.nD,
          r.2.mem ((c.tc : Thread Cert.FfnDwReferenceIdeal.nD Cert.FfnDwReferenceIdeal.τ).loc Cert.FfnDwReferenceIdeal.main_v5) = v0 c
          ∧ r.2.mem ((c.tc : Thread Cert.FfnDwReferenceIdeal.nD Cert.FfnDwReferenceIdeal.τ).loc Cert.FfnDwReferenceIdeal.main_arg0) = m' ((c.tc : Thread Cert.FfnDwReferenceIdeal.nD Cert.FfnDwReferenceIdeal.τ).loc Cert.FfnDwReferenceIdeal.main_arg0)
          ∧ r.2.mem ((c.tc : Thread Cert.FfnDwReferenceIdeal.nD Cert.FfnDwReferenceIdeal.τ).loc Cert.FfnDwReferenceIdeal.main_arg1) = m' ((c.tc : Thread Cert.FfnDwReferenceIdeal.nD Cert.FfnDwReferenceIdeal.τ).loc Cert.FfnDwReferenceIdeal.main_arg1))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)
      ∧ m' ((c.tc : Thread Cert.FfnFwdReferenceIdeal.nD Cert.FfnFwdReferenceIdeal.τ).loc Cert.FfnFwdReferenceIdeal.main_arg5) = m ((c.tc : Thread Cert.FfnFwdKernelIdeal.nD Cert.FfnFwdKernelIdeal.τ).loc Cert.FfnFwdKernelIdeal.main_arg5)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v7_0)) (v1 : (c : Dev Cert.FfnFwdKernelIdeal.nD) → Buf (Elt Ideal) ((c.tc : Thread Cert.FfnFwdKernelIdeal.nD Cert.FfnFwdKernelIdeal.τ).loc Cert.FfnFwdKernelIdeal.main_v7_1)) (v2 : (c : Dev Cert.FfnFwdKernelIdeal.nD) → Buf (Elt Ideal) ((c.tc : Thread Cert.FfnFwdKernelIdeal.nD Cert.FfnFwdKernelIdeal.τ).loc Cert.FfnFwdKernelIdeal.main_v7_2)) (v3 : (c : Dev Cert.FfnFwdKernelIdeal.nD) → Buf (Elt Ideal) ((c.tc : Thread Cert.FfnFwdKernelIdeal.nD Cert.FfnFwdKernelIdeal.τ).loc Cert.FfnFwdKernelIdeal.main_v7_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v7_0) = v0 c
          ∧ r.2.mem ((c.tc : Thread Cert.FfnFwdKernelIdeal.nD Cert.FfnFwdKernelIdeal.τ).loc Cert.FfnFwdKernelIdeal.main_v7_1) = v1 c
          ∧ r.2.mem ((c.tc : Thread Cert.FfnFwdKernelIdeal.nD Cert.FfnFwdKernelIdeal.τ).loc Cert.FfnFwdKernelIdeal.main_v7_2) = v2 c
          ∧ r.2.mem ((c.tc : Thread Cert.FfnFwdKernelIdeal.nD Cert.FfnFwdKernelIdeal.τ).loc Cert.FfnFwdKernelIdeal.main_v7_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v33) = v0 c
          ∧ r.2.mem ((c.tc : Thread Cert.FfnFwdReferenceIdeal.nD Cert.FfnFwdReferenceIdeal.τ).loc Cert.FfnFwdReferenceIdeal.main_v9) = v1 c
          ∧ r.2.mem ((c.tc : Thread Cert.FfnFwdReferenceIdeal.nD Cert.FfnFwdReferenceIdeal.τ).loc Cert.FfnFwdReferenceIdeal.main_v35) = v2 c
          ∧ r.2.mem ((c.tc : Thread Cert.FfnFwdReferenceIdeal.nD Cert.FfnFwdReferenceIdeal.τ).loc Cert.FfnFwdReferenceIdeal.main_v37) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5))

def preserves_FgateBwdKernel_FgateBwdKernelIdeal : Prop :=
  True

def algebraic_FgateBwdKernelIdeal_FgateBwdReferenceIdeal [hFgateBwdKernelIdeal : Cert.FgateBwdKernelIdeal.Facts] [hFgateBwdReferenceIdeal : Cert.FgateBwdReferenceIdeal.Facts] : Prop :=
  ∀ (m : (ℓ : Loc Cert.FgateBwdKernelIdeal.nD Cert.FgateBwdKernelIdeal.τ Cert.FgateBwdKernelIdeal.sig) → Buf (Elt Ideal) ℓ) (g : Dev Cert.FgateBwdKernelIdeal.nD → PrngReg)
    (m' : (ℓ : Loc Cert.FgateBwdReferenceIdeal.nD Cert.FgateBwdReferenceIdeal.τ Cert.FgateBwdReferenceIdeal.sig) → Buf (Elt Ideal) ℓ) (g' : Dev Cert.FgateBwdReferenceIdeal.nD → PrngReg), Pre_FgateBwdKernelIdeal m →
    (∀ c : Dev Cert.FgateBwdKernelIdeal.nD,
      m' ((c.tc : Thread Cert.FgateBwdReferenceIdeal.nD Cert.FgateBwdReferenceIdeal.τ).loc Cert.FgateBwdReferenceIdeal.main_arg0) = m ((c.tc : Thread Cert.FgateBwdKernelIdeal.nD Cert.FgateBwdKernelIdeal.τ).loc Cert.FgateBwdKernelIdeal.main_arg0)
      ∧ m' ((c.tc : Thread Cert.FgateBwdReferenceIdeal.nD Cert.FgateBwdReferenceIdeal.τ).loc Cert.FgateBwdReferenceIdeal.main_arg1) = m ((c.tc : Thread Cert.FgateBwdKernelIdeal.nD Cert.FgateBwdKernelIdeal.τ).loc Cert.FgateBwdKernelIdeal.main_arg1)
      ∧ m' ((c.tc : Thread Cert.FgateBwdReferenceIdeal.nD Cert.FgateBwdReferenceIdeal.τ).loc Cert.FgateBwdReferenceIdeal.main_arg2) = m ((c.tc : Thread Cert.FgateBwdKernelIdeal.nD Cert.FgateBwdKernelIdeal.τ).loc Cert.FgateBwdKernelIdeal.main_arg2)) →
    ∃ (v0 : (c : Dev Cert.FgateBwdKernelIdeal.nD) → Buf (Elt Ideal) ((c.tc : Thread Cert.FgateBwdKernelIdeal.nD Cert.FgateBwdKernelIdeal.τ).loc Cert.FgateBwdKernelIdeal.main_v8_0)) (v1 : (c : Dev Cert.FgateBwdKernelIdeal.nD) → Buf (Elt Ideal) ((c.tc : Thread Cert.FgateBwdKernelIdeal.nD Cert.FgateBwdKernelIdeal.τ).loc Cert.FgateBwdKernelIdeal.main_v8_1)),
      θ_run (Cert.FgateBwdKernelIdeal.defs (F := Ideal)) (onTc (τ := Cert.FgateBwdKernelIdeal.τ) (Cert.FgateBwdKernelIdeal.main (F := Ideal))) ⟨m, fun _ => 0, g⟩ (fun r => ∀ c : Dev Cert.FgateBwdKernelIdeal.nD,
          r.2.mem ((c.tc : Thread Cert.FgateBwdKernelIdeal.nD Cert.FgateBwdKernelIdeal.τ).loc Cert.FgateBwdKernelIdeal.main_v8_0) = v0 c
          ∧ r.2.mem ((c.tc : Thread Cert.FgateBwdKernelIdeal.nD Cert.FgateBwdKernelIdeal.τ).loc Cert.FgateBwdKernelIdeal.main_v8_1) = v1 c
          ∧ r.2.mem ((c.tc : Thread Cert.FgateBwdKernelIdeal.nD Cert.FgateBwdKernelIdeal.τ).loc Cert.FgateBwdKernelIdeal.main_arg0) = m ((c.tc : Thread Cert.FgateBwdKernelIdeal.nD Cert.FgateBwdKernelIdeal.τ).loc Cert.FgateBwdKernelIdeal.main_arg0)
          ∧ r.2.mem ((c.tc : Thread Cert.FgateBwdKernelIdeal.nD Cert.FgateBwdKernelIdeal.τ).loc Cert.FgateBwdKernelIdeal.main_arg1) = m ((c.tc : Thread Cert.FgateBwdKernelIdeal.nD Cert.FgateBwdKernelIdeal.τ).loc Cert.FgateBwdKernelIdeal.main_arg1)
          ∧ r.2.mem ((c.tc : Thread Cert.FgateBwdKernelIdeal.nD Cert.FgateBwdKernelIdeal.τ).loc Cert.FgateBwdKernelIdeal.main_arg2) = m ((c.tc : Thread Cert.FgateBwdKernelIdeal.nD Cert.FgateBwdKernelIdeal.τ).loc Cert.FgateBwdKernelIdeal.main_arg2))
      ∧ θ_run (Cert.FgateBwdReferenceIdeal.defs (F := Ideal)) (onTc (τ := Cert.FgateBwdReferenceIdeal.τ) (Cert.FgateBwdReferenceIdeal.main (F := Ideal))) ⟨m', fun _ => 0, g'⟩ (fun r => ∀ c : Dev Cert.FgateBwdReferenceIdeal.nD,
          r.2.mem ((c.tc : Thread Cert.FgateBwdReferenceIdeal.nD Cert.FgateBwdReferenceIdeal.τ).loc Cert.FgateBwdReferenceIdeal.main_v13) = v0 c
          ∧ r.2.mem ((c.tc : Thread Cert.FgateBwdReferenceIdeal.nD Cert.FgateBwdReferenceIdeal.τ).loc Cert.FgateBwdReferenceIdeal.main_v15) = v1 c
          ∧ r.2.mem ((c.tc : Thread Cert.FgateBwdReferenceIdeal.nD Cert.FgateBwdReferenceIdeal.τ).loc Cert.FgateBwdReferenceIdeal.main_arg0) = m' ((c.tc : Thread Cert.FgateBwdReferenceIdeal.nD Cert.FgateBwdReferenceIdeal.τ).loc Cert.FgateBwdReferenceIdeal.main_arg0)
          ∧ r.2.mem ((c.tc : Thread Cert.FgateBwdReferenceIdeal.nD Cert.FgateBwdReferenceIdeal.τ).loc Cert.FgateBwdReferenceIdeal.main_arg1) = m' ((c.tc : Thread Cert.FgateBwdReferenceIdeal.nD Cert.FgateBwdReferenceIdeal.τ).loc Cert.FgateBwdReferenceIdeal.main_arg1)
          ∧ r.2.mem ((c.tc : Thread Cert.FgateBwdReferenceIdeal.nD Cert.FgateBwdReferenceIdeal.τ).loc Cert.FgateBwdReferenceIdeal.main_arg2) = m' ((c.tc : Thread Cert.FgateBwdReferenceIdeal.nD Cert.FgateBwdReferenceIdeal.τ).loc Cert.FgateBwdReferenceIdeal.main_arg2))

def preserves_MixInKernel_MixInKernelIdeal : Prop :=
  True

def algebraic_MixInKernelIdeal_MixInReferenceIdeal [hMixInKernelIdeal : Cert.MixInKernelIdeal.Facts] [hMixInReferenceIdeal : Cert.MixInReferenceIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)) →
    ∃ (v0 : (c : Dev Cert.MixInKernelIdeal.nD) → Buf (Elt Ideal) ((c.tc : Thread Cert.MixInKernelIdeal.nD Cert.MixInKernelIdeal.τ).loc Cert.MixInKernelIdeal.main_v1)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v1) = v0 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v0) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1))

def preserves_MixInDxKernel_MixInDxKernelIdeal : Prop :=
  True

def algebraic_MixInDxKernelIdeal_MixInDxReferenceIdeal [hMixInDxKernelIdeal : Cert.MixInDxKernelIdeal.Facts] [hMixInDxReferenceIdeal : Cert.MixInDxReferenceIdeal.Facts] : Prop :=
  ∀ (m : (ℓ : Loc Cert.MixInDxKernelIdeal.nD Cert.MixInDxKernelIdeal.τ Cert.MixInDxKernelIdeal.sig) → Buf (Elt Ideal) ℓ) (g : Dev Cert.MixInDxKernelIdeal.nD → PrngReg)
    (m' : (ℓ : Loc Cert.MixInDxReferenceIdeal.nD Cert.MixInDxReferenceIdeal.τ Cert.MixInDxReferenceIdeal.sig) → Buf (Elt Ideal) ℓ) (g' : Dev Cert.MixInDxReferenceIdeal.nD → PrngReg), Pre_MixInDxKernelIdeal m →
    (∀ c : Dev Cert.MixInDxKernelIdeal.nD,
      m' ((c.tc : Thread Cert.MixInDxReferenceIdeal.nD Cert.MixInDxReferenceIdeal.τ).loc Cert.MixInDxReferenceIdeal.main_arg0) = m ((c.tc : Thread Cert.MixInDxKernelIdeal.nD Cert.MixInDxKernelIdeal.τ).loc Cert.MixInDxKernelIdeal.main_arg0)
      ∧ m' ((c.tc : Thread Cert.MixInDxReferenceIdeal.nD Cert.MixInDxReferenceIdeal.τ).loc Cert.MixInDxReferenceIdeal.main_arg1) = m ((c.tc : Thread Cert.MixInDxKernelIdeal.nD Cert.MixInDxKernelIdeal.τ).loc Cert.MixInDxKernelIdeal.main_arg1)
      ∧ m' ((c.tc : Thread Cert.MixInDxReferenceIdeal.nD Cert.MixInDxReferenceIdeal.τ).loc Cert.MixInDxReferenceIdeal.main_arg2) = m ((c.tc : Thread Cert.MixInDxKernelIdeal.nD Cert.MixInDxKernelIdeal.τ).loc Cert.MixInDxKernelIdeal.main_arg2)) →
    ∃ (v0 : (c : Dev Cert.MixInDxKernelIdeal.nD) → Buf (Elt Ideal) ((c.tc : Thread Cert.MixInDxKernelIdeal.nD Cert.MixInDxKernelIdeal.τ).loc Cert.MixInDxKernelIdeal.main_v1)),
      θ_run (Cert.MixInDxKernelIdeal.defs (F := Ideal)) (onTc (τ := Cert.MixInDxKernelIdeal.τ) (Cert.MixInDxKernelIdeal.main (F := Ideal))) ⟨m, fun _ => 0, g⟩ (fun r => ∀ c : Dev Cert.MixInDxKernelIdeal.nD,
          r.2.mem ((c.tc : Thread Cert.MixInDxKernelIdeal.nD Cert.MixInDxKernelIdeal.τ).loc Cert.MixInDxKernelIdeal.main_v1) = v0 c
          ∧ r.2.mem ((c.tc : Thread Cert.MixInDxKernelIdeal.nD Cert.MixInDxKernelIdeal.τ).loc Cert.MixInDxKernelIdeal.main_arg0) = m ((c.tc : Thread Cert.MixInDxKernelIdeal.nD Cert.MixInDxKernelIdeal.τ).loc Cert.MixInDxKernelIdeal.main_arg0)
          ∧ r.2.mem ((c.tc : Thread Cert.MixInDxKernelIdeal.nD Cert.MixInDxKernelIdeal.τ).loc Cert.MixInDxKernelIdeal.main_arg1) = m ((c.tc : Thread Cert.MixInDxKernelIdeal.nD Cert.MixInDxKernelIdeal.τ).loc Cert.MixInDxKernelIdeal.main_arg1)
          ∧ r.2.mem ((c.tc : Thread Cert.MixInDxKernelIdeal.nD Cert.MixInDxKernelIdeal.τ).loc Cert.MixInDxKernelIdeal.main_arg2) = m ((c.tc : Thread Cert.MixInDxKernelIdeal.nD Cert.MixInDxKernelIdeal.τ).loc Cert.MixInDxKernelIdeal.main_arg2))
      ∧ θ_run (Cert.MixInDxReferenceIdeal.defs (F := Ideal)) (onTc (τ := Cert.MixInDxReferenceIdeal.τ) (Cert.MixInDxReferenceIdeal.main (F := Ideal))) ⟨m', fun _ => 0, g'⟩ (fun r => ∀ c : Dev Cert.MixInDxReferenceIdeal.nD,
          r.2.mem ((c.tc : Thread Cert.MixInDxReferenceIdeal.nD Cert.MixInDxReferenceIdeal.τ).loc Cert.MixInDxReferenceIdeal.main_v3) = v0 c
          ∧ r.2.mem ((c.tc : Thread Cert.MixInDxReferenceIdeal.nD Cert.MixInDxReferenceIdeal.τ).loc Cert.MixInDxReferenceIdeal.main_arg0) = m' ((c.tc : Thread Cert.MixInDxReferenceIdeal.nD Cert.MixInDxReferenceIdeal.τ).loc Cert.MixInDxReferenceIdeal.main_arg0)
          ∧ r.2.mem ((c.tc : Thread Cert.MixInDxReferenceIdeal.nD Cert.MixInDxReferenceIdeal.τ).loc Cert.MixInDxReferenceIdeal.main_arg1) = m' ((c.tc : Thread Cert.MixInDxReferenceIdeal.nD Cert.MixInDxReferenceIdeal.τ).loc Cert.MixInDxReferenceIdeal.main_arg1)
          ∧ r.2.mem ((c.tc : Thread Cert.MixInDxReferenceIdeal.nD Cert.MixInDxReferenceIdeal.τ).loc Cert.MixInDxReferenceIdeal.main_arg2) = m' ((c.tc : Thread Cert.MixInDxReferenceIdeal.nD Cert.MixInDxReferenceIdeal.τ).loc Cert.MixInDxReferenceIdeal.main_arg2))

def preserves_MixInDwKernel_MixInDwKernelIdeal : Prop :=
  True

def algebraic_MixInDwKernelIdeal_MixInDwReferenceIdeal [hMixInDwKernelIdeal : Cert.MixInDwKernelIdeal.Facts] [hMixInDwReferenceIdeal : Cert.MixInDwReferenceIdeal.Facts] : Prop :=
  ∀ (m : (ℓ : Loc Cert.MixInDwKernelIdeal.nD Cert.MixInDwKernelIdeal.τ Cert.MixInDwKernelIdeal.sig) → Buf (Elt Ideal) ℓ) (g : Dev Cert.MixInDwKernelIdeal.nD → PrngReg)
    (m' : (ℓ : Loc Cert.MixInDwReferenceIdeal.nD Cert.MixInDwReferenceIdeal.τ Cert.MixInDwReferenceIdeal.sig) → Buf (Elt Ideal) ℓ) (g' : Dev Cert.MixInDwReferenceIdeal.nD → PrngReg), Pre_MixInDwKernelIdeal m →
    (∀ c : Dev Cert.MixInDwKernelIdeal.nD,
      m' ((c.tc : Thread Cert.MixInDwReferenceIdeal.nD Cert.MixInDwReferenceIdeal.τ).loc Cert.MixInDwReferenceIdeal.main_arg0) = m ((c.tc : Thread Cert.MixInDwKernelIdeal.nD Cert.MixInDwKernelIdeal.τ).loc Cert.MixInDwKernelIdeal.main_arg0)
      ∧ m' ((c.tc : Thread Cert.MixInDwReferenceIdeal.nD Cert.MixInDwReferenceIdeal.τ).loc Cert.MixInDwReferenceIdeal.main_arg1) = m ((c.tc : Thread Cert.MixInDwKernelIdeal.nD Cert.MixInDwKernelIdeal.τ).loc Cert.MixInDwKernelIdeal.main_arg1)) →
    ∃ (v0 : (c : Dev Cert.MixInDwKernelIdeal.nD) → Buf (Elt Ideal) ((c.tc : Thread Cert.MixInDwKernelIdeal.nD Cert.MixInDwKernelIdeal.τ).loc Cert.MixInDwKernelIdeal.main_v0)),
      θ_run (Cert.MixInDwKernelIdeal.defs (F := Ideal)) (onTc (τ := Cert.MixInDwKernelIdeal.τ) (Cert.MixInDwKernelIdeal.main (F := Ideal))) ⟨m, fun _ => 0, g⟩ (fun r => ∀ c : Dev Cert.MixInDwKernelIdeal.nD,
          r.2.mem ((c.tc : Thread Cert.MixInDwKernelIdeal.nD Cert.MixInDwKernelIdeal.τ).loc Cert.MixInDwKernelIdeal.main_v0) = v0 c
          ∧ r.2.mem ((c.tc : Thread Cert.MixInDwKernelIdeal.nD Cert.MixInDwKernelIdeal.τ).loc Cert.MixInDwKernelIdeal.main_arg0) = m ((c.tc : Thread Cert.MixInDwKernelIdeal.nD Cert.MixInDwKernelIdeal.τ).loc Cert.MixInDwKernelIdeal.main_arg0)
          ∧ r.2.mem ((c.tc : Thread Cert.MixInDwKernelIdeal.nD Cert.MixInDwKernelIdeal.τ).loc Cert.MixInDwKernelIdeal.main_arg1) = m ((c.tc : Thread Cert.MixInDwKernelIdeal.nD Cert.MixInDwKernelIdeal.τ).loc Cert.MixInDwKernelIdeal.main_arg1))
      ∧ θ_run (Cert.MixInDwReferenceIdeal.defs (F := Ideal)) (onTc (τ := Cert.MixInDwReferenceIdeal.τ) (Cert.MixInDwReferenceIdeal.main (F := Ideal))) ⟨m', fun _ => 0, g'⟩ (fun r => ∀ c : Dev Cert.MixInDwReferenceIdeal.nD,
          r.2.mem ((c.tc : Thread Cert.MixInDwReferenceIdeal.nD Cert.MixInDwReferenceIdeal.τ).loc Cert.MixInDwReferenceIdeal.main_v4) = v0 c
          ∧ r.2.mem ((c.tc : Thread Cert.MixInDwReferenceIdeal.nD Cert.MixInDwReferenceIdeal.τ).loc Cert.MixInDwReferenceIdeal.main_arg0) = m' ((c.tc : Thread Cert.MixInDwReferenceIdeal.nD Cert.MixInDwReferenceIdeal.τ).loc Cert.MixInDwReferenceIdeal.main_arg0)
          ∧ r.2.mem ((c.tc : Thread Cert.MixInDwReferenceIdeal.nD Cert.MixInDwReferenceIdeal.τ).loc Cert.MixInDwReferenceIdeal.main_arg1) = m' ((c.tc : Thread Cert.MixInDwReferenceIdeal.nD Cert.MixInDwReferenceIdeal.τ).loc Cert.MixInDwReferenceIdeal.main_arg1))

def preserves_LnBwdKernel_LnBwdKernelIdeal : Prop :=
  True

def algebraic_LnBwdKernelIdeal_LnBwdReferenceIdeal_pre_finite_norm [hLnBwdKernelIdeal : Cert.LnBwdKernelIdeal.Facts] [hLnBwdReferenceIdeal : Cert.LnBwdReferenceIdeal.Facts] [hPre_finite_norm : Cert.Pre_finite_norm.Facts] : Prop :=
  ∀ (m : (ℓ : Loc Cert.LnBwdKernelIdeal.nD Cert.LnBwdKernelIdeal.τ Cert.LnBwdKernelIdeal.sig) → Buf (Elt Ideal) ℓ) (g : Dev Cert.LnBwdKernelIdeal.nD → PrngReg)
    (m' : (ℓ : Loc Cert.LnBwdReferenceIdeal.nD Cert.LnBwdReferenceIdeal.τ Cert.LnBwdReferenceIdeal.sig) → Buf (Elt Ideal) ℓ) (g' : Dev Cert.LnBwdReferenceIdeal.nD → PrngReg), Pre_LnBwdKernelIdeal_finite_norm m →
    (∀ c : Dev Cert.LnBwdKernelIdeal.nD,
      m' ((c.tc : Thread Cert.LnBwdReferenceIdeal.nD Cert.LnBwdReferenceIdeal.τ).loc Cert.LnBwdReferenceIdeal.main_arg0) = m ((c.tc : Thread Cert.LnBwdKernelIdeal.nD Cert.LnBwdKernelIdeal.τ).loc Cert.LnBwdKernelIdeal.main_arg0)
      ∧ m' ((c.tc : Thread Cert.LnBwdReferenceIdeal.nD Cert.LnBwdReferenceIdeal.τ).loc Cert.LnBwdReferenceIdeal.main_arg1) = m ((c.tc : Thread Cert.LnBwdKernelIdeal.nD Cert.LnBwdKernelIdeal.τ).loc Cert.LnBwdKernelIdeal.main_arg1)
      ∧ m' ((c.tc : Thread Cert.LnBwdReferenceIdeal.nD Cert.LnBwdReferenceIdeal.τ).loc Cert.LnBwdReferenceIdeal.main_arg2) = m ((c.tc : Thread Cert.LnBwdKernelIdeal.nD Cert.LnBwdKernelIdeal.τ).loc Cert.LnBwdKernelIdeal.main_arg2)
      ∧ m' ((c.tc : Thread Cert.LnBwdReferenceIdeal.nD Cert.LnBwdReferenceIdeal.τ).loc Cert.LnBwdReferenceIdeal.main_arg3) = m ((c.tc : Thread Cert.LnBwdKernelIdeal.nD Cert.LnBwdKernelIdeal.τ).loc Cert.LnBwdKernelIdeal.main_arg3)) →
    ∃ (v0 : (c : Dev Cert.LnBwdKernelIdeal.nD) → Buf (Elt Ideal) ((c.tc : Thread Cert.LnBwdKernelIdeal.nD Cert.LnBwdKernelIdeal.τ).loc Cert.LnBwdKernelIdeal.main_v2_0)) (v1 : (c : Dev Cert.LnBwdKernelIdeal.nD) → Buf (Elt Ideal) ((c.tc : Thread Cert.LnBwdKernelIdeal.nD Cert.LnBwdKernelIdeal.τ).loc Cert.LnBwdKernelIdeal.main_v2_1)) (v2 : (c : Dev Cert.LnBwdKernelIdeal.nD) → Buf (Elt Ideal) ((c.tc : Thread Cert.LnBwdKernelIdeal.nD Cert.LnBwdKernelIdeal.τ).loc Cert.LnBwdKernelIdeal.main_v2_2)),
      θ_run (Cert.LnBwdKernelIdeal.defs (F := Ideal)) (onTc (τ := Cert.LnBwdKernelIdeal.τ) (Cert.LnBwdKernelIdeal.main (F := Ideal))) ⟨m, fun _ => 0, g⟩ (fun r => ∀ c : Dev Cert.LnBwdKernelIdeal.nD,
          r.2.mem ((c.tc : Thread Cert.LnBwdKernelIdeal.nD Cert.LnBwdKernelIdeal.τ).loc Cert.LnBwdKernelIdeal.main_v2_0) = v0 c
          ∧ r.2.mem ((c.tc : Thread Cert.LnBwdKernelIdeal.nD Cert.LnBwdKernelIdeal.τ).loc Cert.LnBwdKernelIdeal.main_v2_1) = v1 c
          ∧ r.2.mem ((c.tc : Thread Cert.LnBwdKernelIdeal.nD Cert.LnBwdKernelIdeal.τ).loc Cert.LnBwdKernelIdeal.main_v2_2) = v2 c
          ∧ r.2.mem ((c.tc : Thread Cert.LnBwdKernelIdeal.nD Cert.LnBwdKernelIdeal.τ).loc Cert.LnBwdKernelIdeal.main_arg0) = m ((c.tc : Thread Cert.LnBwdKernelIdeal.nD Cert.LnBwdKernelIdeal.τ).loc Cert.LnBwdKernelIdeal.main_arg0)
          ∧ r.2.mem ((c.tc : Thread Cert.LnBwdKernelIdeal.nD Cert.LnBwdKernelIdeal.τ).loc Cert.LnBwdKernelIdeal.main_arg1) = m ((c.tc : Thread Cert.LnBwdKernelIdeal.nD Cert.LnBwdKernelIdeal.τ).loc Cert.LnBwdKernelIdeal.main_arg1)
          ∧ r.2.mem ((c.tc : Thread Cert.LnBwdKernelIdeal.nD Cert.LnBwdKernelIdeal.τ).loc Cert.LnBwdKernelIdeal.main_arg2) = m ((c.tc : Thread Cert.LnBwdKernelIdeal.nD Cert.LnBwdKernelIdeal.τ).loc Cert.LnBwdKernelIdeal.main_arg2)
          ∧ r.2.mem ((c.tc : Thread Cert.LnBwdKernelIdeal.nD Cert.LnBwdKernelIdeal.τ).loc Cert.LnBwdKernelIdeal.main_arg3) = m ((c.tc : Thread Cert.LnBwdKernelIdeal.nD Cert.LnBwdKernelIdeal.τ).loc Cert.LnBwdKernelIdeal.main_arg3))
      ∧ θ_run (Cert.LnBwdReferenceIdeal.defs (F := Ideal)) (onTc (τ := Cert.LnBwdReferenceIdeal.τ) (Cert.LnBwdReferenceIdeal.main (F := Ideal))) ⟨m', fun _ => 0, g'⟩ (fun r => ∀ c : Dev Cert.LnBwdReferenceIdeal.nD,
          r.2.mem ((c.tc : Thread Cert.LnBwdReferenceIdeal.nD Cert.LnBwdReferenceIdeal.τ).loc Cert.LnBwdReferenceIdeal.main_v62) = v0 c
          ∧ r.2.mem ((c.tc : Thread Cert.LnBwdReferenceIdeal.nD Cert.LnBwdReferenceIdeal.τ).loc Cert.LnBwdReferenceIdeal.main_v63) = v1 c
          ∧ r.2.mem ((c.tc : Thread Cert.LnBwdReferenceIdeal.nD Cert.LnBwdReferenceIdeal.τ).loc Cert.LnBwdReferenceIdeal.main_v64) = v2 c
          ∧ r.2.mem ((c.tc : Thread Cert.LnBwdReferenceIdeal.nD Cert.LnBwdReferenceIdeal.τ).loc Cert.LnBwdReferenceIdeal.main_arg0) = m' ((c.tc : Thread Cert.LnBwdReferenceIdeal.nD Cert.LnBwdReferenceIdeal.τ).loc Cert.LnBwdReferenceIdeal.main_arg0)
          ∧ r.2.mem ((c.tc : Thread Cert.LnBwdReferenceIdeal.nD Cert.LnBwdReferenceIdeal.τ).loc Cert.LnBwdReferenceIdeal.main_arg1) = m' ((c.tc : Thread Cert.LnBwdReferenceIdeal.nD Cert.LnBwdReferenceIdeal.τ).loc Cert.LnBwdReferenceIdeal.main_arg1)
          ∧ r.2.mem ((c.tc : Thread Cert.LnBwdReferenceIdeal.nD Cert.LnBwdReferenceIdeal.τ).loc Cert.LnBwdReferenceIdeal.main_arg2) = m' ((c.tc : Thread Cert.LnBwdReferenceIdeal.nD Cert.LnBwdReferenceIdeal.τ).loc Cert.LnBwdReferenceIdeal.main_arg2)
          ∧ r.2.mem ((c.tc : Thread Cert.LnBwdReferenceIdeal.nD Cert.LnBwdReferenceIdeal.τ).loc Cert.LnBwdReferenceIdeal.main_arg3) = m' ((c.tc : Thread Cert.LnBwdReferenceIdeal.nD Cert.LnBwdReferenceIdeal.τ).loc Cert.LnBwdReferenceIdeal.main_arg3))

def preserves_MixOutKernel_MixOutKernelIdeal : Prop :=
  True

def algebraic_MixOutKernelIdeal_MixOutReferenceIdeal [hMixOutKernelIdeal : Cert.MixOutKernelIdeal.Facts] [hMixOutReferenceIdeal : Cert.MixOutReferenceIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutKernelIdeal m →
    (∀ c : Dev Cert.MixOutKernelIdeal.nD,
      m' ((c.tc : Thread Cert.MixOutReferenceIdeal.nD Cert.MixOutReferenceIdeal.τ).loc Cert.MixOutReferenceIdeal.main_arg0) = m ((c.tc : Thread Cert.MixOutKernelIdeal.nD Cert.MixOutKernelIdeal.τ).loc Cert.MixOutKernelIdeal.main_arg0)
      ∧ m' ((c.tc : Thread Cert.MixOutReferenceIdeal.nD Cert.MixOutReferenceIdeal.τ).loc Cert.MixOutReferenceIdeal.main_arg1) = m ((c.tc : Thread Cert.MixOutKernelIdeal.nD Cert.MixOutKernelIdeal.τ).loc Cert.MixOutKernelIdeal.main_arg1)
      ∧ m' ((c.tc : Thread Cert.MixOutReferenceIdeal.nD Cert.MixOutReferenceIdeal.τ).loc Cert.MixOutReferenceIdeal.main_arg2) = m ((c.tc : Thread Cert.MixOutKernelIdeal.nD Cert.MixOutKernelIdeal.τ).loc Cert.MixOutKernelIdeal.main_arg2)
      ∧ m' ((c.tc : Thread Cert.MixOutReferenceIdeal.nD Cert.MixOutReferenceIdeal.τ).loc Cert.MixOutReferenceIdeal.main_arg3) = m ((c.tc : Thread Cert.MixOutKernelIdeal.nD Cert.MixOutKernelIdeal.τ).loc Cert.MixOutKernelIdeal.main_arg3)
      ∧ m' ((c.tc : Thread Cert.MixOutReferenceIdeal.nD Cert.MixOutReferenceIdeal.τ).loc Cert.MixOutReferenceIdeal.main_arg4) = m ((c.tc : Thread Cert.MixOutKernelIdeal.nD Cert.MixOutKernelIdeal.τ).loc Cert.MixOutKernelIdeal.main_arg4)
      ∧ m' ((c.tc : Thread Cert.MixOutReferenceIdeal.nD Cert.MixOutReferenceIdeal.τ).loc Cert.MixOutReferenceIdeal.main_arg5) = m ((c.tc : Thread Cert.MixOutKernelIdeal.nD Cert.MixOutKernelIdeal.τ).loc Cert.MixOutKernelIdeal.main_arg5)
      ∧ m' ((c.tc : Thread Cert.MixOutReferenceIdeal.nD Cert.MixOutReferenceIdeal.τ).loc Cert.MixOutReferenceIdeal.main_arg6) = m ((c.tc : Thread Cert.MixOutKernelIdeal.nD Cert.MixOutKernelIdeal.τ).loc Cert.MixOutKernelIdeal.main_arg6)
      ∧ m' ((c.tc : Thread Cert.MixOutReferenceIdeal.nD Cert.MixOutReferenceIdeal.τ).loc Cert.MixOutReferenceIdeal.main_arg7) = m ((c.tc : Thread Cert.MixOutKernelIdeal.nD Cert.MixOutKernelIdeal.τ).loc Cert.MixOutKernelIdeal.main_arg7)
      ∧ m' ((c.tc : Thread Cert.MixOutReferenceIdeal.nD Cert.MixOutReferenceIdeal.τ).loc Cert.MixOutReferenceIdeal.main_arg8) = m ((c.tc : Thread Cert.MixOutKernelIdeal.nD Cert.MixOutKernelIdeal.τ).loc Cert.MixOutKernelIdeal.main_arg8)) →
    ∃ (v0 : (c : Dev Cert.MixOutKernelIdeal.nD) → Buf (Elt Ideal) ((c.tc : Thread Cert.MixOutKernelIdeal.nD Cert.MixOutKernelIdeal.τ).loc Cert.MixOutKernelIdeal.main_v6)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v6) = v0 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
          ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
          ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
          ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6)
          ∧ r.2.mem ((c.tc : Thread Cert.MixOutKernelIdeal.nD Cert.MixOutKernelIdeal.τ).loc Cert.MixOutKernelIdeal.main_arg7) = m ((c.tc : Thread Cert.MixOutKernelIdeal.nD Cert.MixOutKernelIdeal.τ).loc Cert.MixOutKernelIdeal.main_arg7)
          ∧ r.2.mem ((c.tc : Thread Cert.MixOutKernelIdeal.nD Cert.MixOutKernelIdeal.τ).loc Cert.MixOutKernelIdeal.main_arg8) = m ((c.tc : Thread Cert.MixOutKernelIdeal.nD Cert.MixOutKernelIdeal.τ).loc Cert.MixOutKernelIdeal.main_arg8))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v91) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8))

def preserves_MixOutBwdKernel_MixOutBwdKernelIdeal : Prop :=
  True

def algebraic_MixOutBwdKernelIdeal_MixOutBwdReferenceIdeal_pre_finite_out [hMixOutBwdKernelIdeal : Cert.MixOutBwdKernelIdeal.Facts] [hMixOutBwdReferenceIdeal : Cert.MixOutBwdReferenceIdeal.Facts] [hPre_finite_out : Cert.Pre_finite_out.Facts] : Prop :=
  ∀ (m : (ℓ : Loc Cert.MixOutBwdKernelIdeal.nD Cert.MixOutBwdKernelIdeal.τ Cert.MixOutBwdKernelIdeal.sig) → Buf (Elt Ideal) ℓ) (g : Dev Cert.MixOutBwdKernelIdeal.nD → PrngReg)
    (m' : (ℓ : Loc Cert.MixOutBwdReferenceIdeal.nD Cert.MixOutBwdReferenceIdeal.τ Cert.MixOutBwdReferenceIdeal.sig) → Buf (Elt Ideal) ℓ) (g' : Dev Cert.MixOutBwdReferenceIdeal.nD → PrngReg), Pre_MixOutBwdKernelIdeal_finite_out m →
    (∀ c : Dev Cert.MixOutBwdKernelIdeal.nD,
      m' ((c.tc : Thread Cert.MixOutBwdReferenceIdeal.nD Cert.MixOutBwdReferenceIdeal.τ).loc Cert.MixOutBwdReferenceIdeal.main_arg0) = m ((c.tc : Thread Cert.MixOutBwdKernelIdeal.nD Cert.MixOutBwdKernelIdeal.τ).loc Cert.MixOutBwdKernelIdeal.main_arg0)
      ∧ m' ((c.tc : Thread Cert.MixOutBwdReferenceIdeal.nD Cert.MixOutBwdReferenceIdeal.τ).loc Cert.MixOutBwdReferenceIdeal.main_arg1) = m ((c.tc : Thread Cert.MixOutBwdKernelIdeal.nD Cert.MixOutBwdKernelIdeal.τ).loc Cert.MixOutBwdKernelIdeal.main_arg1)
      ∧ m' ((c.tc : Thread Cert.MixOutBwdReferenceIdeal.nD Cert.MixOutBwdReferenceIdeal.τ).loc Cert.MixOutBwdReferenceIdeal.main_arg2) = m ((c.tc : Thread Cert.MixOutBwdKernelIdeal.nD Cert.MixOutBwdKernelIdeal.τ).loc Cert.MixOutBwdKernelIdeal.main_arg2)
      ∧ m' ((c.tc : Thread Cert.MixOutBwdReferenceIdeal.nD Cert.MixOutBwdReferenceIdeal.τ).loc Cert.MixOutBwdReferenceIdeal.main_arg3) = m ((c.tc : Thread Cert.MixOutBwdKernelIdeal.nD Cert.MixOutBwdKernelIdeal.τ).loc Cert.MixOutBwdKernelIdeal.main_arg3)
      ∧ m' ((c.tc : Thread Cert.MixOutBwdReferenceIdeal.nD Cert.MixOutBwdReferenceIdeal.τ).loc Cert.MixOutBwdReferenceIdeal.main_arg4) = m ((c.tc : Thread Cert.MixOutBwdKernelIdeal.nD Cert.MixOutBwdKernelIdeal.τ).loc Cert.MixOutBwdKernelIdeal.main_arg4)
      ∧ m' ((c.tc : Thread Cert.MixOutBwdReferenceIdeal.nD Cert.MixOutBwdReferenceIdeal.τ).loc Cert.MixOutBwdReferenceIdeal.main_arg5) = m ((c.tc : Thread Cert.MixOutBwdKernelIdeal.nD Cert.MixOutBwdKernelIdeal.τ).loc Cert.MixOutBwdKernelIdeal.main_arg5)
      ∧ m' ((c.tc : Thread Cert.MixOutBwdReferenceIdeal.nD Cert.MixOutBwdReferenceIdeal.τ).loc Cert.MixOutBwdReferenceIdeal.main_arg6) = m ((c.tc : Thread Cert.MixOutBwdKernelIdeal.nD Cert.MixOutBwdKernelIdeal.τ).loc Cert.MixOutBwdKernelIdeal.main_arg6)
      ∧ m' ((c.tc : Thread Cert.MixOutBwdReferenceIdeal.nD Cert.MixOutBwdReferenceIdeal.τ).loc Cert.MixOutBwdReferenceIdeal.main_arg7) = m ((c.tc : Thread Cert.MixOutBwdKernelIdeal.nD Cert.MixOutBwdKernelIdeal.τ).loc Cert.MixOutBwdKernelIdeal.main_arg7)
      ∧ m' ((c.tc : Thread Cert.MixOutBwdReferenceIdeal.nD Cert.MixOutBwdReferenceIdeal.τ).loc Cert.MixOutBwdReferenceIdeal.main_arg8) = m ((c.tc : Thread Cert.MixOutBwdKernelIdeal.nD Cert.MixOutBwdKernelIdeal.τ).loc Cert.MixOutBwdKernelIdeal.main_arg8)
      ∧ m' ((c.tc : Thread Cert.MixOutBwdReferenceIdeal.nD Cert.MixOutBwdReferenceIdeal.τ).loc Cert.MixOutBwdReferenceIdeal.main_arg9) = m ((c.tc : Thread Cert.MixOutBwdKernelIdeal.nD Cert.MixOutBwdKernelIdeal.τ).loc Cert.MixOutBwdKernelIdeal.main_arg9)) →
    ∃ (v0 : (c : Dev Cert.MixOutBwdKernelIdeal.nD) → Buf (Elt Ideal) ((c.tc : Thread Cert.MixOutBwdKernelIdeal.nD Cert.MixOutBwdKernelIdeal.τ).loc Cert.MixOutBwdKernelIdeal.main_v6_0)) (v1 : (c : Dev Cert.MixOutBwdKernelIdeal.nD) → Buf (Elt Ideal) ((c.tc : Thread Cert.MixOutBwdKernelIdeal.nD Cert.MixOutBwdKernelIdeal.τ).loc Cert.MixOutBwdKernelIdeal.main_v6_1)) (v2 : (c : Dev Cert.MixOutBwdKernelIdeal.nD) → Buf (Elt Ideal) ((c.tc : Thread Cert.MixOutBwdKernelIdeal.nD Cert.MixOutBwdKernelIdeal.τ).loc Cert.MixOutBwdKernelIdeal.main_v6_2)) (v3 : (c : Dev Cert.MixOutBwdKernelIdeal.nD) → Buf (Elt Ideal) ((c.tc : Thread Cert.MixOutBwdKernelIdeal.nD Cert.MixOutBwdKernelIdeal.τ).loc Cert.MixOutBwdKernelIdeal.main_v6_3)) (v4 : (c : Dev Cert.MixOutBwdKernelIdeal.nD) → Buf (Elt Ideal) ((c.tc : Thread Cert.MixOutBwdKernelIdeal.nD Cert.MixOutBwdKernelIdeal.τ).loc Cert.MixOutBwdKernelIdeal.main_v6_4)) (v5 : (c : Dev Cert.MixOutBwdKernelIdeal.nD) → Buf (Elt Ideal) ((c.tc : Thread Cert.MixOutBwdKernelIdeal.nD Cert.MixOutBwdKernelIdeal.τ).loc Cert.MixOutBwdKernelIdeal.main_v6_5)) (v6 : (c : Dev Cert.MixOutBwdKernelIdeal.nD) → Buf (Elt Ideal) ((c.tc : Thread Cert.MixOutBwdKernelIdeal.nD Cert.MixOutBwdKernelIdeal.τ).loc Cert.MixOutBwdKernelIdeal.main_v6_6)) (v7 : (c : Dev Cert.MixOutBwdKernelIdeal.nD) → Buf (Elt Ideal) ((c.tc : Thread Cert.MixOutBwdKernelIdeal.nD Cert.MixOutBwdKernelIdeal.τ).loc Cert.MixOutBwdKernelIdeal.main_v6_7)) (v8 : (c : Dev Cert.MixOutBwdKernelIdeal.nD) → Buf (Elt Ideal) ((c.tc : Thread Cert.MixOutBwdKernelIdeal.nD Cert.MixOutBwdKernelIdeal.τ).loc Cert.MixOutBwdKernelIdeal.main_v6_8)) (v9 : (c : Dev Cert.MixOutBwdKernelIdeal.nD) → Buf (Elt Ideal) ((c.tc : Thread Cert.MixOutBwdKernelIdeal.nD Cert.MixOutBwdKernelIdeal.τ).loc Cert.MixOutBwdKernelIdeal.main_v6_9)) (v10 : (c : Dev Cert.MixOutBwdKernelIdeal.nD) → Buf (Elt Ideal) ((c.tc : Thread Cert.MixOutBwdKernelIdeal.nD Cert.MixOutBwdKernelIdeal.τ).loc Cert.MixOutBwdKernelIdeal.main_v6_10)),
      θ_run (Cert.MixOutBwdKernelIdeal.defs (F := Ideal)) (onTc (τ := Cert.MixOutBwdKernelIdeal.τ) (Cert.MixOutBwdKernelIdeal.main (F := Ideal))) ⟨m, fun _ => 0, g⟩ (fun r => ∀ c : Dev Cert.MixOutBwdKernelIdeal.nD,
          r.2.mem ((c.tc : Thread Cert.MixOutBwdKernelIdeal.nD Cert.MixOutBwdKernelIdeal.τ).loc Cert.MixOutBwdKernelIdeal.main_v6_0) = v0 c
          ∧ r.2.mem ((c.tc : Thread Cert.MixOutBwdKernelIdeal.nD Cert.MixOutBwdKernelIdeal.τ).loc Cert.MixOutBwdKernelIdeal.main_v6_1) = v1 c
          ∧ r.2.mem ((c.tc : Thread Cert.MixOutBwdKernelIdeal.nD Cert.MixOutBwdKernelIdeal.τ).loc Cert.MixOutBwdKernelIdeal.main_v6_2) = v2 c
          ∧ r.2.mem ((c.tc : Thread Cert.MixOutBwdKernelIdeal.nD Cert.MixOutBwdKernelIdeal.τ).loc Cert.MixOutBwdKernelIdeal.main_v6_3) = v3 c
          ∧ r.2.mem ((c.tc : Thread Cert.MixOutBwdKernelIdeal.nD Cert.MixOutBwdKernelIdeal.τ).loc Cert.MixOutBwdKernelIdeal.main_v6_4) = v4 c
          ∧ r.2.mem ((c.tc : Thread Cert.MixOutBwdKernelIdeal.nD Cert.MixOutBwdKernelIdeal.τ).loc Cert.MixOutBwdKernelIdeal.main_v6_5) = v5 c
          ∧ r.2.mem ((c.tc : Thread Cert.MixOutBwdKernelIdeal.nD Cert.MixOutBwdKernelIdeal.τ).loc Cert.MixOutBwdKernelIdeal.main_v6_6) = v6 c
          ∧ r.2.mem ((c.tc : Thread Cert.MixOutBwdKernelIdeal.nD Cert.MixOutBwdKernelIdeal.τ).loc Cert.MixOutBwdKernelIdeal.main_v6_7) = v7 c
          ∧ r.2.mem ((c.tc : Thread Cert.MixOutBwdKernelIdeal.nD Cert.MixOutBwdKernelIdeal.τ).loc Cert.MixOutBwdKernelIdeal.main_v6_8) = v8 c
          ∧ r.2.mem ((c.tc : Thread Cert.MixOutBwdKernelIdeal.nD Cert.MixOutBwdKernelIdeal.τ).loc Cert.MixOutBwdKernelIdeal.main_v6_9) = v9 c
          ∧ r.2.mem ((c.tc : Thread Cert.MixOutBwdKernelIdeal.nD Cert.MixOutBwdKernelIdeal.τ).loc Cert.MixOutBwdKernelIdeal.main_v6_10) = v10 c
          ∧ r.2.mem ((c.tc : Thread Cert.MixOutBwdKernelIdeal.nD Cert.MixOutBwdKernelIdeal.τ).loc Cert.MixOutBwdKernelIdeal.main_arg0) = m ((c.tc : Thread Cert.MixOutBwdKernelIdeal.nD Cert.MixOutBwdKernelIdeal.τ).loc Cert.MixOutBwdKernelIdeal.main_arg0)
          ∧ r.2.mem ((c.tc : Thread Cert.MixOutBwdKernelIdeal.nD Cert.MixOutBwdKernelIdeal.τ).loc Cert.MixOutBwdKernelIdeal.main_arg1) = m ((c.tc : Thread Cert.MixOutBwdKernelIdeal.nD Cert.MixOutBwdKernelIdeal.τ).loc Cert.MixOutBwdKernelIdeal.main_arg1)
          ∧ r.2.mem ((c.tc : Thread Cert.MixOutBwdKernelIdeal.nD Cert.MixOutBwdKernelIdeal.τ).loc Cert.MixOutBwdKernelIdeal.main_arg2) = m ((c.tc : Thread Cert.MixOutBwdKernelIdeal.nD Cert.MixOutBwdKernelIdeal.τ).loc Cert.MixOutBwdKernelIdeal.main_arg2)
          ∧ r.2.mem ((c.tc : Thread Cert.MixOutBwdKernelIdeal.nD Cert.MixOutBwdKernelIdeal.τ).loc Cert.MixOutBwdKernelIdeal.main_arg3) = m ((c.tc : Thread Cert.MixOutBwdKernelIdeal.nD Cert.MixOutBwdKernelIdeal.τ).loc Cert.MixOutBwdKernelIdeal.main_arg3)
          ∧ r.2.mem ((c.tc : Thread Cert.MixOutBwdKernelIdeal.nD Cert.MixOutBwdKernelIdeal.τ).loc Cert.MixOutBwdKernelIdeal.main_arg4) = m ((c.tc : Thread Cert.MixOutBwdKernelIdeal.nD Cert.MixOutBwdKernelIdeal.τ).loc Cert.MixOutBwdKernelIdeal.main_arg4)
          ∧ r.2.mem ((c.tc : Thread Cert.MixOutBwdKernelIdeal.nD Cert.MixOutBwdKernelIdeal.τ).loc Cert.MixOutBwdKernelIdeal.main_arg5) = m ((c.tc : Thread Cert.MixOutBwdKernelIdeal.nD Cert.MixOutBwdKernelIdeal.τ).loc Cert.MixOutBwdKernelIdeal.main_arg5)
          ∧ r.2.mem ((c.tc : Thread Cert.MixOutBwdKernelIdeal.nD Cert.MixOutBwdKernelIdeal.τ).loc Cert.MixOutBwdKernelIdeal.main_arg6) = m ((c.tc : Thread Cert.MixOutBwdKernelIdeal.nD Cert.MixOutBwdKernelIdeal.τ).loc Cert.MixOutBwdKernelIdeal.main_arg6)
          ∧ r.2.mem ((c.tc : Thread Cert.MixOutBwdKernelIdeal.nD Cert.MixOutBwdKernelIdeal.τ).loc Cert.MixOutBwdKernelIdeal.main_arg7) = m ((c.tc : Thread Cert.MixOutBwdKernelIdeal.nD Cert.MixOutBwdKernelIdeal.τ).loc Cert.MixOutBwdKernelIdeal.main_arg7)
          ∧ r.2.mem ((c.tc : Thread Cert.MixOutBwdKernelIdeal.nD Cert.MixOutBwdKernelIdeal.τ).loc Cert.MixOutBwdKernelIdeal.main_arg8) = m ((c.tc : Thread Cert.MixOutBwdKernelIdeal.nD Cert.MixOutBwdKernelIdeal.τ).loc Cert.MixOutBwdKernelIdeal.main_arg8)
          ∧ r.2.mem ((c.tc : Thread Cert.MixOutBwdKernelIdeal.nD Cert.MixOutBwdKernelIdeal.τ).loc Cert.MixOutBwdKernelIdeal.main_arg9) = m ((c.tc : Thread Cert.MixOutBwdKernelIdeal.nD Cert.MixOutBwdKernelIdeal.τ).loc Cert.MixOutBwdKernelIdeal.main_arg9))
      ∧ θ_run (Cert.MixOutBwdReferenceIdeal.defs (F := Ideal)) (onTc (τ := Cert.MixOutBwdReferenceIdeal.τ) (Cert.MixOutBwdReferenceIdeal.main (F := Ideal))) ⟨m', fun _ => 0, g'⟩ (fun r => ∀ c : Dev Cert.MixOutBwdReferenceIdeal.nD,
          r.2.mem ((c.tc : Thread Cert.MixOutBwdReferenceIdeal.nD Cert.MixOutBwdReferenceIdeal.τ).loc Cert.MixOutBwdReferenceIdeal.main_v218) = v0 c
          ∧ r.2.mem ((c.tc : Thread Cert.MixOutBwdReferenceIdeal.nD Cert.MixOutBwdReferenceIdeal.τ).loc Cert.MixOutBwdReferenceIdeal.main_v198) = v1 c
          ∧ r.2.mem ((c.tc : Thread Cert.MixOutBwdReferenceIdeal.nD Cert.MixOutBwdReferenceIdeal.τ).loc Cert.MixOutBwdReferenceIdeal.main_v237) = v2 c
          ∧ r.2.mem ((c.tc : Thread Cert.MixOutBwdReferenceIdeal.nD Cert.MixOutBwdReferenceIdeal.τ).loc Cert.MixOutBwdReferenceIdeal.main_v155) = v3 c
          ∧ r.2.mem ((c.tc : Thread Cert.MixOutBwdReferenceIdeal.nD Cert.MixOutBwdReferenceIdeal.τ).loc Cert.MixOutBwdReferenceIdeal.main_v238) = v4 c
          ∧ r.2.mem ((c.tc : Thread Cert.MixOutBwdReferenceIdeal.nD Cert.MixOutBwdReferenceIdeal.τ).loc Cert.MixOutBwdReferenceIdeal.main_v239) = v5 c
          ∧ r.2.mem ((c.tc : Thread Cert.MixOutBwdReferenceIdeal.nD Cert.MixOutBwdReferenceIdeal.τ).loc Cert.MixOutBwdReferenceIdeal.main_v240) = v6 c
          ∧ r.2.mem ((c.tc : Thread Cert.MixOutBwdReferenceIdeal.nD Cert.MixOutBwdReferenceIdeal.τ).loc Cert.MixOutBwdReferenceIdeal.main_v223) = v7 c
          ∧ r.2.mem ((c.tc : Thread Cert.MixOutBwdReferenceIdeal.nD Cert.MixOutBwdReferenceIdeal.τ).loc Cert.MixOutBwdReferenceIdeal.main_v152) = v8 c
          ∧ r.2.mem ((c.tc : Thread Cert.MixOutBwdReferenceIdeal.nD Cert.MixOutBwdReferenceIdeal.τ).loc Cert.MixOutBwdReferenceIdeal.main_v241) = v9 c
          ∧ r.2.mem ((c.tc : Thread Cert.MixOutBwdReferenceIdeal.nD Cert.MixOutBwdReferenceIdeal.τ).loc Cert.MixOutBwdReferenceIdeal.main_v242) = v10 c
          ∧ r.2.mem ((c.tc : Thread Cert.MixOutBwdReferenceIdeal.nD Cert.MixOutBwdReferenceIdeal.τ).loc Cert.MixOutBwdReferenceIdeal.main_arg0) = m' ((c.tc : Thread Cert.MixOutBwdReferenceIdeal.nD Cert.MixOutBwdReferenceIdeal.τ).loc Cert.MixOutBwdReferenceIdeal.main_arg0)
          ∧ r.2.mem ((c.tc : Thread Cert.MixOutBwdReferenceIdeal.nD Cert.MixOutBwdReferenceIdeal.τ).loc Cert.MixOutBwdReferenceIdeal.main_arg1) = m' ((c.tc : Thread Cert.MixOutBwdReferenceIdeal.nD Cert.MixOutBwdReferenceIdeal.τ).loc Cert.MixOutBwdReferenceIdeal.main_arg1)
          ∧ r.2.mem ((c.tc : Thread Cert.MixOutBwdReferenceIdeal.nD Cert.MixOutBwdReferenceIdeal.τ).loc Cert.MixOutBwdReferenceIdeal.main_arg2) = m' ((c.tc : Thread Cert.MixOutBwdReferenceIdeal.nD Cert.MixOutBwdReferenceIdeal.τ).loc Cert.MixOutBwdReferenceIdeal.main_arg2)
          ∧ r.2.mem ((c.tc : Thread Cert.MixOutBwdReferenceIdeal.nD Cert.MixOutBwdReferenceIdeal.τ).loc Cert.MixOutBwdReferenceIdeal.main_arg3) = m' ((c.tc : Thread Cert.MixOutBwdReferenceIdeal.nD Cert.MixOutBwdReferenceIdeal.τ).loc Cert.MixOutBwdReferenceIdeal.main_arg3)
          ∧ r.2.mem ((c.tc : Thread Cert.MixOutBwdReferenceIdeal.nD Cert.MixOutBwdReferenceIdeal.τ).loc Cert.MixOutBwdReferenceIdeal.main_arg4) = m' ((c.tc : Thread Cert.MixOutBwdReferenceIdeal.nD Cert.MixOutBwdReferenceIdeal.τ).loc Cert.MixOutBwdReferenceIdeal.main_arg4)
          ∧ r.2.mem ((c.tc : Thread Cert.MixOutBwdReferenceIdeal.nD Cert.MixOutBwdReferenceIdeal.τ).loc Cert.MixOutBwdReferenceIdeal.main_arg5) = m' ((c.tc : Thread Cert.MixOutBwdReferenceIdeal.nD Cert.MixOutBwdReferenceIdeal.τ).loc Cert.MixOutBwdReferenceIdeal.main_arg5)
          ∧ r.2.mem ((c.tc : Thread Cert.MixOutBwdReferenceIdeal.nD Cert.MixOutBwdReferenceIdeal.τ).loc Cert.MixOutBwdReferenceIdeal.main_arg6) = m' ((c.tc : Thread Cert.MixOutBwdReferenceIdeal.nD Cert.MixOutBwdReferenceIdeal.τ).loc Cert.MixOutBwdReferenceIdeal.main_arg6)
          ∧ r.2.mem ((c.tc : Thread Cert.MixOutBwdReferenceIdeal.nD Cert.MixOutBwdReferenceIdeal.τ).loc Cert.MixOutBwdReferenceIdeal.main_arg7) = m' ((c.tc : Thread Cert.MixOutBwdReferenceIdeal.nD Cert.MixOutBwdReferenceIdeal.τ).loc Cert.MixOutBwdReferenceIdeal.main_arg7)
          ∧ r.2.mem ((c.tc : Thread Cert.MixOutBwdReferenceIdeal.nD Cert.MixOutBwdReferenceIdeal.τ).loc Cert.MixOutBwdReferenceIdeal.main_arg8) = m' ((c.tc : Thread Cert.MixOutBwdReferenceIdeal.nD Cert.MixOutBwdReferenceIdeal.τ).loc Cert.MixOutBwdReferenceIdeal.main_arg8)
          ∧ r.2.mem ((c.tc : Thread Cert.MixOutBwdReferenceIdeal.nD Cert.MixOutBwdReferenceIdeal.τ).loc Cert.MixOutBwdReferenceIdeal.main_arg9) = m' ((c.tc : Thread Cert.MixOutBwdReferenceIdeal.nD Cert.MixOutBwdReferenceIdeal.τ).loc Cert.MixOutBwdReferenceIdeal.main_arg9))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v16) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamFfnKernel_AdamFfnKernelIdeal : Prop :=
  True

def algebraic_AdamFfnKernelIdeal_AdamFfnReferenceIdeal [hAdamFfnKernelIdeal : Cert.AdamFfnKernelIdeal.Facts] [hAdamFfnReferenceIdeal : Cert.AdamFfnReferenceIdeal.Facts] : Prop :=
  ∀ (m : (ℓ : Loc Cert.AdamFfnKernelIdeal.nD Cert.AdamFfnKernelIdeal.τ Cert.AdamFfnKernelIdeal.sig) → Buf (Elt Ideal) ℓ) (g : Dev Cert.AdamFfnKernelIdeal.nD → PrngReg)
    (m' : (ℓ : Loc Cert.AdamFfnReferenceIdeal.nD Cert.AdamFfnReferenceIdeal.τ Cert.AdamFfnReferenceIdeal.sig) → Buf (Elt Ideal) ℓ) (g' : Dev Cert.AdamFfnReferenceIdeal.nD → PrngReg), Pre_AdamFfnKernelIdeal m →
    (∀ c : Dev Cert.AdamFfnKernelIdeal.nD,
      m' ((c.tc : Thread Cert.AdamFfnReferenceIdeal.nD Cert.AdamFfnReferenceIdeal.τ).loc Cert.AdamFfnReferenceIdeal.main_arg0) = m ((c.tc : Thread Cert.AdamFfnKernelIdeal.nD Cert.AdamFfnKernelIdeal.τ).loc Cert.AdamFfnKernelIdeal.main_arg0)
      ∧ m' ((c.tc : Thread Cert.AdamFfnReferenceIdeal.nD Cert.AdamFfnReferenceIdeal.τ).loc Cert.AdamFfnReferenceIdeal.main_arg1) = m ((c.tc : Thread Cert.AdamFfnKernelIdeal.nD Cert.AdamFfnKernelIdeal.τ).loc Cert.AdamFfnKernelIdeal.main_arg1)
      ∧ m' ((c.tc : Thread Cert.AdamFfnReferenceIdeal.nD Cert.AdamFfnReferenceIdeal.τ).loc Cert.AdamFfnReferenceIdeal.main_arg2) = m ((c.tc : Thread Cert.AdamFfnKernelIdeal.nD Cert.AdamFfnKernelIdeal.τ).loc Cert.AdamFfnKernelIdeal.main_arg2)
      ∧ m' ((c.tc : Thread Cert.AdamFfnReferenceIdeal.nD Cert.AdamFfnReferenceIdeal.τ).loc Cert.AdamFfnReferenceIdeal.main_arg3) = m ((c.tc : Thread Cert.AdamFfnKernelIdeal.nD Cert.AdamFfnKernelIdeal.τ).loc Cert.AdamFfnKernelIdeal.main_arg3)) →
    ∃ (v0 : (c : Dev Cert.AdamFfnKernelIdeal.nD) → Buf (Elt Ideal) ((c.tc : Thread Cert.AdamFfnKernelIdeal.nD Cert.AdamFfnKernelIdeal.τ).loc Cert.AdamFfnKernelIdeal.main_v0_0)) (v1 : (c : Dev Cert.AdamFfnKernelIdeal.nD) → Buf (Elt Ideal) ((c.tc : Thread Cert.AdamFfnKernelIdeal.nD Cert.AdamFfnKernelIdeal.τ).loc Cert.AdamFfnKernelIdeal.main_v0_1)) (v2 : (c : Dev Cert.AdamFfnKernelIdeal.nD) → Buf (Elt Ideal) ((c.tc : Thread Cert.AdamFfnKernelIdeal.nD Cert.AdamFfnKernelIdeal.τ).loc Cert.AdamFfnKernelIdeal.main_v0_2)),
      θ_run (Cert.AdamFfnKernelIdeal.defs (F := Ideal)) (onTc (τ := Cert.AdamFfnKernelIdeal.τ) (Cert.AdamFfnKernelIdeal.main (F := Ideal))) ⟨m, fun _ => 0, g⟩ (fun r => ∀ c : Dev Cert.AdamFfnKernelIdeal.nD,
          r.2.mem ((c.tc : Thread Cert.AdamFfnKernelIdeal.nD Cert.AdamFfnKernelIdeal.τ).loc Cert.AdamFfnKernelIdeal.main_v0_0) = v0 c
          ∧ r.2.mem ((c.tc : Thread Cert.AdamFfnKernelIdeal.nD Cert.AdamFfnKernelIdeal.τ).loc Cert.AdamFfnKernelIdeal.main_v0_1) = v1 c
          ∧ r.2.mem ((c.tc : Thread Cert.AdamFfnKernelIdeal.nD Cert.AdamFfnKernelIdeal.τ).loc Cert.AdamFfnKernelIdeal.main_v0_2) = v2 c
          ∧ r.2.mem ((c.tc : Thread Cert.AdamFfnKernelIdeal.nD Cert.AdamFfnKernelIdeal.τ).loc Cert.AdamFfnKernelIdeal.main_arg0) = m ((c.tc : Thread Cert.AdamFfnKernelIdeal.nD Cert.AdamFfnKernelIdeal.τ).loc Cert.AdamFfnKernelIdeal.main_arg0)
          ∧ r.2.mem ((c.tc : Thread Cert.AdamFfnKernelIdeal.nD Cert.AdamFfnKernelIdeal.τ).loc Cert.AdamFfnKernelIdeal.main_arg1) = m ((c.tc : Thread Cert.AdamFfnKernelIdeal.nD Cert.AdamFfnKernelIdeal.τ).loc Cert.AdamFfnKernelIdeal.main_arg1)
          ∧ r.2.mem ((c.tc : Thread Cert.AdamFfnKernelIdeal.nD Cert.AdamFfnKernelIdeal.τ).loc Cert.AdamFfnKernelIdeal.main_arg2) = m ((c.tc : Thread Cert.AdamFfnKernelIdeal.nD Cert.AdamFfnKernelIdeal.τ).loc Cert.AdamFfnKernelIdeal.main_arg2)
          ∧ r.2.mem ((c.tc : Thread Cert.AdamFfnKernelIdeal.nD Cert.AdamFfnKernelIdeal.τ).loc Cert.AdamFfnKernelIdeal.main_arg3) = m ((c.tc : Thread Cert.AdamFfnKernelIdeal.nD Cert.AdamFfnKernelIdeal.τ).loc Cert.AdamFfnKernelIdeal.main_arg3))
      ∧ θ_run (Cert.AdamFfnReferenceIdeal.defs (F := Ideal)) (onTc (τ := Cert.AdamFfnReferenceIdeal.τ) (Cert.AdamFfnReferenceIdeal.main (F := Ideal))) ⟨m', fun _ => 0, g'⟩ (fun r => ∀ c : Dev Cert.AdamFfnReferenceIdeal.nD,
          r.2.mem ((c.tc : Thread Cert.AdamFfnReferenceIdeal.nD Cert.AdamFfnReferenceIdeal.τ).loc Cert.AdamFfnReferenceIdeal.main_v23) = v0 c
          ∧ r.2.mem ((c.tc : Thread Cert.AdamFfnReferenceIdeal.nD Cert.AdamFfnReferenceIdeal.τ).loc Cert.AdamFfnReferenceIdeal.main_v4) = v1 c
          ∧ r.2.mem ((c.tc : Thread Cert.AdamFfnReferenceIdeal.nD Cert.AdamFfnReferenceIdeal.τ).loc Cert.AdamFfnReferenceIdeal.main_v10) = v2 c
          ∧ r.2.mem ((c.tc : Thread Cert.AdamFfnReferenceIdeal.nD Cert.AdamFfnReferenceIdeal.τ).loc Cert.AdamFfnReferenceIdeal.main_arg0) = m' ((c.tc : Thread Cert.AdamFfnReferenceIdeal.nD Cert.AdamFfnReferenceIdeal.τ).loc Cert.AdamFfnReferenceIdeal.main_arg0)
          ∧ r.2.mem ((c.tc : Thread Cert.AdamFfnReferenceIdeal.nD Cert.AdamFfnReferenceIdeal.τ).loc Cert.AdamFfnReferenceIdeal.main_arg1) = m' ((c.tc : Thread Cert.AdamFfnReferenceIdeal.nD Cert.AdamFfnReferenceIdeal.τ).loc Cert.AdamFfnReferenceIdeal.main_arg1)
          ∧ r.2.mem ((c.tc : Thread Cert.AdamFfnReferenceIdeal.nD Cert.AdamFfnReferenceIdeal.τ).loc Cert.AdamFfnReferenceIdeal.main_arg2) = m' ((c.tc : Thread Cert.AdamFfnReferenceIdeal.nD Cert.AdamFfnReferenceIdeal.τ).loc Cert.AdamFfnReferenceIdeal.main_arg2)
          ∧ r.2.mem ((c.tc : Thread Cert.AdamFfnReferenceIdeal.nD Cert.AdamFfnReferenceIdeal.τ).loc Cert.AdamFfnReferenceIdeal.main_arg3) = m' ((c.tc : Thread Cert.AdamFfnReferenceIdeal.nD Cert.AdamFfnReferenceIdeal.τ).loc Cert.AdamFfnReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamGluKernel_AdamGluKernelIdeal : Prop :=
  True

def algebraic_AdamGluKernelIdeal_AdamGluReferenceIdeal [hAdamGluKernelIdeal : Cert.AdamGluKernelIdeal.Facts] [hAdamGluReferenceIdeal : Cert.AdamGluReferenceIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluKernelIdeal m →
    (∀ c : Dev Cert.AdamGluKernelIdeal.nD,
      m' ((c.tc : Thread Cert.AdamGluReferenceIdeal.nD Cert.AdamGluReferenceIdeal.τ).loc Cert.AdamGluReferenceIdeal.main_arg0) = m ((c.tc : Thread Cert.AdamGluKernelIdeal.nD Cert.AdamGluKernelIdeal.τ).loc Cert.AdamGluKernelIdeal.main_arg0)
      ∧ m' ((c.tc : Thread Cert.AdamGluReferenceIdeal.nD Cert.AdamGluReferenceIdeal.τ).loc Cert.AdamGluReferenceIdeal.main_arg1) = m ((c.tc : Thread Cert.AdamGluKernelIdeal.nD Cert.AdamGluKernelIdeal.τ).loc Cert.AdamGluKernelIdeal.main_arg1)
      ∧ m' ((c.tc : Thread Cert.AdamGluReferenceIdeal.nD Cert.AdamGluReferenceIdeal.τ).loc Cert.AdamGluReferenceIdeal.main_arg2) = m ((c.tc : Thread Cert.AdamGluKernelIdeal.nD Cert.AdamGluKernelIdeal.τ).loc Cert.AdamGluKernelIdeal.main_arg2)
      ∧ m' ((c.tc : Thread Cert.AdamGluReferenceIdeal.nD Cert.AdamGluReferenceIdeal.τ).loc Cert.AdamGluReferenceIdeal.main_arg3) = m ((c.tc : Thread Cert.AdamGluKernelIdeal.nD Cert.AdamGluKernelIdeal.τ).loc Cert.AdamGluKernelIdeal.main_arg3)) →
    ∃ (v0 : (c : Dev Cert.AdamGluKernelIdeal.nD) → Buf (Elt Ideal) ((c.tc : Thread Cert.AdamGluKernelIdeal.nD Cert.AdamGluKernelIdeal.τ).loc Cert.AdamGluKernelIdeal.main_v0_0)) (v1 : (c : Dev Cert.AdamGluKernelIdeal.nD) → Buf (Elt Ideal) ((c.tc : Thread Cert.AdamGluKernelIdeal.nD Cert.AdamGluKernelIdeal.τ).loc Cert.AdamGluKernelIdeal.main_v0_1)) (v2 : (c : Dev Cert.AdamGluKernelIdeal.nD) → Buf (Elt Ideal) ((c.tc : Thread Cert.AdamGluKernelIdeal.nD Cert.AdamGluKernelIdeal.τ).loc Cert.AdamGluKernelIdeal.main_v0_2)),
      θ_run (Cert.AdamGluKernelIdeal.defs (F := Ideal)) (onTc (τ := Cert.AdamGluKernelIdeal.τ) (Cert.AdamGluKernelIdeal.main (F := Ideal))) ⟨m, fun _ => 0, g⟩ (fun r => ∀ c : Dev Cert.AdamGluKernelIdeal.nD,
          r.2.mem ((c.tc : Thread Cert.AdamGluKernelIdeal.nD Cert.AdamGluKernelIdeal.τ).loc Cert.AdamGluKernelIdeal.main_v0_0) = v0 c
          ∧ r.2.mem ((c.tc : Thread Cert.AdamGluKernelIdeal.nD Cert.AdamGluKernelIdeal.τ).loc Cert.AdamGluKernelIdeal.main_v0_1) = v1 c
          ∧ r.2.mem ((c.tc : Thread Cert.AdamGluKernelIdeal.nD Cert.AdamGluKernelIdeal.τ).loc Cert.AdamGluKernelIdeal.main_v0_2) = v2 c
          ∧ r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
          ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
          ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
          ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v23) = v0 c
          ∧ r.2.mem ((c.tc : Thread Cert.AdamGluReferenceIdeal.nD Cert.AdamGluReferenceIdeal.τ).loc Cert.AdamGluReferenceIdeal.main_v4) = v1 c
          ∧ r.2.mem ((c.tc : Thread Cert.AdamGluReferenceIdeal.nD Cert.AdamGluReferenceIdeal.τ).loc Cert.AdamGluReferenceIdeal.main_v10) = v2 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamConvKernel_AdamConvKernelIdeal : Prop :=
  True

def algebraic_AdamConvKernelIdeal_AdamConvReferenceIdeal [hAdamConvKernelIdeal : Cert.AdamConvKernelIdeal.Facts] [hAdamConvReferenceIdeal : Cert.AdamConvReferenceIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvKernelIdeal m →
    (∀ c : Dev Cert.AdamConvKernelIdeal.nD,
      m' ((c.tc : Thread Cert.AdamConvReferenceIdeal.nD Cert.AdamConvReferenceIdeal.τ).loc Cert.AdamConvReferenceIdeal.main_arg0) = m ((c.tc : Thread Cert.AdamConvKernelIdeal.nD Cert.AdamConvKernelIdeal.τ).loc Cert.AdamConvKernelIdeal.main_arg0)
      ∧ m' ((c.tc : Thread Cert.AdamConvReferenceIdeal.nD Cert.AdamConvReferenceIdeal.τ).loc Cert.AdamConvReferenceIdeal.main_arg1) = m ((c.tc : Thread Cert.AdamConvKernelIdeal.nD Cert.AdamConvKernelIdeal.τ).loc Cert.AdamConvKernelIdeal.main_arg1)
      ∧ m' ((c.tc : Thread Cert.AdamConvReferenceIdeal.nD Cert.AdamConvReferenceIdeal.τ).loc Cert.AdamConvReferenceIdeal.main_arg2) = m ((c.tc : Thread Cert.AdamConvKernelIdeal.nD Cert.AdamConvKernelIdeal.τ).loc Cert.AdamConvKernelIdeal.main_arg2)
      ∧ m' ((c.tc : Thread Cert.AdamConvReferenceIdeal.nD Cert.AdamConvReferenceIdeal.τ).loc Cert.AdamConvReferenceIdeal.main_arg3) = m ((c.tc : Thread Cert.AdamConvKernelIdeal.nD Cert.AdamConvKernelIdeal.τ).loc Cert.AdamConvKernelIdeal.main_arg3)) →
    ∃ (v0 : (c : Dev Cert.AdamConvKernelIdeal.nD) → Buf (Elt Ideal) ((c.tc : Thread Cert.AdamConvKernelIdeal.nD Cert.AdamConvKernelIdeal.τ).loc Cert.AdamConvKernelIdeal.main_v0_0)) (v1 : (c : Dev Cert.AdamConvKernelIdeal.nD) → Buf (Elt Ideal) ((c.tc : Thread Cert.AdamConvKernelIdeal.nD Cert.AdamConvKernelIdeal.τ).loc Cert.AdamConvKernelIdeal.main_v0_1)) (v2 : (c : Dev Cert.AdamConvKernelIdeal.nD) → Buf (Elt Ideal) ((c.tc : Thread Cert.AdamConvKernelIdeal.nD Cert.AdamConvKernelIdeal.τ).loc Cert.AdamConvKernelIdeal.main_v0_2)),
      θ_run (Cert.AdamConvKernelIdeal.defs (F := Ideal)) (onTc (τ := Cert.AdamConvKernelIdeal.τ) (Cert.AdamConvKernelIdeal.main (F := Ideal))) ⟨m, fun _ => 0, g⟩ (fun r => ∀ c : Dev Cert.AdamConvKernelIdeal.nD,
          r.2.mem ((c.tc : Thread Cert.AdamConvKernelIdeal.nD Cert.AdamConvKernelIdeal.τ).loc Cert.AdamConvKernelIdeal.main_v0_0) = v0 c
          ∧ r.2.mem ((c.tc : Thread Cert.AdamConvKernelIdeal.nD Cert.AdamConvKernelIdeal.τ).loc Cert.AdamConvKernelIdeal.main_v0_1) = v1 c
          ∧ r.2.mem ((c.tc : Thread Cert.AdamConvKernelIdeal.nD Cert.AdamConvKernelIdeal.τ).loc Cert.AdamConvKernelIdeal.main_v0_2) = v2 c
          ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
          ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
          ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
          ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_FgateFwdKernel_FgateFwdKernelIdeal : Prop :=
  True

def algebraic_FgateFwdKernelIdeal_FgateFwdReferenceIdeal [hFgateFwdKernelIdeal : Cert.FgateFwdKernelIdeal.Facts] [hFgateFwdReferenceIdeal : Cert.FgateFwdReferenceIdeal.Facts] : Prop :=
  ∀ (m : (ℓ : Loc Cert.FgateFwdKernelIdeal.nD Cert.FgateFwdKernelIdeal.τ Cert.FgateFwdKernelIdeal.sig) → Buf (Elt Ideal) ℓ) (g : Dev Cert.FgateFwdKernelIdeal.nD → PrngReg)
    (m' : (ℓ : Loc Cert.FgateFwdReferenceIdeal.nD Cert.FgateFwdReferenceIdeal.τ Cert.FgateFwdReferenceIdeal.sig) → Buf (Elt Ideal) ℓ) (g' : Dev Cert.FgateFwdReferenceIdeal.nD → PrngReg), Pre_FgateFwdKernelIdeal m →
    (∀ c : Dev Cert.FgateFwdKernelIdeal.nD,
      m' ((c.tc : Thread Cert.FgateFwdReferenceIdeal.nD Cert.FgateFwdReferenceIdeal.τ).loc Cert.FgateFwdReferenceIdeal.main_arg0) = m ((c.tc : Thread Cert.FgateFwdKernelIdeal.nD Cert.FgateFwdKernelIdeal.τ).loc Cert.FgateFwdKernelIdeal.main_arg0)
      ∧ m' ((c.tc : Thread Cert.FgateFwdReferenceIdeal.nD Cert.FgateFwdReferenceIdeal.τ).loc Cert.FgateFwdReferenceIdeal.main_arg1) = m ((c.tc : Thread Cert.FgateFwdKernelIdeal.nD Cert.FgateFwdKernelIdeal.τ).loc Cert.FgateFwdKernelIdeal.main_arg1)) →
    ∃ (v0 : (c : Dev Cert.FgateFwdKernelIdeal.nD) → Buf (Elt Ideal) ((c.tc : Thread Cert.FgateFwdKernelIdeal.nD Cert.FgateFwdKernelIdeal.τ).loc Cert.FgateFwdKernelIdeal.main_v6)),
      θ_run (Cert.FgateFwdKernelIdeal.defs (F := Ideal)) (onTc (τ := Cert.FgateFwdKernelIdeal.τ) (Cert.FgateFwdKernelIdeal.main (F := Ideal))) ⟨m, fun _ => 0, g⟩ (fun r => ∀ c : Dev Cert.FgateFwdKernelIdeal.nD,
          r.2.mem ((c.tc : Thread Cert.FgateFwdKernelIdeal.nD Cert.FgateFwdKernelIdeal.τ).loc Cert.FgateFwdKernelIdeal.main_v6) = v0 c
          ∧ r.2.mem ((c.tc : Thread Cert.FgateFwdKernelIdeal.nD Cert.FgateFwdKernelIdeal.τ).loc Cert.FgateFwdKernelIdeal.main_arg0) = m ((c.tc : Thread Cert.FgateFwdKernelIdeal.nD Cert.FgateFwdKernelIdeal.τ).loc Cert.FgateFwdKernelIdeal.main_arg0)
          ∧ r.2.mem ((c.tc : Thread Cert.FgateFwdKernelIdeal.nD Cert.FgateFwdKernelIdeal.τ).loc Cert.FgateFwdKernelIdeal.main_arg1) = m ((c.tc : Thread Cert.FgateFwdKernelIdeal.nD Cert.FgateFwdKernelIdeal.τ).loc Cert.FgateFwdKernelIdeal.main_arg1))
      ∧ θ_run (Cert.FgateFwdReferenceIdeal.defs (F := Ideal)) (onTc (τ := Cert.FgateFwdReferenceIdeal.τ) (Cert.FgateFwdReferenceIdeal.main (F := Ideal))) ⟨m', fun _ => 0, g'⟩ (fun r => ∀ c : Dev Cert.FgateFwdReferenceIdeal.nD,
          r.2.mem ((c.tc : Thread Cert.FgateFwdReferenceIdeal.nD Cert.FgateFwdReferenceIdeal.τ).loc Cert.FgateFwdReferenceIdeal.main_v9) = v0 c
          ∧ r.2.mem ((c.tc : Thread Cert.FgateFwdReferenceIdeal.nD Cert.FgateFwdReferenceIdeal.τ).loc Cert.FgateFwdReferenceIdeal.main_arg0) = m' ((c.tc : Thread Cert.FgateFwdReferenceIdeal.nD Cert.FgateFwdReferenceIdeal.τ).loc Cert.FgateFwdReferenceIdeal.main_arg0)
          ∧ r.2.mem ((c.tc : Thread Cert.FgateFwdReferenceIdeal.nD Cert.FgateFwdReferenceIdeal.τ).loc Cert.FgateFwdReferenceIdeal.main_arg1) = m' ((c.tc : Thread Cert.FgateFwdReferenceIdeal.nD Cert.FgateFwdReferenceIdeal.τ).loc Cert.FgateFwdReferenceIdeal.main_arg1))

def preserves_SumSmallKernel_SumSmallKernelIdeal : Prop :=
  True

def algebraic_SumSmallKernelIdeal_SumSmallReferenceIdeal [hSumSmallKernelIdeal : Cert.SumSmallKernelIdeal.Facts] [hSumSmallReferenceIdeal : Cert.SumSmallReferenceIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallKernelIdeal m →
    (∀ c : Dev Cert.SumSmallKernelIdeal.nD,
      m' ((c.tc : Thread Cert.SumSmallReferenceIdeal.nD Cert.SumSmallReferenceIdeal.τ).loc Cert.SumSmallReferenceIdeal.main_arg0) = m ((c.tc : Thread Cert.SumSmallKernelIdeal.nD Cert.SumSmallKernelIdeal.τ).loc Cert.SumSmallKernelIdeal.main_arg0)) →
    ∃ (v0 : (c : Dev Cert.SumSmallKernelIdeal.nD) → Buf (Elt Ideal) ((c.tc : Thread Cert.SumSmallKernelIdeal.nD Cert.SumSmallKernelIdeal.τ).loc Cert.SumSmallKernelIdeal.main_v0)),
      θ_run (Cert.SumSmallKernelIdeal.defs (F := Ideal)) (onTc (τ := Cert.SumSmallKernelIdeal.τ) (Cert.SumSmallKernelIdeal.main (F := Ideal))) ⟨m, fun _ => 0, g⟩ (fun r => ∀ c : Dev Cert.SumSmallKernelIdeal.nD,
          r.2.mem ((c.tc : Thread Cert.SumSmallKernelIdeal.nD Cert.SumSmallKernelIdeal.τ).loc Cert.SumSmallKernelIdeal.main_v0) = v0 c
          ∧ r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def Claim : Prop :=
  ∃ (hFfnBwdKernel : Cert.FfnBwdKernel.Facts) (hFfnBwdKernelIdeal : Cert.FfnBwdKernelIdeal.Facts) (hFfnBwdReferenceIdeal : Cert.FfnBwdReferenceIdeal.Facts) (hFfnDwKernel : Cert.FfnDwKernel.Facts) (hFfnDwKernelIdeal : Cert.FfnDwKernelIdeal.Facts) (hFfnDwReferenceIdeal : Cert.FfnDwReferenceIdeal.Facts) (hFfnFwdKernel : Cert.FfnFwdKernel.Facts) (hFfnFwdKernelIdeal : Cert.FfnFwdKernelIdeal.Facts) (hFfnFwdReferenceIdeal : Cert.FfnFwdReferenceIdeal.Facts) (hFgateBwdKernel : Cert.FgateBwdKernel.Facts) (hFgateBwdKernelIdeal : Cert.FgateBwdKernelIdeal.Facts) (hFgateBwdReferenceIdeal : Cert.FgateBwdReferenceIdeal.Facts) (hMixInKernel : Cert.MixInKernel.Facts) (hMixInKernelIdeal : Cert.MixInKernelIdeal.Facts) (hMixInReferenceIdeal : Cert.MixInReferenceIdeal.Facts) (hMixInDxKernel : Cert.MixInDxKernel.Facts) (hMixInDxKernelIdeal : Cert.MixInDxKernelIdeal.Facts) (hMixInDxReferenceIdeal : Cert.MixInDxReferenceIdeal.Facts) (hMixInDwKernel : Cert.MixInDwKernel.Facts) (hMixInDwKernelIdeal : Cert.MixInDwKernelIdeal.Facts) (hMixInDwReferenceIdeal : Cert.MixInDwReferenceIdeal.Facts) (hLnBwdKernel : Cert.LnBwdKernel.Facts) (hLnBwdKernelIdeal : Cert.LnBwdKernelIdeal.Facts) (hLnBwdReferenceIdeal : Cert.LnBwdReferenceIdeal.Facts) (hMixOutKernel : Cert.MixOutKernel.Facts) (hMixOutKernelIdeal : Cert.MixOutKernelIdeal.Facts) (hMixOutReferenceIdeal : Cert.MixOutReferenceIdeal.Facts) (hMixOutBwdKernel : Cert.MixOutBwdKernel.Facts) (hMixOutBwdKernelIdeal : Cert.MixOutBwdKernelIdeal.Facts) (hMixOutBwdReferenceIdeal : Cert.MixOutBwdReferenceIdeal.Facts) (hLossKernel : Cert.LossKernel.Facts) (hLossKernelIdeal : Cert.LossKernelIdeal.Facts) (hLossReferenceIdeal : Cert.LossReferenceIdeal.Facts) (hAdamFfnKernel : Cert.AdamFfnKernel.Facts) (hAdamFfnKernelIdeal : Cert.AdamFfnKernelIdeal.Facts) (hAdamFfnReferenceIdeal : Cert.AdamFfnReferenceIdeal.Facts) (hAdamInKernel : Cert.AdamInKernel.Facts) (hAdamInKernelIdeal : Cert.AdamInKernelIdeal.Facts) (hAdamInReferenceIdeal : Cert.AdamInReferenceIdeal.Facts) (hAdamOutKernel : Cert.AdamOutKernel.Facts) (hAdamOutKernelIdeal : Cert.AdamOutKernelIdeal.Facts) (hAdamOutReferenceIdeal : Cert.AdamOutReferenceIdeal.Facts) (hAdamGluKernel : Cert.AdamGluKernel.Facts) (hAdamGluKernelIdeal : Cert.AdamGluKernelIdeal.Facts) (hAdamGluReferenceIdeal : Cert.AdamGluReferenceIdeal.Facts) (hAdamConvKernel : Cert.AdamConvKernel.Facts) (hAdamConvKernelIdeal : Cert.AdamConvKernelIdeal.Facts) (hAdamConvReferenceIdeal : Cert.AdamConvReferenceIdeal.Facts) (hAdamSmallKernel : Cert.AdamSmallKernel.Facts) (hAdamSmallKernelIdeal : Cert.AdamSmallKernelIdeal.Facts) (hAdamSmallReferenceIdeal : Cert.AdamSmallReferenceIdeal.Facts) (hFgateFwdKernel : Cert.FgateFwdKernel.Facts) (hFgateFwdKernelIdeal : Cert.FgateFwdKernelIdeal.Facts) (hFgateFwdReferenceIdeal : Cert.FgateFwdReferenceIdeal.Facts) (hSumSmallKernel : Cert.SumSmallKernel.Facts) (hSumSmallKernelIdeal : Cert.SumSmallKernelIdeal.Facts) (hSumSmallReferenceIdeal : Cert.SumSmallReferenceIdeal.Facts) (hPre_finite_inputs : Cert.Pre_finite_inputs.Facts) (hPre_finite_norm : Cert.Pre_finite_norm.Facts) (hPre_finite_out : Cert.Pre_finite_out.Facts),
    quiescent_FfnBwdKernel (hFfnBwdKernel := hFfnBwdKernel)
    ∧ quiescent_FfnBwdKernelIdeal (hFfnBwdKernelIdeal := hFfnBwdKernelIdeal)
    ∧ quiescent_FfnBwdKernelIdeal_pre_finite_inputs (hFfnBwdKernelIdeal := hFfnBwdKernelIdeal) (hPre_finite_inputs := hPre_finite_inputs)
    ∧ quiescent_FfnBwdReferenceIdeal (hFfnBwdReferenceIdeal := hFfnBwdReferenceIdeal)
    ∧ quiescent_FfnBwdReferenceIdeal_pre_finite_inputs (hFfnBwdReferenceIdeal := hFfnBwdReferenceIdeal) (hPre_finite_inputs := hPre_finite_inputs)
    ∧ quiescent_FfnDwKernel (hFfnDwKernel := hFfnDwKernel)
    ∧ quiescent_FfnDwKernelIdeal (hFfnDwKernelIdeal := hFfnDwKernelIdeal)
    ∧ quiescent_FfnDwReferenceIdeal (hFfnDwReferenceIdeal := hFfnDwReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_FgateBwdKernel (hFgateBwdKernel := hFgateBwdKernel)
    ∧ quiescent_FgateBwdKernelIdeal (hFgateBwdKernelIdeal := hFgateBwdKernelIdeal)
    ∧ quiescent_FgateBwdReferenceIdeal (hFgateBwdReferenceIdeal := hFgateBwdReferenceIdeal)
    ∧ quiescent_MixInKernel (hMixInKernel := hMixInKernel)
    ∧ quiescent_MixInKernelIdeal (hMixInKernelIdeal := hMixInKernelIdeal)
    ∧ quiescent_MixInReferenceIdeal (hMixInReferenceIdeal := hMixInReferenceIdeal)
    ∧ quiescent_MixInDxKernel (hMixInDxKernel := hMixInDxKernel)
    ∧ quiescent_MixInDxKernelIdeal (hMixInDxKernelIdeal := hMixInDxKernelIdeal)
    ∧ quiescent_MixInDxReferenceIdeal (hMixInDxReferenceIdeal := hMixInDxReferenceIdeal)
    ∧ quiescent_MixInDwKernel (hMixInDwKernel := hMixInDwKernel)
    ∧ quiescent_MixInDwKernelIdeal (hMixInDwKernelIdeal := hMixInDwKernelIdeal)
    ∧ quiescent_MixInDwReferenceIdeal (hMixInDwReferenceIdeal := hMixInDwReferenceIdeal)
    ∧ quiescent_LnBwdKernel (hLnBwdKernel := hLnBwdKernel)
    ∧ quiescent_LnBwdKernelIdeal (hLnBwdKernelIdeal := hLnBwdKernelIdeal)
    ∧ quiescent_LnBwdKernelIdeal_pre_finite_norm (hLnBwdKernelIdeal := hLnBwdKernelIdeal) (hPre_finite_norm := hPre_finite_norm)
    ∧ quiescent_LnBwdReferenceIdeal (hLnBwdReferenceIdeal := hLnBwdReferenceIdeal)
    ∧ quiescent_LnBwdReferenceIdeal_pre_finite_norm (hLnBwdReferenceIdeal := hLnBwdReferenceIdeal) (hPre_finite_norm := hPre_finite_norm)
    ∧ quiescent_MixOutKernel (hMixOutKernel := hMixOutKernel)
    ∧ quiescent_MixOutKernelIdeal (hMixOutKernelIdeal := hMixOutKernelIdeal)
    ∧ quiescent_MixOutReferenceIdeal (hMixOutReferenceIdeal := hMixOutReferenceIdeal)
    ∧ quiescent_MixOutBwdKernel (hMixOutBwdKernel := hMixOutBwdKernel)
    ∧ quiescent_MixOutBwdKernelIdeal (hMixOutBwdKernelIdeal := hMixOutBwdKernelIdeal)
    ∧ quiescent_MixOutBwdKernelIdeal_pre_finite_out (hMixOutBwdKernelIdeal := hMixOutBwdKernelIdeal) (hPre_finite_out := hPre_finite_out)
    ∧ quiescent_MixOutBwdReferenceIdeal (hMixOutBwdReferenceIdeal := hMixOutBwdReferenceIdeal)
    ∧ quiescent_MixOutBwdReferenceIdeal_pre_finite_out (hMixOutBwdReferenceIdeal := hMixOutBwdReferenceIdeal) (hPre_finite_out := hPre_finite_out)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AdamFfnKernel (hAdamFfnKernel := hAdamFfnKernel)
    ∧ quiescent_AdamFfnKernelIdeal (hAdamFfnKernelIdeal := hAdamFfnKernelIdeal)
    ∧ quiescent_AdamFfnReferenceIdeal (hAdamFfnReferenceIdeal := hAdamFfnReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamGluKernel (hAdamGluKernel := hAdamGluKernel)
    ∧ quiescent_AdamGluKernelIdeal (hAdamGluKernelIdeal := hAdamGluKernelIdeal)
    ∧ quiescent_AdamGluReferenceIdeal (hAdamGluReferenceIdeal := hAdamGluReferenceIdeal)
    ∧ quiescent_AdamConvKernel (hAdamConvKernel := hAdamConvKernel)
    ∧ quiescent_AdamConvKernelIdeal (hAdamConvKernelIdeal := hAdamConvKernelIdeal)
    ∧ quiescent_AdamConvReferenceIdeal (hAdamConvReferenceIdeal := hAdamConvReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_FgateFwdKernel (hFgateFwdKernel := hFgateFwdKernel)
    ∧ quiescent_FgateFwdKernelIdeal (hFgateFwdKernelIdeal := hFgateFwdKernelIdeal)
    ∧ quiescent_FgateFwdReferenceIdeal (hFgateFwdReferenceIdeal := hFgateFwdReferenceIdeal)
    ∧ quiescent_SumSmallKernel (hSumSmallKernel := hSumSmallKernel)
    ∧ quiescent_SumSmallKernelIdeal (hSumSmallKernelIdeal := hSumSmallKernelIdeal)
    ∧ quiescent_SumSmallReferenceIdeal (hSumSmallReferenceIdeal := hSumSmallReferenceIdeal)
    ∧ preserves_FfnBwdKernel_FfnBwdKernelIdeal
    ∧ algebraic_FfnBwdKernelIdeal_FfnBwdReferenceIdeal_pre_finite_inputs (hFfnBwdKernelIdeal := hFfnBwdKernelIdeal) (hFfnBwdReferenceIdeal := hFfnBwdReferenceIdeal) (hPre_finite_inputs := hPre_finite_inputs)
    ∧ preserves_FfnDwKernel_FfnDwKernelIdeal
    ∧ algebraic_FfnDwKernelIdeal_FfnDwReferenceIdeal (hFfnDwKernelIdeal := hFfnDwKernelIdeal) (hFfnDwReferenceIdeal := hFfnDwReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_FgateBwdKernel_FgateBwdKernelIdeal
    ∧ algebraic_FgateBwdKernelIdeal_FgateBwdReferenceIdeal (hFgateBwdKernelIdeal := hFgateBwdKernelIdeal) (hFgateBwdReferenceIdeal := hFgateBwdReferenceIdeal)
    ∧ preserves_MixInKernel_MixInKernelIdeal
    ∧ algebraic_MixInKernelIdeal_MixInReferenceIdeal (hMixInKernelIdeal := hMixInKernelIdeal) (hMixInReferenceIdeal := hMixInReferenceIdeal)
    ∧ preserves_MixInDxKernel_MixInDxKernelIdeal
    ∧ algebraic_MixInDxKernelIdeal_MixInDxReferenceIdeal (hMixInDxKernelIdeal := hMixInDxKernelIdeal) (hMixInDxReferenceIdeal := hMixInDxReferenceIdeal)
    ∧ preserves_MixInDwKernel_MixInDwKernelIdeal
    ∧ algebraic_MixInDwKernelIdeal_MixInDwReferenceIdeal (hMixInDwKernelIdeal := hMixInDwKernelIdeal) (hMixInDwReferenceIdeal := hMixInDwReferenceIdeal)
    ∧ preserves_LnBwdKernel_LnBwdKernelIdeal
    ∧ algebraic_LnBwdKernelIdeal_LnBwdReferenceIdeal_pre_finite_norm (hLnBwdKernelIdeal := hLnBwdKernelIdeal) (hLnBwdReferenceIdeal := hLnBwdReferenceIdeal) (hPre_finite_norm := hPre_finite_norm)
    ∧ preserves_MixOutKernel_MixOutKernelIdeal
    ∧ algebraic_MixOutKernelIdeal_MixOutReferenceIdeal (hMixOutKernelIdeal := hMixOutKernelIdeal) (hMixOutReferenceIdeal := hMixOutReferenceIdeal)
    ∧ preserves_MixOutBwdKernel_MixOutBwdKernelIdeal
    ∧ algebraic_MixOutBwdKernelIdeal_MixOutBwdReferenceIdeal_pre_finite_out (hMixOutBwdKernelIdeal := hMixOutBwdKernelIdeal) (hMixOutBwdReferenceIdeal := hMixOutBwdReferenceIdeal) (hPre_finite_out := hPre_finite_out)
    ∧ preserves_LossKernel_LossKernelIdeal
    ∧ algebraic_LossKernelIdeal_LossReferenceIdeal (hLossKernelIdeal := hLossKernelIdeal) (hLossReferenceIdeal := hLossReferenceIdeal)
    ∧ preserves_AdamFfnKernel_AdamFfnKernelIdeal
    ∧ algebraic_AdamFfnKernelIdeal_AdamFfnReferenceIdeal (hAdamFfnKernelIdeal := hAdamFfnKernelIdeal) (hAdamFfnReferenceIdeal := hAdamFfnReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamGluKernel_AdamGluKernelIdeal
    ∧ algebraic_AdamGluKernelIdeal_AdamGluReferenceIdeal (hAdamGluKernelIdeal := hAdamGluKernelIdeal) (hAdamGluReferenceIdeal := hAdamGluReferenceIdeal)
    ∧ preserves_AdamConvKernel_AdamConvKernelIdeal
    ∧ algebraic_AdamConvKernelIdeal_AdamConvReferenceIdeal (hAdamConvKernelIdeal := hAdamConvKernelIdeal) (hAdamConvReferenceIdeal := hAdamConvReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_FgateFwdKernel_FgateFwdKernelIdeal
    ∧ algebraic_FgateFwdKernelIdeal_FgateFwdReferenceIdeal (hFgateFwdKernelIdeal := hFgateFwdKernelIdeal) (hFgateFwdReferenceIdeal := hFgateFwdReferenceIdeal)
    ∧ preserves_SumSmallKernel_SumSmallKernelIdeal
    ∧ algebraic_SumSmallKernelIdeal_SumSmallReferenceIdeal (hSumSmallKernelIdeal := hSumSmallKernelIdeal) (hSumSmallReferenceIdeal := hSumSmallReferenceIdeal)
-- ==== Pre_finite_inputs.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_norm.lean ====
abbrev S4096x1024 : Shape := ⟨2, ![4096, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024 .f32) (main_arg3 : FVec F S4096x1024 .f32) : IVec S1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S4096x1024 .f32 := Host.absf main_arg3
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite_out.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S4096x1024 : S_.BroadcastsInDim S4096x1024 (![] : Fin 0 → Fin S4096x1024.rank)

variable [Facts]

def fn {F : FTy → Type} [FloatOps F] (main_arg0 : FVec F S4096x384 .f32) (main_arg1 : FVec F S4096x384 .f32) (main_arg2 : FVec F S4096x256 .f32) (main_arg3 : FVec F S4096x1024 .f32) (main_arg4 : FVec F S1024 .f32) (main_arg5 : FVec F S256x256 .f32) (main_arg6 : FVec F S1024x1024 .f32) (main_arg7 : FVec F S1024 .f32) (main_arg8 : FVec F S1024 .f32) (main_arg9 : FVec F S4096x1024 .f32) : IVec S1024 1 × IVec S4096x1024 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S4096x1024 .f32 := Host.absf main_arg9
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== FfnBwdKernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 18
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2816x1024, .bf16⟩
  | .hbm, ⟨14, _⟩ => ⟨S4096x1024, .f32⟩
  | .hbm, ⟨15, _⟩ => ⟨S4096x2816, .bf16⟩
  | .hbm, ⟨16, _⟩ => ⟨S4096x2816, .bf16⟩
  | .hbm, ⟨17, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v52 : BitVec 1 := Scalar.cmpi .eq arg1 c1_i32
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnBwdReferenceIdeal.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S_, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x2816, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S_, .f32⟩
  | .hbm, ⟨81, _⟩ => ⟨S4096x2816, .f32⟩
  | .hbm, ⟨82, _⟩ => ⟨S4096x2816, .f32⟩
  | .hbm, ⟨83, _⟩ => ⟨S_, .f32⟩
  | .hbm, ⟨84, _⟩ => ⟨S4096x2816, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S_, .f32⟩
  | .hbm, ⟨89, _⟩ => ⟨S4096x2816, .f32⟩
  | .hbm, ⟨90, _⟩ => ⟨S4096x2816, .f32⟩
  | .hbm, ⟨91, _⟩ => ⟨S4096x2816, .bf16⟩
  | .hbm, ⟨92, _⟩ => ⟨S4096x2816, .bf16⟩
  | .hbm, ⟨93, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_v26_2 : Ref sig .tc := ⟨.hbm, 57, rfl⟩
abbrev main_call2_cst_1 : Ref sig .tc := ⟨.hbm, 58, rfl⟩
abbrev main_call2_v6 : Ref sig .tc := ⟨.hbm, 59, rfl⟩
abbrev main_call2_v7 : Ref sig .tc := ⟨.hbm, 60, rfl⟩
abbrev main_v26_1 : Ref sig .tc := ⟨.hbm, 61, rfl⟩
abbrev main_v26_0 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v36 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v37 : Ref sig .tc := ⟨.hbm, 86, rfl⟩
abbrev main_v38 : Ref sig .tc := ⟨.hbm, 87, rfl⟩
abbrev main_cst_5 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]
-- ==== FfnDwKernel.lean ====
abbrev S4096x1024 : Shape := ⟨2, ![4096, 1024]⟩
abbrev S4096x2816 : Shape := ⟨2, ![4096, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnFwdKernel.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFwdReferenceIdeal.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x2816, .f32⟩
  | .hbm, ⟨56, _⟩ => ⟨S4096x2816, .bf16⟩
  | .hbm, ⟨57, _⟩ => ⟨S4096x2816, .f32⟩
  | .hbm, ⟨58, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== FgateBwdKernel.lean ====
abbrev S4096x2182 : Shape := ⟨2, ![4096, 2182]⟩
abbrev S6 : Shape := ⟨1, ![6]⟩
abbrev S6x4096 : Shape := ⟨2, ![6, 4096]⟩
abbrev S1x6 : Shape := ⟨2, ![1, 6]⟩
abbrev S_ : Shape := ⟨0, ![]⟩
abbrev S1x128 : Shape := ⟨2, ![1, 128]⟩
abbrev S4096x1926 : Shape := ⟨2, ![4096, 1926]⟩
abbrev S4096x122 : Shape := ⟨2, ![4096, 122]⟩
abbrev S4096x256 : Shape := ⟨2, ![4096, 256]⟩
abbrev S4096x2304 : Shape := ⟨2, ![4096, 2304]⟩
abbrev S4096x6 : Shape := ⟨2, ![4096, 6]⟩
abbrev S4096x128 : Shape := ⟨2, ![4096, 128]⟩
abbrev S8x128 : Shape := ⟨2, ![8, 128]⟩
abbrev S128 : Shape := ⟨1, ![128]⟩

abbrev nBuf : Space → Nat
  | .hbm => 18
  | .vmem => 5
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S6x4096, .f32⟩
  | .hbm, ⟨3, _⟩ => ⟨S1x6, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S4096x1926, .f32⟩
  | .hbm, ⟨8, _⟩ => ⟨S_, .f32⟩
  | .hbm, ⟨9, _⟩ => ⟨S4096x122, .f32⟩
  | .hbm, ⟨10, _⟩ => ⟨S4096x256, .f32⟩
  | .hbm, ⟨11, _⟩ => ⟨S4096x2304, .f32⟩
  | .hbm, ⟨12, _⟩ => ⟨S4096x6, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S1x128, .f32⟩
  | .local _ .vmem, ⟨0, _⟩ => ⟨S4096x128, .f32⟩
  | .local _ .vmem, ⟨1, _⟩ => ⟨S1x128, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | _, _ => ⟨S4096x2182, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c512_i32 : BitVec 32 := 512#32
  let v2 : BitVec 32 := Scalar.addi c0_i32 c512_i32
  let c1_i32 : BitVec 32 := 1#32
  ⟨c0_i32, v2, c1_i32⟩
def k0_mult1 (k0_t1 : Fin k0_t1_loop.trips) : BitVec 32 :=
  let c511_i32 : BitVec 32 := 511#32
  let c0_i32 : BitVec 32 := 0#32
  let c1_i32 : BitVec 32 := 1#32
  let arg6 : BitVec 32 := Scf.iv c0_i32 c1_i32 k0_t1
  let v26 : BitVec 32 := Scalar.subi c511_i32 arg6
  let c8_i32 : BitVec 32 := 8#32
  let v27 : BitVec 32 := Scalar.muli v26 c8_i32
  v27
def k0_off1 (k0_t1 : Fin k0_t1_loop.trips) : Fin 2 → Nat :=
  let c511_i32 : BitVec 32 := 511#32
  let c0_i32 : BitVec 32 := 0#32
  let c1_i32 : BitVec 32 := 1#32
  let arg6 : BitVec 32 := Scf.iv c0_i32 c1_i32 k0_t1
  let v26 : BitVec 32 := Scalar.subi c511_i32 arg6
  let c8_i32 : BitVec 32 := 8#32
  let v27 : BitVec 32 := Scalar.muli v26 c8_i32
  let v28 : BitVec 32 := v27
  let v29 : Index := Scalar.indexCast v28
  let c0_15 : Index := 0#32
  ![v29.toNat, 0]
def cc0_transform_0 (i : grid0.Coords) : Fin 2 → Nat :=
  let arg0 : BitVec 32 := BitVec.ofNat 32 (i 0).val
  let c0_i32 : BitVec 32 := 0#32
  let c15_i32 : BitVec 32 := 15#32
  let c0_i32_0 : BitVec 32 := 0#32
  ![c0_i32.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FgateBwdReferenceIdeal.lean ====
abbrev S4096x2182 : Shape := ⟨2, ![4096, 2182]⟩
abbrev S6 : Shape := ⟨1, ![6]⟩
abbrev S6x4096 : Shape := ⟨2, ![6, 4096]⟩
abbrev S4096x6 : Shape := ⟨2, ![4096, 6]⟩
abbrev S1x6 : Shape := ⟨2, ![1, 6]⟩
abbrev S_ : Shape := ⟨0, ![]⟩
abbrev S4096x128 : Shape := ⟨2, ![4096, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S6x4096, .f32⟩
  | .hbm, ⟨3, _⟩ => ⟨S4096x6, .f32⟩
  | .hbm, ⟨4, _⟩ => ⟨S1x6, .f32⟩
  | .hbm, ⟨5, _⟩ => ⟨S4096x6, .f32⟩
  | .hbm, ⟨6, _⟩ => ⟨S4096x6, .f32⟩
  | .hbm, ⟨7, _⟩ => ⟨S4096x6, .f32⟩
  | .hbm, ⟨8, _⟩ => ⟨S_, .f32⟩
  | .hbm, ⟨9, _⟩ => ⟨S4096x6, .f32⟩
  | .hbm, ⟨10, _⟩ => ⟨S4096x6, .f32⟩
  | .hbm, ⟨11, _⟩ => ⟨S4096x6, .f32⟩
  | .hbm, ⟨12, _⟩ => ⟨S4096x6, .f32⟩
  | .hbm, ⟨13, _⟩ => ⟨S4096x6, .i1⟩
  | .hbm, ⟨14, _⟩ => ⟨S4096x6, .f32⟩
  | .hbm, ⟨15, _⟩ => ⟨S4096x6, .f32⟩
  | .hbm, ⟨16, _⟩ => ⟨S4096x6, .f32⟩
  | .hbm, ⟨17, _⟩ => ⟨S4096x6, .f32⟩
  | .hbm, ⟨18, _⟩ => ⟨S4096x6, .f32⟩
  | .hbm, ⟨19, _⟩ => ⟨S4096x6, .f32⟩
  | .hbm, ⟨20, _⟩ => ⟨S4096x6, .f32⟩
  | .hbm, ⟨21, _⟩ => ⟨S4096x6, .f32⟩
  | .hbm, ⟨22, _⟩ => ⟨S_, .f32⟩
  | .hbm, ⟨23, _⟩ => ⟨S4096x6, .f32⟩
  | .hbm, ⟨24, _⟩ => ⟨S4096x6, .i1⟩
  | .hbm, ⟨25, _⟩ => ⟨S_, .f32⟩
  | .hbm, ⟨26, _⟩ => ⟨S4096x6, .f32⟩
  | .hbm, ⟨27, _⟩ => ⟨S4096x6, .f32⟩
  | .hbm, ⟨28, _⟩ => ⟨S_, .f32⟩
  | .hbm, ⟨29, _⟩ => ⟨S4096x6, .f32⟩
  | .hbm, ⟨30, _⟩ => ⟨S4096x6, .i1⟩
  | .hbm, ⟨31, _⟩ => ⟨S_, .f32⟩
  | .hbm, ⟨32, _⟩ => ⟨S4096x6, .f32⟩
  | .hbm, ⟨33, _⟩ => ⟨S4096x6, .f32⟩
  | .hbm, ⟨34, _⟩ => ⟨S4096x6, .f32⟩
  | .hbm, ⟨35, _⟩ => ⟨S4096x6, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x6, .f32⟩
  | .hbm, ⟨44, _⟩ => ⟨S4096x6, .i1⟩
  | .hbm, ⟨45, _⟩ => ⟨S_, .f32⟩
  | .hbm, ⟨46, _⟩ => ⟨S4096x6, .f32⟩
  | .hbm, ⟨47, _⟩ => ⟨S4096x6, .f32⟩
  | .hbm, ⟨48, _⟩ => ⟨S4096x6, .f32⟩
  | .hbm, ⟨49, _⟩ => ⟨S4096x6, .f32⟩
  | .hbm, ⟨50, _⟩ => ⟨S4096x6, .f32⟩
  | .hbm, ⟨51, _⟩ => ⟨S_, .f32⟩
  | .hbm, ⟨52, _⟩ => ⟨S4096x6, .f32⟩
  | .hbm, ⟨53, _⟩ => ⟨S4096x6, .f32⟩
  | .hbm, ⟨54, _⟩ => ⟨S4096x6, .f32⟩
  | .hbm, ⟨55, _⟩ => ⟨S6x4096, .f32⟩
  | .hbm, ⟨56, _⟩ => ⟨S_, .f32⟩
  | .hbm, ⟨57, _⟩ => ⟨S_, .f32⟩
  | .hbm, ⟨58, _⟩ => ⟨S6x4096, .f32⟩
  | .hbm, ⟨59, _⟩ => ⟨S_, .f32⟩
  | .hbm, ⟨60, _⟩ => ⟨S_, .f32⟩
  | .hbm, ⟨61, _⟩ => ⟨S6x4096, .f32⟩
  | .hbm, ⟨62, _⟩ => ⟨S4096x6, .f32⟩
  | .hbm, ⟨63, _⟩ => ⟨S4096x6, .f32⟩
  | .hbm, ⟨64, _⟩ => ⟨S4096x6, .f32⟩
  | .hbm, ⟨65, _⟩ => ⟨S4096x6, .f32⟩
  | .hbm, ⟨66, _⟩ => ⟨S_, .f32⟩
  | .hbm, ⟨67, _⟩ => ⟨S6, .f32⟩
  | .hbm, ⟨68, _⟩ => ⟨S1x6, .f32⟩
  | .hbm, ⟨69, _⟩ => ⟨S_, .f32⟩
  | .hbm, ⟨70, _⟩ => ⟨S6, .f32⟩
  | .hbm, ⟨71, _⟩ => ⟨S_, .f32⟩
  | .hbm, ⟨72, _⟩ => ⟨S4096x128, .f32⟩
  | .hbm, ⟨73, _⟩ => ⟨S1x6, .f32⟩
  | .hbm, ⟨74, _⟩ => ⟨S_, .f32⟩
  | .hbm, ⟨75, _⟩ => ⟨S1x128, .f32⟩
  | _, _ => ⟨S4096x2182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_v5 : Ref sig .tc := ⟨.hbm, 55, rfl⟩
abbrev main_call1_call0_cst : Ref sig .tc := ⟨.hbm, 56, rfl⟩
abbrev main_call1_call0_v0 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_cst_1 : Ref sig .tc := ⟨.hbm, 71, rfl⟩
abbrev main_v13 : Ref sig .tc := ⟨.hbm, 72, rfl⟩
abbrev main_v14 : Ref sig .tc := ⟨.hbm, 73, rfl⟩
abbrev main_cst_2 : Ref sig .tc := ⟨.hbm, 74, rfl⟩
abbrev main_v15 : Ref sig .tc := ⟨.hbm, 75, rfl⟩

abbrev nD : Nat := 1
abbrev τ : Topo := Topo.v7x

variable {F : FTy → Type} [FloatOps F]
-- ==== MixInKernel.lean ====
abbrev S4096x1024 : Shape := ⟨2, ![4096, 1024]⟩
abbrev S1024x2304 : Shape := ⟨2, ![1024, 2304]⟩
abbrev S4096x2304 : Shape := ⟨2, ![4096, 2304]⟩
abbrev S512x1024 : Shape := ⟨2, ![512, 1024]⟩
abbrev S512x2304 : Shape := ⟨2, ![512, 2304]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S1024x2304, .bf16⟩
  | .hbm, ⟨3, _⟩ => ⟨S4096x2304, .f32⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S512x2304, .f32⟩
  | .local _ .vmem, ⟨4, _⟩ => ⟨S512x2304, .f32⟩
  | .local _ .vmem, ⟨5, _⟩ => ⟨S512x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixInDxKernel.lean ====
abbrev S1024x2304 : Shape := ⟨2, ![1024, 2304]⟩
abbrev S4096x2304 : Shape := ⟨2, ![4096, 2304]⟩
abbrev S4096x1024 : Shape := ⟨2, ![4096, 1024]⟩
abbrev S512x2304 : Shape := ⟨2, ![512, 2304]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x2304, .f32⟩
  | .hbm, ⟨1, _⟩ => ⟨S4096x2304, .f32⟩
  | .hbm, ⟨2, _⟩ => ⟨S4096x1024, .f32⟩
  | .hbm, ⟨3, _⟩ => ⟨S1024x2304, .bf16⟩
  | .hbm, ⟨4, _⟩ => ⟨S4096x1024, .f32⟩
  | .local _ .vmem, ⟨0, _⟩ => ⟨S512x2304, .f32⟩
  | .local _ .vmem, ⟨1, _⟩ => ⟨S512x2304, .f32⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixInDxReferenceIdeal.lean ====
abbrev S1024x2304 : Shape := ⟨2, ![1024, 2304]⟩
abbrev S4096x2304 : Shape := ⟨2, ![4096, 2304]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S4096x2304, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2304, .f32⟩
  | .hbm, ⟨6, _⟩ => ⟨S4096x1024, .f32⟩
  | .hbm, ⟨7, _⟩ => ⟨S4096x1024, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MixInDwKernel.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S1024x2304, .bf16⟩
  | .local _ .vmem, ⟨0, _⟩ => ⟨S1024x1024, .f32⟩
  | .local _ .vmem, ⟨1, _⟩ => ⟨S1024x1024, .f32⟩
  | .local _ .vmem, ⟨2, _⟩ => ⟨S1024x1152, .f32⟩
  | .local _ .vmem, ⟨3, _⟩ => ⟨S1024x1152, .f32⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwReferenceIdeal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S_, .f32⟩
  | .hbm, ⟨3, _⟩ => ⟨S1024x2304, .f32⟩
  | .hbm, ⟨4, _⟩ => ⟨S4096x2304, .f32⟩
  | .hbm, ⟨5, _⟩ => ⟨S2304x1024, .f32⟩
  | .hbm, ⟨6, _⟩ => ⟨S1024x2304, .f32⟩
  | .hbm, ⟨7, _⟩ => ⟨S1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LnBwdKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_21 : BitVec 32 := 0#32
  let v59 : BitVec 1 := Scalar.cmpi .ne v58 c0_i32_21
  v59

def k0_cond2 (i : grid0.Coords) : BitVec 1 :=
  let arg0 : BitVec 32 := BitVec.ofNat 32 (i 0).val
  let c0_i32_22 : BitVec 32 := 0#32
  let v60 : BitVec 1 := Scalar.cmpi .sgt arg0 c0_i32_22
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== MixOutKernel.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S1x1024 : Shape := ⟨2, ![1, 1024]⟩
abbrev S1x384 : Shape := ⟨2, ![1, 384]⟩
abbrev S1x256 : Shape := ⟨2, ![1, 256]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x384, .f32⟩
  | .hbm, ⟨11, _⟩ => ⟨S1x384, .f32⟩
  | .hbm, ⟨12, _⟩ => ⟨S1x256, .f32⟩
  | .hbm, ⟨13, _⟩ => ⟨S1x1024, .f32⟩
  | .hbm, ⟨14, _⟩ => ⟨S1x1024, .f32⟩
  | .hbm, ⟨15, _⟩ => ⟨S4096x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S256x256, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutReferenceIdeal.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S384 : Shape := ⟨1, ![384]⟩
abbrev S256 : Shape := ⟨1, ![256]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S1x1024 : Shape := ⟨2, ![1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S384, .f32⟩
  | .hbm, ⟨10, _⟩ => ⟨S384, .f32⟩
  | .hbm, ⟨11, _⟩ => ⟨S256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x384, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x384, .f32⟩
  | .hbm, ⟨51, _⟩ => ⟨S4096x384, .f32⟩
  | .hbm, ⟨52, _⟩ => ⟨S1x384, .f32⟩
  | .hbm, ⟨53, _⟩ => ⟨S4096x384, .f32⟩
  | .hbm, ⟨54, _⟩ => ⟨S4096x384, .f32⟩
  | .hbm, ⟨55, _⟩ => ⟨S4096x384, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x384, .f32⟩
  | .hbm, ⟨67, _⟩ => ⟨S4096x384, .f32⟩
  | .hbm, ⟨68, _⟩ => ⟨S1x384, .f32⟩
  | .hbm, ⟨69, _⟩ => ⟨S4096x384, .f32⟩
  | .hbm, ⟨70, _⟩ => ⟨S4096x384, .f32⟩
  | .hbm, ⟨71, _⟩ => ⟨S4096x256, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x256, .f32⟩
  | .hbm, ⟨83, _⟩ => ⟨S4096x256, .f32⟩
  | .hbm, ⟨84, _⟩ => ⟨S1x256, .f32⟩
  | .hbm, ⟨85, _⟩ => ⟨S4096x256, .f32⟩
  | .hbm, ⟨86, _⟩ => ⟨S4096x256, .f32⟩
  | .hbm, ⟨87, _⟩ => ⟨S4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x1024, .f32⟩
  | .hbm, ⟨115, _⟩ => ⟨S4096x1024, .f32⟩
  | .hbm, ⟨116, _⟩ => ⟨S1x1024, .f32⟩
  | .hbm, ⟨117, _⟩ => ⟨S4096x1024, .f32⟩
  | .hbm, ⟨118, _⟩ => ⟨S4096x1024, .f32⟩
  | .hbm, ⟨119, _⟩ => ⟨S1x1024, .f32⟩
  | .hbm, ⟨120, _⟩ => ⟨S4096x1024, .f32⟩
  | .hbm, ⟨121, _⟩ => ⟨S4096x1024, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== MixOutBwdKernel.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S1x1024 : Shape := ⟨2, ![1, 1024]⟩
abbrev S1x384 : Shape := ⟨2, ![1, 384]⟩
abbrev S1x256 : Shape := ⟨2, ![1, 256]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S384 : Shape := ⟨1, ![384]⟩

abbrev nBuf : Space → Nat
  | .hbm => 27
  | .vmem => 32
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S4096x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S1x384, .f32⟩
  | .hbm, ⟨12, _⟩ => ⟨S1x384, .f32⟩
  | .hbm, ⟨13, _⟩ => ⟨S1x256, .f32⟩
  | .hbm, ⟨14, _⟩ => ⟨S1x1024, .f32⟩
  | .hbm, ⟨15, _⟩ => ⟨S1x1024, .f32⟩
  | .hbm, ⟨16, _⟩ => ⟨S4096x384, .f32⟩
  | .hbm, ⟨17, _⟩ => ⟨S4096x384, .f32⟩
  | .hbm, ⟨18, _⟩ => ⟨S4096x256, .f32⟩
  | .hbm, ⟨19, _⟩ => ⟨S4096x1024, .f32⟩
  | .hbm, ⟨20, _⟩ => ⟨S1x384, .f32⟩
  | .hbm, ⟨21, _⟩ => ⟨S1x384, .f32⟩
  | .hbm, ⟨22, _⟩ => ⟨S1x256, .f32⟩
  | .hbm, ⟨23, _⟩ => ⟨S256x256, .f32⟩
  | .hbm, ⟨24, _⟩ => ⟨S1024x1024, .f32⟩
  | .hbm, ⟨25, _⟩ => ⟨S1x1024, .f32⟩
  | .hbm, ⟨26, _⟩ => ⟨S1x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S256x256, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S512x1024, .f32⟩
  | .local _ .vmem, ⟨25, _⟩ => ⟨S1x384, .f32⟩
  | .local _ .vmem, ⟨26, _⟩ => ⟨S1x384, .f32⟩
  | .local _ .vmem, ⟨27, _⟩ => ⟨S1x256, .f32⟩
  | .local _ .vmem, ⟨28, _⟩ => ⟨S256x256, .f32⟩
  | .local _ .vmem, ⟨29, _⟩ => ⟨S1024x1024, .f32⟩
  | .local _ .vmem, ⟨30, _⟩ => ⟨S1x1024, .f32⟩
  | .local _ .vmem, ⟨31, _⟩ => ⟨S1x1024, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v6_8 : Ref sig .tc := ⟨.hbm, 24, rfl⟩
abbrev main_v6_9 : Ref sig .tc := ⟨.hbm, 25, rfl⟩
abbrev main_v6_10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v260 : BitVec 1 := Scalar.cmpi .eq arg0 c0_i32
  let v261 : BitVec 32 := Scalar.extui v260
  let c0_i32_91 : BitVec 32 := 0#32
  let v262 : BitVec 1 := Scalar.cmpi .ne v261 c0_i32_91
  v262

def k0_cond2 (i : grid0.Coords) : BitVec 1 :=
  let arg0 : BitVec 32 := BitVec.ofNat 32 (i 0).val
  let c0_i32_92 : BitVec 32 := 0#32
  let v263 : BitVec 1 := Scalar.cmpi .sgt arg0 c0_i32_92
  let v264 : BitVec 32 := Scalar.extui v263
  let c0_i32_93 : BitVec 32 := 0#32
  let v265 : BitVec 1 := Scalar.cmpi .ne v264 c0_i32_93
  v265

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixOutBwdReferenceIdeal.lean ====
abbrev S4096x384 : Shape := ⟨2, ![4096, 384]⟩
abbrev S4096x256 : Shape := ⟨2, ![4096, 256]⟩
abbrev S4096x1024 : Shape := ⟨2, ![4096, 1024]⟩
abbrev S1024 : Shape := ⟨1, ![1024]⟩
abbrev S256x256 : Shape := ⟨2, ![256, 256]⟩
abbrev S1024x1024 : Shape := ⟨2, ![1024, 1024]⟩
abbrev S384 : Shape := ⟨1, ![384]⟩
abbrev S256 : Shape := ⟨1, ![256]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S1x1024 : Shape := ⟨2, ![1, 1024]⟩

abbrev nBuf : Space → Nat
  | .hbm => 313
  | .vmem => 0
  | .smem => 0
  | _ => 0

abbrev hbmTy0_0 (i : Nat) : BufTy := match i % 128 with
  | 0 => ⟨S4096x384, .f32⟩
  | 1 => ⟨S4096x384, .f32⟩
  | 2 => ⟨S4096x256, .f32⟩
  | 3 => ⟨S4096x1024, .f32⟩
  | 4 => ⟨S1024, .f32⟩
  | 5 => ⟨S256x256, .f32⟩
  | 6 => ⟨S1024x1024, .f32⟩
  | 7 => ⟨S1024, .f32⟩
  | 8 => ⟨S1024, .f32⟩
  | 9 => ⟨S4096x1024, .f32⟩
  | 10 => ⟨S384, .f32⟩
  | 11 => ⟨S384, .f32⟩
  | 12 => ⟨S256, .f32⟩
  | 13 => ⟨S4096x256, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S4096x256, .f32⟩
  | 27 => ⟨S_, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S_, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S4096x256, .f32⟩
  | 54 => ⟨S4096x256, .f32⟩
  | 55 => ⟨S4096x384, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x384, .f32⟩
  | 71 => ⟨S4096x384, .f32⟩
  | 72 => ⟨S1x384, .f32⟩
  | 73 => ⟨S4096x384, .f32⟩
  | 74 => ⟨S4096x384, .f32⟩
  | 75 => ⟨S4096x384, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x384, .f32⟩
  | 91 => ⟨S4096x384, .f32⟩
  | 92 => ⟨S1x384, .f32⟩
  | 93 => ⟨S4096x384, .f32⟩
  | 94 => ⟨S4096x384, .f32⟩
  | 95 => ⟨S4096x256, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x256, .f32⟩
  | 111 => ⟨S4096x256, .f32⟩
  | 112 => ⟨S1x256, .f32⟩
  | 113 => ⟨S4096x256, .f32⟩
  | 114 => ⟨S4096x256, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S4096x1024, .f32⟩
  | _ => ⟨S4096x384, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S4096x1024, .f32⟩
  | 12 => ⟨S4096x1024, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S_, .f32⟩
  | 31 => ⟨S1024, .f32⟩
  | 32 => ⟨S1x1024, .f32⟩
  | 33 => ⟨S_, .f32⟩
  | 34 => ⟨S1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S4096x1024, .f32⟩
  | 41 => ⟨S_, .f32⟩
  | 42 => ⟨S1024, .f32⟩
  | 43 => ⟨S4096x1024, .f32⟩
  | 44 => ⟨S_, .f32⟩
  | 45 => ⟨S4096, .f32⟩
  | 46 => ⟨S4096x1, .f32⟩
  | 47 => ⟨S4096x1024, .f32⟩
  | 48 => ⟨S4096x1024, .f32⟩
  | 49 => ⟨S4096x1, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S1024x1024, .f32⟩
  | 75 => ⟨S1024x1024, .f32⟩
  | 76 => ⟨S4096x1024, .f32⟩
  | 77 => ⟨S_, .f32⟩
  | 78 => ⟨S4096x1024, .f32⟩
  | 79 => ⟨S4096x1024, .f32⟩
  | 80 => ⟨S4096x384, .f32⟩
  | 81 => ⟨S4096x384, .f32⟩
  | 82 => ⟨S4096x256, .f32⟩
  | 83 => ⟨S4096x256, .f32⟩
  | 84 => ⟨S_, .f32⟩
  | 85 => ⟨S256, .f32⟩
  | 86 => ⟨S1x256, .f32⟩
  | 87 => ⟨S4096x256, .f32⟩
  | 88 => ⟨S4096x256, .f32⟩
  | 89 => ⟨S_, .f32⟩
  | 90 => ⟨S256, .f32⟩
  | 91 => ⟨S4096x256, .f32⟩
  | 92 => ⟨S_, .f32⟩
  | 93 => ⟨S4096, .f32⟩
  | 94 => ⟨S4096x1, .f32⟩
  | 95 => ⟨S4096x256, .f32⟩
  | 96 => ⟨S4096x256, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x256, .f32⟩
  | 104 => ⟨S4096x256, .f32⟩
  | 105 => ⟨S4096x256, .f32⟩
  | 106 => ⟨S4096x256, .f32⟩
  | 107 => ⟨S4096x256, .f32⟩
  | 108 => ⟨S4096x384, .f32⟩
  | 109 => ⟨S_, .f32⟩
  | 110 => ⟨S384, .f32⟩
  | 111 => ⟨S1x384, .f32⟩
  | 112 => ⟨S4096x384, .f32⟩
  | 113 => ⟨S4096x384, .f32⟩
  | 114 => ⟨S_, .f32⟩
  | 115 => ⟨S384, .f32⟩
  | 116 => ⟨S4096x384, .f32⟩
  | 117 => ⟨S_, .f32⟩
  | 118 => ⟨S4096, .f32⟩
  | 119 => ⟨S4096x1, .f32⟩
  | 120 => ⟨S4096x384, .f32⟩
  | 121 => ⟨S4096x384, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x384, .f32⟩

abbrev hbmTy0_2 (i : Nat) : BufTy := match i % 128 with
  | 0 => ⟨S4096x384, .f32⟩
  | 1 => ⟨S4096x384, .f32⟩
  | 2 => ⟨S4096x384, .f32⟩
  | 3 => ⟨S4096x384, .f32⟩
  | 4 => ⟨S4096x384, .f32⟩
  | 5 => ⟨S4096x384, .f32⟩
  | 6 => ⟨S_, .f32⟩
  | 7 => ⟨S384, .f32⟩
  | 8 => ⟨S1x384, .f32⟩
  | 9 => ⟨S4096x384, .f32⟩
  | 10 => ⟨S4096x384, .f32⟩
  | 11 => ⟨S_, .f32⟩
  | 12 => ⟨S384, .f32⟩
  | 13 => ⟨S4096x384, .f32⟩
  | 14 => ⟨S_, .f32⟩
  | 15 => ⟨S4096, .f32⟩
  | 16 => ⟨S4096x1, .f32⟩
  | 17 => ⟨S4096x384, .f32⟩
  | 18 => ⟨S4096x384, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x384, .f32⟩
  | 26 => ⟨S4096x384, .f32⟩
  | 27 => ⟨S4096x384, .f32⟩
  | 28 => ⟨S4096x384, .f32⟩
  | 29 => ⟨S4096x384, .f32⟩
  | 30 => ⟨S4096x256, .f32⟩
  | 31 => ⟨S4096x256, .f32⟩
  | 32 => ⟨S4096x256, .f32⟩
  | 33 => ⟨S256x256, .f32⟩
  | 34 => ⟨S256x256, .f32⟩
  | 35 => ⟨S4096x256, .f32⟩
  | 36 => ⟨S4096x256, .f32⟩
  | 37 => ⟨S4096x256, .f32⟩
  | 38 => ⟨S4096x256, .f32⟩
  | 39 => ⟨S_, .f32⟩
  | 40 => ⟨S4096x256, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S4096x256, .f32⟩
  | 47 => ⟨S_, .f32⟩
  | 48 => ⟨S4096x256, .f32⟩
  | 49 => ⟨S4096x256, .f32⟩
  | 50 => ⟨S4096x256, .f32⟩
  | 51 => ⟨S4096x256, .f32⟩
  | 52 => ⟨S1x384, .f32⟩
  | 53 => ⟨S1x384, .f32⟩
  | 54 => ⟨S1x256, .f32⟩
  | 55 => ⟨S1x1024, .f32⟩
  | 56 => ⟨S1x1024, .f32⟩
  | _ => ⟨S4096x384, .f32⟩

abbrev hbmTy (i : Nat) : BufTy := match i / 128 with
  | 0 => hbmTy0_0 i
  | 1 => hbmTy0_1 i
  | 2 => hbmTy0_2 i
  | _ => ⟨S4096x384, .f32⟩

abbrev bufTy : (tb : Table) → Fin (tcTables nBuf tb) → BufTy
  | .hbm, ⟨i, _⟩ => hbmTy i
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_v97 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_27 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_28 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_29 : Ref sig .tc := ⟨.hbm, 158, rfl⟩
abbrev main_v118 : Ref sig .tc := ⟨.hbm, 159, rfl⟩
abbrev main_v119 : Ref sig .tc := ⟨.hbm, 160, rfl⟩
abbrev main_cst_30 : Ref sig .tc := ⟨.hbm, 161, rfl⟩
abbrev main_v120 : Ref sig .tc := ⟨.hbm, 162, rfl⟩
abbrev main_v121 : Ref sig .tc := ⟨.hbm, 163, rfl⟩
abbrev main_cst_31 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_32 : Ref sig .tc := ⟨.hbm, 169, rfl⟩
abbrev main_v126 : Ref sig .tc := ⟨.hbm, 170, rfl⟩
abbrev main_v127 : Ref sig .tc := ⟨.hbm, 171, rfl⟩
abbrev main_cst_33 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_34 : Ref sig .tc := ⟨.hbm, 179, rfl⟩
abbrev main_v134 : Ref sig .tc := ⟨.hbm, 180, rfl⟩
abbrev main_v135 : Ref sig .tc := ⟨.hbm, 181, rfl⟩
abbrev main_cst_35 : Ref sig .tc := ⟨.hbm, 182, rfl⟩
abbrev main_v136 : Ref sig .tc := ⟨.hbm, 183, rfl⟩
abbrev main_v137 : Ref sig .tc := ⟨.hbm, 184, rfl⟩
abbrev main_cst_36 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_37 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_38 : Ref sig .tc := ⟨.hbm, 195, rfl⟩
abbrev main_v146 : Ref sig .tc := ⟨.hbm, 196, rfl⟩
abbrev main_v147 : Ref sig .tc := ⟨.hbm, 197, rfl⟩
abbrev main_cst_39 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_40 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_41 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_42 : Ref sig .tc := ⟨.hbm, 217, rfl⟩
abbrev main_v164 : Ref sig .tc := ⟨.hbm, 218, rfl⟩
abbrev main_v165 : Ref sig .tc := ⟨.hbm, 219, rfl⟩
abbrev main_cst_43 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_44 : Ref sig .tc := ⟨.hbm, 226, rfl⟩
abbrev main_v171 : Ref sig .tc := ⟨.hbm, 227, rfl⟩
abbrev main_v172 : Ref sig .tc := ⟨.hbm, 228, rfl⟩
abbrev main_cst_45 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_46 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_47 : Ref sig .tc := ⟨.hbm, 242, rfl⟩
abbrev main_v184 : Ref sig .tc := ⟨.hbm, 243, rfl⟩
abbrev main_v185 : Ref sig .tc := ⟨.hbm, 244, rfl⟩
abbrev main_cst_48 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_49 : Ref sig .tc := ⟨.hbm, 251, rfl⟩
abbrev main_v191 : Ref sig .tc := ⟨.hbm, 252, rfl⟩
abbrev main_v192 : Ref sig .tc := ⟨.hbm, 253, rfl⟩
abbrev main_cst_50 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_51 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_52 : Ref sig .tc := ⟨.hbm, 267, rfl⟩
abbrev main_v204 : Ref sig .tc := ⟨.hbm, 268, rfl⟩
abbrev main_v205 : Ref sig .tc := ⟨.hbm, 269, rfl⟩
abbrev main_cst_53 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_54 : Ref sig .tc := ⟨.hbm, 276, rfl⟩
abbrev main_v211 : Ref sig .tc := ⟨.hbm, 277, rfl⟩
abbrev main_v212 : Ref sig .tc := ⟨.hbm, 278, rfl⟩
abbrev main_cst_55 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_56 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_cst_57 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_cst_58 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩

abbrev nD : Nat := 1
abbrev τ : Topo := Topo.v7x

variable {F : FTy → Type} [FloatOps F]
-- ==== LossKernel.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_10 : BitVec 32 := 0#32
  let v22 : BitVec 1 := Scalar.cmpi .eq arg0 c0_i32_10
  let v23 : BitVec 32 := Scalar.extui v22
  let c0_i32_11 : BitVec 32 := 0#32
  let v24 : BitVec 1 := Scalar.cmpi .ne v23 c0_i32_11
  v24

def k0_cond2 (i : grid0.Coords) : BitVec 1 :=
  let arg0 : BitVec 32 := BitVec.ofNat 32 (i 0).val
  let c0_i32_12 : BitVec 32 := 0#32
  let v25 : BitVec 1 := Scalar.cmpi .sgt arg0 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | .hbm, ⟨26, _⟩ => ⟨S_, .i32⟩
  | .hbm, ⟨27, _⟩ => ⟨S_, .f32⟩
  | .hbm, ⟨28, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== AdamFfnKernel.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInKernel.lean ====
abbrev S256x2182 : Shape := ⟨2, ![256, 2182]⟩

abbrev nBuf : Space → Nat
  | .hbm => 7
  | .vmem => 7
  | .smem => 0
  | _ => 0

abbrev bufTy : (tb : Table) → Fin (tcTables nBuf tb) → BufTy
  | .hbm, ⟨0, _⟩ => ⟨S256x2182, .f32⟩
  | .hbm, ⟨1, _⟩ => ⟨S256x2182, .f32⟩
  | .hbm, ⟨2, _⟩ => ⟨S256x2182, .f32⟩
  | .hbm, ⟨3, _⟩ => ⟨S256x2182, .f32⟩
  | .hbm, ⟨4, _⟩ => ⟨S256x2182, .f32⟩
  | .hbm, ⟨5, _⟩ => ⟨S256x2182, .f32⟩
  | .hbm, ⟨6, _⟩ => ⟨S256x2182, .f32⟩
  | .local _ .vmem, ⟨0, _⟩ => ⟨S256x2182, .f32⟩
  | .local _ .vmem, ⟨1, _⟩ => ⟨S256x2182, .f32⟩
  | .local _ .vmem, ⟨2, _⟩ => ⟨S256x2182, .f32⟩
  | .local _ .vmem, ⟨3, _⟩ => ⟨S256x2182, .f32⟩
  | .local _ .vmem, ⟨4, _⟩ => ⟨S256x2182, .f32⟩
  | .local _ .vmem, ⟨5, _⟩ => ⟨S256x2182, .f32⟩
  | .local _ .vmem, ⟨6, _⟩ => ⟨S256x2182, .f32⟩
  | _, _ => ⟨S256x2182, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2182 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2182 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2182 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2182 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2182 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2182 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2182 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInReferenceIdeal.lean ====
abbrev S256x2182 : Shape := ⟨2, ![256, 2182]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2182, .f32⟩
  | .hbm, ⟨1, _⟩ => ⟨S256x2182, .f32⟩
  | .hbm, ⟨2, _⟩ => ⟨S256x2182, .f32⟩
  | .hbm, ⟨3, _⟩ => ⟨S256x2182, .f32⟩
  | .hbm, ⟨4, _⟩ => ⟨S_, .f32⟩
  | .hbm, ⟨5, _⟩ => ⟨S256x2182, .f32⟩
  | .hbm, ⟨6, _⟩ => ⟨S256x2182, .f32⟩
  | .hbm, ⟨7, _⟩ => ⟨S_, .f32⟩
  | .hbm, ⟨8, _⟩ => ⟨S256x2182, .f32⟩
  | .hbm, ⟨9, _⟩ => ⟨S256x2182, .f32⟩
  | .hbm, ⟨10, _⟩ => ⟨S256x2182, .f32⟩
  | .hbm, ⟨11, _⟩ => ⟨S_, .f32⟩
  | .hbm, ⟨12, _⟩ => ⟨S256x2182, .f32⟩
  | .hbm, ⟨13, _⟩ => ⟨S256x2182, .f32⟩
  | .hbm, ⟨14, _⟩ => ⟨S256x2182, .f32⟩
  | .hbm, ⟨15, _⟩ => ⟨S_, .f32⟩
  | .hbm, ⟨16, _⟩ => ⟨S256x2182, .f32⟩
  | .hbm, ⟨17, _⟩ => ⟨S256x2182, .f32⟩
  | .hbm, ⟨18, _⟩ => ⟨S256x2182, .f32⟩
  | .hbm, ⟨19, _⟩ => ⟨S_, .f32⟩
  | .hbm, ⟨20, _⟩ => ⟨S256x2182, .f32⟩
  | .hbm, ⟨21, _⟩ => ⟨S256x2182, .f32⟩
  | .hbm, ⟨22, _⟩ => ⟨S_, .f32⟩
  | .hbm, ⟨23, _⟩ => ⟨S256x2182, .f32⟩
  | .hbm, ⟨24, _⟩ => ⟨S256x2182, .f32⟩
  | .hbm, ⟨25, _⟩ => ⟨S256x2182, .f32⟩
  | .hbm, ⟨26, _⟩ => ⟨S_, .f32⟩
  | .hbm, ⟨27, _⟩ => ⟨S256x2182, .f32⟩
  | .hbm, ⟨28, _⟩ => ⟨S256x2182, .f32⟩
  | .hbm, ⟨29, _⟩ => ⟨S256x2182, .f32⟩
  | .hbm, ⟨30, _⟩ => ⟨S_, .f32⟩
  | .hbm, ⟨31, _⟩ => ⟨S256x2182, .f32⟩
  | .hbm, ⟨32, _⟩ => ⟨S256x2182, .f32⟩
  | .hbm, ⟨33, _⟩ => ⟨S256x2182, .f32⟩
  | .hbm, ⟨34, _⟩ => ⟨S_, .f32⟩
  | .hbm, ⟨35, _⟩ => ⟨S256x2182, .f32⟩
  | .hbm, ⟨36, _⟩ => ⟨S256x2182, .f32⟩
  | _, _ => ⟨S256x2182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutKernel.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGluKernel.lean ====
abbrev S64x256 : Shape := ⟨2, ![64, 256]⟩

abbrev nBuf : Space → Nat
  | .hbm => 7
  | .vmem => 7
  | .smem => 0
  | _ => 0

abbrev bufTy : (tb : Table) → Fin (tcTables nBuf tb) → BufTy
  | .hbm, ⟨0, _⟩ => ⟨S64x256, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluReferenceIdeal.lean ====
abbrev S64x256 : Shape := ⟨2, ![64, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x256, .f32⟩
  | .hbm, ⟨11, _⟩ => ⟨S_, .f32⟩
  | .hbm, ⟨12, _⟩ => ⟨S64x256, .f32⟩
  | .hbm, ⟨13, _⟩ => ⟨S64x256, .f32⟩
  | .hbm, ⟨14, _⟩ => ⟨S64x256, .f32⟩
  | .hbm, ⟨15, _⟩ => ⟨S_, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S64x256, .f32⟩
  | .hbm, ⟨22, _⟩ => ⟨S_, .f32⟩
  | .hbm, ⟨23, _⟩ => ⟨S64x256, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S_, .f32⟩
  | .hbm, ⟨35, _⟩ => ⟨S64x256, .f32⟩
  | .hbm, ⟨36, _⟩ => ⟨S64x256, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvKernel.lean ====
abbrev S8x48 : Shape := ⟨2, ![8, 48]⟩

abbrev nBuf : Space → Nat
  | .hbm => 7
  | .vmem => 7
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S8x48, .f32⟩
  | .hbm, ⟨5, _⟩ => ⟨S8x48, .f32⟩
  | .hbm, ⟨6, _⟩ => ⟨S8x48, .f32⟩
  | .local _ .vmem, ⟨0, _⟩ => ⟨S8x48, .f32⟩
  | .local _ .vmem, ⟨1, _⟩ => ⟨S8x48, .f32⟩
  | .local _ .vmem, ⟨2, _⟩ => ⟨S8x48, .f32⟩
  | .local _ .vmem, ⟨3, _⟩ => ⟨S8x48, .f32⟩
  | .local _ .vmem, ⟨4, _⟩ => ⟨S8x48, .f32⟩
  | .local _ .vmem, ⟨5, _⟩ => ⟨S8x48, .f32⟩
  | .local _ .vmem, ⟨6, _⟩ => ⟨S8x48, .f32⟩
  | _, _ => ⟨S8x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S8x48 : Shape := ⟨2, ![8, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S_, .f32⟩
  | .hbm, ⟨5, _⟩ => ⟨S8x48, .f32⟩
  | .hbm, ⟨6, _⟩ => ⟨S8x48, .f32⟩
  | .hbm, ⟨7, _⟩ => ⟨S_, .f32⟩
  | .hbm, ⟨8, _⟩ => ⟨S8x48, .f32⟩
  | .hbm, ⟨9, _⟩ => ⟨S8x48, .f32⟩
  | .hbm, ⟨10, _⟩ => ⟨S8x48, .f32⟩
  | .hbm, ⟨11, _⟩ => ⟨S_, .f32⟩
  | .hbm, ⟨12, _⟩ => ⟨S8x48, .f32⟩
  | .hbm, ⟨13, _⟩ => ⟨S8x48, .f32⟩
  | .hbm, ⟨14, _⟩ => ⟨S8x48, .f32⟩
  | .hbm, ⟨15, _⟩ => ⟨S_, .f32⟩
  | .hbm, ⟨16, _⟩ => ⟨S8x48, .f32⟩
  | .hbm, ⟨17, _⟩ => ⟨S8x48, .f32⟩
  | .hbm, ⟨18, _⟩ => ⟨S8x48, .f32⟩
  | .hbm, ⟨19, _⟩ => ⟨S_, .f32⟩
  | .hbm, ⟨20, _⟩ => ⟨S8x48, .f32⟩
  | .hbm, ⟨21, _⟩ => ⟨S8x48, .f32⟩
  | .hbm, ⟨22, _⟩ => ⟨S_, .f32⟩
  | .hbm, ⟨23, _⟩ => ⟨S8x48, .f32⟩
  | .hbm, ⟨24, _⟩ => ⟨S8x48, .f32⟩
  | .hbm, ⟨25, _⟩ => ⟨S8x48, .f32⟩
  | .hbm, ⟨26, _⟩ => ⟨S_, .f32⟩
  | .hbm, ⟨27, _⟩ => ⟨S8x48, .f32⟩
  | .hbm, ⟨28, _⟩ => ⟨S8x48, .f32⟩
  | .hbm, ⟨29, _⟩ => ⟨S8x48, .f32⟩
  | .hbm, ⟨30, _⟩ => ⟨S_, .f32⟩
  | .hbm, ⟨31, _⟩ => ⟨S8x48, .f32⟩
  | .hbm, ⟨32, _⟩ => ⟨S8x48, .f32⟩
  | .hbm, ⟨33, _⟩ => ⟨S8x48, .f32⟩
  | .hbm, ⟨34, _⟩ => ⟨S_, .f32⟩
  | .hbm, ⟨35, _⟩ => ⟨S8x48, .f32⟩
  | .hbm, ⟨36, _⟩ => ⟨S8x48, .f32⟩
  | _, _ => ⟨S8x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S1992x128 : Shape := ⟨2, ![1992, 128]⟩

abbrev nBuf : Space → Nat
  | .hbm => 7
  | .vmem => 7
  | .smem => 0
  | _ => 0

abbrev bufTy : (tb : Table) → Fin (tcTables nBuf tb) → BufTy
  | .hbm, ⟨0, _⟩ => ⟨S1992x128, .f32⟩
  | .hbm, ⟨1, _⟩ => ⟨S1992x128, .f32⟩
  | .hbm, ⟨2, _⟩ => ⟨S1992x128, .f32⟩
  | .hbm, ⟨3, _⟩ => ⟨S1992x128, .f32⟩
  | .hbm, ⟨4, _⟩ => ⟨S1992x128, .f32⟩
  | .hbm, ⟨5, _⟩ => ⟨S1992x128, .f32⟩
  | .hbm, ⟨6, _⟩ => ⟨S1992x128, .f32⟩
  | .local _ .vmem, ⟨0, _⟩ => ⟨S1992x128, .f32⟩
  | .local _ .vmem, ⟨1, _⟩ => ⟨S1992x128, .f32⟩
  | .local _ .vmem, ⟨2, _⟩ => ⟨S1992x128, .f32⟩
  | .local _ .vmem, ⟨3, _⟩ => ⟨S1992x128, .f32⟩
  | .local _ .vmem, ⟨4, _⟩ => ⟨S1992x128, .f32⟩
  | .local _ .vmem, ⟨5, _⟩ => ⟨S1992x128, .f32⟩
  | .local _ .vmem, ⟨6, _⟩ => ⟨S1992x128, .f32⟩
  | _, _ => ⟨S1992x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1992x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1992x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1992x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1992x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1992x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1992x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1992x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S1992x128 : Shape := ⟨2, ![1992, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1992x128, .f32⟩
  | .hbm, ⟨1, _⟩ => ⟨S1992x128, .f32⟩
  | .hbm, ⟨2, _⟩ => ⟨S1992x128, .f32⟩
  | .hbm, ⟨3, _⟩ => ⟨S1992x128, .f32⟩
  | .hbm, ⟨4, _⟩ => ⟨S_, .f32⟩
  | .hbm, ⟨5, _⟩ => ⟨S1992x128, .f32⟩
  | .hbm, ⟨6, _⟩ => ⟨S1992x128, .f32⟩
  | .hbm, ⟨7, _⟩ => ⟨S_, .f32⟩
  | .hbm, ⟨8, _⟩ => ⟨S1992x128, .f32⟩
  | .hbm, ⟨9, _⟩ => ⟨S1992x128, .f32⟩
  | .hbm, ⟨10, _⟩ => ⟨S1992x128, .f32⟩
  | .hbm, ⟨11, _⟩ => ⟨S_, .f32⟩
  | .hbm, ⟨12, _⟩ => ⟨S1992x128, .f32⟩
  | .hbm, ⟨13, _⟩ => ⟨S1992x128, .f32⟩
  | .hbm, ⟨14, _⟩ => ⟨S1992x128, .f32⟩
  | .hbm, ⟨15, _⟩ => ⟨S_, .f32⟩
  | .hbm, ⟨16, _⟩ => ⟨S1992x128, .f32⟩
  | .hbm, ⟨17, _⟩ => ⟨S1992x128, .f32⟩
  | .hbm, ⟨18, _⟩ => ⟨S1992x128, .f32⟩
  | .hbm, ⟨19, _⟩ => ⟨S_, .f32⟩
  | .hbm, ⟨20, _⟩ => ⟨S1992x128, .f32⟩
  | .hbm, ⟨21, _⟩ => ⟨S1992x128, .f32⟩
  | .hbm, ⟨22, _⟩ => ⟨S_, .f32⟩
  | .hbm, ⟨23, _⟩ => ⟨S1992x128, .f32⟩
  | .hbm, ⟨24, _⟩ => ⟨S1992x128, .f32⟩
  | .hbm, ⟨25, _⟩ => ⟨S1992x128, .f32⟩
  | .hbm, ⟨26, _⟩ => ⟨S_, .f32⟩
  | .hbm, ⟨27, _⟩ => ⟨S1992x128, .f32⟩
  | .hbm, ⟨28, _⟩ => ⟨S1992x128, .f32⟩
  | .hbm, ⟨29, _⟩ => ⟨S1992x128, .f32⟩
  | .hbm, ⟨30, _⟩ => ⟨S_, .f32⟩
  | .hbm, ⟨31, _⟩ => ⟨S1992x128, .f32⟩
  | .hbm, ⟨32, _⟩ => ⟨S1992x128, .f32⟩
  | .hbm, ⟨33, _⟩ => ⟨S1992x128, .f32⟩
  | .hbm, ⟨34, _⟩ => ⟨S_, .f32⟩
  | .hbm, ⟨35, _⟩ => ⟨S1992x128, .f32⟩
  | .hbm, ⟨36, _⟩ => ⟨S1992x128, .f32⟩
  | _, _ => ⟨S1992x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FgateFwdKernel.lean ====
abbrev S4096x2182 : Shape := ⟨2, ![4096, 2182]⟩
abbrev S6 : Shape := ⟨1, ![6]⟩
abbrev S1x6 : Shape := ⟨2, ![1, 6]⟩
abbrev S_ : Shape := ⟨0, ![]⟩
abbrev S1x128 : Shape := ⟨2, ![1, 128]⟩
abbrev S4096x1926 : Shape := ⟨2, ![4096, 1926]⟩
abbrev S4096x122 : Shape := ⟨2, ![4096, 122]⟩
abbrev S4096x256 : Shape := ⟨2, ![4096, 256]⟩
abbrev S4096x2304 : Shape := ⟨2, ![4096, 2304]⟩
abbrev S4096x128 : Shape := ⟨2, ![4096, 128]⟩
abbrev S8x128 : Shape := ⟨2, ![8, 128]⟩
abbrev S128 : Shape := ⟨1, ![128]⟩

abbrev nBuf : Space → Nat
  | .hbm => 12
  | .vmem => 3
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S1x6, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S4096x1926, .f32⟩
  | .hbm, ⟨7, _⟩ => ⟨S_, .f32⟩
  | .hbm, ⟨8, _⟩ => ⟨S4096x122, .f32⟩
  | .hbm, ⟨9, _⟩ => ⟨S4096x256, .f32⟩
  | .hbm, ⟨10, _⟩ => ⟨S4096x2304, .f32⟩
  | .hbm, ⟨11, _⟩ => ⟨S4096x128, .f32⟩
  | .local _ .vmem, ⟨0, _⟩ => ⟨S4096x128, .f32⟩
  | .local _ .vmem, ⟨1, _⟩ => ⟨S1x128, .f32⟩
  | .local _ .vmem, ⟨2, _⟩ => ⟨S4096x128, .f32⟩
  | _, _ => ⟨S4096x2182, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c512_i32 : BitVec 32 := 512#32
  let v23 : BitVec 32 := Scalar.addi c0_i32 c512_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v25 : BitVec 32 := Scalar.muli arg4 c8_i32
  v25
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v25 : BitVec 32 := Scalar.muli arg4 c8_i32
  let v26 : BitVec 32 := v25
  let v27 : Index := Scalar.indexCast v26
  let c0_11 : Index := 0#32
  ![v27.toNat, 0]
def cc0_transform_0 (i : grid0.Coords) : Fin 2 → Nat :=
  let arg0 : BitVec 32 := BitVec.ofNat 32 (i 0).val
  let c0_i32 : BitVec 32 := 0#32
  let c15_i32 : BitVec 32 := 15#32
  let c0_i32_0 : BitVec 32 := 0#32
  ![c0_i32.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FgateFwdReferenceIdeal.lean ====
abbrev S4096x2182 : Shape := ⟨2, ![4096, 2182]⟩
abbrev S6 : Shape := ⟨1, ![6]⟩
abbrev S4096x6 : Shape := ⟨2, ![4096, 6]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S128x4096 : Shape := ⟨2, ![128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2182, .f32⟩
  | .hbm, ⟨1, _⟩ => ⟨S6, .f32⟩
  | .hbm, ⟨2, _⟩ => ⟨S4096x6, .f32⟩
  | .hbm, ⟨3, _⟩ => ⟨S_, .f32⟩
  | .hbm, ⟨4, _⟩ => ⟨S4096x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .i1⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S128x4096, .f32⟩
  | .hbm, ⟨27, _⟩ => ⟨S_, .f32⟩
  | .hbm, ⟨28, _⟩ => ⟨S_, .f32⟩
  | .hbm, ⟨29, _⟩ => ⟨S128x4096, .f32⟩
  | .hbm, ⟨30, _⟩ => ⟨S4096x128, .f32⟩
  | _, _ => ⟨S4096x2182, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v6 : Ref sig .tc := ⟨.hbm, 25, rfl⟩
abbrev main_v7 : Ref sig .tc := ⟨.hbm, 26, rfl⟩
abbrev main_call1_call0_cst : Ref sig .tc := ⟨.hbm, 27, rfl⟩
abbrev main_call1_call0_v0 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== SumSmallKernel.lean ====
abbrev S8x1992x128 : Shape := ⟨3, ![8, 1992, 128]⟩
abbrev S1992x128 : Shape := ⟨2, ![1992, 128]⟩
abbrev S1x1992x128 : Shape := ⟨3, ![1, 1992, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1992x128, .f32⟩
  | .hbm, ⟨1, _⟩ => ⟨S1992x128, .f32⟩
  | .local _ .vmem, ⟨0, _⟩ => ⟨S8x1992x128, .f32⟩
  | .local _ .vmem, ⟨1, _⟩ => ⟨S1992x128, .f32⟩
  | _, _ => ⟨S8x1992x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1992x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1992x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x1992x128 : Shape := ⟨3, ![8, 1992, 128]⟩
abbrev S_ : Shape := ⟨0, ![]⟩
abbrev S1992x128 : Shape := ⟨2, ![1992, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1992x128, .f32⟩
  | .hbm, ⟨1, _⟩ => ⟨S_, .f32⟩
  | .hbm, ⟨2, _⟩ => ⟨S1992x128, .f32⟩
  | _, _ => ⟨S8x1992x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.GateGrad.lean ====
/- The scalar identity behind the gated feed-forward block's backward pass.  The kernel factors the derivative of
   `g * logistic g` as `s * (1 + g * (1 - s))`; differentiating the definition gives `s + g * (s * (1 - s))`, each term
   already multiplied by the incoming gradient.  Over the extended reals the two agree once that gradient is finite. -/
module

public import Idealize.ShloMosaic.Lib.Pointwise

@[expose] public section

noncomputable section

open Idealize.ShloMosaic

namespace Cert.GateGrad

/-- The logistic function written out as both programs compute it. -/
theorem logistic_def (g : EReal) : Ideal.div 1 (1 + Ideal.exp (-g)) = Ideal.logistic g := rfl

/-- The factored derivative against the expanded one, the incoming gradient `c` finite. -/
theorem grad_eq (c : ℝ) (g : EReal) :
    (c : EReal) * (Ideal.logistic g * (1 + g * (1 - Ideal.logistic g)))
      = (c : EReal) * Ideal.logistic g + g * (c : EReal) * (Ideal.logistic g * (1 - Ideal.logistic g)) := by
  have h1 : (1 : EReal) - 1 = 0 := by
    rw [← EReal.coe_one, ← EReal.coe_sub, sub_self, EReal.coe_zero]
  induction g with
  | bot => simp
  | top => simp [h1]
  | coe r =>
    rw [Ideal.logistic_coe]
    norm_cast
    ring

/-- A product of finite values is finite. -/
theorem mul_finite {a b : EReal} (ha : ∃ r : ℝ, a = r) (hb : ∃ r : ℝ, b = r) : ∃ r : ℝ, a * b = r := by
  obtain ⟨x, rfl⟩ := ha
  obtain ⟨y, rfl⟩ := hb
  exact ⟨x * y, by norm_cast⟩

/-- A finite sum of finite values is finite. -/
theorem sum_finite {n : ℕ} (f : Fin n → EReal) (h : ∀ k, ∃ r : ℝ, f k = r) : ∃ r : ℝ, ∑ k, f k = r := by
  choose g hg using h
  refine ⟨∑ k, g k, ?_⟩
  simp only [hg]
  exact (map_sum (⟨⟨fun r : ℝ => (r : EReal), EReal.coe_zero⟩, EReal.coe_add⟩ : ℝ →+ EReal) g Finset.univ).symm

/-- One half, as the programs hold it, is a number. -/
theorem half_finite : ∃ r : ℝ, Ideal.ofBits FTy.f32 1056964608#32 = (r : EReal) :=
  ⟨_, by simp [Ideal.ofBits, Ideal.ieee, -EReal.coe_mul]; rfl⟩

end Cert.GateGrad
end
-- ==== Proof.FfnBwdMath.lean ====
/- The gradient of the gated feed-forward block, entry by entry, and the reference's arrays read at an index. -/
module

public import proofs.«01_k».proof.Proof.Gen.FfnBwdReferenceIdeal.Run
public import proofs.«01_k».proof.Proof.GateGrad
public import Idealize.ShloMosaic.Lib.Pointwise

@[expose] public section

set_option maxRecDepth 16384

noncomputable section

open Idealize.ShloMosaic Idealize.ShloMosaic.TcCoe Idealize.SL.Sem

namespace Cert.FfnBwdMath

open Cert.FfnBwdReferenceIdeal Cert.FfnBwdReferenceIdeal.Gen

/-! ## Entries -/

variable (x : FVec Ideal S4096x1024 .f32) (wg wu : FVec Ideal S1024x2816 .f32) (wd : FVec Ideal S2816x1024 .f32)
  (ct : FVec Ideal S4096x1024 .f32)

/-- Token `t`'s product with hidden feature `f` of a projection `w`. -/
def proj (w : FVec Ideal S1024x2816 .f32) (t : Fin 4096) (f : Fin 2816) : EReal :=
  ∑ k : Fin 1024, x (ix2 t k) * w (ix2 k f)

/-- The gradient reaching the hidden product: half the cotangent through the down projection. -/
def back (t : Fin 4096) (f : Fin 2816) : EReal :=
  ∑ k : Fin 1024, Ideal.ofBits FTy.f32 1056964608#32 * ct (ix2 t k) * wd (ix2 f k)

/-- The gradient in the gate's product. -/
def dgate (t : Fin 4096) (f : Fin 2816) : EReal :=
  back wd ct t f * proj x wu t f * (Ideal.logistic (proj x wg t f) * (1 + proj x wg t f * (1 - Ideal.logistic (proj x wg t f))))

/-- The gradient in the up product. -/
def dup (t : Fin 4096) (f : Fin 2816) : EReal :=
  back wd ct t f * (proj x wg t f * Ideal.logistic (proj x wg t f))

/-- Half the hidden product. -/
def hiddenHalf (t : Fin 4096) (f : Fin 2816) : EReal :=
  Ideal.ofBits FTy.f32 1056964608#32 * (proj x wg t f * Ideal.logistic (proj x wg t f)) * proj x wu t f

/-- The gradient in the block's input. -/
def dinput (t : Fin 4096) (d : Fin 1024) : EReal :=
  Ideal.ofBits FTy.f32 1068827891#32 * ct (ix2 t d)
    + ∑ f : Fin 2816, (dgate x wg wu wd ct t f * wg (ix2 d f) + dup x wg wd ct t f * wu (ix2 d f))

/-! ## The reference's arrays -/

/-- A projection of all tokens. -/
abbrev P (w : FVec Ideal S1024x2816 .f32) : FVec Ideal S4096x2816 .f32 :=
  Host.dotGeneral dot_S4096x1024_S1024x2816_S4096x2816_1_0_0_1_n_n none x w

/-- The constant one. -/
abbrev ones : FVec Ideal S4096x2816 .f32 := broadcastInDim S4096x2816 ![] bcast_S_S4096x2816 (constant S_ .f32 0x3F800000#32)

/-- The logistic function of the gate's product. -/
abbrev L : FVec Ideal S4096x2816 .f32 := Host.divf ones (addf ones (Host.exp (Host.negf (P x wg))))

/-- Half the cotangent through the down projection. -/
abbrev B (c : FVec Ideal S4096x1024 .f32) : FVec Ideal S4096x2816 .f32 :=
  Host.dotGeneral dot_S4096x1024_S2816x1024_S4096x2816_1_1_0_0_n_n none
    (mulf (broadcastInDim S4096x1024 ![] bcast_S_S4096x1024 (constant S_ .f32 0x3F000000#32)) c) wd

/-- The gradient in the gate's product. -/
abbrev DG (c : FVec Ideal S4096x1024 .f32) : FVec Ideal S4096x2816 .f32 :=
  addf (mulf (mulf (B wd c) (P x wu)) (L x wg)) (mulf (mulf (P x wg) (mulf (B wd c) (P x wu))) (mulf (L x wg) (subf ones (L x wg))))

/-- The gradient in the up product. -/
abbrev DU (c : FVec Ideal S4096x1024 .f32) : FVec Ideal S4096x2816 .f32 := mulf (mulf (P x wg) (L x wg)) (B wd c)

/-- Half the hidden product. -/
abbrev HH : FVec Ideal S4096x2816 .f32 :=
  mulf (broadcastInDim S4096x2816 ![] bcast_S_S4096x2816 (constant S_ .f32 0x3F000000#32)) (mulf (mulf (P x wg) (L x wg)) (P x wu))

theorem P_at (w : FVec Ideal S1024x2816 .f32) (t : Fin 4096) (f : Fin 2816) : P x w (ix2 t f) = proj x w t f := by
  unfold proj
  pointwise

theorem L_at (t : Fin 4096) (f : Fin 2816) : L x wg (ix2 t f) = Ideal.logistic (proj x wg t f) := by
  rw [← P_at, ← GateGrad.logistic_def]
  pointwise

theorem B_at (t : Fin 4096) (f : Fin 2816) : B wd ct (ix2 t f) = back wd ct t f := by
  unfold back
  pointwise

theorem HH_at (t : Fin 4096) (f : Fin 2816) : HH x wg wu (ix2 t f) = hiddenHalf x wg wu t f := by
  unfold hiddenHalf
  rw [← L_at, ← P_at, ← P_at, mul_assoc]
  pointwise

theorem DU_at (t : Fin 4096) (f : Fin 2816) : DU x wg wd ct (ix2 t f) = dup x wg wd ct t f := by
  unfold dup
  rw [← L_at, ← P_at, ← B_at, mul_comm]
  pointwise

/-- Every entry is a number. -/
def Fin' {s : Shape} (v : FVec Ideal s .f32) : Prop := ∀ i, ∃ r : ℝ, (v i : EReal) = r

theorem DG_at (hx : Fin' x) (hu : Fin' wu) (hd : Fin' wd) (hc : Fin' ct) (t : Fin 4096) (f : Fin 2816) :
    DG x wg wu wd ct (ix2 t f) = dgate x wg wu wd ct t f := by
  have h : ∃ r : ℝ, back wd ct t f * proj x wu t f = r :=
    GateGrad.mul_finite
      (GateGrad.sum_finite _ fun k => GateGrad.mul_finite (GateGrad.mul_finite GateGrad.half_finite (hc _)) (hd _))
      (GateGrad.sum_finite _ fun k => GateGrad.mul_finite (hx _) (hu _))
  obtain ⟨r, hr⟩ := h
  unfold dgate
  rw [hr, GateGrad.grad_eq, ← hr, ← L_at, ← P_at, ← P_at, ← B_at]
  pointwise

end Cert.FfnBwdMath

end
-- ==== Proof.FfnBwdValue.lean ====
/- The gradient of the gated feed-forward block: the four arrays the tiled kernel leaves are the reference's.  The kernel
   takes 512 tokens at a time and the 2816 hidden features in two halves; a scratch block carries the first half's part of
   the input gradient to the second. -/
module

public import proofs.«01_k».proof.Proof.Gen.FfnBwdKernelIdeal.Value
public import proofs.«01_k».proof.Proof.FfnBwdMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnBwdKernelIdeal.Hand

open Cert.FfnBwdKernelIdeal Cert.FfnBwdKernelIdeal.Gen Cert.FfnBwdMath

variable (m : (ℓ : Loc nD τ sig) → Buf (Elt Ideal) ℓ)

/-- The layer's input. -/
abbrev aX (c : Dev nD) : FVec Ideal S4096x1024 .f32 := m ((c : Thread nD τ).loc main_arg0)
/-- The gate projection. -/
abbrev aG (c : Dev nD) : FVec Ideal S1024x2816 .f32 := m ((c : Thread nD τ).loc main_arg1)
/-- The up projection. -/
abbrev aU (c : Dev nD) : FVec Ideal S1024x2816 .f32 := m ((c : Thread nD τ).loc main_arg2)
/-- The down projection. -/
abbrev aD (c : Dev nD) : FVec Ideal S2816x1024 .f32 := m ((c : Thread nD τ).loc main_arg3)
/-- The cotangent. -/
abbrev aC (c : Dev nD) : FVec Ideal S4096x1024 .f32 := m ((c : Thread nD τ).loc main_arg4)

/-- Which block each window shows at grid point `t`: `t / 2` is the block of tokens, `t % 2` the half of the features. -/
theorem idx : ∀ t : Fin cfg0.N, win0_0.index t = ![t.val / 2, 0] ∧ win0_1.index t = ![t.val / 2, t.val % 2]
    ∧ win0_2.index t = ![t.val / 2, t.val % 2] ∧ win0_3.index t = ![t.val % 2, 0] ∧ win0_4.index t = ![t.val % 2, 0]
    ∧ win0_5.index t = ![t.val % 2, 0] ∧ win0_6.index t = ![t.val / 2, 0] ∧ win0_7.index t = ![t.val / 2, t.val % 2]
    ∧ win0_8.index t = ![t.val / 2, t.val % 2] ∧ win0_9.index t = ![t.val / 2, t.val % 2] :=
  (by decide +kernel : ∀ t : Fin grid0.N, _)

/-! ## The input blocks -/

theorem ct_blk (c : Dev nD) (t : Fin cfg0.N) (p : Fin 512) (k : Fin 1024) (r : Fin 4096) (hr : r.val = t.val / 2 * 512 + p.val) :
    (show FVec Ideal S512x1024 .f32 from iblk m c 0 t) (ix2 p k) = aC m c (ix2 r k) := by
  blk_ext [iblk, V, idx t]

theorem gate_blk (c : Dev nD) (t : Fin cfg0.N) (p : Fin 512) (q : Fin 1408) (r : Fin 4096) (f : Fin 2816)
    (hr : r.val = t.val / 2 * 512 + p.val) (hf : f.val = t.val % 2 * 1408 + q.val) :
    (show FVec Ideal S512x1408 .bf16 from iblk m c 1 t) (ix2 p q) = proj (aX m c) (aG m c) r f := by
  unfold proj
  blk_simp [iblk, idx t]
  entry_read
  pointwise
  blk_point [iblk, V, idx t]

theorem up_blk (c : Dev nD) (t : Fin cfg0.N) (p : Fin 512) (q : Fin 1408) (r : Fin 4096) (f : Fin 2816)
    (hr : r.val = t.val / 2 * 512 + p.val) (hf : f.val = t.val % 2 * 1408 + q.val) :
    (show FVec Ideal S512x1408 .bf16 from iblk m c 2 t) (ix2 p q) = proj (aX m c) (aU m c) r f := by
  unfold proj
  blk_simp [iblk, idx t]
  entry_read
  pointwise
  blk_point [iblk, V, idx t]

theorem wg_blk (c : Dev nD) (t : Fin cfg0.N) (q : Fin 1408) (k : Fin 1024) (f : Fin 2816)
    (hf : f.val = t.val % 2 * 1408 + q.val) :
    (show FVec Ideal S1408x1024 .bf16 from iblk m c 3 t) (ix2 q k) = aG m c (ix2 k f) := by
  blk_simp [iblk, idx t]
  entry_read
  pointwise
  blk_point [iblk, V, idx t]

theorem wu_blk (c : Dev nD) (t : Fin cfg0.N) (q : Fin 1408) (k : Fin 1024) (f : Fin 2816)
    (hf : f.val = t.val % 2 * 1408 + q.val) :
    (show FVec Ideal S1408x1024 .bf16 from iblk m c 4 t) (ix2 q k) = aU m c (ix2 k f) := by
  blk_simp [iblk, idx t]
  entry_read
  pointwise
  blk_point [iblk, V, idx t]

theorem wd_blk (c : Dev nD) (t : Fin cfg0.N) (q : Fin 1408) (k : Fin 1024) (f : Fin 2816)
    (hf : f.val = t.val % 2 * 1408 + q.val) :
    (show FVec Ideal S1408x1024 .bf16 from iblk m c 5 t) (ix2 q k) = aD m c (ix2 f k) := by
  blk_simp [iblk, idx t]
  entry_read
  pointwise
  blk_point [iblk, V, idx t]

/-! ## What the body computes of one block -/

theorem back_blk (c : Dev nD) (t : Fin cfg0.N) (p : Fin 512) (q : Fin 1408) (r : Fin 4096) (f : Fin 2816)
    (hr : r.val = t.val / 2 * 512 + p.val) (hf : f.val = t.val % 2 * 1408 + q.val) :
    k0_pay6 (F := Ideal) (iblk m c 0 t) (iblk m c 5 t) (ix2 p q) = back (aD m c) (aC m c) r f := by
  unfold back
  refine Eq.trans (b := ∑ k : Fin 1024, Ideal.ofBits FTy.f32 1056964608#32 * (show FVec Ideal S512x1024 .f32 from iblk m c 0 t) (ix2 p k)
    * (show FVec Ideal S1408x1024 .bf16 from iblk m c 5 t) (ix2 q k)) (by pointwise [k0_pay6]) ?_
  exact Finset.sum_congr rfl fun k _ => by rw [ct_blk m c t p k r hr, wd_blk m c t q k f hf]

theorem logistic_blk (v7 : FVec Ideal S512x1408 .bf16) (j : S512x1408.Idx) :
    k0_pay9 (F := Ideal) v7 j = Ideal.logistic (v7 j) := by
  rw [← GateGrad.logistic_def]
  pointwise [k0_pay9, k0_pay7]
  rw [zero_sub]

theorem dgate_blk (c : Dev nD) (t : Fin cfg0.N) (p : Fin 512) (q : Fin 1408) (r : Fin 4096) (f : Fin 2816)
    (hr : r.val = t.val / 2 * 512 + p.val) (hf : f.val = t.val % 2 * 1408 + q.val) :
    k0_pay11 (F := Ideal) (iblk m c 0 t) (iblk m c 5 t) (iblk m c 1 t) (iblk m c 2 t) (ix2 p q)
      = dgate (aX m c) (aG m c) (aU m c) (aD m c) (aC m c) r f := by
  unfold dgate
  rw [← gate_blk m c t p q r f hr hf, ← up_blk m c t p q r f hr hf, ← back_blk m c t p q r f hr hf, ← logistic_blk]
  pointwise [k0_pay11, k0_pay7, k0_pay8]

theorem dup_blk (c : Dev nD) (t : Fin cfg0.N) (p : Fin 512) (q : Fin 1408) (r : Fin 4096) (f : Fin 2816)
    (hr : r.val = t.val / 2 * 512 + p.val) (hf : f.val = t.val % 2 * 1408 + q.val) :
    k0_pay12 (F := Ideal) (iblk m c 0 t) (iblk m c 5 t) (iblk m c 1 t) (ix2 p q)
      = dup (aX m c) (aG m c) (aD m c) (aC m c) r f := by
  unfold dup
  rw [← gate_blk m c t p q r f hr hf, ← back_blk m c t p q r f hr hf, ← logistic_blk]
  pointwise [k0_pay12, k0_pay10, k0_pay7]

theorem hidden_blk (c : Dev nD) (t : Fin cfg0.N) (p : Fin 512) (q : Fin 1408) (r : Fin 4096) (f : Fin 2816)
    (hr : r.val = t.val / 2 * 512 + p.val) (hf : f.val = t.val % 2 * 1408 + q.val) :
    k0_pay1 (F := Ideal) (k0_pay8 (iblk m c 2 t)) (k0_pay13 (iblk m c 1 t)) (ix2 p q)
      = hiddenHalf (aX m c) (aG m c) (aU m c) r f := by
  unfold hiddenHalf
  rw [← gate_blk m c t p q r f hr hf, ← up_blk m c t p q r f hr hf, ← logistic_blk]
  pointwise [k0_pay1, k0_pay8, k0_pay13, k0_pay10, k0_pay7]

/-- One term of the input gradient: hidden feature `f`'s part, through both projections. -/
def part (c : Dev nD) (r : Fin 4096) (f : Fin 2816) (d : Fin 1024) : EReal :=
  dgate (aX m c) (aG m c) (aU m c) (aD m c) (aC m c) r f * aG m c (ix2 d f)
    + dup (aX m c) (aG m c) (aD m c) (aC m c) r f * aU m c (ix2 d f)

/-- The token at row `p` of point `t`'s block. -/
def tok (t : Fin cfg0.N) (p : Fin 512) : Fin 4096 :=
  ⟨t.val / 2 * 512 + p.val, by have := lt_of_lt_of_eq t.isLt N_0; omega⟩

/-- The hidden feature at column `q` of point `t`'s half. -/
def feat (t : Fin cfg0.N) (q : Fin 1408) : Fin 2816 := ⟨t.val % 2 * 1408 + q.val, by omega⟩

theorem part_blk (c : Dev nD) (t : Fin cfg0.N) (y : S512x1024.Idx) :
    k0_pay2 (F := Ideal) (k0_pay11 (F := Ideal) (iblk m c 0 t) (iblk m c 5 t) (iblk m c 1 t) (iblk m c 2 t))
      (k0_pay12 (F := Ideal) (iblk m c 0 t) (iblk m c 5 t) (iblk m c 1 t)) (iblk m c 3 t) (iblk m c 4 t) y
      = ∑ q : Fin 1408, part m c (tok t (y 0)) (feat t q) (y 1) := by
  unfold part
  rw [Finset.sum_add_distrib]
  refine Eq.trans (b := ∑ q : Fin 1408, k0_pay11 (F := Ideal) (iblk m c 0 t) (iblk m c 5 t) (iblk m c 1 t) (iblk m c 2 t) (ix2 (y 0) q)
      * (show FVec Ideal S1408x1024 .bf16 from iblk m c 3 t) (ix2 q (y 1))
    + ∑ q : Fin 1408, k0_pay12 (F := Ideal) (iblk m c 0 t) (iblk m c 5 t) (iblk m c 1 t) (ix2 (y 0) q)
      * (show FVec Ideal S1408x1024 .bf16 from iblk m c 4 t) (ix2 q (y 1))) (by pointwise [k0_pay2]) ?_
  refine congrArg₂ (· + ·) (Finset.sum_congr rfl fun q _ => ?_) (Finset.sum_congr rfl fun q _ => ?_)
  · rw [dgate_blk m c t (y 0) q (tok t (y 0)) (feat t q) rfl rfl, wg_blk m c t q (y 1) (feat t q) rfl]
  · rw [dup_blk m c t (y 0) q (tok t (y 0)) (feat t q) rfl rfl, wu_blk m c t q (y 1) (feat t q) rfl]

/-! ## The arrays after the run -/

/-- The gradient in the gate's product. -/
theorem final7 (c : Dev nD) : (dats m 0 c).arrAt 7 (cfgs 0).N
    = fun i : S4096x2816.Idx => dgate (aX m c) (aG m c) (aU m c) (aD m c) (aC m c) (i 0) (i 1) := by
  refine (dats m 0 c).arrAt_eq_of_covers 7 _ (by decide +kernel) fun t hf y => ?_
  blk_simp
  have h : (outsAt0 m c t.val t.isLt).2.1 = k0_pay11 (F := Ideal) (iblk m c 0 t) (iblk m c 5 t) (iblk m c 1 t) (iblk m c 2 t) := by
    rcases Nat.mod_two_eq_zero_or_one t.val with h0 | h0
    · rw [outsAt0_A m c t h0 (by omega) (by omega)]; frame_out
    · rw [outsAt0_B m c t (by omega) h0 h0]; frame_out
  rw [after0_7, h]
  refine (congrArg _ (eq_ix2 (n0 := 512) (n1 := 1408) y)).trans (dgate_blk m c t (y 0) (y 1) _ _ ?_ ?_)
  all_goals (blk_simp [idx t] <;> try omega)

/-- The gradient in the up product. -/
theorem final8 (c : Dev nD) : (dats m 0 c).arrAt 8 (cfgs 0).N
    = fun i : S4096x2816.Idx => dup (aX m c) (aG m c) (aD m c) (aC m c) (i 0) (i 1) := by
  refine (dats m 0 c).arrAt_eq_of_covers 8 _ (by decide +kernel) fun t hf y => ?_
  blk_simp
  have h : (outsAt0 m c t.val t.isLt).2.2.1 = k0_pay12 (F := Ideal) (iblk m c 0 t) (iblk m c 5 t) (iblk m c 1 t) := by
    rcases Nat.mod_two_eq_zero_or_one t.val with h0 | h0
    · rw [outsAt0_A m c t h0 (by omega) (by omega)]; frame_out
    · rw [outsAt0_B m c t (by omega) h0 h0]; frame_out
  rw [after0_8, h]
  refine (congrArg _ (eq_ix2 (n0 := 512) (n1 := 1408) y)).trans (dup_blk m c t (y 0) (y 1) _ _ ?_ ?_)
  all_goals (blk_simp [idx t] <;> try omega)

/-- Half the hidden product. -/
theorem final9 (c : Dev nD) : (dats m 0 c).arrAt 9 (cfgs 0).N
    = fun i : S4096x2816.Idx => hiddenHalf (aX m c) (aG m c) (aU m c) (i 0) (i 1) := by
  refine (dats m 0 c).arrAt_eq_of_covers 9 _ (by decide +kernel) fun t hf y => ?_
  blk_simp
  have h : (outsAt0 m c t.val t.isLt).2.2.2.1 = k0_pay1 (F := Ideal) (k0_pay8 (iblk m c 2 t)) (k0_pay13 (iblk m c 1 t)) := by
    rcases Nat.mod_two_eq_zero_or_one t.val with h0 | h0
    · rw [outsAt0_A m c t h0 (by omega) (by omega)]; frame_out
    · rw [outsAt0_B m c t (by omega) h0 h0]; frame_out
  rw [after0_9, h]
  refine (congrArg _ (eq_ix2 (n0 := 512) (n1 := 1408) y)).trans (hidden_blk m c t (y 0) (y 1) _ _ ?_ ?_)
  all_goals (blk_simp [idx t] <;> try omega)

/-- What the scratch block holds after the second half: every hidden feature's part of the input gradient. -/
theorem scratch (c : Dev nD) (t : Fin cfg0.N) (h : t.val % 2 = 1) (y : S512x1024.Idx) :
    (outsAt0 m c t.val t.isLt).2.2.2.2 y = ∑ f : Fin 2816, part m c (tok t (y 0)) f (y 1) := by
  rw [Pipeline.eq_sum_fin_of_reset_step_apply_of_flush (fun n h => (outsAt0 m c n h).2.2.2.2) 2 (fun _ => (0 : EReal))
    (fun p y => ∑ q : Fin 1408, part m c (tok p (y 0)) (feat p q) (y 1))
    (fun t h j => by
      rw [outsAt0_A m c t h (by omega) (by omega), ← part_blk, zero_add]; frame_out
      pointwise [k0_pay3])
    (fun t h j => by
      rw [outsAt0_B m c t h (by omega) (by omega), ← part_blk]; frame_out
      rw [read_unread_whole]
      pointwise [k0_pay4])
    t h _, zero_add]
  refine Fin.sum_mul_add_congr fun s k hl => ?_
  refine congrArg₂ (fun a b => part m c a b (y 1)) (Fin.ext ?_) (Fin.ext ?_)
  · show (2 * (t.val / 2) + s.val) / 2 * 512 + (y 0).val = t.val / 2 * 512 + (y 0).val
    omega
  · show (2 * (t.val / 2) + s.val) % 2 * 1408 + k.val = s.val * 1408 + k.val
    omega

/-- The gradient in the block's input. -/
theorem final6 (c : Dev nD) : (dats m 0 c).arrAt 6 (cfgs 0).N
    = fun i : S4096x1024.Idx => dinput (aX m c) (aG m c) (aU m c) (aD m c) (aC m c) (i 0) (i 1) := by
  refine (dats m 0 c).arrAt_eq_of_covers 6 _ (by decide +kernel) fun t hf y => ?_
  have h1 : t.val % 2 = 1 := (flush0_6 t).mp hf
  blk_simp
  have h : ∀ y : S512x1024.Idx, (outsAt0 m c t.val t.isLt).1 y
      = Ideal.ofBits FTy.f32 1068827891#32 * (show FVec Ideal S512x1024 .f32 from iblk m c 0 t) y
        + (outsAt0 m c t.val t.isLt).2.2.2.2 y := fun y => by
    rw [outsAt0_B m c t (by omega) h1 h1]; frame_out; pointwise [k0_pay5]
  have hr : ((win0_6.blk t).view.emb y 0 : Fin 4096) = tok t (y 0) := Fin.ext (by
    unfold tok
    blk_simp [idx t])
  have hd : ((win0_6.blk t).view.emb y 1 : Fin 1024) = (y 1 : Fin 1024) := Fin.ext (by
    blk_simp [idx t] <;> try omega)
  rw [after0_6]
  refine (h y).trans ?_
  rw [scratch m c t h1]
  unfold dinput
  rw [hr, hd]
  refine congrArg₂ (· + ·) (congrArg₂ (· * ·) rfl ?_) rfl
  exact (congrArg _ (eq_ix2 (n0 := 512) (n1 := 1024) y)).trans (ct_blk m c t (y 0) (y 1) _ rfl)

end Cert.FfnBwdKernelIdeal.Hand

end
-- ==== Proof.FfnBwdRef.lean ====
/- The reference's input gradient read at an index, and what the precondition says of the arrays. -/
module

public import proofs.«01_k».proof.Pre_finite_inputs
public import proofs.«01_k».proof.Proof.FfnBwdMath

@[expose] public section

set_option maxRecDepth 16384

noncomputable section

open Idealize.ShloMosaic Idealize.ShloMosaic.TcCoe Idealize.SL.Sem

namespace Cert.FfnBwdMath

open Cert.FfnBwdReferenceIdeal Cert.FfnBwdReferenceIdeal.Gen

variable (x : FVec Ideal S4096x1024 .f32) (wg wu : FVec Ideal S1024x2816 .f32) (wd : FVec Ideal S2816x1024 .f32)
  (ct : FVec Ideal S4096x1024 .f32)

/-- Only a number is less than infinity in size. -/
theorem finite_of_abs_lt {a : EReal} (h : max a (-a) < ⊤) : ∃ r : ℝ, a = r := by
  induction a with
  | bot => simp at h
  | top => simp at h
  | coe r => exact ⟨r, rfl⟩

/-- The precondition's test of one array, as the programs compute it. -/
theorem finite_of_test {s : Shape} (v : FVec Ideal s .f32) (hb : S_.BroadcastsInDim s (![] : Fin 0 → Fin s.rank))
    (h : cmpf .olt (Host.absf v) (broadcastInDim s ![] hb (constant S_ .f32 0x7F800000#32)) = fun _ => 1#1) : Fin' v := by
  intro i
  have hi := congrFun h i
  refine finite_of_abs_lt ?_
  have h1 : Ideal.cmp .olt (max (v i : EReal) (-(v i : EReal))) (Ideal.ofBits FTy.f32 0x7F800000#32) = 1#1 := hi
  have hinf : Ideal.ofBits FTy.f32 0x7F800000#32 = (⊤ : EReal) := by simp [Ideal.ofBits, Ideal.ieee]
  rw [hinf] at h1
  by_contra hc
  simp [Ideal.cmp, hc] at h1

/-- The precondition of four arrays. -/
theorem finite_of_pre [Cert.Pre_finite_inputs.Facts]
    (h : (Cert.Pre_finite_inputs.fn (F := Ideal) x wg wu wd ct).1 = (fun _ => 1#1)
      ∧ (Cert.Pre_finite_inputs.fn (F := Ideal) x wg wu wd ct).2.1 = (fun _ => 1#1)
      ∧ (Cert.Pre_finite_inputs.fn (F := Ideal) x wg wu wd ct).2.2.1 = (fun _ => 1#1)
      ∧ (Cert.Pre_finite_inputs.fn (F := Ideal) x wg wu wd ct).2.2.2 = (fun _ => 1#1)) :
    Fin' x ∧ Fin' wu ∧ Fin' wd ∧ Fin' ct :=
  ⟨finite_of_test x _ h.1, finite_of_test wu _ h.2.1, finite_of_test wd _ h.2.2.1, finite_of_test ct _ h.2.2.2⟩

/-- The reference's gradient in the block's input. -/
abbrev DX (c : FVec Ideal S4096x1024 .f32) : FVec Ideal S4096x1024 .f32 :=
  addf (addf (Host.dotGeneral dot_S4096x2816_S1024x2816_S4096x1024_1_1_0_0_n_n none (DU x wg wd c) wu)
      (Host.dotGeneral dot_S4096x2816_S1024x2816_S4096x1024_1_1_0_0_n_n none (DG x wg wu wd c) wg))
    (mulf (broadcastInDim S4096x1024 ![] bcast_S_S4096x1024 (constant S_ .f32 0x3FB504F3#32)) c)

/-- The sum of the two products and the weighed cotangent, at an index. -/
theorem sum_at (U G : FVec Ideal S4096x2816 .f32) (t : Fin 4096) (d : Fin 1024) :
    addf (addf (Host.dotGeneral dot_S4096x2816_S1024x2816_S4096x1024_1_1_0_0_n_n none U wu)
      (Host.dotGeneral dot_S4096x2816_S1024x2816_S4096x1024_1_1_0_0_n_n none G wg))
    (mulf (broadcastInDim S4096x1024 ![] bcast_S_S4096x1024 (constant S_ .f32 0x3FB504F3#32)) ct) (ix2 t d)
      = (∑ f : Fin 2816, U (ix2 t f) * wu (ix2 d f) + ∑ f : Fin 2816, G (ix2 t f) * wg (ix2 d f))
        + Ideal.ofBits FTy.f32 1068827891#32 * ct (ix2 t d) := by
  pointwise

theorem DX_at (hx : Fin' x) (hu : Fin' wu) (hd : Fin' wd) (hc : Fin' ct) (t : Fin 4096) (d : Fin 1024) :
    DX x wg wu wd ct (ix2 t d) = dinput x wg wu wd ct t d := by
  unfold dinput
  rw [Finset.sum_add_distrib]
  simp only [← DG_at x wg wu wd ct hx hu hd hc, ← DU_at]
  rw [add_comm, add_comm (∑ f : Fin 2816, DG x wg wu wd ct (ix2 t f) * wg (ix2 d f))]
  exact sum_at wg wu ct (DU x wg wd ct) (DG x wg wu wd ct) t d

/-- The same of the cotangent as the transposed products take it. -/
theorem DX_cast_at (hx : Fin' x) (hu : Fin' wu) (hd : Fin' wd) (hc : Fin' ct) (t : Fin 4096) (d : Fin 1024) :
    DX x wg wu wd (shapeCast _ ct shapeCasts_S4096x1024_S4096x1024) (ix2 t d) = dinput x wg wu wd ct t d := by
  rw [shapeCast_id]
  exact DX_at x wg wu wd ct hx hu hd hc t d

end Cert.FfnBwdMath

end
-- ==== Proof.FfnBwdClaim.lean ====
/- The claims about the gradient of the gated feed-forward block. -/
module

public import proofs.«01_k».proof.Defs
public import proofs.«01_k».proof.Proof.Gen.FfnBwdKernel.Frame
public import proofs.«01_k».proof.Proof.Gen.FfnBwdKernelIdeal.Frame
public import proofs.«01_k».proof.Proof.FfnBwdValue
public import proofs.«01_k».proof.Proof.FfnBwdRef
public import proofs.«01_k».proof.Proof.Gen.Pre_finite_inputs
public import Idealize.ShloMosaic.Adequacy
public import Idealize.ShloMosaic.Init

@[expose] public section

set_option maxRecDepth 16384

noncomputable section

open Idealize.ShloMosaic Idealize.ShloMosaic.TcCoe Idealize.SL.Sem

namespace Cert.FfnBwdClaim

/-- The kernel ends with its arguments as they were and every semaphore at zero. -/
theorem kernel : @Cert.quiescent_FfnBwdKernel Cert.FfnBwdKernel.Gen.facts := fun m ρ _ => Cert.FfnBwdKernel.Gen.frame m ρ

/-- So does the idealized kernel. -/
theorem kernelIdeal : @Cert.quiescent_FfnBwdKernelIdeal Cert.FfnBwdKernelIdeal.Gen.facts := fun m ρ _ => Cert.FfnBwdKernelIdeal.Gen.frame m ρ

/-- So does the reference. -/
theorem referenceIdeal : @Cert.quiescent_FfnBwdReferenceIdeal Cert.FfnBwdReferenceIdeal.Gen.facts := fun m ρ _ =>
  (θ_run Cert.FfnBwdReferenceIdeal.defs _ _).mono (fun r h => ⟨fun c => (h c).2.2.2.2, Idealize.ShloMosaic.sem_eq_zero_of_no_sems (by decide) r.2⟩)
    (Cert.FfnBwdReferenceIdeal.Value.run (F := Ideal) m ρ)

/-- The idealized kernel's frame, the inputs finite. -/
theorem kernelIdeal_pre : @Cert.quiescent_FfnBwdKernelIdeal_pre_finite_inputs Cert.FfnBwdKernelIdeal.Gen.facts Cert.Pre_finite_inputs.Gen.facts :=
  fun m ρ _ => kernelIdeal m ρ trivial

/-- The reference's frame, the inputs finite. -/
theorem referenceIdeal_pre : @Cert.quiescent_FfnBwdReferenceIdeal_pre_finite_inputs Cert.FfnBwdReferenceIdeal.Gen.facts Cert.Pre_finite_inputs.Gen.facts :=
  fun m ρ _ => referenceIdeal m ρ trivial

open Cert.FfnBwdMath in
/-- On the extended reals the kernel and the reference leave the same four arrays, the inputs finite. -/
theorem algebraic : @Cert.algebraic_FfnBwdKernelIdeal_FfnBwdReferenceIdeal_pre_finite_inputs Cert.FfnBwdKernelIdeal.Gen.facts
    Cert.FfnBwdReferenceIdeal.Gen.facts Cert.Pre_finite_inputs.Gen.facts := by
  intro m ρ m' ρ' hpre hagree
  refine ⟨fun c => _, fun c => _, fun c => _, fun c => _, (θ_run Cert.FfnBwdKernelIdeal.defs _ _).mono (fun _ h c =>
    ⟨(h c).1.trans (Cert.FfnBwdKernelIdeal.Hand.final6 m c), (h c).2.1.trans (Cert.FfnBwdKernelIdeal.Hand.final7 m c),
      (h c).2.2.1.trans (Cert.FfnBwdKernelIdeal.Hand.final8 m c), (h c).2.2.2.1.trans (Cert.FfnBwdKernelIdeal.Hand.final9 m c), (h c).2.2.2.2⟩)
    (Cert.FfnBwdKernelIdeal.Value.run_blocks (F := Ideal) m ρ), ?_⟩
  refine (θ_run Cert.FfnBwdReferenceIdeal.defs _ _).mono (fun _ h c => ?_) (Cert.FfnBwdReferenceIdeal.Value.run (F := Ideal) m' ρ')
  obtain ⟨hx, hu, hd, hc⟩ := @finite_of_pre _ _ _ _ _ Cert.Pre_finite_inputs.Gen.facts (hpre c)
  obtain ⟨h0, h1, h2, h3, h4⟩ := hagree c
  obtain ⟨r0, r1, r2, r3, r4⟩ := h c
  rw [h0, h1, h2, h3, h4] at r0 r1
  rw [h0, h1, h3, h4] at r2
  rw [h0, h1, h2] at r3
  refine ⟨r0.trans ?_, r1.trans ?_, r2.trans ?_, r3.trans ?_, r4⟩
  · funext i
    exact (congrArg _ (eq_ix2 (n0 := 4096) (n1 := 1024) i)).trans (DX_cast_at _ _ _ _ _ hx hu hd hc (i 0) (i 1))
  · funext i
    exact (congrArg _ (eq_ix2 (n0 := 4096) (n1 := 2816) i)).trans (DG_at _ _ _ _ _ hx hu hd hc (i 0) (i 1))
  · funext i
    exact (congrArg _ (eq_ix2 (n0 := 4096) (n1 := 2816) i)).trans (DU_at _ _ _ _ (i 0) (i 1))
  · funext i
    exact (congrArg _ (eq_ix2 (n0 := 4096) (n1 := 2816) i)).trans (HH_at _ _ _ (i 0) (i 1))

end Cert.FfnBwdClaim

end
-- ==== Proof.FfnDwValue.lean ====
/- The weight gradient of the feed-forward block's gate projection: the array the tiled kernel leaves is the reference's
   product.  The kernel walks the 4096 tokens in four tiles of 1024 and adds each tile's product into a scratch block; the
   reference contracts all tokens at once. -/
module

public import proofs.«01_k».proof.Proof.Gen.FfnDwKernelIdeal.Value
public import proofs.«01_k».proof.Proof.Gen.FfnDwReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnDwKernelIdeal.Hand

open Cert.FfnDwKernelIdeal Cert.FfnDwKernelIdeal.Gen

variable (m : (ℓ : Loc nD τ sig) → Buf (Elt Ideal) ℓ)

/-- The reference's result over the two argument arrays `x` and `dg`. -/
abbrev REF (x : FVec Ideal S4096x1024 .f32) (dg : FVec Ideal S4096x2816 .f32) : FVec Ideal S2816x1024 .bf16 :=
  truncf .bf16 (transpose Cert.FfnDwReferenceIdeal.S2816x1024 [1, 0] (transpose Cert.FfnDwReferenceIdeal.S1024x2816 [1, 0]
    (Host.dotGeneral Cert.FfnDwReferenceIdeal.dot_S4096x2816_S4096x1024_S2816x1024_0_0_1_1_n_n none dg x)
    Cert.FfnDwReferenceIdeal.Gen.transposes_S2816x1024_S1024x2816_1_0) Cert.FfnDwReferenceIdeal.Gen.transposes_S1024x2816_S2816x1024_1_0) bitsLt_bf16_f32

/-- Which block each window shows at grid point `t`: the outer coordinate picks the half of the features, the inner one
    the tile of tokens. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- One tile's product at an index. -/
theorem part_at (v0 : FVec Ideal S1024x1408 .bf16) (v2 : FVec Ideal S1024x1024 .f32) (j : S1408x1024.Idx) :
    k0_pay2 (F := Ideal) v0 v2 j = (0 : EReal) + ∑ k : Fin 1024, v0 (ix2 k (j 0)) * v2 (ix2 k (j 1)) := by
  pointwise [k0_pay2, k0_pay1]

/-- Adding one tile's product to what the scratch block holds, at an index. -/
theorem acc_at (v0 : FVec Ideal S1024x1408 .bf16) (v2 : FVec Ideal S1024x1024 .f32) (a : FVec Ideal S1408x1024 .f32)
    (j : S1408x1024.Idx) :
    k0_pay3 (F := Ideal) v0 v2 a j = a j + ∑ k : Fin 1024, v0 (ix2 k (j 0)) * v2 (ix2 k (j 1)) := by
  pointwise [k0_pay3, k0_pay1]

/-- The reference's entry is the sum over all tokens. -/
theorem ref_at (x : FVec Ideal S4096x1024 .f32) (dg : FVec Ideal S4096x2816 .f32) (j : S2816x1024.Idx) :
    REF x dg j = ∑ k : Fin 4096, dg (ix2 k (j 0)) * x (ix2 k (j 1)) := by
  pointwise [REF]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have hs : ∀ j, (outsAt0 m c t.val t.isLt).1 j = (outsAt0 m c t.val t.isLt).2 j := fun j => by
    rw [outsAt0_C m c t (by omega) (by omega) h3]; frame_out; pointwise [k0_pay4]
  rw [after0_2, hs, Pipeline.eq_sum_fin_of_reset_step_apply_of_flush (fun n h => (outsAt0 m c n h).2) 4 (fun _ => 0) _
    (fun t h j => by rw [outsAt0_A m c t h (by omega) (by omega)]; frame_out; rw [part_at])
    (fun t h j => by
      by_cases h2 : t.val % 4 = 3
      · rw [outsAt0_C m c t h (by omega) h2]; frame_out; rw [acc_at, read_unread_whole]
      · rw [outsAt0_B m c t h (by omega) h2]; frame_out; rw [acc_at, read_unread_whole])
    t h3 _, zero_add, ref_at]
  refine Fin.sum_mul_add_congr fun s k hl => ?_
  blk_point [iblk, V, idx t, idx ⟨_, Pipeline.run_point_lt_of_flush t h3 s⟩]

end Cert.FfnDwKernelIdeal.Hand

end
-- ==== Proof.FfnDwClaim.lean ====
/- The claims about the gradient of a projection of the feed-forward block. -/
module

public import proofs.«01_k».proof.Defs
public import proofs.«01_k».proof.Proof.Gen.FfnDwKernel.Frame
public import proofs.«01_k».proof.Proof.Gen.FfnDwKernelIdeal.Frame
public import proofs.«01_k».proof.Proof.FfnDwValue
public import Idealize.ShloMosaic.Adequacy
public import Idealize.ShloMosaic.Init

@[expose] public section

set_option maxRecDepth 16384

noncomputable section

open Idealize.ShloMosaic Idealize.ShloMosaic.TcCoe Idealize.SL.Sem

namespace Cert.FfnDwClaim

/-- The kernel ends with its arguments as they were and every semaphore at zero. -/
theorem kernel : @Cert.quiescent_FfnDwKernel Cert.FfnDwKernel.Gen.facts := fun m ρ _ => Cert.FfnDwKernel.Gen.frame m ρ

/-- So does the idealized kernel. -/
theorem kernelIdeal : @Cert.quiescent_FfnDwKernelIdeal Cert.FfnDwKernelIdeal.Gen.facts := fun m ρ _ => Cert.FfnDwKernelIdeal.Gen.frame m ρ

/-- So does the reference. -/
theorem referenceIdeal : @Cert.quiescent_FfnDwReferenceIdeal Cert.FfnDwReferenceIdeal.Gen.facts := fun m ρ _ =>
  (θ_run Cert.FfnDwReferenceIdeal.defs _ _).mono (fun r h => ⟨fun c => (h c).2, Idealize.ShloMosaic.sem_eq_zero_of_no_sems (by decide) r.2⟩)
    (Cert.FfnDwReferenceIdeal.Value.run (F := Ideal) m ρ)

/-- On the extended reals the kernel and the reference leave the same array. -/
theorem algebraic : @Cert.algebraic_FfnDwKernelIdeal_FfnDwReferenceIdeal Cert.FfnDwKernelIdeal.Gen.facts Cert.FfnDwReferenceIdeal.Gen.facts := by
  intro m ρ m' ρ' _ hagree
  refine ⟨fun c => _, (θ_run Cert.FfnDwKernelIdeal.defs _ _).mono (fun _ h c => ⟨(h c).1.trans (Cert.FfnDwKernelIdeal.Hand.final m c), (h c).2⟩)
    (Cert.FfnDwKernelIdeal.Value.run_blocks (F := Ideal) m ρ), ?_⟩
  refine (θ_run Cert.FfnDwReferenceIdeal.defs _ _).mono (fun _ h c => ⟨(h c).1.trans ?_, (h c).2⟩) (Cert.FfnDwReferenceIdeal.Value.run (F := Ideal) m' ρ')
  have h0 := (hagree c).1
  have h1 := (hagree c).2
  rw [h0, h1]

end Cert.FfnDwClaim

end
-- ==== Proof.LayerNorm.lean ====
/- The layer norm of one row of 1024 entries, and the reference's array of it read at an index. -/
module

public import proofs.«01_k».proof.Proof.Gen.FfnFwdReferenceIdeal.Run
public import Idealize.ShloMosaic.Lib.Pointwise

@[expose] public section

set_option maxRecDepth 16384

noncomputable section

open Idealize.ShloMosaic Idealize.ShloMosaic.TcCoe Idealize.SL.Sem

namespace Cert.LayerNorm

open Cert.FfnFwdReferenceIdeal Cert.FfnFwdReferenceIdeal.Gen

/-- The mean of a row. -/
def mean (p : Fin 1024 → EReal) : EReal := Ideal.div (∑ d : Fin 1024, p d) (Ideal.ofBits FTy.f32 0x44800000#32)

/-- The reciprocal of a row's deviation. -/
def invDev (p : Fin 1024 → EReal) : EReal :=
  Ideal.rsqrt (Ideal.div (∑ d : Fin 1024, (p d - mean p) * (p d - mean p)) (Ideal.ofBits FTy.f32 0x44800000#32)
    + Ideal.ofBits FTy.f32 0x3727C5AC#32)

/-- A row's layer norm at column `d`, with scale `g` and shift `b`. -/
def norm (p g b : Fin 1024 → EReal) (d : Fin 1024) : EReal := (p d - mean p) * invDev p * g d + b d

variable (p : FVec Ideal S4096x1024 .f32) (g b : FVec Ideal S1024 .f32)

/-- The rows' means, a column. -/
abbrev M : FVec Ideal S4096x1 .f32 :=
  Host.divf (broadcastInDim S4096x1 ![0] bcast_S4096_S4096x1_0 (Host.reduceAdd p (constant S_ .f32 0x00000000#32) reducesTo_S4096x1024_S4096_d1 h_S_))
    (broadcastInDim S4096x1 ![] bcast_S_S4096x1 (constant S_ .f32 0x44800000#32))

/-- The rows less their means. -/
abbrev D : FVec Ideal S4096x1024 .f32 := subf p (broadcastInDim S4096x1024 ![0, 1] bcast_S4096x1_S4096x1024_0_1 (M p))

/-- The reciprocals of the rows' deviations, a column. -/
abbrev R : FVec Ideal S4096x1 .f32 :=
  Host.rsqrt (addf (M (mulf (D p) (D p))) (broadcastInDim S4096x1 ![] bcast_S_S4096x1 (constant S_ .f32 0x3727C5AC#32)))

/-- The layer norm of every row. -/
abbrev LN : FVec Ideal S4096x1024 .f32 :=
  addf (mulf (mulf (D p) (broadcastInDim S4096x1024 ![0, 1] bcast_S4096x1_S4096x1024_0_1 (R p)))
      (broadcastInDim S4096x1024 ![0, 1] bcast_S1x1024_S4096x1024_0_1 (broadcastInDim S1x1024 ![1] bcast_S1024_S1x1024_1 g)))
    (broadcastInDim S4096x1024 ![0, 1] bcast_S1x1024_S4096x1024_0_1 (broadcastInDim S1x1024 ![1] bcast_S1024_S1x1024_1 b))

theorem M_at (t : Fin 4096) (z : Fin 1) : M p (ix2 t z) = mean fun d => p (ix2 t d) := by
  unfold mean
  pointwise

theorem D_at (t : Fin 4096) (d : Fin 1024) : D p (ix2 t d) = p (ix2 t d) - mean fun d => p (ix2 t d) := by
  rw [← M_at p t 0]
  pointwise

theorem R_at (t : Fin 4096) (z : Fin 1) : R p (ix2 t z) = invDev fun d => p (ix2 t d) := by
  unfold invDev
  simp only [← D_at]
  refine Eq.trans (b := Ideal.rsqrt (M (mulf (D p) (D p)) (ix2 t z) + Ideal.ofBits FTy.f32 0x3727C5AC#32)) (by pointwise) ?_
  rw [M_at]
  rfl

theorem LN_at (t : Fin 4096) (d : Fin 1024) :
    LN p g b (ix2 t d) = norm (fun d => p (ix2 t d)) (fun d => g (ix1 d)) (fun d => b (ix1 d)) d := by
  unfold norm
  rw [← D_at, ← R_at p t 0]
  pointwise

end Cert.LayerNorm

end
-- ==== Proof.FfnFwdMath.lean ====
/- The gated feed-forward block, entry by entry, and the reference's arrays read at an index. -/
module

public import proofs.«01_k».proof.Proof.LayerNorm
public import proofs.«01_k».proof.Proof.FfnBwdMath

@[expose] public section

set_option maxRecDepth 16384

noncomputable section

open Idealize.ShloMosaic Idealize.ShloMosaic.TcCoe Idealize.SL.Sem

namespace Cert.FfnFwdMath

open Cert.FfnFwdReferenceIdeal Cert.FfnFwdReferenceIdeal.Gen
open Cert.FfnBwdMath (proj P L P_at L_at ones)

variable (x : FVec Ideal S4096x1024 .f32) (wg wu : FVec Ideal S1024x2816 .f32) (wd : FVec Ideal S2816x1024 .f32)
  (g b : FVec Ideal S1024 .f32)

/-- The hidden product of token `t` at feature `f`. -/
def act (t : Fin 4096) (f : Fin 2816) : EReal :=
  proj x wg t f * Ideal.logistic (proj x wg t f) * proj x wu t f

/-- The block's sum before its norm: the weighed input and half the hidden product through the down projection. -/
def pre (t : Fin 4096) (d : Fin 1024) : EReal :=
  Ideal.ofBits FTy.f32 0x3FB504F3#32 * x (ix2 t d)
    + Ideal.ofBits FTy.f32 0x3F000000#32 * ∑ f : Fin 2816, act x wg wu t f * wd (ix2 f d)

/-- The block's output. -/
def out (t : Fin 4096) (d : Fin 1024) : EReal :=
  LayerNorm.norm (pre x wg wu wd t) (fun d => g (ix1 d)) (fun d => b (ix1 d)) d

/-- The hidden product, all of it. -/
abbrev A : FVec Ideal S4096x2816 .f32 := mulf (mulf (P x wg) (L x wg)) (P x wu)

/-- The sum before the norm, all of it. -/
abbrev PRE : FVec Ideal S4096x1024 .f32 :=
  addf (mulf (broadcastInDim S4096x1024 ![] bcast_S_S4096x1024 (constant S_ .f32 0x3FB504F3#32)) x)
    (mulf (broadcastInDim S4096x1024 ![] bcast_S_S4096x1024 (constant S_ .f32 0x3F000000#32))
      (Host.dotGeneral dot_S4096x2816_S2816x1024_S4096x1024_1_0_0_1_n_n none (A x wg wu) wd))

theorem A_at (t : Fin 4096) (f : Fin 2816) : A x wg wu (ix2 t f) = act x wg wu t f := by
  unfold act
  rw [← L_at, ← P_at, ← P_at]
  pointwise

theorem PRE_at (t : Fin 4096) (d : Fin 1024) : PRE x wg wu wd (ix2 t d) = pre x wg wu wd t d := by
  unfold pre
  simp only [← A_at]
  pointwise

theorem OUT_at (t : Fin 4096) (d : Fin 1024) : LayerNorm.LN (PRE x wg wu wd) g b (ix2 t d) = out x wg wu wd g b t d := by
  unfold out
  rw [LayerNorm.LN_at]
  simp only [PRE_at]

end Cert.FfnFwdMath

end
-- ==== Proof.FfnFwdValue.lean ====
/- The gated feed-forward block: the four arrays the tiled kernel leaves are the reference's.  The kernel takes 512 tokens
   at a time and the 2816 hidden features in two halves; a scratch block carries the first half's part of the product with
   the down projection to the second, which norms the sum. -/
module

public import proofs.«01_k».proof.Proof.Gen.FfnFwdKernelIdeal.Value
public import proofs.«01_k».proof.Proof.FfnFwdMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnFwdKernelIdeal.Hand

open Cert.FfnFwdKernelIdeal Cert.FfnFwdKernelIdeal.Gen Cert.FfnFwdMath
open Cert.FfnBwdMath (proj)

variable (m : (ℓ : Loc nD τ sig) → Buf (Elt Ideal) ℓ)

/-- The layer's input. -/
abbrev aX (c : Dev nD) : FVec Ideal S4096x1024 .f32 := m ((c : Thread nD τ).loc main_arg0)
/-- The gate projection. -/
abbrev aG (c : Dev nD) : FVec Ideal S1024x2816 .f32 := m ((c : Thread nD τ).loc main_arg1)
/-- The up projection. -/
abbrev aU (c : Dev nD) : FVec Ideal S1024x2816 .f32 := m ((c : Thread nD τ).loc main_arg2)
/-- The down projection. -/
abbrev aD (c : Dev nD) : FVec Ideal S2816x1024 .f32 := m ((c : Thread nD τ).loc main_arg3)
/-- The norm's scale. -/
abbrev aS (c : Dev nD) : FVec Ideal S1024 .f32 := m ((c : Thread nD τ).loc main_arg4)
/-- The norm's shift. -/
abbrev aB (c : Dev nD) : FVec Ideal S1024 .f32 := m ((c : Thread nD τ).loc main_arg5)

/-- Which block each window shows at grid point `t`: `t / 2` is the block of tokens, `t % 2` the half of the features. -/
theorem idx : ∀ t : Fin cfg0.N, win0_0.index t = ![t.val / 2, 0] ∧ win0_1.index t = ![t.val % 2, 0]
    ∧ win0_2.index t = ![t.val % 2, 0] ∧ win0_3.index t = ![t.val % 2, 0] ∧ win0_4.index t = ![0, 0]
    ∧ win0_5.index t = ![0, 0] ∧ win0_6.index t = ![t.val / 2, 0] ∧ win0_7.index t = ![t.val / 2, 0]
    ∧ win0_8.index t = ![t.val / 2, t.val % 2] ∧ win0_9.index t = ![t.val / 2, t.val % 2] :=
  (by decide +kernel : ∀ t : Fin grid0.N, _)

/-! ## The input blocks -/

theorem x_blk (c : Dev nD) (t : Fin cfg0.N) (p : Fin 512) (k : Fin 1024) (r : Fin 4096) (hr : r.val = t.val / 2 * 512 + p.val) :
    (show FVec Ideal S512x1024 .f32 from iblk m c 0 t) (ix2 p k) = aX m c (ix2 r k) := by
  blk_ext [iblk, V, idx t]

theorem wg_blk (c : Dev nD) (t : Fin cfg0.N) (q : Fin 1408) (k : Fin 1024) (f : Fin 2816)
    (hf : f.val = t.val % 2 * 1408 + q.val) :
    (show FVec Ideal S1408x1024 .bf16 from iblk m c 1 t) (ix2 q k) = aG m c (ix2 k f) := by
  blk_simp [iblk, idx t]
  entry_read
  pointwise
  blk_point [iblk, V, idx t]

theorem wu_blk (c : Dev nD) (t : Fin cfg0.N) (q : Fin 1408) (k : Fin 1024) (f : Fin 2816)
    (hf : f.val = t.val % 2 * 1408 + q.val) :
    (show FVec Ideal S1408x1024 .bf16 from iblk m c 2 t) (ix2 q k) = aU m c (ix2 k f) := by
  blk_simp [iblk, idx t]
  entry_read
  pointwise
  blk_point [iblk, V, idx t]

theorem wd_blk (c : Dev nD) (t : Fin cfg0.N) (q : Fin 1408) (k : Fin 1024) (f : Fin 2816)
    (hf : f.val = t.val % 2 * 1408 + q.val) :
    (show FVec Ideal S1408x1024 .bf16 from iblk m c 3 t) (ix2 q k) = aD m c (ix2 f k) := by
  blk_simp [iblk, idx t]
  entry_read
  pointwise
  blk_point [iblk, V, idx t]

theorem scale_blk (c : Dev nD) (t : Fin cfg0.N) (z : Fin 1) (k : Fin 1024) :
    (show FVec Ideal S1x1024 .f32 from iblk m c 4 t) (ix2 z k) = aS m c (ix1 k) := by
  blk_simp [iblk, idx t]
  entry_read
  pointwise
  blk_point [iblk, V, idx t]

theorem shift_blk (c : Dev nD) (t : Fin cfg0.N) (z : Fin 1) (k : Fin 1024) :
    (show FVec Ideal S1x1024 .f32 from iblk m c 5 t) (ix2 z k) = aB m c (ix1 k) := by
  blk_simp [iblk, idx t]
  entry_read
  pointwise
  blk_point [iblk, V, idx t]

/-! ## What the body computes of one block -/

theorem gate_blk (c : Dev nD) (t : Fin cfg0.N) (p : Fin 512) (q : Fin 1408) (r : Fin 4096) (f : Fin 2816)
    (hr : r.val = t.val / 2 * 512 + p.val) (hf : f.val = t.val % 2 * 1408 + q.val) :
    k0_pay4 (F := Ideal) (iblk m c 0 t) (iblk m c 1 t) (ix2 p q) = proj (aX m c) (aG m c) r f := by
  unfold proj
  refine Eq.trans (b := ∑ k : Fin 1024, (show FVec Ideal S512x1024 .f32 from iblk m c 0 t) (ix2 p k)
    * (show FVec Ideal S1408x1024 .bf16 from iblk m c 1 t) (ix2 q k)) (by pointwise [k0_pay4, k0_pay3]) ?_
  exact Finset.sum_congr rfl fun k _ => by rw [x_blk m c t p k r hr, wg_blk m c t q k f hf]

theorem up_blk (c : Dev nD) (t : Fin cfg0.N) (p : Fin 512) (q : Fin 1408) (r : Fin 4096) (f : Fin 2816)
    (hr : r.val = t.val / 2 * 512 + p.val) (hf : f.val = t.val % 2 * 1408 + q.val) :
    k0_pay5 (F := Ideal) (iblk m c 0 t) (iblk m c 2 t) (ix2 p q) = proj (aX m c) (aU m c) r f := by
  unfold proj
  refine Eq.trans (b := ∑ k : Fin 1024, (show FVec Ideal S512x1024 .f32 from iblk m c 0 t) (ix2 p k)
    * (show FVec Ideal S1408x1024 .bf16 from iblk m c 2 t) (ix2 q k)) (by pointwise [k0_pay5, k0_pay3]) ?_
  exact Finset.sum_congr rfl fun k _ => by rw [x_blk m c t p k r hr, wu_blk m c t q k f hf]

/-- The hidden product of one block, in terms of the block's two projections. -/
theorem sum_blk (v0 : FVec Ideal S512x1024 .f32) (v2 v5 v21 : FVec Ideal S1408x1024 .bf16) (y : S512x1024.Idx) :
    k0_pay8 (F := Ideal) v0 v2 v5 v21 y
      = ∑ q : Fin 1408, k0_pay4 (F := Ideal) v0 v2 (ix2 (y 0) q) * Ideal.logistic (k0_pay4 (F := Ideal) v0 v2 (ix2 (y 0) q))
          * k0_pay5 (F := Ideal) v0 v5 (ix2 (y 0) q) * v21 (ix2 q (y 1)) := by
  simp only [← GateGrad.logistic_def]
  pointwise [k0_pay8]
  simp only [zero_sub]

/-- The token at row `p` of point `t`'s block. -/
def tok (t : Fin cfg0.N) (p : Fin 512) : Fin 4096 :=
  ⟨t.val / 2 * 512 + p.val, by have := lt_of_lt_of_eq t.isLt N_0; omega⟩

/-- The hidden feature at column `q` of point `t`'s half. -/
def feat (t : Fin cfg0.N) (q : Fin 1408) : Fin 2816 := ⟨t.val % 2 * 1408 + q.val, by omega⟩

/-- Hidden feature `f`'s part of the product with the down projection. -/
def part (c : Dev nD) (r : Fin 4096) (f : Fin 2816) (d : Fin 1024) : EReal :=
  act (aX m c) (aG m c) (aU m c) r f * aD m c (ix2 f d)

theorem part_blk (c : Dev nD) (t : Fin cfg0.N) (y : S512x1024.Idx) :
    k0_pay8 (F := Ideal) (iblk m c 0 t) (iblk m c 1 t) (iblk m c 2 t) (iblk m c 3 t) y
      = ∑ q : Fin 1408, part m c (tok t (y 0)) (feat t q) (y 1) := by
  rw [sum_blk]
  unfold part act
  refine Finset.sum_congr rfl fun q _ => ?_
  rw [gate_blk m c t (y 0) q (tok t (y 0)) (feat t q) rfl rfl, up_blk m c t (y 0) q (tok t (y 0)) (feat t q) rfl rfl]
  exact congrArg _ (wd_blk m c t q (y 1) (feat t q) rfl)

/-- The body's norm of one block of rows. -/
theorem norm_blk (v0 v36 : FVec Ideal S512x1024 .f32) (v41 v43 : FVec Ideal S1x1024 .f32) (p : Fin 512) (d : Fin 1024) :
    k0_pay2 (F := Ideal) v0 v36 v41 v43 (ix2 p d)
      = LayerNorm.norm (fun d => k0_pay1 (F := Ideal) v0 v36 (ix2 p d)) (fun d => v41 (ix2 0 d)) (fun d => v43 (ix2 0 d)) d := by
  unfold LayerNorm.norm LayerNorm.invDev LayerNorm.mean
  pointwise [k0_pay2]

/-! ## The arrays after the run -/

/-- The gate's product. -/
theorem final8 (c : Dev nD) : (dats m 0 c).arrAt 8 (cfgs 0).N
    = fun i : S4096x2816.Idx => proj (aX m c) (aG m c) (i 0) (i 1) := by
  refine (dats m 0 c).arrAt_eq_of_covers 8 _ (by decide +kernel) fun t hf y => ?_
  blk_simp
  have h : (outsAt0 m c t.val t.isLt).2.2.1 = k0_pay6 (F := Ideal) (iblk m c 0 t) (iblk m c 1 t) := by
    rcases Nat.mod_two_eq_zero_or_one t.val with h0 | h0
    · rw [outsAt0_A m c t h0 (by omega) (by omega)]; frame_out
    · rw [outsAt0_B m c t (by omega) h0 h0]; frame_out
  rw [after0_8, h]
  refine (congrArg _ (eq_ix2 (n0 := 512) (n1 := 1408) y)).trans (Eq.trans (by pointwise [k0_pay6]) (gate_blk m c t (y 0) (y 1) _ _ ?_ ?_))
  all_goals (blk_simp [idx t] <;> try omega)

/-- The up product. -/
theorem final9 (c : Dev nD) : (dats m 0 c).arrAt 9 (cfgs 0).N
    = fun i : S4096x2816.Idx => proj (aX m c) (aU m c) (i 0) (i 1) := by
  refine (dats m 0 c).arrAt_eq_of_covers 9 _ (by decide +kernel) fun t hf y => ?_
  blk_simp
  have h : (outsAt0 m c t.val t.isLt).2.2.2.1 = k0_pay7 (F := Ideal) (iblk m c 0 t) (iblk m c 2 t) := by
    rcases Nat.mod_two_eq_zero_or_one t.val with h0 | h0
    · rw [outsAt0_A m c t h0 (by omega) (by omega)]; frame_out
    · rw [outsAt0_B m c t (by omega) h0 h0]; frame_out
  rw [after0_9, h]
  refine (congrArg _ (eq_ix2 (n0 := 512) (n1 := 1408) y)).trans (Eq.trans (by pointwise [k0_pay7]) (up_blk m c t (y 0) (y 1) _ _ ?_ ?_))
  all_goals (blk_simp [idx t] <;> try omega)

/-- What the scratch block holds after the second half: every hidden feature's part of the product. -/
theorem scratch (c : Dev nD) (t : Fin cfg0.N) (h : t.val % 2 = 1) (y : S512x1024.Idx) :
    (outsAt0 m c t.val t.isLt).2.2.2.2 y = ∑ f : Fin 2816, part m c (tok t (y 0)) f (y 1) := by
  rw [Pipeline.eq_sum_fin_of_reset_step_apply_of_flush (fun n h => (outsAt0 m c n h).2.2.2.2) 2 (fun _ => (0 : EReal))
    (fun p y => ∑ q : Fin 1408, part m c (tok p (y 0)) (feat p q) (y 1))
    (fun t h j => by
      rw [outsAt0_A m c t h (by omega) (by omega), ← part_blk, zero_add]; frame_out
      pointwise [k0_pay9])
    (fun t h j => by
      rw [outsAt0_B m c t h (by omega) (by omega), ← part_blk]; frame_out
      rw [read_unread_whole]
      pointwise [k0_pay10])
    t h _, zero_add]
  refine Fin.sum_mul_add_congr fun s k hl => ?_
  refine congrArg₂ (fun a b => part m c a b (y 1)) (Fin.ext ?_) (Fin.ext ?_)
  · show (2 * (t.val / 2) + s.val) / 2 * 512 + (y 0).val = t.val / 2 * 512 + (y 0).val
    omega
  · show (2 * (t.val / 2) + s.val) % 2 * 1408 + k.val = s.val * 1408 + k.val
    omega

/-- The sum the second half leaves before the norm. -/
theorem pre_blk (c : Dev nD) (t : Fin cfg0.N) (h : t.val % 2 = 1) (p : Fin 512) (d : Fin 1024) :
    k0_pay1 (F := Ideal) (iblk m c 0 t) (outsAt0 m c t.val t.isLt).2.2.2.2 (ix2 p d)
      = pre (aX m c) (aG m c) (aU m c) (aD m c) (tok t p) d := by
  refine Eq.trans (b := Ideal.ofBits FTy.f32 0x3FB504F3#32 * (show FVec Ideal S512x1024 .f32 from iblk m c 0 t) (ix2 p d)
    + Ideal.ofBits FTy.f32 0x3F000000#32 * (outsAt0 m c t.val t.isLt).2.2.2.2 (ix2 p d)) (by pointwise [k0_pay1]) ?_
  rw [scratch m c t h, x_blk m c t p d (tok t p) rfl]
  rfl

/-- The rows the second half writes out. -/
theorem out_blk (c : Dev nD) (t : Fin cfg0.N) (h : t.val % 2 = 1) (p : Fin 512) (d : Fin 1024) :
    k0_pay2 (F := Ideal) (iblk m c 0 t) (outsAt0 m c t.val t.isLt).2.2.2.2 (iblk m c 4 t) (iblk m c 5 t) (ix2 p d)
      = out (aX m c) (aG m c) (aU m c) (aD m c) (aS m c) (aB m c) (tok t p) d := by
  have hp : (fun d => k0_pay1 (F := Ideal) (iblk m c 0 t) (outsAt0 m c t.val t.isLt).2.2.2.2 (ix2 p d))
      = pre (aX m c) (aG m c) (aU m c) (aD m c) (tok t p) := funext fun d => pre_blk m c t h p d
  have hs : (fun d => (show FVec Ideal S1x1024 .f32 from iblk m c 4 t) (ix2 0 d)) = fun d => aS m c (ix1 d) :=
    funext fun k => scale_blk m c t 0 k
  have hb : (fun d => (show FVec Ideal S1x1024 .f32 from iblk m c 5 t) (ix2 0 d)) = fun d => aB m c (ix1 d) :=
    funext fun k => shift_blk m c t 0 k
  rw [norm_blk, hp]
  unfold out
  rw [← hs, ← hb]

/-- The sum before the norm. -/
theorem final7 (c : Dev nD) : (dats m 0 c).arrAt 7 (cfgs 0).N
    = fun i : S4096x1024.Idx => pre (aX m c) (aG m c) (aU m c) (aD m c) (i 0) (i 1) := by
  refine (dats m 0 c).arrAt_eq_of_covers 7 _ (by decide +kernel) fun t hf y => ?_
  have h1 : t.val % 2 = 1 := (flush0_7 t).mp hf
  blk_simp
  have h : (outsAt0 m c t.val t.isLt).2.1
      = k0_pay1 (F := Ideal) (iblk m c 0 t) (outsAt0 m c t.val t.isLt).2.2.2.2 := by
    rw [outsAt0_B m c t (by omega) h1 h1]; frame_out
  have hr : ((win0_7.blk t).view.emb y 0 : Fin 4096) = tok t (y 0) := Fin.ext (by
    unfold tok
    blk_simp [idx t])
  have hd : ((win0_7.blk t).view.emb y 1 : Fin 1024) = (y 1 : Fin 1024) := Fin.ext (by
    blk_simp [idx t] <;> try omega)
  rw [after0_7, h, hr, hd]
  exact (congrArg _ (eq_ix2 (n0 := 512) (n1 := 1024) y)).trans (pre_blk m c t h1 (y 0) (y 1))

/-- The block's output. -/
theorem final6 (c : Dev nD) : (dats m 0 c).arrAt 6 (cfgs 0).N
    = fun i : S4096x1024.Idx => out (aX m c) (aG m c) (aU m c) (aD m c) (aS m c) (aB m c) (i 0) (i 1) := by
  refine (dats m 0 c).arrAt_eq_of_covers 6 _ (by decide +kernel) fun t hf y => ?_
  have h1 : t.val % 2 = 1 := (flush0_6 t).mp hf
  blk_simp
  have h : (outsAt0 m c t.val t.isLt).1
      = k0_pay2 (F := Ideal) (iblk m c 0 t) (outsAt0 m c t.val t.isLt).2.2.2.2 (iblk m c 4 t) (iblk m c 5 t) := by
    rw [outsAt0_B m c t (by omega) h1 h1]; frame_out
  have hr : ((win0_6.blk t).view.emb y 0 : Fin 4096) = tok t (y 0) := Fin.ext (by
    unfold tok
    blk_simp [idx t])
  have hd : ((win0_6.blk t).view.emb y 1 : Fin 1024) = (y 1 : Fin 1024) := Fin.ext (by
    blk_simp [idx t] <;> try omega)
  rw [after0_6, h, hr, hd]
  exact (congrArg _ (eq_ix2 (n0 := 512) (n1 := 1024) y)).trans (out_blk m c t h1 (y 0) (y 1))

end Cert.FfnFwdKernelIdeal.Hand

end
-- ==== Proof.FfnFwdClaim.lean ====
/- The claims about the gated feed-forward block. -/
module

public import proofs.«01_k».proof.Defs
public import proofs.«01_k».proof.Proof.Gen.FfnFwdKernel.Frame
public import proofs.«01_k».proof.Proof.Gen.FfnFwdKernelIdeal.Frame
public import proofs.«01_k».proof.Proof.FfnFwdValue
public import Idealize.ShloMosaic.Adequacy
public import Idealize.ShloMosaic.Init

@[expose] public section

set_option maxRecDepth 16384

noncomputable section

open Idealize.ShloMosaic Idealize.ShloMosaic.TcCoe Idealize.SL.Sem

namespace Cert.FfnFwdClaim

/-- The kernel ends with its arguments as they were and every semaphore at zero. -/
theorem kernel : @Cert.quiescent_FfnFwdKernel Cert.FfnFwdKernel.Gen.facts := fun m ρ _ => Cert.FfnFwdKernel.Gen.frame m ρ

/-- So does the idealized kernel. -/
theorem kernelIdeal : @Cert.quiescent_FfnFwdKernelIdeal Cert.FfnFwdKernelIdeal.Gen.facts := fun m ρ _ => Cert.FfnFwdKernelIdeal.Gen.frame m ρ

/-- So does the reference. -/
theorem referenceIdeal : @Cert.quiescent_FfnFwdReferenceIdeal Cert.FfnFwdReferenceIdeal.Gen.facts := fun m ρ _ =>
  (θ_run Cert.FfnFwdReferenceIdeal.defs _ _).mono (fun r h => ⟨fun c => (h c).2.2.2.2, Idealize.ShloMosaic.sem_eq_zero_of_no_sems (by decide) r.2⟩)
    (Cert.FfnFwdReferenceIdeal.Value.run (F := Ideal) m ρ)

open Cert.FfnFwdMath in
/-- On the extended reals the kernel and the reference leave the same four arrays. -/
theorem algebraic : @Cert.algebraic_FfnFwdKernelIdeal_FfnFwdReferenceIdeal Cert.FfnFwdKernelIdeal.Gen.facts
    Cert.FfnFwdReferenceIdeal.Gen.facts := by
  intro m ρ m' ρ' _ hagree
  refine ⟨fun c => _, fun c => _, fun c => _, fun c => _, (θ_run Cert.FfnFwdKernelIdeal.defs _ _).mono (fun _ h c =>
    ⟨(h c).1.trans (Cert.FfnFwdKernelIdeal.Hand.final6 m c), (h c).2.1.trans (Cert.FfnFwdKernelIdeal.Hand.final7 m c),
      (h c).2.2.1.trans (Cert.FfnFwdKernelIdeal.Hand.final8 m c), (h c).2.2.2.1.trans (Cert.FfnFwdKernelIdeal.Hand.final9 m c), (h c).2.2.2.2⟩)
    (Cert.FfnFwdKernelIdeal.Value.run_blocks (F := Ideal) m ρ), ?_⟩
  refine (θ_run Cert.FfnFwdReferenceIdeal.defs _ _).mono (fun _ h c => ?_) (Cert.FfnFwdReferenceIdeal.Value.run (F := Ideal) m' ρ')
  obtain ⟨h0, h1, h2, h3, h4, h5⟩ := hagree c
  obtain ⟨r0, r1, r2, r3, r4⟩ := h c
  unfold Cert.FfnFwdReferenceIdeal.Value.res_main_v33 at r0
  rw [h0, h1, h2, h3, h4, h5] at r0
  rw [h0, h1, h2, h3] at r1
  rw [h0, h1] at r2
  rw [h0, h2] at r3
  refine ⟨r0.trans ?_, r1.trans ?_, r2.trans ?_, r3.trans ?_, r4⟩
  · funext i
    exact (congrArg _ (eq_ix2 (n0 := 4096) (n1 := 1024) i)).trans (OUT_at _ _ _ _ _ _ (i 0) (i 1))
  · funext i
    exact (congrArg _ (eq_ix2 (n0 := 4096) (n1 := 1024) i)).trans (PRE_at _ _ _ _ (i 0) (i 1))
  · funext i
    exact (congrArg _ (eq_ix2 (n0 := 4096) (n1 := 2816) i)).trans (Cert.FfnBwdMath.P_at _ _ (i 0) (i 1))
  · funext i
    exact (congrArg _ (eq_ix2 (n0 := 4096) (n1 := 2816) i)).trans (Cert.FfnBwdMath.P_at _ _ (i 0) (i 1))

end Cert.FfnFwdClaim

end
-- ==== Proof.FgateBwdRun.lean ====
/- The run of the forget gate's gradient: what its body leaves in the two results' blocks. -/
module

public import proofs.«01_k».proof.Proof.Gen.FgateBwdKernelIdeal.Launch
public import proofs.«01_k».proof.Proof.Gen.FgateBwdKernelIdeal.Skeleton
public import proofs.«01_k».proof.Proof.Gen.FgateBwdKernelIdeal.Loops
public import proofs.«01_k».proof.Proof.Gen.FgateBwdKernelIdeal.Points
public import proofs.«01_k».proof.Proof.Gen.FgateBwdKernelIdeal.Frame
public import Idealize.ShloMosaic.Lib.Pipeline.FrameBody
public import Idealize.ShloMosaic.Lib.Claim
public import Idealize.ShloMosaic.Lib.WritesUnit
public import Idealize.ShloMosaic.Lib.VecWindow
public import Idealize.ShloMosaic.Lib.Pointwise.Index
public import Idealize.ShloMosaic.Lib.Ring
public import Idealize.ShloMosaic.Lib.Tactic

@[expose] public section

set_option maxRecDepth 16384

noncomputable section

namespace Cert.FgateBwdKernelIdeal.Hand

open Cert.FgateBwdKernelIdeal Cert.FgateBwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Eight rows of an array, from row `8 * g`. -/
def rows8 (x : Vec F S4096x128 .f32) (g : ℕ) : Vec F S8x128 .f32 := fun y => x (ix2 (Fin.ofNat 4096 (8 * g + (y 0).val)) (y 1))

/-- The row that the scan carries into its trip `k`. -/
def carry (x : Vec F S4096x128 .f32) : ℕ → Vec F S1x128 .f32
  | 0 => k0_pay1
  | k + 1 => k0_pay3 (carry x k) (rows8 x (511 - k))

/-- What the scan leaves: the rows of group `g` are written by trip `511 - g`. -/
def scan (x : Vec F S4096x128 .f32) : Vec F S4096x128 .f32 := fun y =>
  k0_pay2 (carry x (511 - (y 0).val / 8)) (rows8 x ((y 0).val / 8)) (ix2 (Fin.ofNat 8 ((y 0).val % 8)) (y 1))

section
variable (𝒱 : Variants) (c : Dev nD) (bd : Option 𝒱.V) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole)

/-- The loop has 512 trips. -/
theorem trips_eq : k0_t1_loop.trips = 512 := by decide

/-- What trip `k` loads. -/
theorem load_rows (v : View sig .tc .vmem S4096x128 .f32) (X : BufTy.Contents (Elt F) v.ty) (k : Fin k0_t1_loop.trips)
    (inb : ∀ a, k0_off1 k a + S8x128.size a ≤ S4096x128.size a) :
    v.readAt (Elt F) (Rect.unit (s := S4096x128) (k0_off1 k) S8x128.size inb).toLoadRect X = rows8 (v.read (Elt F) X) (511 - k.val) := by
  have hk : k.val < 512 := trips_eq ▸ k.isLt
  have e0 : k0_off1 k 0 = 4088 - 8 * k.val := congrFun (k0_off1_eq k) 0
  have e1 : k0_off1 k 1 = 0 := congrFun (k0_off1_eq k) 1
  funext y
  have hy0 : (y 0).val < 8 := (y 0).isLt
  refine congrArg (v.read (Elt F) X) (funext fun a => Fin.ext ?_)
  match a with
  | ⟨0, _⟩ =>
    show k0_off1 k 0 + 1 * (y 0).val = (8 * (511 - k.val) + (y 0).val) % 4096
    omega
  | ⟨1, _⟩ =>
    show k0_off1 k 1 + 1 * (y 1).val = (y 1).val
    omega

theorem trip_result (X : BufTy.Contents (Elt F) arg3.view.ty) (k : Fin k0_t1_loop.trips) (acc : FVec F S1x128 .f32) :
    tripR_k0_t1 (F := F) 𝒱 c bd i arg1 harg1 arg2 harg2 arg3 harg3 arg4 harg4 arg5 harg5 X k acc = k0_pay3 acc (rows8 (arg3.view.read (Elt F) X) (511 - k.val)) := by
  unfold tripR_k0_t1 trip_k0_t1
  exact congrArg (k0_pay3 acc) (load_rows _ X k _)

theorem trip_stores (X : BufTy.Contents (Elt F) arg3.view.ty) (k : Fin k0_t1_loop.trips) (acc : FVec F S1x128 .f32) :
    tripL_k0_t1 (F := F) 𝒱 c bd i arg1 harg1 arg2 harg2 arg3 harg3 arg4 harg4 arg5 harg5 X k acc
      = [⟨Rect.unit (s := S4096x128) (k0_off1 k) S8x128.size (k0_off1_inb k), k0_pay2 acc (rows8 (arg3.view.read (Elt F) X) (511 - k.val))⟩] := by
  unfold tripL_k0_t1 trip_k0_t1
  rw [← load_rows _ X k (k0_off1_inb k)]

/-- Before trip `k` the carried row is `carry k`, and the last `8 * k` rows of the result hold the scan. -/
theorem state (X : BufTy.Contents (Elt F) arg3.view.ty) (G : BufTy.Contents (Elt F) arg4.view.ty) (k : ℕ) (hk : k ≤ 512) :
    (st_k0_t1 (F := F) 𝒱 c bd i arg1 harg1 arg2 harg2 arg3 harg3 arg4 harg4 arg5 harg5 X k0_pay1 k).1 = carry (arg3.view.read (Elt F) X) k
      ∧ ∀ y : S4096x128.Idx, 8 * (512 - k) ≤ (y 0).val →
        arg4.view.read (Elt F) (arg4.view.writes (Elt F) G (st_k0_t1 (F := F) 𝒱 c bd i arg1 harg1 arg2 harg2 arg3 harg3 arg4 harg4 arg5 harg5 X k0_pay1 k).2) y
          = scan (arg3.view.read (Elt F) X) y := by
  induction k with
  | zero => exact ⟨rfl, fun y hy => absurd hy (by have : (y 0).val < 4096 := (y 0).isLt; omega)⟩
  | succ k ih =>
    obtain ⟨h1, h2⟩ := ih (by omega)
    have es := st_k0_t1_succ (F := F) 𝒱 c bd i arg1 harg1 arg2 harg2 arg3 harg3 arg4 harg4 arg5 harg5 X k0_pay1 ⟨k, trips_eq.symm ▸ (by omega)⟩
    simp only [trip_result, trip_stores, h1] at es
    rw [es]
    refine ⟨rfl, fun y hy => ?_⟩
    have hy0 : (y 0).val < 4096 := (y 0).isLt
    have e := k0_off1_eq ⟨k, trips_eq.symm ▸ (by omega)⟩
    by_cases h : (y 0).val < 8 * (512 - k)
    · refine (View.read_writes_cons_rows_of_mem (o := 4088 - 8 * k) arg4.view G _ _ _ y (ix2 (Fin.ofNat 8 ((y 0).val % 8)) (y 1)) e ?_ rfl).trans ?_
      · show (y 0).val = 4088 - 8 * k + (y 0).val % 8 % 8
        omega
      · have hg : 511 - k = (y 0).val / 8 := by omega
        have hc : k = 511 - (y 0).val / 8 := by omega
        unfold scan
        rw [← hg, ← (show k = 511 - (511 - k) by omega)]
        rfl
    · refine (View.read_writes_cons_rows_of_not_mem (o := 4088 - 8 * k) (W := 8) arg4.view G _ _ _ y e rfl (Or.inr (by omega))).trans ?_
      exact h2 y (by omega)

end

/-- The body leaves the scan times the gate's slope, and its column sums. -/
theorem run_body (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole)
    (x0 : Vec F S4096x128 .f32) (x1 : Vec F S1x128 .f32) (x2 : Vec F S4096x128 .f32) (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay4 (scan x2) x0 x1) ∗ owns (c : Thread nD τ) arg5 fullShare (k0_pay5 (scan x2) x0 x1)) -∗ K ⟨⟩))
          ⊢ wp frame (wpE (defs₀ (F := F)) Variants.none c none) E (cc0_fgate_bwd i arg1 harg1 arg2 harg2 arg3 harg3 arg4 harg4 arg5 harg5) K := by
    simp only [cc0_fgate_bwd_eq_skeleton]; unfold cc0_fgate_bwd_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    have e4 : run_body.sl.v4 c i arg1 harg1 arg2 harg2 arg3 harg3 arg4 harg4 arg5 harg5 x2 f3 = scan x2 := by
      unfold run_body.sl.v4
      rw [View.readAt_full]
      funext y
      refine ((state (F := F) Variants.none c none i arg1 harg1 arg2 harg2 arg3 harg3 arg4 harg4 arg5 harg5 (harg3.unread x2) f3 512 le_rfl).2 y (by omega)).trans ?_
      rw [hf2]
    have e0 : View.readAt (Elt F) arg1.view (Rect.unit ![0, 0] S4096x128.size inb_S4096x128_S4096x128_0_0).toLoadRect (harg1.unread x0) = x0 :=
      (View.readAt_full arg1.view _ _).trans hf0
    have e1 : View.readAt (Elt F) arg2.view (Rect.unit ![0, 0] S1x128.size inb_S1x128_S1x128_0_0).toLoadRect (harg2.unread x1) = x1 :=
      (View.readAt_full arg2.view _ _).trans hf1
    rw [e4, e0, e1]
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro; exact View.read_writes_full arg4.view f3 _ _ _
    iexists _; isplitr; swap; · iexact H4
    ipureintro; exact View.read_writes_full arg5.view f4 _ _ _

variable (m : (ℓ : Loc nD τ sig) → Buf (Elt F) ℓ) (ρ : Dev nD → PrngReg)

/-- Each window's memref at the grid's point. -/
abbrev ms0 (t : Fin cfg0.N) : Memref sig .tc .vmem S4096x128 .f32 := win0_0.stage (cfg0.slots t 0)
abbrev ms1 (t : Fin cfg0.N) : Memref sig .tc .vmem S1x128 .f32 := win0_1.stage (cfg0.slots t 1)
abbrev ms2 (t : Fin cfg0.N) : Memref sig .tc .vmem S4096x128 .f32 := win0_2.stage (cfg0.slots t 2)
abbrev ms3 (t : Fin cfg0.N) : Memref sig .tc .vmem S4096x128 .f32 := win0_3.stage (cfg0.slots t 3)
abbrev ms4 (t : Fin cfg0.N) : Memref sig .tc .vmem S1x128 .f32 := win0_4.stage (cfg0.slots t 4)

/-- The proof data of the one launch: the inputs' blocks stay, the results are what `run_body` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (scan (iblk m c 2 t)) (iblk m c 0 t) (iblk m c 1 t)
    | ⟨4, _⟩ => k0_pay5 (scan (iblk m c 2 t)) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay4 (scan (iblk m c 2 t)) (iblk m c 0 t) (iblk m c 1 t) := by dsimp only [dats]
theorem after0_4 (c : Dev nD) (t : Fin cfg0.N) :
    (dats m 0 c).after 4 t = k0_pay5 (scan (iblk m c 2 t)) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (run_body c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with every array at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.FgateBwdKernelIdeal.Hand

end
-- ==== Proof.FgateBwdMath.lean ====
/- The gradient of the forget gate's cumulative logarithm: a sum from the last token back, times the gate's slope. -/
module

public import Idealize.ShloMosaic.Lib.Pointwise
public import Idealize.ShloMosaic.PureOps.Ideal.Laws

@[expose] public section

noncomputable section

open Idealize.ShloMosaic Idealize.ShloMosaic.TcCoe

namespace Cert.FgateBwdMath

/-- The derivative of the sigmoid's logarithm at `v`. -/
def slope (v : EReal) : EReal := Ideal.div 1 (1 + Ideal.exp v)

/-- The sum of a sequence's entries from place `t` on. -/
def tail (f : ℕ → EReal) (t : ℕ) : EReal := ∑ s ∈ Finset.Ico t 4096, f s

/-- The forget gate's logit of one head at one token. -/
def logit (z : FVec Ideal ⟨2, ![4096, 2182]⟩ .f32) (b : FVec Ideal ⟨1, ![6]⟩ .f32) (r : Fin 4096) (h : Fin 6) : EReal :=
  z (ix2 r ⟨1920 + h.val, by omega⟩) + b (ix1 h)

/-- The gradient in one logit. -/
def dLogit (z : FVec Ideal ⟨2, ![4096, 2182]⟩ .f32) (b : FVec Ideal ⟨1, ![6]⟩ .f32) (g : FVec Ideal ⟨2, ![6, 4096]⟩ .f32)
    (r : Fin 4096) (h : Fin 6) : EReal :=
  tail (fun s => g (ix2 h (Fin.ofNat 4096 s))) r.val * slope (logit z b r h)

/-- The gradient in the logits, in the first six of 128 columns. -/
def dz (z : FVec Ideal ⟨2, ![4096, 2182]⟩ .f32) (b : FVec Ideal ⟨1, ![6]⟩ .f32) (g : FVec Ideal ⟨2, ![6, 4096]⟩ .f32)
    (r : Fin 4096) (d : Fin 128) : EReal :=
  if h : d.val < 6 then dLogit z b g r ⟨d.val, h⟩ else 0

/-- The gradient in the bias, in the first six of 128 columns. -/
def db (z : FVec Ideal ⟨2, ![4096, 2182]⟩ .f32) (b : FVec Ideal ⟨1, ![6]⟩ .f32) (g : FVec Ideal ⟨2, ![6, 4096]⟩ .f32)
    (d : Fin 128) : EReal :=
  ∑ r : Fin 4096, dz z b g r d

/-- The logarithm of the sum of the exponentials of zero and `y`, in the form that keeps the exponential small. -/
def softplus (y : EReal) : EReal := max y 0 + Ideal.log1p (Ideal.exp (-max y (-y)))

/-- The logarithm of `1 + exp y` for a number `y`, twice. -/
theorem softplus_coe (y : ℝ) : softplus y = (Real.log (1 + Real.exp y) : ℝ) := by
  have h1 : max (y : EReal) (-(y : EReal)) = ((max y (-y) : ℝ) : EReal) := by
    rw [← EReal.coe_neg]; exact (EReal.coe_strictMono.monotone.map_max).symm
  have h0 : max (y : EReal) 0 = ((max y 0 : ℝ) : EReal) := by
    rw [← EReal.coe_zero]; exact (EReal.coe_strictMono.monotone.map_max).symm
  have hp : (0 : ℝ) < 1 + Real.exp (-max y (-y)) := by positivity
  unfold softplus Ideal.log1p
  rw [h1, h0, ← EReal.coe_neg, Ideal.exp_coe, ← EReal.coe_one, ← EReal.coe_add]
  have hl : Ideal.log ((1 + Real.exp (-max y (-y)) : ℝ) : EReal) = (Real.log (1 + Real.exp (-max y (-y))) : ℝ) :=
    if_neg (not_le.mpr hp)
  rw [hl, ← EReal.coe_add]
  congr 1
  rw [← Real.log_exp (max y 0), ← Real.log_mul (Real.exp_pos _).ne' hp.ne']
  congr 1
  rcases le_total y 0 with h | h
  · rw [max_eq_right h, max_eq_right (by linarith)]; simp
  · rw [max_eq_left h, max_eq_left (by linarith), mul_add, ← Real.exp_add]; simp [add_comm]

/-- The slope of a number. -/
theorem slope_coe (v : ℝ) : slope v = ((1 / (1 + Real.exp v) : ℝ) : EReal) := by
  have hp : (1 + Real.exp v : ℝ) ≠ 0 := by positivity
  unfold slope
  rw [Ideal.exp_coe, ← EReal.coe_one, ← EReal.coe_add, Ideal.div_coe hp, ← EReal.coe_mul, one_mul]

/-- For a number `v`, the exponential of `-v` less its softplus is the slope at `v`. -/
theorem exp_sub_softplus (v : ℝ) : Ideal.exp (-(v : EReal) - softplus (-(v : EReal))) = slope v := by
  rw [slope_coe, ← EReal.coe_neg, softplus_coe, ← EReal.coe_sub, Ideal.exp_coe]
  congr 1
  have hp : (0 : ℝ) < 1 + Real.exp (-v) := by positivity
  rw [Real.exp_sub, Real.exp_log hp, div_eq_div_iff hp.ne' (by positivity), mul_add, ← Real.exp_add]
  simp [add_comm]

/-- The exponential at the infinities, -/
theorem exp_bot : Ideal.exp ⊥ = 0 := rfl
theorem exp_top : Ideal.exp ⊤ = ⊤ := rfl
/-- the logarithm of one, -/
theorem log1p_zero : Ideal.log1p 0 = 0 := by
  unfold Ideal.log1p
  rw [add_zero, ← EReal.coe_one]
  refine (if_neg (by norm_num) : Ideal.log ((1 : ℝ) : EReal) = (Real.log 1 : EReal)).trans ?_
  rw [Real.log_one, EReal.coe_zero]
/-- and the softplus. -/
theorem softplus_top : softplus ⊤ = ⊤ := by
  have h : Ideal.log1p (Ideal.exp (-max (⊤ : EReal) (-⊤))) = 0 := by
    rw [EReal.neg_top, max_eq_left bot_le, EReal.neg_top, exp_bot, log1p_zero]
  unfold softplus
  rw [h]
  simp

theorem softplus_bot : softplus ⊥ = 0 := by
  have h : Ideal.log1p (Ideal.exp (-max (⊥ : EReal) (-⊥))) = 0 := by
    rw [EReal.neg_bot, max_eq_right bot_le, EReal.neg_top, exp_bot, log1p_zero]
  unfold softplus
  rw [h]
  simp

/-- The exponential of `-v` less its softplus, each with zero for an infinity, is the slope at `v`, also at the infinities. -/
theorem exp_sub_softplus' (v : EReal) :
    Ideal.exp ((if -v = ⊤ then 0 else -v) - if softplus (-v) = ⊤ then 0 else softplus (-v)) = slope v := by
  induction v with
  | bot =>
    rw [EReal.neg_bot, softplus_top, if_pos rfl]
    have h : slope ⊥ = 1 := by simp [slope, exp_bot, Ideal.div]
    have h0 : Ideal.exp 0 = 1 := by rw [← EReal.coe_zero, Ideal.exp_coe, Real.exp_zero, EReal.coe_one]
    rw [h, sub_zero, h0]
  | top =>
    rw [EReal.neg_top, softplus_bot, if_neg bot_ne_top, if_neg EReal.zero_ne_top]
    have h1 : (1 : EReal) + ⊤ = ⊤ := rfl
    simp [slope, Ideal.div, exp_bot, exp_top, sub_zero, h1]
  | coe v =>
    have ht : -(v : EReal) ≠ ⊤ := by rw [← EReal.coe_neg]; exact EReal.coe_ne_top _
    have hs : softplus (-(v : EReal)) ≠ ⊤ := by rw [← EReal.coe_neg, softplus_coe]; exact EReal.coe_ne_top _
    rw [if_neg ht, if_neg hs, exp_sub_softplus]

/-- A fold of additions is a sum. -/
theorem foldl_add {n : ℕ} (f : Fin n → EReal) : (List.finRange n).foldl (fun r k => r + f k) 0 = ∑ k, f k := by
  rw [Fin.sum_univ_def, List.sum_eq_foldl, List.foldl_map]

/-- A sum over windows that start at each entry and run past the last is the sum of the entries from there on. -/
theorem window_at (g : FVec Ideal ⟨2, ![6, 4096]⟩ .f32) (h : Shape.ReduceWindows (s := ⟨2, ![6, 4096]⟩) ![1, 4096] ![1, 1] ![0, 0] ![0, 4095] ⟨2, ![6, 4096]⟩)
    (a : Fin 6) (r : Fin 4096) :
    Ideal.hostReduceWindowAdd ![1, 4096] ![1, 1] ![0, 0] ![0, 4095] h g 0 (ix2 a r)
      = tail (fun s => g (ix2 a (Fin.ofNat 4096 s))) r.val := by
  unfold Ideal.hostReduceWindowAdd Host.reduceWindow
  refine (foldl_add _).trans ?_
  refine (Fintype.sum_equiv (Shape.rowMajor ⟨2, ![1, 4096]⟩).symm _
    (fun i => if r.val + (i 1).val < 4096 then g (ix2 a (Fin.ofNat 4096 (r.val + (i 1).val))) else 0) fun n => ?_).trans ?_
  · have hi0 : ((Shape.rowMajor ⟨2, ![1, 4096]⟩).symm n (0 : Fin 2)).val < 1 := ((Shape.rowMajor ⟨2, ![1, 4096]⟩).symm n (0 : Fin 2)).isLt
    have ha : a.val < 6 := a.isLt
    by_cases hc : r.val + ((Shape.rowMajor ⟨2, ![1, 4096]⟩).symm n (1 : Fin 2)).val < 4096
    · refine (dif_pos (Fin.forall_fin_two.mpr ⟨⟨Nat.zero_le _, ?_⟩, ⟨Nat.zero_le _, ?_⟩⟩)).trans (Eq.trans ?_ (if_pos hc).symm)
      · refine congrArg g (funext fun b => Fin.ext ?_)
        match b with
        | ⟨0, _⟩ =>
          show a.val * 1 + ((Shape.rowMajor ⟨2, ![1, 4096]⟩).symm n (0 : Fin 2)).val - 0 = a.val
          omega
        | ⟨1, _⟩ =>
          show r.val * 1 + ((Shape.rowMajor ⟨2, ![1, 4096]⟩).symm n (1 : Fin 2)).val - 0
            = (r.val + ((Shape.rowMajor ⟨2, ![1, 4096]⟩).symm n (1 : Fin 2)).val) % 4096
          omega
      · show a.val * 1 + ((Shape.rowMajor ⟨2, ![1, 4096]⟩).symm n (0 : Fin 2)).val - 0 < 6
        omega
      · show r.val * 1 + ((Shape.rowMajor ⟨2, ![1, 4096]⟩).symm n (1 : Fin 2)).val - 0 < 4096
        omega
    · refine (dif_neg fun h => hc ?_).trans (if_neg hc).symm
      have h1 : r.val * 1 + ((Shape.rowMajor ⟨2, ![1, 4096]⟩).symm n (1 : Fin 2)).val - 0 < 4096 := (h (1 : Fin 2)).2
      omega
  · rw [sum_idx2, Fin.sum_univ_one]
    simp only [ix2_1]
    unfold tail
    refine (Fin.sum_univ_eq_sum_range (fun k => if r.val + k < 4096 then g (ix2 a (Fin.ofNat 4096 (r.val + k))) else 0) 4096).trans ?_
    rw [← Finset.sum_filter, Finset.sum_Ico_eq_sum_range]
    refine Finset.sum_congr (Finset.ext fun k => ?_) fun _ _ => rfl
    simp only [Finset.mem_filter, Finset.mem_range]
    omega

end Cert.FgateBwdMath

end
-- ==== Proof.FgateBwdValue.lean ====
/- The forget gate's gradient: the two arrays the kernel's scan leaves, on the extended reals. -/
module

public import proofs.«01_k».proof.Proof.FgateBwdRun
public import proofs.«01_k».proof.Proof.FgateBwdMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FgateBwdKernelIdeal.Hand

open Cert.FgateBwdKernelIdeal Cert.FgateBwdKernelIdeal.Gen Cert.FgateBwdMath

/-! ## The scan as a sum -/

/-- One trip's rows: the sum over the rows of the group from row `p` on, and the carried row. -/
theorem pay2_apply (a : FVec Ideal S1x128 .f32) (v : FVec Ideal S8x128 .f32) (p : Fin 8) (d : Fin 128) :
    k0_pay2 (F := Ideal) a v (ix2 p d) = (∑ q ∈ Finset.Ico p.val 8, v (ix2 (Fin.ofNat 8 q) d)) + a (ix2 0 d) := by
  rw [Finset.sum_Ico_eq_sum_range]
  match p with
  | ⟨0, _⟩ | ⟨1, _⟩ | ⟨2, _⟩ | ⟨3, _⟩ | ⟨4, _⟩ | ⟨5, _⟩ | ⟨6, _⟩ | ⟨7, _⟩ =>
    refine Eq.trans (by pointwise [k0_pay2]; rfl) (congrArg (· + a (ix2 0 d)) (Eq.trans ?_ (by simp only [Finset.sum_range_succ, Finset.sum_range_zero]; rfl)))
    simp [Scalar.select, IntOp.cmpi, add_assoc]
    try rfl

/-- The carried row is the last rows' first. -/
theorem pay3_apply (a : FVec Ideal S1x128 .f32) (v : FVec Ideal S8x128 .f32) (z : Fin 1) (d : Fin 128) :
    k0_pay3 (F := Ideal) a v (ix2 z d) = k0_pay2 (F := Ideal) a v (ix2 0 d) := by
  refine Eq.trans (b := ∑ q : Fin 8, Scalar.select (IntOp.cmpi .eq (BitVec.ofNat 32 q.val) 0#32) (k0_pay2 (F := Ideal) a v (ix2 q d)) 0)
    (by pointwise [k0_pay3]) ?_
  refine (Finset.sum_eq_single (0 : Fin 8) (fun q _ hq => ?_) (fun h => absurd (Finset.mem_univ _) h)).trans rfl
  have : IntOp.cmpi .eq (BitVec.ofNat 32 q.val) 0#32 = 0#1 := by revert q; decide
  rw [this]
  rfl

/-- The rows of one group from row `p` on, and the sum of the rows after the group, are the sum from that row on. -/
theorem group_tail (x : FVec Ideal S4096x128 .f32) (d : Fin 128) (g : ℕ) (p : Fin 8) (e n : ℕ) (hg : g < 512) (he : e = 8 * g + 8)
    (hn : n = 8 * g + p.val) :
    (∑ q ∈ Finset.Ico p.val 8, rows8 (F := Ideal) x g (ix2 (Fin.ofNat 8 q) d)) + tail (fun s => x (ix2 (Fin.ofNat 4096 s) d)) e
      = tail (fun s => x (ix2 (Fin.ofNat 4096 s) d)) n := by
  subst he hn
  unfold tail
  rw [← Finset.sum_Ico_consecutive _ (show 8 * g + p.val ≤ 8 * g + 8 by omega) (show 8 * g + 8 ≤ 4096 by omega)]
  refine congrArg (· + _) (Eq.trans (Finset.sum_congr rfl fun q hq => ?_)
    ((Finset.sum_Ico_add' (fun s => x (ix2 (Fin.ofNat 4096 s) d)) p.val 8 (8 * g)).trans (by rw [add_comm p.val, add_comm 8 (8 * g)])))
  have h8 : q < 8 := (Finset.mem_Ico.mp hq).2
  show x (ix2 (Fin.ofNat 4096 (8 * g + (Fin.ofNat 8 q).val)) d) = x (ix2 (Fin.ofNat 4096 (q + 8 * g)) d)
  rw [show (Fin.ofNat 8 q).val = q from Nat.mod_eq_of_lt h8, add_comm q]

/-- The carried row before trip `k`: the sum over the last `8 * k` rows. -/
theorem carry_apply (x : FVec Ideal S4096x128 .f32) (d : Fin 128) (k : ℕ) (hk : k ≤ 512) (z : Fin 1) :
    carry (F := Ideal) x k (ix2 z d) = tail (fun s => x (ix2 (Fin.ofNat 4096 s) d)) (8 * (512 - k)) := by
  induction k generalizing z with
  | zero => exact Eq.trans (b := (0 : EReal)) (by unfold carry; pointwise [k0_pay1]) (by simp [tail])
  | succ k ih =>
    have e : carry (F := Ideal) x (k + 1) = k0_pay3 (F := Ideal) (carry (F := Ideal) x k) (rows8 x (511 - k)) := rfl
    rw [e, pay3_apply, pay2_apply, ih (by omega)]
    exact group_tail x d (511 - k) 0 (8 * (512 - k)) (8 * (512 - (k + 1))) (by omega) (by omega) (by omega)

theorem scan_apply (x : FVec Ideal S4096x128 .f32) (r : Fin 4096) (d : Fin 128) :
    scan (F := Ideal) x (ix2 r d) = tail (fun s => x (ix2 (Fin.ofNat 4096 s) d)) r.val := by
  have hr : r.val < 4096 := r.isLt
  refine (pay2_apply (carry (F := Ideal) x (511 - r.val / 8)) (rows8 (F := Ideal) x (r.val / 8)) (Fin.ofNat 8 (r.val % 8)) d).trans ?_
  rw [carry_apply _ _ _ (by omega)]
  exact group_tail x d (r.val / 8) (Fin.ofNat 8 (r.val % 8)) _ _ (by omega) (by omega) (by show r.val = 8 * (r.val / 8) + r.val % 8 % 8; omega)

/-! ## The body's results -/

theorem pay4_apply (s x : FVec Ideal S4096x128 .f32) (b : FVec Ideal S1x128 .f32) (r : Fin 4096) (d : Fin 128) :
    k0_pay4 (F := Ideal) s x b (ix2 r d) = s (ix2 r d) * slope (x (ix2 r d) + b (ix2 0 d)) := by
  refine Eq.trans (b := s (ix2 r d) * Ideal.div 1 (1 + Ideal.exp (0 - (0 - (x (ix2 r d) + b (ix2 0 d)))))) (by pointwise [k0_pay4]) ?_
  rw [zero_sub, zero_sub, neg_neg]
  rfl

theorem pay5_apply (s x : FVec Ideal S4096x128 .f32) (b : FVec Ideal S1x128 .f32) (z : Fin 1) (d : Fin 128) :
    k0_pay5 (F := Ideal) s x b (ix2 z d) = ∑ r : Fin 4096, s (ix2 r d) * slope (x (ix2 r d) + b (ix2 0 d)) := by
  refine Eq.trans (b := ∑ r : Fin 4096, s (ix2 r d) * Ideal.div 1 (1 + Ideal.exp (0 - (0 - (x (ix2 r d) + b (ix2 0 d))))))
    (by pointwise [k0_pay5, k0_pay4]) ?_
  refine Finset.sum_congr rfl fun r _ => ?_
  rw [zero_sub, zero_sub, neg_neg]
  rfl

/-! ## The blocks -/

variable (m : (ℓ : Loc nD τ sig) → Buf (Elt Ideal) ℓ)

/-- The mixer's input projection. -/
abbrev aZ (c : Dev nD) : FVec Ideal S4096x2182 .f32 := m ((c : Thread nD τ).loc main_arg0)
/-- The gate's bias. -/
abbrev aB (c : Dev nD) : FVec Ideal S6 .f32 := m ((c : Thread nD τ).loc main_arg1)
/-- The cotangent of the summed logarithms. -/
abbrev aG (c : Dev nD) : FVec Ideal S6x4096 .f32 := m ((c : Thread nD τ).loc main_arg2)

/-- The one point's blocks. -/
theorem idx : ∀ t : Fin cfg0.N, win0_0.index t = ![0, 15] ∧ win0_1.index t = ![0, 0] ∧ win0_2.index t = ![0, 0]
    ∧ win0_3.index t = ![0, 0] ∧ win0_4.index t = ![0, 0] :=
  (by decide +kernel : ∀ t : Fin grid0.N, _)

/-! ### The arrays the launch finds -/

/-- The projection with the gap the kernel's tiles want after the gate's columns. -/
theorem entry_z (c : Dev nD) : (show FVec Ideal S4096x2304 .f32 from V m c main_v5)
    = concatenate S4096x2304 1 [⟨S4096x1926, extractStridedSlice S4096x1926 ![0, 0] (aZ m c) slices_S4096x2182_S4096x1926_0_0⟩,
        ⟨S4096x122, broadcastInDim S4096x122 ![] bcast_S_S4096x122 (constant S_ .f32 0x00000000#32)⟩,
        ⟨S4096x256, extractStridedSlice S4096x256 ![0, 1926] (aZ m c) slices_S4096x2182_S4096x256_0_1926⟩]
        concatenates_S4096x1926_S4096x122_S4096x256_S4096x2304_d1 := by
  show StableHlo.after _ _ (Proc.devRef .tc main_v5) = _
  after_reads_simp
  rfl

/-- The bias, padded. -/
theorem entry_b (c : Dev nD) : (show FVec Ideal S1x128 .f32 from V m c main_v1)
    = pad S1x128 ![0, 0] ![0, 122] ![0, 0] (shapeCast S1x6 (aB m c) shapeCasts_S6_S1x6) (sitofp .f32 (constantI S_ 32 0#32)) pads_S1x6_S1x128_000_01220 h_S_ := by
  show StableHlo.after _ _ (Proc.devRef .tc main_v1) = _
  after_reads_simp
  rfl

/-- The cotangent, transposed and padded. -/
theorem entry_g (c : Dev nD) : (show FVec Ideal S4096x128 .f32 from V m c main_v7)
    = pad S4096x128 ![0, 0] ![0, 122] ![0, 0] (transpose S4096x6 [1, 0] (aG m c) transposes_S6x4096_S4096x6_1_0) (sitofp .f32 (constantI S_ 32 0#32)) pads_S4096x6_S4096x128_000_01220 h_S_ := by
  show StableHlo.after _ _ (Proc.devRef .tc main_v7) = _
  after_reads_simp
  rfl
/-! ### Their blocks -/

/-- The logits' block: the projection's columns from 1920 on. -/
theorem z_blk (c : Dev nD) (t : Fin cfg0.N) (r : Fin 4096) (d : Fin 128) (h : d.val < 6) :
    (show FVec Ideal S4096x128 .f32 from iblk m c 0 t) (ix2 r d) = aZ m c (ix2 r ⟨1920 + d.val, by omega⟩) := by
  refine Eq.trans (b := (show FVec Ideal S4096x2304 .f32 from V m c main_v5) (ix2 r ⟨1920 + d.val, by omega⟩)) (by blk_ext [iblk, idx t]) ?_
  rw [entry_z]
  pointwise
  rw [dif_pos (by omega)]

/-- The bias's block, padded. -/
theorem b_blk (c : Dev nD) (t : Fin cfg0.N) (z : Fin 1) (d : Fin 128) (h : d.val < 6) :
    (show FVec Ideal S1x128 .f32 from iblk m c 1 t) (ix2 z d) = aB m c (ix1 ⟨d.val, h⟩) := by
  refine Eq.trans (b := (show FVec Ideal S1x128 .f32 from V m c main_v1) (ix2 z d)) (by blk_ext [iblk, idx t]) ?_
  rw [entry_b]
  pointwise
  rw [dif_pos h]

/-- The cotangent's block, transposed and padded with zeros. -/
theorem g_blk (c : Dev nD) (t : Fin cfg0.N) (r : Fin 4096) (d : Fin 128) :
    (show FVec Ideal S4096x128 .f32 from iblk m c 2 t) (ix2 r d) = if h : d.val < 6 then aG m c (ix2 ⟨d.val, h⟩ r) else 0 := by
  refine Eq.trans (b := (show FVec Ideal S4096x128 .f32 from V m c main_v7) (ix2 r d)) (by blk_ext [iblk, idx t]) ?_
  rw [entry_g]
  pointwise
  have h0 : FloatOps.sitofp (F := Ideal) FTy.f32 0#32 = (0 : EReal) := by simp [FloatOps.sitofp]
  rw [h0]

/-- Row `r` of the scan times the slope: the logit's gradient. -/
theorem row_blk (c : Dev nD) (t : Fin cfg0.N) (r : Fin 4096) (d : Fin 128) :
    scan (F := Ideal) (iblk m c 2 t) (ix2 r d) * slope ((show FVec Ideal S4096x128 .f32 from iblk m c 0 t) (ix2 r d)
      + (show FVec Ideal S1x128 .f32 from iblk m c 1 t) (ix2 0 d)) = dz (aZ m c) (aB m c) (aG m c) r d := by
  unfold dz
  rw [scan_apply]
  by_cases h : d.val < 6
  · rw [dif_pos h, z_blk m c t r d h, b_blk m c t 0 d h]
    refine congrArg (· * _) (congrArg (fun f => tail f r.val) (funext fun s => ?_))
    exact (g_blk m c t (Fin.ofNat 4096 s) d).trans (dif_pos h)
  · rw [dif_neg h]
    refine Eq.trans (congrArg (· * _) (a₂ := (0 : EReal)) (Finset.sum_eq_zero fun s _ => ?_)) (zero_mul _)
    exact (g_blk m c t (Fin.ofNat 4096 s) d).trans (dif_neg h)

/-- The gradient of the logits. -/
theorem final3 (c : Dev nD) : (dats m 0 c).arrAt 3 (cfgs 0).N
    = fun i : S4096x128.Idx => dz (aZ m c) (aB m c) (aG m c) (i 0) (i 1) := by
  refine (dats m 0 c).arrAt_eq_of_covers 3 _ (by decide +kernel) fun t hf y => ?_
  blk_simp
  have hr : ((win0_3.blk t).view.emb y 0 : Fin 4096) = (y 0 : Fin 4096) := Fin.ext (by blk_simp [idx t] <;> try omega)
  have hd : ((win0_3.blk t).view.emb y 1 : Fin 128) = (y 1 : Fin 128) := Fin.ext (by blk_simp [idx t] <;> try omega)
  rw [after0_3, hr, hd]
  exact (congrArg _ (eq_ix2 (n0 := 4096) (n1 := 128) y)).trans ((pay4_apply _ _ _ _ _).trans (row_blk m c t (y 0) (y 1)))

/-- The gradient of the bias. -/
theorem final4 (c : Dev nD) : (dats m 0 c).arrAt 4 (cfgs 0).N
    = fun i : S1x128.Idx => db (aZ m c) (aB m c) (aG m c) (i 1) := by
  refine (dats m 0 c).arrAt_eq_of_covers 4 _ (by decide +kernel) fun t hf y => ?_
  blk_simp
  have hd : ((win0_4.blk t).view.emb y 1 : Fin 128) = (y 1 : Fin 128) := Fin.ext (by blk_simp [idx t] <;> try omega)
  rw [after0_4, hd]
  exact (congrArg _ (eq_ix2 (n0 := 1) (n1 := 128) y)).trans ((pay5_apply _ _ _ _ _).trans
    (Finset.sum_congr rfl fun r _ => row_blk m c t r (y 1)))

end Cert.FgateBwdKernelIdeal.Hand

end
-- ==== Proof.FgateBwdRef.lean ====
/- The forget gate's gradient: the two arrays of the reference. -/
module

public import proofs.«01_k».proof.FgateBwdReferenceIdeal
public import proofs.«01_k».proof.Proof.FgateBwdMath
public import proofs.«01_k».proof.Proof.Gen.FgateBwdReferenceIdeal.Run
public import Idealize.ShloMosaic.Lib.Pointwise

@[expose] public section

set_option maxRecDepth 16384

noncomputable section

open Idealize.ShloMosaic Idealize.ShloMosaic.TcCoe Idealize.SL.Sem

namespace Cert.FgateBwdReferenceIdeal.Hand

open Cert.FgateBwdReferenceIdeal Cert.FgateBwdReferenceIdeal.Gen Cert.FgateBwdReferenceIdeal.Value Cert.FgateBwdMath

section Arrays

variable (z : FVec Ideal S4096x2182 .f32) (b : FVec Ideal S6 .f32) (g : FVec Ideal S6x4096 .f32)

/-- An array of zeros, -/
abbrev Z0 : FVec Ideal S4096x6 .f32 := broadcastInDim S4096x6 ![] bcast_S_S4096x6 (constant S_ .f32 0x00000000#32)
/-- and one of infinities. -/
abbrev Inf : FVec Ideal S4096x6 .f32 := broadcastInDim S4096x6 ![] bcast_S_S4096x6 (constant S_ .f32 0x7F800000#32)
/-- The logits with their signs turned. -/
abbrev Y : FVec Ideal S4096x6 .f32 :=
  Host.negf (addf (extractStridedSlice S4096x6 ![0, 1920] z slices_S4096x2182_S4096x6_0_1920)
    (broadcastInDim S4096x6 ![0, 1] bcast_S1x6_S4096x6_0_1 (broadcastInDim S1x6 ![1] bcast_S6_S1x6_1 b)))
/-- The logarithm of one plus their exponential. -/
abbrev A (y : FVec Ideal S4096x6 .f32) : FVec Ideal S4096x6 .f32 :=
  select (cmpf .une (subf y Z0) (subf y Z0)) (addf y Z0) (addf (maximumf y Z0) (Host.log1p (Host.exp (Host.negf (Host.absf (subf y Z0))))))
/-- Its derivative, from its own value. -/
abbrev P (y : FVec Ideal S4096x6 .f32) : FVec Ideal S4096x6 .f32 :=
  Host.exp (subf (select (cmpf .oeq y Inf) Z0 y) (select (cmpf .oeq (A y) Inf) Z0 (A y)))
/-- The sums over the later tokens. -/
abbrev W : FVec Ideal S6x4096 .f32 :=
  Host.reduceWindowAdd ![1, 4096] ![1, 1] ![0, 0] ![0, 4095] g (broadcastInDim S_ ![] bcast_S_S_ (constant S_ .f32 0x00000000#32))
    reduceWindows_S6x4096_S6x4096_w1s1p0_0_w4096s1p0_4095 h_S_
/-- The gradient of the logits. -/
abbrev DF : FVec Ideal S4096x6 .f32 :=
  Host.negf (mulf (Host.negf (transpose S4096x6 [1, 0] (W g) transposes_S6x4096_S4096x6_1_0)) (P (Y z b)))
/-- The same with zeros for the columns no gate has, -/
abbrev DZ : FVec Ideal S4096x128 .f32 :=
  pad S4096x128 ![0, 0] ![0, 122] ![0, 0] (DF z b g) (constant S_ .f32 0x00000000#32) pads_S4096x6_S4096x128_000_01220 h_S_
/-- and its column sums. -/
abbrev DB : FVec Ideal S1x128 .f32 :=
  pad S1x128 ![0, 0] ![0, 122] ![0, 0] (shapeCast S1x6 (Host.reduceAdd (shapeCast S1x6 (Host.reduceAdd (DF z b g) (constant S_ .f32 0x00000000#32)
    reducesTo_S4096x6_S6_d0 h_S_) shapeCasts_S6_S1x6) (constant S_ .f32 0x00000000#32) reducesTo_S1x6_S6_d0 h_S_) shapeCasts_S6_S1x6)
    (constant S_ .f32 0x00000000#32) pads_S1x6_S1x128_000_01220 h_S_

theorem W_at (d : Fin 6) (r : Fin 4096) : W g (ix2 d r) = tail (fun s => g (ix2 d (Fin.ofNat 4096 s))) r.val := by
  unfold W Host.reduceWindowAdd
  rw [Ideal.hostReduceWindowAdd_def]
  refine Eq.trans ?_ (window_at g reduceWindows_S6x4096_S6x4096_w1s1p0_0_w4096s1p0_4095 d r)
  have h0 : Ideal.ofBits FTy.f32 0x00000000#32 = (0 : EReal) := by simp [Ideal.ofBits, Ideal.ieee]
  have e : broadcastInDim S_ ![] bcast_S_S_ (constant (F := Ideal) S_ .f32 0x00000000#32) (Shape.Idx.first h_S_) = (0 : EReal) := h0
  rw [e]

theorem Y_at (r : Fin 4096) (d : Fin 6) : Y z b (ix2 r d) = -logit z b r d := by
  unfold logit
  pointwise

theorem DF_of (r : Fin 4096) (d : Fin 6) : DF z b g (ix2 r d) = -(-(W g (ix2 d r)) * P (Y z b) (ix2 r d)) := by
  show -(-(transpose S4096x6 [1, 0] (W g) transposes_S6x4096_S4096x6_1_0 (ix2 r d)) * P (Y z b) (ix2 r d)) = _
  generalize W g = w
  refine congrArg (fun a : EReal => -(-a * P (Y z b) (ix2 r d))) ?_
  pointwise

theorem A_at (y : FVec Ideal S4096x6 .f32) (i : S4096x6.Idx) : A y i = softplus (y i) := by
  refine Eq.trans (b := if y i ≠ y i then (y i : EReal) else softplus (y i)) ?_ (if_neg (not_not.mpr rfl))
  unfold softplus
  pointwise
  rfl

/-- The derivative is the slope. -/
theorem P_at (y : FVec Ideal S4096x6 .f32) (i : S4096x6.Idx) (v : EReal) (hy : (y i : EReal) = -v) : P y i = slope v := by
  have hinf : Ideal.ofBits FTy.f32 0x7F800000#32 = (⊤ : EReal) := by simp [Ideal.ofBits, Ideal.ieee]
  refine Eq.trans (b := Ideal.exp ((if (y i : EReal) = Ideal.ofBits FTy.f32 0x7F800000#32 then 0 else (y i : EReal))
    - if (A y i : EReal) = Ideal.ofBits FTy.f32 0x7F800000#32 then 0 else (A y i : EReal))) ?_ ?_
  · unfold P
    generalize A y = a
    pointwise
  · rw [A_at, hinf, hy, exp_sub_softplus']

theorem DF_at (r : Fin 4096) (d : Fin 6) : DF z b g (ix2 r d) = dLogit z b g r d := by
  rw [DF_of, P_at _ _ _ (Y_at z b r d), W_at, neg_mul, neg_neg]
  rfl

theorem DZ_at (r : Fin 4096) (d : Fin 128) : DZ z b g (ix2 r d) = dz z b g r d := by
  unfold dz DZ
  simp only [← DF_at z b g]
  generalize DF z b g = v
  pointwise

theorem DB_at (y : Fin 1) (d : Fin 128) : DB z b g (ix2 y d) = db z b g d := by
  unfold db dz DB
  simp only [← DF_at z b g]
  generalize DF z b g = v
  pointwise
  by_cases h : d.val < 6
  · simp only [dif_pos h, Fin.sum_univ_one]
  · simp only [dif_neg h, Finset.sum_const_zero]

end Arrays

variable (m : (ℓ : Loc nD τ sig) → Buf (Elt Ideal) ℓ) (c : Dev nD)

theorem res_out0_eq : res_out0 m c = DZ (m ((c : Thread nD τ).loc main_arg0)) (m ((c : Thread nD τ).loc main_arg1)) (m ((c : Thread nD τ).loc main_arg2)) := by
  unfold res_out0 res_main_v13
  rfl

theorem res_out1_eq : res_out1 m c = DB (m ((c : Thread nD τ).loc main_arg0)) (m ((c : Thread nD τ).loc main_arg1)) (m ((c : Thread nD τ).loc main_arg2)) := by
  unfold res_out1 res_main_v15
  rfl

end Cert.FgateBwdReferenceIdeal.Hand

end
-- ==== Proof.FgateBwdClaim.lean ====
/- The claims about the gradient of the forget gate. -/
module

public import proofs.«01_k».proof.Defs
public import proofs.«01_k».proof.Proof.Gen.FgateBwdKernel.Frame
public import proofs.«01_k».proof.Proof.FgateBwdValue
public import proofs.«01_k».proof.Proof.FgateBwdRef
public import Idealize.ShloMosaic.Adequacy
public import Idealize.ShloMosaic.Init

@[expose] public section

set_option maxRecDepth 16384

noncomputable section

open Idealize.ShloMosaic Idealize.ShloMosaic.TcCoe Idealize.SL.Sem

namespace Cert.FgateBwdClaim

/-- The two programs' kernels are one function. -/
theorem defs₀_eq : @Cert.FgateBwdKernel.defs₀ Bits _ Cert.FgateBwdKernel.Gen.facts = @Cert.FgateBwdKernelIdeal.defs₀ Bits _ Cert.FgateBwdKernelIdeal.Gen.facts := by
  unfold Cert.FgateBwdKernel.defs₀ Cert.FgateBwdKernelIdeal.defs₀
  refine congrArg (Defs.onTc (Λ := Cert.FgateBwdKernelIdeal.Λ₀)) ?_
  funext l a
  match l, a with
  | ⟨0, _⟩, (t, s) => rfl

/-- So their definitions are the same. -/
theorem defs_eq : @Cert.FgateBwdKernel.defs Bits _ Cert.FgateBwdKernel.Gen.facts = @Cert.FgateBwdKernelIdeal.defs Bits _ Cert.FgateBwdKernelIdeal.Gen.facts :=
  congrArg (Pipeline.defs (Cert.FgateBwdKernelIdeal.pcfgs (F := Bits))) defs₀_eq

/-- The kernel ends with its arguments as they were and every semaphore at zero: the idealized kernel's run, at the floats. -/
theorem kernel : @Cert.quiescent_FgateBwdKernel Cert.FgateBwdKernel.Gen.facts := by
  intro m ρ _
  rw [defs_eq]
  exact Cert.FgateBwdKernelIdeal.Hand.frame (F := Bits) m ρ

/-- So does the idealized kernel. -/
theorem kernelIdeal : @Cert.quiescent_FgateBwdKernelIdeal Cert.FgateBwdKernelIdeal.Gen.facts := fun m ρ _ =>
  Cert.FgateBwdKernelIdeal.Hand.frame (F := Ideal) m ρ

/-- So does the reference. -/
theorem referenceIdeal : @Cert.quiescent_FgateBwdReferenceIdeal Cert.FgateBwdReferenceIdeal.Gen.facts := fun m ρ _ =>
  (θ_run Cert.FgateBwdReferenceIdeal.defs _ _).mono (fun r h => ⟨fun c => (h c).2.2, Idealize.ShloMosaic.sem_eq_zero_of_no_sems (by decide) r.2⟩)
    (Cert.FgateBwdReferenceIdeal.Value.run (F := Ideal) m ρ)

open Cert.FgateBwdReferenceIdeal.Hand in
/-- On the extended reals the kernel and the reference leave the same two arrays. -/
theorem algebraic : @Cert.algebraic_FgateBwdKernelIdeal_FgateBwdReferenceIdeal Cert.FgateBwdKernelIdeal.Gen.facts
    Cert.FgateBwdReferenceIdeal.Gen.facts := by
  intro m ρ m' ρ' _ hagree
  refine ⟨fun c => _, fun c => _, (θ_run Cert.FgateBwdKernelIdeal.defs _ _).mono (fun _ h c =>
    ⟨((h.1 c).1 3).trans (Cert.FgateBwdKernelIdeal.Hand.final3 m c), ((h.1 c).1 4).trans (Cert.FgateBwdKernelIdeal.Hand.final4 m c), h.2.1 c⟩)
    (θ_run_and (Cert.FgateBwdKernelIdeal.Hand.run_main (F := Ideal) m ρ) (Cert.FgateBwdKernelIdeal.Hand.frame (F := Ideal) m ρ)), ?_⟩
  refine (θ_run Cert.FgateBwdReferenceIdeal.defs _ _).mono (fun _ h c => ?_) (Cert.FgateBwdReferenceIdeal.Value.run (F := Ideal) m' ρ')
  obtain ⟨h0, h1, h2⟩ := hagree c
  obtain ⟨r0, r1, r2⟩ := h c
  refine ⟨(r0.trans (res_out0_eq m' c)).trans ?_, (r1.trans (res_out1_eq m' c)).trans ?_, r2⟩
  · rw [h0, h1, h2]
    funext i
    exact (congrArg _ (eq_ix2 (n0 := 4096) (n1 := 128) i)).trans (DZ_at _ _ _ (i 0) (i 1))
  · rw [h0, h1, h2]
    funext i
    exact (congrArg _ (eq_ix2 (n0 := 1) (n1 := 128) i)).trans (DB_at _ _ _ (i 0) (i 1))

end Cert.FgateBwdClaim

end
-- ==== Proof.MixInValue.lean ====
/- The mixers' input projection: the array the kernel leaves, 512 tokens at a time, is the product of the whole arrays. -/
module

public import proofs.«01_k».proof.Proof.Gen.MixInKernelIdeal.Value
public import proofs.«01_k».proof.Proof.Gen.MixInReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixInKernelIdeal.Hand

open Cert.MixInKernelIdeal Cert.MixInKernelIdeal.Gen

variable (m : (ℓ : Loc nD τ sig) → Buf (Elt Ideal) ℓ)

/-- The reference's result over the two argument arrays `x` and `w`. -/
abbrev REF (x : FVec Ideal S4096x1024 .f32) (w : FVec Ideal S1024x2304 .f32) : FVec Ideal S4096x2304 .f32 :=
  Host.dotGeneral Cert.MixInReferenceIdeal.dot_S4096x1024_S1024x2304_S4096x2304_1_0_0_1_n_n none x w

/-- Which block each window shows at grid point `t`: the tile of tokens, and the weights whole. -/
theorem idx : ∀ t : Fin cfg0.N, win0_0.index t = ![t.val, 0] ∧ win0_1.index t = ![0, 0] ∧ win0_2.index t = ![t.val, 0] :=
  (by decide +kernel : ∀ t : Fin grid0.N, _)

/-- One tile's product at an index. -/
theorem part_at (v0 : FVec Ideal S512x1024 .f32) (v1 : FVec Ideal S1024x2304 .bf16) (j : S512x2304.Idx) :
    k0_pay2 (F := Ideal) v0 v1 j = ∑ k : Fin 1024, v0 (ix2 (j 0) k) * v1 (ix2 k (j 1)) := by
  pointwise [k0_pay2, k0_pay1]

/-- The reference's entry. -/
theorem ref_at (x : FVec Ideal S4096x1024 .f32) (w : FVec Ideal S1024x2304 .f32) (j : S4096x2304.Idx) :
    REF x w j = ∑ k : Fin 1024, x (ix2 (j 0) k) * w (ix2 k (j 1)) := by
  pointwise [REF]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  unfold outsAt0
  frame_out
  rw [part_at]
  refine congrArg (fun f : Fin 1024 → EReal => ∑ k, f k) (funext fun k => ?_)
  blk_point [iblk, V, idx t]

end Cert.MixInKernelIdeal.Hand

end
-- ==== Proof.MixInDxValue.lean ====
/- The gradient in the input of the mixers' projection: the array the kernel leaves, 512 tokens at a time, is the product of the
   cotangent with the turned weights, added to the other gradient. -/
module

public import proofs.«01_k».proof.Proof.Gen.MixInDxKernelIdeal.Value
public import proofs.«01_k».proof.Proof.Gen.MixInDxReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixInDxKernelIdeal.Hand

open Cert.MixInDxKernelIdeal Cert.MixInDxKernelIdeal.Gen

variable (m : (ℓ : Loc nD τ sig) → Buf (Elt Ideal) ℓ)

/-- The reference's result over its three argument arrays. -/
abbrev REF (w : FVec Ideal S1024x2304 .f32) (dz : FVec Ideal S4096x2304 .f32) (a : FVec Ideal S4096x1024 .f32) : FVec Ideal S4096x1024 .f32 :=
  addf a (Host.dotGeneral Cert.MixInDxReferenceIdeal.dot_S4096x2304_S1024x2304_S4096x1024_1_1_0_0_n_n none dz w)

/-- Which block each window shows at grid point `t`: the tile of tokens, and the weights whole. -/
theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- One tile's product at an index. -/
theorem part_at (v0 : FVec Ideal S512x2304 .f32) (v1 : FVec Ideal S1024x2304 .bf16) (j : S512x1024.Idx) :
    k0_pay2 (F := Ideal) v0 v1 j = ∑ k : Fin 2304, v0 (ix2 (j 0) k) * v1 (ix2 (j 1) k) := by
  pointwise [k0_pay2, k0_pay1]

/-- The tile's product and the other gradient, at an index. -/
theorem out_at (a b : FVec Ideal S512x1024 .f32) (j : S512x1024.Idx) : k0_pay4 (F := Ideal) a b j = (b j + a j : EReal) := by
  rw [add_comm]
  pointwise [k0_pay4]

/-- The reference's entry. -/
theorem ref_at (w : FVec Ideal S1024x2304 .f32) (dz : FVec Ideal S4096x2304 .f32) (a : FVec Ideal S4096x1024 .f32) (j : S4096x1024.Idx) :
    REF w dz a j = a (ix2 (j 0) (j 1)) + ∑ k : Fin 2304, dz (ix2 (j 0) k) * w (ix2 (j 1) k) := by
  pointwise [REF]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, ref_at]
  unfold outsAt0
  frame_out
  rw [out_at, part_at]
  refine congrArg₂ (fun a b : EReal => a + b) ?_ (Finset.sum_congr rfl fun k _ => ?_)
  · blk_point [iblk, V, idx t]
  · blk_point [iblk, V, idx t]

end Cert.MixInDxKernelIdeal.Hand

end
-- ==== Proof.MixInDwValue.lean ====
/- The gradient in the weights of the mixers' input projection: the kernel walks the 4096 tokens in four tiles of 1024 and adds each
   tile's product into a scratch block; the reference contracts all tokens at once. -/
module

public import proofs.«01_k».proof.Proof.Gen.MixInDwKernelIdeal.Value
public import proofs.«01_k».proof.Proof.Gen.MixInDwReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixInDwKernelIdeal.Hand

open Cert.MixInDwKernelIdeal Cert.MixInDwKernelIdeal.Gen

variable (m : (ℓ : Loc nD τ sig) → Buf (Elt Ideal) ℓ)

/-- The reference's result over the two argument arrays `x` and `dz`. -/
abbrev REF (x : FVec Ideal S4096x1024 .f32) (dz : FVec Ideal S4096x2304 .f32) : FVec Ideal S1024x2304 .bf16 :=
  truncf .bf16 (transpose Cert.MixInDwReferenceIdeal.S1024x2304 [1, 0]
    (Host.dotGeneral Cert.MixInDwReferenceIdeal.dot_S4096x2304_S4096x1024_S2304x1024_0_0_1_1_n_n none dz x)
    Cert.MixInDwReferenceIdeal.Gen.transposes_S2304x1024_S1024x2304_1_0) bitsLt_bf16_f32

/-- Which block each window shows at grid point `t`: the outer coordinate picks the half of the columns, the inner one
    the tile of tokens. -/
theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- One tile's product at an index. -/
theorem part_at (v0 : FVec Ideal S1024x1024 .f32) (v2 : FVec Ideal S1024x1152 .f32) (j : S1024x1152.Idx) :
    k0_pay2 (F := Ideal) v0 v2 j = (0 : EReal) + ∑ k : Fin 1024, v0 (ix2 k (j 0)) * v2 (ix2 k (j 1)) := by
  pointwise [k0_pay2, k0_pay1]

/-- Adding one tile's product to what the scratch block holds, at an index. -/
theorem acc_at (v0 : FVec Ideal S1024x1024 .f32) (v2 : FVec Ideal S1024x1152 .f32) (a : FVec Ideal S1024x1152 .f32)
    (j : S1024x1152.Idx) :
    k0_pay3 (F := Ideal) v0 v2 a j = a j + ∑ k : Fin 1024, v0 (ix2 k (j 0)) * v2 (ix2 k (j 1)) := by
  pointwise [k0_pay3, k0_pay1]

/-- The reference's entry is the sum over all tokens, the factors in the other order. -/
theorem ref_at (x : FVec Ideal S4096x1024 .f32) (dz : FVec Ideal S4096x2304 .f32) (j : S1024x2304.Idx) :
    REF x dz j = ∑ k : Fin 4096, x (ix2 k (j 0)) * dz (ix2 k (j 1)) := by
  refine Eq.trans (b := ∑ k : Fin 4096, (dz (ix2 k (j 1)) : EReal) * x (ix2 k (j 0))) ?_ (Finset.sum_congr rfl fun k _ => mul_comm _ _)
  pointwise [REF]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  have hs : ∀ j, (outsAt0 m c t.val t.isLt).1 j = (outsAt0 m c t.val t.isLt).2 j := fun j => by
    rw [outsAt0_C m c t (by omega) (by omega) h3]; frame_out; pointwise [k0_pay4]
  rw [after0_2, hs, Pipeline.eq_sum_fin_of_reset_step_apply_of_flush (fun n h => (outsAt0 m c n h).2) 4 (fun _ => 0) _
    (fun t h j => by rw [outsAt0_A m c t h (by omega) (by omega)]; frame_out; rw [part_at])
    (fun t h j => by
      by_cases h2 : t.val % 4 = 3
      · rw [outsAt0_C m c t h (by omega) h2]; frame_out; rw [acc_at, read_unread_whole]
      · rw [outsAt0_B m c t h (by omega) h2]; frame_out; rw [acc_at, read_unread_whole])
    t h3 _, zero_add, ref_at]
  refine Fin.sum_mul_add_congr fun s k hl => ?_
  blk_point [iblk, V, idx t, idx ⟨_, Pipeline.run_point_lt_of_flush t h3 s⟩]

end Cert.MixInDwKernelIdeal.Hand

end
-- ==== Proof.MixInClaim.lean ====
/- The claims about the mixers' input projection and its two gradients. -/
module

public import proofs.«01_k».proof.Defs
public import proofs.«01_k».proof.Proof.Gen.MixInKernel.Frame
public import proofs.«01_k».proof.Proof.MixInValue
public import proofs.«01_k».proof.Proof.Gen.MixInDxKernel.Frame
public import proofs.«01_k».proof.Proof.MixInDxValue
public import proofs.«01_k».proof.Proof.Gen.MixInDwKernel.Frame
public import proofs.«01_k».proof.Proof.MixInDwValue
public import Idealize.ShloMosaic.Adequacy
public import Idealize.ShloMosaic.Init

@[expose] public section

set_option maxRecDepth 16384

noncomputable section

open Idealize.ShloMosaic Idealize.ShloMosaic.TcCoe Idealize.SL.Sem

namespace Cert.MixInClaim

/-- Of the projection: the kernel ends with its arguments as they were and every semaphore at zero, -/
theorem kernel : @Cert.quiescent_MixInKernel Cert.MixInKernel.Gen.facts := fun m ρ _ => Cert.MixInKernel.Gen.frame m ρ

/-- so does the idealized kernel, -/
theorem kernelIdeal : @Cert.quiescent_MixInKernelIdeal Cert.MixInKernelIdeal.Gen.facts := fun m ρ _ => Cert.MixInKernelIdeal.Gen.frame m ρ

/-- so does the reference, -/
theorem referenceIdeal : @Cert.quiescent_MixInReferenceIdeal Cert.MixInReferenceIdeal.Gen.facts := fun m ρ _ =>
  (θ_run Cert.MixInReferenceIdeal.defs _ _).mono (fun r h => ⟨fun c => (h c).2, Idealize.ShloMosaic.sem_eq_zero_of_no_sems (by decide) r.2⟩)
    (Cert.MixInReferenceIdeal.Value.run (F := Ideal) m ρ)

/-- and on the extended reals the two leave the same array. -/
theorem algebraic : @Cert.algebraic_MixInKernelIdeal_MixInReferenceIdeal Cert.MixInKernelIdeal.Gen.facts Cert.MixInReferenceIdeal.Gen.facts := by
  intro m ρ m' ρ' _ hagree
  refine ⟨fun c => _, (θ_run Cert.MixInKernelIdeal.defs _ _).mono (fun _ h c => ⟨(h c).1.trans (Cert.MixInKernelIdeal.Hand.final m c), (h c).2⟩)
    (Cert.MixInKernelIdeal.Value.run_blocks (F := Ideal) m ρ), ?_⟩
  refine (θ_run Cert.MixInReferenceIdeal.defs _ _).mono (fun _ h c => ⟨(h c).1.trans ?_, (h c).2⟩) (Cert.MixInReferenceIdeal.Value.run (F := Ideal) m' ρ')
  obtain ⟨h0, h1⟩ := hagree c
  rw [h0, h1]

/-- Of the projection's gradient in its input: the kernel ends with its arguments as they were and every semaphore at zero, -/
theorem kernelDx : @Cert.quiescent_MixInDxKernel Cert.MixInDxKernel.Gen.facts := fun m ρ _ => Cert.MixInDxKernel.Gen.frame m ρ

/-- so does the idealized kernel, -/
theorem kernelIdealDx : @Cert.quiescent_MixInDxKernelIdeal Cert.MixInDxKernelIdeal.Gen.facts := fun m ρ _ => Cert.MixInDxKernelIdeal.Gen.frame m ρ

/-- so does the reference, -/
theorem referenceIdealDx : @Cert.quiescent_MixInDxReferenceIdeal Cert.MixInDxReferenceIdeal.Gen.facts := fun m ρ _ =>
  (θ_run Cert.MixInDxReferenceIdeal.defs _ _).mono (fun r h => ⟨fun c => (h c).2, Idealize.ShloMosaic.sem_eq_zero_of_no_sems (by decide) r.2⟩)
    (Cert.MixInDxReferenceIdeal.Value.run (F := Ideal) m ρ)

/-- and on the extended reals the two leave the same array. -/
theorem algebraicDx : @Cert.algebraic_MixInDxKernelIdeal_MixInDxReferenceIdeal Cert.MixInDxKernelIdeal.Gen.facts Cert.MixInDxReferenceIdeal.Gen.facts := by
  intro m ρ m' ρ' _ hagree
  refine ⟨fun c => _, (θ_run Cert.MixInDxKernelIdeal.defs _ _).mono (fun _ h c => ⟨(h c).1.trans (Cert.MixInDxKernelIdeal.Hand.final m c), (h c).2⟩)
    (Cert.MixInDxKernelIdeal.Value.run_blocks (F := Ideal) m ρ), ?_⟩
  refine (θ_run Cert.MixInDxReferenceIdeal.defs _ _).mono (fun _ h c => ⟨(h c).1.trans ?_, (h c).2⟩) (Cert.MixInDxReferenceIdeal.Value.run (F := Ideal) m' ρ')
  obtain ⟨h0, h1, h2⟩ := hagree c
  rw [h0, h1, h2]

/-- Of the projection's gradient in its weights: the kernel ends with its arguments as they were and every semaphore at zero, -/
theorem kernelDw : @Cert.quiescent_MixInDwKernel Cert.MixInDwKernel.Gen.facts := fun m ρ _ => Cert.MixInDwKernel.Gen.frame m ρ

/-- so does the idealized kernel, -/
theorem kernelIdealDw : @Cert.quiescent_MixInDwKernelIdeal Cert.MixInDwKernelIdeal.Gen.facts := fun m ρ _ => Cert.MixInDwKernelIdeal.Gen.frame m ρ

/-- so does the reference, -/
theorem referenceIdealDw : @Cert.quiescent_MixInDwReferenceIdeal Cert.MixInDwReferenceIdeal.Gen.facts := fun m ρ _ =>
  (θ_run Cert.MixInDwReferenceIdeal.defs _ _).mono (fun r h => ⟨fun c => (h c).2, Idealize.ShloMosaic.sem_eq_zero_of_no_sems (by decide) r.2⟩)
    (Cert.MixInDwReferenceIdeal.Value.run (F := Ideal) m ρ)

/-- and on the extended reals the two leave the same array. -/
theorem algebraicDw : @Cert.algebraic_MixInDwKernelIdeal_MixInDwReferenceIdeal Cert.MixInDwKernelIdeal.Gen.facts Cert.MixInDwReferenceIdeal.Gen.facts := by
  intro m ρ m' ρ' _ hagree
  refine ⟨fun c => _, (θ_run Cert.MixInDwKernelIdeal.defs _ _).mono (fun _ h c => ⟨(h c).1.trans (Cert.MixInDwKernelIdeal.Hand.final m c), (h c).2⟩)
    (Cert.MixInDwKernelIdeal.Value.run_blocks (F := Ideal) m ρ), ?_⟩
  refine (θ_run Cert.MixInDwReferenceIdeal.defs _ _).mono (fun _ h c => ⟨(h c).1.trans ?_, (h c).2⟩) (Cert.MixInDwReferenceIdeal.Value.run (F := Ideal) m' ρ')
  obtain ⟨h0, h1⟩ := hagree c
  rw [h0, h1]

end Cert.MixInClaim

end
-- ==== Proof.LnGrad.lean ====
/- The gradient of the layer norm of one row of 1024 entries, and the reference's arrays of it read at an index. -/
module

public import proofs.«01_k».proof.Proof.Gen.LnBwdReferenceIdeal.Run
public import proofs.«01_k».proof.Proof.LayerNorm
public import proofs.«01_k».proof.Proof.GateGrad
public import Idealize.ShloMosaic.Lib.Pointwise

@[expose] public section

set_option maxRecDepth 16384

noncomputable section

open Idealize.ShloMosaic Idealize.ShloMosaic.TcCoe Idealize.SL.Sem

namespace Cert.LnGrad

open Cert.LnBwdReferenceIdeal Cert.LnBwdReferenceIdeal.Gen
open Cert.LayerNorm (mean invDev M D R M_at D_at R_at)

/-- The variance of a row, kept from zero. -/
def spread (p : Fin 1024 → EReal) : EReal :=
  Ideal.div (∑ d : Fin 1024, (p d - mean p) * (p d - mean p)) (Ideal.ofBits FTy.f32 0x44800000#32) + Ideal.ofBits FTy.f32 0x3727C5AC#32

/-- What reaches entry `d` of the row past the mean and the deviation; `c` is the norm's cotangent and `g` its scale. -/
def direct (p g c : Fin 1024 → EReal) (d : Fin 1024) : EReal := c d * g d * invDev p

/-- What reaches the row's variance, spread over its entries. -/
def pull (p g c : Fin 1024 → EReal) : EReal :=
  Ideal.div ((∑ d : Fin 1024, (p d - mean p) * (c d * g d))
    * (Ideal.ofBits FTy.f32 0xBF000000#32 * Ideal.div (invDev p) (spread p))) (Ideal.ofBits FTy.f32 0x44800000#32)

/-- What reaches entry `d` through the variance. -/
def bent (p g c : Fin 1024 → EReal) (d : Fin 1024) : EReal := pull p g c * (Ideal.ofBits FTy.f32 0x40000000#32 * (p d - mean p))

/-- The cotangent of entry `d` of the row. -/
def grad (p g c : Fin 1024 → EReal) (d : Fin 1024) : EReal :=
  direct p g c d + bent p g c d
    + Ideal.div ((∑ k : Fin 1024, -direct p g c k) + ∑ k : Fin 1024, -bent p g c k) (Ideal.ofBits FTy.f32 0x44800000#32)

/-! ## The square's derivative in one term and in two -/

theorem two_val : Ideal.ofBits FTy.f32 0x40000000#32 = ((2 : ℝ) : EReal) := by
  simp [Ideal.ofBits, Ideal.ieee, -EReal.coe_mul]
  norm_num

theorem two_mul' (a b : EReal) : a * b + b * a = b * (Ideal.ofBits FTy.f32 0x40000000#32 * a) := by
  have h : b * (((2 : ℝ) : EReal) * a) = ((2 : ℝ) : EReal) * (b * a) := by rw [← mul_assoc, mul_comm b, mul_assoc]
  rw [two_val, h, mul_comm a b]
  generalize b * a = y
  induction y with
  | bot => rw [EReal.coe_mul_bot_of_pos (by norm_num)]; rfl
  | top => rw [EReal.coe_mul_top_of_pos (by norm_num)]; rfl
  | coe r => rw [← EReal.coe_add, ← EReal.coe_mul, two_mul]

/-! ## The reciprocal of the deviation is a number -/

theorem sq_nonneg' (x : EReal) : 0 ≤ x * x := by
  induction x with
  | bot => simp
  | top => simp
  | coe r => rw [← EReal.coe_mul]; exact EReal.coe_nonneg.mpr (mul_self_nonneg r)

theorem rsqrt_finite {x : EReal} (h : 0 < x) : ∃ r : ℝ, Ideal.rsqrt x = r := by
  induction x with
  | bot => exact absurd h (by simp)
  | top => exact ⟨0, rfl⟩
  | coe r =>
    have hr : 0 < r := EReal.coe_pos.mp h
    exact ⟨(Real.sqrt r)⁻¹, by rw [Ideal.rsqrt_coe, if_neg hr.not_gt, if_neg hr.ne']⟩

theorem div_nonneg' {s : EReal} (h : 0 ≤ s) {n : ℝ} (hn : 0 < n) : 0 ≤ Ideal.div s (n : EReal) := by
  rw [Ideal.div_coe hn.ne']
  exact mul_nonneg h (EReal.coe_nonneg.mpr (by positivity))

theorem width_val : Ideal.ofBits FTy.f32 0x44800000#32 = ((1024 : ℝ) : EReal) := by
  simp [Ideal.ofBits, Ideal.ieee, -EReal.coe_mul]
  norm_num

theorem eps_pos : 0 < Ideal.ofBits FTy.f32 0x3727C5AC#32 := by
  simp [Ideal.ofBits, Ideal.ieee, -EReal.coe_mul]

/-- A row's variance, kept from zero, is above zero. -/
theorem spread_pos (p : Fin 1024 → EReal) : 0 < spread p := by
  unfold spread
  rw [width_val]
  exact lt_of_lt_of_le eps_pos (le_add_of_nonneg_left
    (div_nonneg' (Finset.sum_nonneg fun d _ => sq_nonneg' _) (by norm_num)))

theorem invDev_finite (p : Fin 1024 → EReal) : ∃ r : ℝ, invDev p = r := rsqrt_finite (spread_pos p)

/-- The gradient as the tiled kernel sums it: the two terms of the square's derivative apart and the negated sum in one. -/
theorem grad_eq (p g c : Fin 1024 → EReal) (hg : ∀ d, ∃ r : ℝ, g d = r) (hc : ∀ d, ∃ r : ℝ, c d = r) (d : Fin 1024) :
    direct p g c d + (p d - mean p) * pull p g c + pull p g c * (p d - mean p)
      + Ideal.div (∑ k : Fin 1024, (0 - (direct p g c k + (p k - mean p) * pull p g c + pull p g c * (p k - mean p))))
          (Ideal.ofBits FTy.f32 0x44800000#32) = grad p g c d := by
  have hb : ∀ k, direct p g c k + (p k - mean p) * pull p g c + pull p g c * (p k - mean p) = direct p g c k + bent p g c k := fun k => by
    rw [add_assoc, two_mul' _ _]; rfl
  have hn : ∀ k, 0 - (direct p g c k + bent p g c k) = -direct p g c k + -bent p g c k := fun k => by
    obtain ⟨r, hr⟩ : ∃ r : ℝ, direct p g c k = r := GateGrad.mul_finite (GateGrad.mul_finite (hc k) (hg k)) (invDev_finite p)
    rw [zero_sub, EReal.neg_add (.inl (by rw [hr]; exact EReal.coe_ne_bot r)) (.inl (by rw [hr]; exact EReal.coe_ne_top r)), sub_eq_add_neg]
  unfold grad
  simp only [hb, hn, Finset.sum_add_distrib]

/-! ## The reference's arrays -/

variable (p : FVec Ideal S4096x1024 .f32) (g : FVec Ideal S1024 .f32) (c : FVec Ideal S4096x1024 .f32)

/-- The norm's scale on every row. -/
abbrev GB : FVec Ideal S4096x1024 .f32 :=
  broadcastInDim S4096x1024 ![0, 1] bcast_S1x1024_S4096x1024_0_1 (broadcastInDim S1x1024 ![1] bcast_S1024_S1x1024_1 g)

/-- The cotangent times the scale. -/
abbrev W : FVec Ideal S4096x1024 .f32 := mulf (shapeCast _ c shapeCasts_S4096x1024_S4096x1024) (GB g)

/-- The variances, kept from zero, a column. -/
abbrev VE : FVec Ideal S4096x1 .f32 :=
  addf (M (mulf (D p) (D p))) (broadcastInDim S4096x1 ![] bcast_S_S4096x1 (constant S_ .f32 0x3727C5AC#32))

/-- What reaches every entry past the mean and the deviation. -/
abbrev A : FVec Ideal S4096x1024 .f32 := mulf (W g c) (broadcastInDim S4096x1024 ![0, 1] bcast_S4096x1_S4096x1024_0_1 (R p))

/-- What reaches every row's variance, a column. -/
abbrev Q : FVec Ideal S4096x1 .f32 :=
  Host.divf (mulf (shapeCast _ (Host.reduceAdd (mulf (D p) (W g c)) (constant S_ .f32 0x00000000#32) reducesTo_S4096x1024_S4096_d1 h_S_) shapeCasts_S4096_S4096x1)
    (mulf (broadcastInDim S4096x1 ![] bcast_S_S4096x1 (constant S_ .f32 0xBF000000#32)) (Host.divf (R p) (VE p))))
    (broadcastInDim S4096x1 ![] bcast_S_S4096x1 (constant S_ .f32 0x44800000#32))

/-- What reaches every entry through the variance. -/
abbrev B : FVec Ideal S4096x1024 .f32 :=
  mulf (broadcastInDim S4096x1024 ![0] bcast_S4096_S4096x1024_0 (Host.reduceAdd (Q p g c) (constant S_ .f32 0x00000000#32) reducesTo_S4096x1_S4096_d1 h_S_))
    (mulf (broadcastInDim S4096x1024 ![] bcast_S_S4096x1024 (constant S_ .f32 0x40000000#32)) (D p))

/-- The negated sum of a row, a column. -/
abbrev N (x : FVec Ideal S4096x1024 .f32) : FVec Ideal S4096x1 .f32 :=
  shapeCast _ (Host.reduceAdd (Host.negf x) (constant S_ .f32 0x00000000#32) reducesTo_S4096x1024_S4096_d1 h_S_) shapeCasts_S4096_S4096x1

/-- What reaches every row's mean, spread over its entries, a column. -/
abbrev C (a b : FVec Ideal S4096x1024 .f32) : FVec Ideal S4096x1 .f32 :=
  Host.divf (addf (N a) (N b)) (broadcastInDim S4096x1 ![] bcast_S_S4096x1 (constant S_ .f32 0x44800000#32))

/-- The cotangents of the norm's input. -/
abbrev DP : FVec Ideal S4096x1024 .f32 :=
  addf (addf (A p g c) (B p g c))
    (broadcastInDim S4096x1024 ![0] bcast_S4096_S4096x1024_0 (Host.reduceAdd (C (A p g c) (B p g c)) (constant S_ .f32 0x00000000#32) reducesTo_S4096x1_S4096_d1 h_S_))

/-- The sum of the columns, a row. -/
abbrev SUM (x : FVec Ideal S4096x1024 .f32) : FVec Ideal S1x1024 .f32 :=
  shapeCast _ (Host.reduceAdd (shapeCast _ (Host.reduceAdd x (constant S_ .f32 0x00000000#32) reducesTo_S4096x1024_S1024_d0 h_S_) shapeCasts_S1024_S1x1024)
    (constant S_ .f32 0x00000000#32) reducesTo_S1x1024_S1024_d0 h_S_) shapeCasts_S1024_S1x1024

/-- The scale's cotangent before its sum over the rows. -/
abbrev XC : FVec Ideal S4096x1024 .f32 :=
  mulf (mulf (D p) (broadcastInDim S4096x1024 ![0, 1] bcast_S4096x1_S4096x1024_0_1 (R p))) (shapeCast _ c shapeCasts_S4096x1024_S4096x1024)

theorem W_at (t : Fin 4096) (d : Fin 1024) : W g c (ix2 t d) = c (ix2 t d) * g (ix1 d) := by
  pointwise

theorem VE_at (t : Fin 4096) (z : Fin 1) : VE p (ix2 t z) = spread fun d => p (ix2 t d) := by
  unfold spread
  simp only [← D_at]
  refine Eq.trans (b := M (mulf (D p) (D p)) (ix2 t z) + Ideal.ofBits FTy.f32 0x3727C5AC#32) (by pointwise) ?_
  rw [M_at]
  rfl

theorem A_at (t : Fin 4096) (d : Fin 1024) :
    A p g c (ix2 t d) = direct (fun d => p (ix2 t d)) (fun d => g (ix1 d)) (fun d => c (ix2 t d)) d := by
  unfold direct
  rw [← W_at, ← R_at p t 0]
  unfold A
  generalize W g c = w
  generalize R p = r
  pointwise

theorem Q_at (t : Fin 4096) (z : Fin 1) :
    Q p g c (ix2 t z) = pull (fun d => p (ix2 t d)) (fun d => g (ix1 d)) (fun d => c (ix2 t d)) := by
  unfold pull
  simp only [← W_at, ← R_at p t z, ← VE_at p t z, ← D_at]
  unfold Q
  generalize W g c = w
  generalize VE p = v
  generalize R p = r
  generalize D p = x
  pointwise

theorem B_at (t : Fin 4096) (d : Fin 1024) :
    B p g c (ix2 t d) = bent (fun d => p (ix2 t d)) (fun d => g (ix1 d)) (fun d => c (ix2 t d)) d := by
  unfold bent
  rw [← Q_at p g c t 0, ← D_at]
  unfold B
  generalize Q p g c = q
  generalize D p = x
  pointwise
  rw [Fin.sum_univ_one]

theorem DP_at (t : Fin 4096) (d : Fin 1024) :
    DP p g c (ix2 t d) = grad (fun d => p (ix2 t d)) (fun d => g (ix1 d)) (fun d => c (ix2 t d)) d := by
  unfold grad
  simp only [← A_at, ← B_at]
  unfold DP
  generalize A p g c = a
  generalize B p g c = b
  pointwise
  rw [Fin.sum_univ_one]

theorem SUM_at (x : FVec Ideal S4096x1024 .f32) (z : Fin 1) (d : Fin 1024) : SUM x (ix2 z d) = ∑ t : Fin 4096, x (ix2 t d) := by
  pointwise
  exact Fin.sum_univ_one _

theorem XC_at (t : Fin 4096) (d : Fin 1024) :
    XC p c (ix2 t d) = (p (ix2 t d) - mean fun d => p (ix2 t d)) * invDev (fun d => p (ix2 t d)) * c (ix2 t d) := by
  rw [← D_at, ← R_at p t 0]
  unfold XC
  generalize D p = x
  generalize R p = r
  pointwise

end Cert.LnGrad

end
-- ==== Proof.LnBwdValue.lean ====
/- The layer norm's gradient: the three arrays the tiled kernel leaves.  The kernel takes 512 rows at a time; the gradients
   of the scale and of the shift are one row each, to which every tile adds its sum. -/
module

public import proofs.«01_k».proof.Proof.Gen.LnBwdKernelIdeal.Value
public import proofs.«01_k».proof.Proof.LnGrad
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LnBwdKernelIdeal.Hand

open Cert.LnBwdKernelIdeal Cert.LnBwdKernelIdeal.Gen
open Cert.LayerNorm (mean invDev)
open Cert.LnGrad (spread direct pull grad)

variable (m : (ℓ : Loc nD τ sig) → Buf (Elt Ideal) ℓ)

/-- The norm's input. -/
abbrev aP (c : Dev nD) : FVec Ideal S4096x1024 .f32 := m ((c : Thread nD τ).loc main_arg0)
/-- The norm's scale. -/
abbrev aS (c : Dev nD) : FVec Ideal S1024 .f32 := m ((c : Thread nD τ).loc main_arg1)
/-- The norm's cotangent. -/
abbrev aC (c : Dev nD) : FVec Ideal S4096x1024 .f32 := m ((c : Thread nD τ).loc main_arg3)

/-- Which block each window shows at grid point `t`: tile `t` of the rows, or the one row of a window of one row. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-! ## The input blocks -/

/-- The row of the arrays at row `p` of tile `t`. -/
def row (t : Fin cfg0.N) (p : Fin 512) : Fin 4096 :=
  ⟨t.val * 512 + p.val, by have := lt_of_lt_of_eq t.isLt N_0; omega⟩

theorem in_blk (c : Dev nD) (t : Fin cfg0.N) (p : Fin 512) (k : Fin 1024) (r : Fin 4096) (hr : r.val = t.val * 512 + p.val) :
    (show FVec Ideal S512x1024 .f32 from iblk m c 0 t) (ix2 p k) = aP m c (ix2 r k) := by
  blk_ext [iblk, V, idx t]

theorem ct_blk (c : Dev nD) (t : Fin cfg0.N) (p : Fin 512) (k : Fin 1024) (r : Fin 4096) (hr : r.val = t.val * 512 + p.val) :
    (show FVec Ideal S512x1024 .f32 from iblk m c 3 t) (ix2 p k) = aC m c (ix2 r k) := by
  blk_ext [iblk, V, idx t]

theorem scale_blk (c : Dev nD) (t : Fin cfg0.N) (z : Fin 1) (k : Fin 1024) :
    (show FVec Ideal S1x1024 .f32 from iblk m c 1 t) (ix2 z k) = aS m c (ix1 k) := by
  blk_simp [iblk, idx t]
  entry_read
  pointwise
  blk_point [iblk, V, idx t]

/-! ## What the body computes of one tile, row by row -/

variable (v0 v3 : FVec Ideal S512x1024 .f32) (v1 : FVec Ideal S1x1024 .f32)

theorem dev_at (p : Fin 512) (d : Fin 1024) :
    k0_pay4 (F := Ideal) v0 (ix2 p d) = v0 (ix2 p d) - mean fun d => v0 (ix2 p d) := by
  unfold mean
  pointwise [k0_pay4]

theorem spread_at (p : Fin 512) (z : Fin 1) : k0_pay5 (F := Ideal) v0 (ix2 p z) = spread fun d => v0 (ix2 p d) := by
  unfold spread
  simp only [← dev_at]
  unfold k0_pay5
  generalize k0_pay4 (F := Ideal) v0 = x
  pointwise

theorem invDev_at (p : Fin 512) (z : Fin 1) : k0_pay6 (F := Ideal) v0 (ix2 p z) = invDev fun d => v0 (ix2 p d) := by
  refine Eq.trans (b := Ideal.rsqrt (k0_pay5 (F := Ideal) v0 (ix2 p z))) ?_ (by rw [spread_at]; rfl)
  unfold k0_pay6
  generalize k0_pay5 (F := Ideal) v0 = x
  pointwise

theorem scaled_at (p : Fin 512) (d : Fin 1024) : k0_pay10 (F := Ideal) v1 v3 (ix2 p d) = v3 (ix2 p d) * v1 (ix2 0 d) := by
  pointwise [k0_pay10, k0_pay7]

theorem direct_at (p : Fin 512) (d : Fin 1024) : k0_pay11 (F := Ideal) v0 v1 v3 (ix2 p d)
    = direct (fun d => v0 (ix2 p d)) (fun d => v1 (ix2 0 d)) (fun d => v3 (ix2 p d)) d := by
  unfold direct
  rw [← scaled_at, ← invDev_at v0 p 0]
  unfold k0_pay11
  generalize k0_pay10 (F := Ideal) v1 v3 = w
  generalize k0_pay6 (F := Ideal) v0 = r
  pointwise

theorem pull_at (p : Fin 512) (d : Fin 1024) : k0_pay12 (F := Ideal) v0 v1 v3 (ix2 p d)
    = pull (fun d => v0 (ix2 p d)) (fun d => v1 (ix2 0 d)) (fun d => v3 (ix2 p d)) := by
  unfold pull
  simp only [← scaled_at v3 v1, ← invDev_at v0 p 0, ← spread_at v0 p 0, ← dev_at]
  unfold k0_pay12
  generalize k0_pay10 (F := Ideal) v1 v3 = w
  generalize k0_pay6 (F := Ideal) v0 = r
  generalize k0_pay5 (F := Ideal) v0 = s
  generalize k0_pay4 (F := Ideal) v0 = x
  pointwise
  exact Fin.sum_univ_one _

/-- The body's cotangent of one tile's rows. -/
theorem grad_at (p : Fin 512) (d : Fin 1024) (hg : ∀ d, ∃ r : ℝ, v1 (ix2 0 d) = r) (hc : ∀ d, ∃ r : ℝ, v3 (ix2 p d) = r) :
    k0_pay1 (F := Ideal) (k0_pay4 (F := Ideal) v0) (k0_pay11 (F := Ideal) v0 v1 v3) (k0_pay12 (F := Ideal) v0 v1 v3) (ix2 p d)
      = grad (fun d => v0 (ix2 p d)) (fun d => v1 (ix2 0 d)) (fun d => v3 (ix2 p d)) d := by
  rw [← LnGrad.grad_eq _ _ _ hg hc]
  simp only [← dev_at, ← direct_at]
  have hp : ∀ k, pull (fun d => v0 (ix2 p d)) (fun d => v1 (ix2 0 d)) (fun d => v3 (ix2 p d)) = k0_pay12 (F := Ideal) v0 v1 v3 (ix2 p k) :=
    fun k => (pull_at v0 v3 v1 p k).symm
  refine Eq.trans ?_ (congrArg₂ (fun (a : EReal) (f : Fin 1024 → EReal) => k0_pay11 (F := Ideal) v0 v1 v3 (ix2 p d)
      + k0_pay4 (F := Ideal) v0 (ix2 p d) * a + a * k0_pay4 (F := Ideal) v0 (ix2 p d)
      + Ideal.div (∑ k : Fin 1024, (0 - (k0_pay11 (F := Ideal) v0 v1 v3 (ix2 p k) + k0_pay4 (F := Ideal) v0 (ix2 p k) * f k
          + f k * k0_pay4 (F := Ideal) v0 (ix2 p k)))) (Ideal.ofBits FTy.f32 0x44800000#32)) (hp d).symm (funext fun k => (hp k).symm))
  unfold k0_pay1
  generalize k0_pay12 (F := Ideal) v0 v1 v3 = w
  generalize k0_pay11 (F := Ideal) v0 v1 v3 = r
  generalize k0_pay4 (F := Ideal) v0 = x
  pointwise
  rw [Fin.sum_univ_one]

/-- One tile's part of the shift's gradient. -/
theorem shift_at (z : Fin 1) (d : Fin 1024) : k0_pay8 (F := Ideal) v3 (ix2 z d) = ∑ p : Fin 512, v3 (ix2 p d) := by
  pointwise [k0_pay8]

/-- One entry's part of the scale's gradient. -/
def normed (p c : Fin 1024 → EReal) (d : Fin 1024) : EReal := (p d - mean p) * invDev p * c d

/-- One tile's part of the scale's gradient. -/
theorem scale_at (z : Fin 1) (d : Fin 1024) : k0_pay9 (F := Ideal) v0 v3 (ix2 z d)
    = ∑ p : Fin 512, normed (fun d => v0 (ix2 p d)) (fun d => v3 (ix2 p d)) d := by
  unfold normed
  simp only [← dev_at, ← fun p => invDev_at v0 p 0]
  unfold k0_pay9
  generalize k0_pay6 (F := Ideal) v0 = r
  generalize k0_pay4 (F := Ideal) v0 = x
  pointwise [k0_pay7]

theorem add5_at (a b : FVec Ideal S1x1024 .f32) (y : S1x1024.Idx) : k0_pay2 (F := Ideal) a b y = b y + a y := by
  pointwise [k0_pay2]

theorem add6_at (a b : FVec Ideal S1x1024 .f32) (y : S1x1024.Idx) : k0_pay3 (F := Ideal) a b y = b y + a y := by
  pointwise [k0_pay3]

/-! ## The arrays after the run -/

theorem in_row (c : Dev nD) (t : Fin cfg0.N) (p : Fin 512) :
    (fun d => (show FVec Ideal S512x1024 .f32 from iblk m c 0 t) (ix2 p d)) = fun d => aP m c (ix2 (row t p) d) :=
  funext fun d => in_blk m c t p d (row t p) rfl

theorem ct_row (c : Dev nD) (t : Fin cfg0.N) (p : Fin 512) :
    (fun d => (show FVec Ideal S512x1024 .f32 from iblk m c 3 t) (ix2 p d)) = fun d => aC m c (ix2 (row t p) d) :=
  funext fun d => ct_blk m c t p d (row t p) rfl

theorem scale_row (c : Dev nD) (t : Fin cfg0.N) :
    (fun d => (show FVec Ideal S1x1024 .f32 from iblk m c 1 t) (ix2 0 d)) = fun d => aS m c (ix1 d) :=
  funext fun d => scale_blk m c t 0 d

/-- The cotangents the body leaves of one tile. -/
theorem grad_blk (c : Dev nD) (t : Fin cfg0.N) (hg : ∀ i, ∃ r : ℝ, aS m c i = r) (hc : ∀ i, ∃ r : ℝ, aC m c i = r)
    (p : Fin 512) (d : Fin 1024) :
    k0_pay1 (F := Ideal) (k0_pay4 (F := Ideal) (iblk m c 0 t)) (k0_pay11 (F := Ideal) (iblk m c 0 t) (iblk m c 1 t) (iblk m c 3 t))
        (k0_pay12 (F := Ideal) (iblk m c 0 t) (iblk m c 1 t) (iblk m c 3 t)) (ix2 p d)
      = grad (fun d => aP m c (ix2 (row t p) d)) (fun d => aS m c (ix1 d)) (fun d => aC m c (ix2 (row t p) d)) d := by
  rw [← in_row, ← ct_row, ← scale_row m c t]
  exact grad_at _ _ _ p d (fun d => (hg (ix1 d)).imp fun r hr => (scale_blk m c t 0 d).trans hr)
    fun d => (hc (ix2 (row t p) d)).imp fun r hr => (ct_blk m c t p d _ rfl).trans hr

/-- One tile's part of the scale's gradient, in terms of the arrays. -/
theorem normed_blk (c : Dev nD) (t : Fin cfg0.N) (y : S1x1024.Idx) :
    k0_pay9 (F := Ideal) (iblk m c 0 t) (iblk m c 3 t) y
      = ∑ p : Fin 512, normed (fun d => aP m c (ix2 (row t p) d)) (fun d => aC m c (ix2 (row t p) d)) (y 1) := by
  refine (congrArg _ (eq_ix2 (n0 := 1) (n1 := 1024) y)).trans ((scale_at _ _ (y 0) (y 1)).trans ?_)
  exact Finset.sum_congr rfl fun p _ => congrArg₂ (fun a b => normed a b (y 1)) (in_row m c t p) (ct_row m c t p)

/-- One tile's part of the shift's gradient, in terms of the arrays. -/
theorem shift_blk (c : Dev nD) (t : Fin cfg0.N) (y : S1x1024.Idx) :
    k0_pay8 (F := Ideal) (iblk m c 3 t) y = ∑ p : Fin 512, aC m c (ix2 (row t p) (y 1)) := by
  refine (congrArg _ (eq_ix2 (n0 := 1) (n1 := 1024) y)).trans ((shift_at _ (y 0) (y 1)).trans ?_)
  exact Finset.sum_congr rfl fun p _ => ct_blk m c t p (y 1) (row t p) rfl

/-- The cotangents of the norm's input. -/
theorem final4 (c : Dev nD) (hg : ∀ i, ∃ r : ℝ, aS m c i = r) (hc : ∀ i, ∃ r : ℝ, aC m c i = r) :
    (dats m 0 c).arrAt 4 (cfgs 0).N = fun i : S4096x1024.Idx =>
      grad (fun d => aP m c (ix2 (i 0) d)) (fun d => aS m c (ix1 d)) (fun d => aC m c (ix2 (i 0) d)) (i 1) := by
  refine (dats m 0 c).arrAt_eq_of_covers 4 _ (by decide +kernel) fun t hf y => ?_
  blk_simp
  have h : (outsAt0 m c t.val t.isLt).1 = k0_pay1 (F := Ideal) (k0_pay4 (F := Ideal) (iblk m c 0 t))
      (k0_pay11 (F := Ideal) (iblk m c 0 t) (iblk m c 1 t) (iblk m c 3 t))
      (k0_pay12 (F := Ideal) (iblk m c 0 t) (iblk m c 1 t) (iblk m c 3 t)) := by
    have hN := lt_of_lt_of_eq t.isLt N_0
    by_cases h0 : t.val % 8 = 0
    · rw [outsAt0_A m c t h0 (by omega)]; frame_out
    · rw [outsAt0_B m c t h0 (by omega)]; frame_out
  have hr : ((win0_4.blk t).view.emb y 0 : Fin 4096) = row t (y 0) := Fin.ext (by
    unfold row
    blk_simp [idx t])
  have hd : ((win0_4.blk t).view.emb y 1 : Fin 1024) = (y 1 : Fin 1024) := Fin.ext (by
    blk_simp [idx t] <;> try omega)
  rw [after0_4, h, hr, hd]
  exact (congrArg _ (eq_ix2 (n0 := 512) (n1 := 1024) y)).trans (grad_blk m c t hg hc (y 0) (y 1))

/-- The gradient of the norm's scale. -/
theorem final5 (c : Dev nD) : (dats m 0 c).arrAt 5 (cfgs 0).N = fun i : S1x1024.Idx =>
    ∑ r : Fin 4096, normed (fun d => aP m c (ix2 r d)) (fun d => aC m c (ix2 r d)) (i 1) := by
  refine (dats m 0 c).arrAt_eq_of_covers 5 _ (by decide +kernel) fun t hf y => ?_
  have h7 : t.val % 8 = 7 := (flush0_5 t).mp hf
  blk_simp
  have hd : ((win0_5.blk t).view.emb y 1 : Fin 1024) = (y 1 : Fin 1024) := Fin.ext (by
    blk_simp [idx t] <;> try omega)
  rw [after0_5, hd, Pipeline.eq_sum_fin_of_reset_step_apply_of_flush (fun n h => (outsAt0 m c n h).2.1) 8 (fun _ => (0 : EReal))
    (fun q y => ∑ p : Fin 512, normed (fun d => aP m c (ix2 (row q p) d)) (fun d => aC m c (ix2 (row q p) d)) (y 1))
    (fun t h j => by
      have := lt_of_lt_of_eq t.isLt N_0
      rw [outsAt0_A m c t h (by omega), ← normed_blk, zero_add]; frame_out)
    (fun t h j => by
      rw [outsAt0_B m c t h (by omega), ← normed_blk]; frame_out
      exact add5_at _ _ j)
    t h7 _, zero_add]
  refine Fin.sum_mul_add_congr fun s k hl => ?_
  refine congrArg (fun a => normed (fun d => aP m c (ix2 a d)) (fun d => aC m c (ix2 a d)) (y 1)) (Fin.ext ?_)
  have := lt_of_lt_of_eq t.isLt N_0
  show (8 * (t.val / 8) + s.val) * 512 + k.val = s.val * 512 + k.val
  omega

/-- The gradient of the norm's shift. -/
theorem final6 (c : Dev nD) : (dats m 0 c).arrAt 6 (cfgs 0).N = fun i : S1x1024.Idx =>
    ∑ r : Fin 4096, aC m c (ix2 r (i 1)) := by
  refine (dats m 0 c).arrAt_eq_of_covers 6 _ (by decide +kernel) fun t hf y => ?_
  have h7 : t.val % 8 = 7 := (flush0_6 t).mp hf
  blk_simp
  have hd : ((win0_6.blk t).view.emb y 1 : Fin 1024) = (y 1 : Fin 1024) := Fin.ext (by
    blk_simp [idx t] <;> try omega)
  rw [after0_6, hd, Pipeline.eq_sum_fin_of_reset_step_apply_of_flush (fun n h => (outsAt0 m c n h).2.2) 8 (fun _ => (0 : EReal))
    (fun q y => ∑ p : Fin 512, aC m c (ix2 (row q p) (y 1)))
    (fun t h j => by
      have := lt_of_lt_of_eq t.isLt N_0
      rw [outsAt0_A m c t h (by omega), ← shift_blk, zero_add]; frame_out)
    (fun t h j => by
      rw [outsAt0_B m c t h (by omega), ← shift_blk]; frame_out
      exact add6_at _ _ j)
    t h7 _, zero_add]
  refine Fin.sum_mul_add_congr fun s k hl => ?_
  refine congrArg (fun a => aC m c (ix2 a (y 1))) (Fin.ext ?_)
  have := lt_of_lt_of_eq t.isLt N_0
  show (8 * (t.val / 8) + s.val) * 512 + k.val = s.val * 512 + k.val
  omega

end Cert.LnBwdKernelIdeal.Hand

end
-- ==== Proof.LnBwdClaim.lean ====
/- The claims about the layer norm's gradient. -/
module

public import proofs.«01_k».proof.Defs
public import proofs.«01_k».proof.Proof.Gen.LnBwdKernel.Frame
public import proofs.«01_k».proof.Proof.Gen.LnBwdKernelIdeal.Frame
public import proofs.«01_k».proof.Proof.LnBwdValue
public import proofs.«01_k».proof.Proof.FfnBwdRef
public import proofs.«01_k».proof.Proof.Gen.Pre_finite_norm
public import Idealize.ShloMosaic.Adequacy
public import Idealize.ShloMosaic.Init

@[expose] public section

set_option maxRecDepth 16384

noncomputable section

open Idealize.ShloMosaic Idealize.ShloMosaic.TcCoe Idealize.SL.Sem

namespace Cert.LnBwdClaim

/-- The kernel ends with its arguments as they were and every semaphore at zero. -/
theorem kernel : @Cert.quiescent_LnBwdKernel Cert.LnBwdKernel.Gen.facts := fun m ρ _ => Cert.LnBwdKernel.Gen.frame m ρ

/-- So does the idealized kernel. -/
theorem kernelIdeal : @Cert.quiescent_LnBwdKernelIdeal Cert.LnBwdKernelIdeal.Gen.facts := fun m ρ _ => Cert.LnBwdKernelIdeal.Gen.frame m ρ

/-- So does the reference. -/
theorem referenceIdeal : @Cert.quiescent_LnBwdReferenceIdeal Cert.LnBwdReferenceIdeal.Gen.facts := fun m ρ _ =>
  (θ_run Cert.LnBwdReferenceIdeal.defs _ _).mono (fun r h => ⟨fun c => (h c).2.2.2, Idealize.ShloMosaic.sem_eq_zero_of_no_sems (by decide) r.2⟩)
    (Cert.LnBwdReferenceIdeal.Value.run (F := Ideal) m ρ)

/-- The idealized kernel's frame, the scale and the cotangent finite. -/
theorem kernelIdeal_pre : @Cert.quiescent_LnBwdKernelIdeal_pre_finite_norm Cert.LnBwdKernelIdeal.Gen.facts Cert.Pre_finite_norm.Gen.facts :=
  fun m ρ _ => kernelIdeal m ρ trivial

/-- The reference's frame, the scale and the cotangent finite. -/
theorem referenceIdeal_pre : @Cert.quiescent_LnBwdReferenceIdeal_pre_finite_norm Cert.LnBwdReferenceIdeal.Gen.facts Cert.Pre_finite_norm.Gen.facts :=
  fun m ρ _ => referenceIdeal m ρ trivial

open Cert.LnBwdReferenceIdeal in
/-- What the precondition says of the scale and the cotangent. -/
theorem finite_of_pre [Cert.Pre_finite_norm.Facts] {p c : FVec Ideal S4096x1024 .f32} {g b : FVec Ideal S1024 .f32}
    (h : (Cert.Pre_finite_norm.fn (F := Ideal) p g b c).1 = (fun _ => 1#1)
      ∧ (Cert.Pre_finite_norm.fn (F := Ideal) p g b c).2 = (fun _ => 1#1)) :
    (∀ i, ∃ r : ℝ, g i = r) ∧ ∀ i, ∃ r : ℝ, c i = r :=
  ⟨FfnBwdMath.finite_of_test g _ h.1, FfnBwdMath.finite_of_test c _ h.2⟩

/-- On the extended reals the kernel and the reference leave the same three arrays, the scale and the cotangent finite. -/
theorem algebraic : @Cert.algebraic_LnBwdKernelIdeal_LnBwdReferenceIdeal_pre_finite_norm Cert.LnBwdKernelIdeal.Gen.facts
    Cert.LnBwdReferenceIdeal.Gen.facts Cert.Pre_finite_norm.Gen.facts := by
  intro m ρ m' ρ' hpre hagree
  have hf := fun c => @finite_of_pre Cert.Pre_finite_norm.Gen.facts _ _ _ _ (hpre c)
  refine ⟨fun c => _, fun c => _, fun c => _, (θ_run Cert.LnBwdKernelIdeal.defs _ _).mono (fun _ h c =>
    ⟨(h c).1.trans (Cert.LnBwdKernelIdeal.Hand.final4 m c (hf c).1 (hf c).2), (h c).2.1.trans (Cert.LnBwdKernelIdeal.Hand.final5 m c),
      (h c).2.2.1.trans (Cert.LnBwdKernelIdeal.Hand.final6 m c), (h c).2.2.2⟩)
    (Cert.LnBwdKernelIdeal.Value.run_blocks (F := Ideal) m ρ), ?_⟩
  refine (θ_run Cert.LnBwdReferenceIdeal.defs _ _).mono (fun _ h c => ?_) (Cert.LnBwdReferenceIdeal.Value.run (F := Ideal) m' ρ')
  obtain ⟨h0, h1, h2, h3⟩ := hagree c
  obtain ⟨r0, r1, r2, r3⟩ := h c
  unfold Cert.LnBwdReferenceIdeal.Value.res_main_v62 at r0
  rw [h0, h1, h3] at r0
  rw [h0, h3] at r1
  rw [h3] at r2
  refine ⟨r0.trans ?_, r1.trans ?_, r2.trans ?_, r3⟩
  · funext i
    exact (congrArg _ (eq_ix2 (n0 := 4096) (n1 := 1024) i)).trans (LnGrad.DP_at _ _ _ (i 0) (i 1))
  · funext i
    refine (congrArg _ (eq_ix2 (n0 := 1) (n1 := 1024) i)).trans ((LnGrad.SUM_at (LnGrad.XC _ _) (i 0) (i 1)).trans ?_)
    exact Finset.sum_congr rfl fun t _ => LnGrad.XC_at _ _ t (i 1)
  · funext i
    exact (congrArg _ (eq_ix2 (n0 := 1) (n1 := 1024) i)).trans (LnGrad.SUM_at _ (i 0) (i 1))

end Cert.LnBwdClaim

end
-- ==== Proof.MixOutMath.lean ====
/- The mixers' output, row by row: the mixers' three outputs, the last one gated, each normed by its root mean square, side
   by side through the output projection, added to the weighed residual and normed; and the reference's arrays of it read at
   an index. -/
module

public import proofs.«01_k».proof.Proof.Gen.MixOutReferenceIdeal.Run
public import proofs.«01_k».proof.Proof.LayerNorm
public import proofs.«01_k».proof.Proof.GateGrad
public import Idealize.ShloMosaic.Lib.Pointwise

@[expose] public section

set_option maxRecDepth 16384

noncomputable section

open Idealize.ShloMosaic Idealize.ShloMosaic.TcCoe Idealize.SL.Sem

namespace Cert.MixOutMath

open Cert.MixOutReferenceIdeal Cert.MixOutReferenceIdeal.Gen

/-- The hyperbolic tangent inside the smooth rectifier. -/
def bend (x : EReal) : EReal :=
  Ideal.tanh (Ideal.ofBits FTy.f32 0x3F4C422A#32 * (x + Ideal.ofBits FTy.f32 0x3D372713#32 * (x * x * x)))

/-- The smooth rectifier. -/
def gelu (x : EReal) : EReal := x * (Ideal.ofBits FTy.f32 0x3F000000#32 * (1 + bend x))

theorem gelu_eq (x : EReal) : Ideal.ofBits FTy.f32 0x3F000000#32 * x * (1 + bend x) = gelu x := by
  unfold gelu
  rw [mul_comm (Ideal.ofBits FTy.f32 0x3F000000#32) x, mul_assoc]

/-- The gate's logit at column `e`, of a row `y` of rectified entries. -/
def logit (y : Fin 256 → EReal) (w : Fin 256 → Fin 256 → EReal) (e : Fin 256) : EReal := ∑ k : Fin 256, y k * w k e

/-- The gated row. -/
def gated (y : Fin 256 → EReal) (w : Fin 256 → Fin 256 → EReal) (e : Fin 256) : EReal :=
  gelu (y e) * Ideal.logistic (logit (fun k => gelu (y k)) w e)

/-- The mean of a row's squares, kept from zero; `w` is the row's width. -/
def square (w : EReal) {n : ℕ} (p : Fin n → EReal) : EReal := Ideal.div (∑ d : Fin n, p d * p d) w + Ideal.ofBits FTy.f32 0x358637BD#32

/-- A row over its root mean square, with scale `g`. -/
def rms (w : EReal) {n : ℕ} (p g : Fin n → EReal) (d : Fin n) : EReal := p d * Ideal.rsqrt (square w p) * g d

/-- Three rows side by side. -/
def joined (a b : Fin 384 → EReal) (c : Fin 256 → EReal) (d : Fin 1024) : EReal :=
  if h : d.val < 384 then a ⟨d.val, h⟩
  else if h' : d.val - 384 < 384 then b ⟨d.val - 384, h'⟩ else c ⟨d.val - 384 - 384, by omega⟩

/-- The three normed rows side by side. -/
def blend (a b : Fin 384 → EReal) (c : Fin 256 → EReal) (ga gb : Fin 384 → EReal) (gc : Fin 256 → EReal) : Fin 1024 → EReal :=
  joined (rms (Ideal.ofBits FTy.f32 0x43C00000#32) a ga) (rms (Ideal.ofBits FTy.f32 0x43C00000#32) b gb)
    (rms (Ideal.ofBits FTy.f32 0x43800000#32) c gc)

/-- The weighed residual and the projected row. -/
def pre (x o : Fin 1024 → EReal) (w : Fin 1024 → Fin 1024 → EReal) (d : Fin 1024) : EReal :=
  Ideal.ofBits FTy.f32 0x3FB504F3#32 * x d + ∑ k : Fin 1024, o k * w k d

/-! ## The reference's arrays -/

/-- The rectified entries. -/
abbrev GELU (y : FVec Ideal S4096x256 .f32) : FVec Ideal S4096x256 .f32 :=
  mulf y (mulf (broadcastInDim S4096x256 ![] bcast_S_S4096x256 (constant S_ .f32 0x3F000000#32))
    (addf (broadcastInDim S4096x256 ![] bcast_S_S4096x256 (constant S_ .f32 0x3F800000#32))
      (Host.tanh (mulf (broadcastInDim S4096x256 ![] bcast_S_S4096x256 (constant S_ .f32 0x3F4C422A#32))
        (addf y (mulf (broadcastInDim S4096x256 ![] bcast_S_S4096x256 (constant S_ .f32 0x3D372713#32)) (mulf (mulf y y) y)))))))

/-- The gates. -/
abbrev OPEN (y : FVec Ideal S4096x256 .f32) (w : FVec Ideal S256x256 .f32) : FVec Ideal S4096x256 .f32 :=
  Host.divf (broadcastInDim S4096x256 ![] bcast_S_S4096x256 (constant S_ .f32 0x3F800000#32))
    (addf (broadcastInDim S4096x256 ![] bcast_S_S4096x256 (constant S_ .f32 0x3F800000#32))
      (Host.exp (Host.negf (Host.dotGeneral dot_S4096x256_S256x256_S4096x256_1_0_0_1_n_n none (GELU y) w))))

/-- The gated rows. -/
abbrev GATED (y : FVec Ideal S4096x256 .f32) (w : FVec Ideal S256x256 .f32) : FVec Ideal S4096x256 .f32 := mulf (GELU y) (OPEN y w)

/-- The means of the rows' squares, kept from zero, a column. -/
abbrev SQ384 (x : FVec Ideal S4096x384 .f32) : FVec Ideal S4096x1 .f32 :=
  addf (Host.divf (broadcastInDim S4096x1 ![0] bcast_S4096_S4096x1_0 (Host.reduceAdd (mulf x x) (constant S_ .f32 0x00000000#32) reducesTo_S4096x384_S4096_d1 h_S_))
      (broadcastInDim S4096x1 ![] bcast_S_S4096x1 (constant S_ .f32 0x43C00000#32)))
    (broadcastInDim S4096x1 ![] bcast_S_S4096x1 (constant S_ .f32 0x358637BD#32))

/-- The same of rows of 256 entries. -/
abbrev SQ256 (x : FVec Ideal S4096x256 .f32) : FVec Ideal S4096x1 .f32 :=
  addf (Host.divf (broadcastInDim S4096x1 ![0] bcast_S4096_S4096x1_0 (Host.reduceAdd (mulf x x) (constant S_ .f32 0x00000000#32) reducesTo_S4096x256_S4096_d1 h_S_))
      (broadcastInDim S4096x1 ![] bcast_S_S4096x1 (constant S_ .f32 0x43800000#32)))
    (broadcastInDim S4096x1 ![] bcast_S_S4096x1 (constant S_ .f32 0x358637BD#32))

/-- The rows over their root mean squares. -/
abbrev X384 (x : FVec Ideal S4096x384 .f32) : FVec Ideal S4096x384 .f32 :=
  mulf x (broadcastInDim S4096x384 ![0, 1] bcast_S4096x1_S4096x384_0_1 (Host.rsqrt (SQ384 x)))

/-- The same of rows of 256 entries. -/
abbrev X256 (x : FVec Ideal S4096x256 .f32) : FVec Ideal S4096x256 .f32 :=
  mulf x (broadcastInDim S4096x256 ![0, 1] bcast_S4096x1_S4096x256_0_1 (Host.rsqrt (SQ256 x)))

/-- The normed rows. -/
abbrev RMS384 (x : FVec Ideal S4096x384 .f32) (g : FVec Ideal S384 .f32) : FVec Ideal S4096x384 .f32 :=
  mulf (X384 x) (broadcastInDim S4096x384 ![0, 1] bcast_S1x384_S4096x384_0_1 (broadcastInDim S1x384 ![1] bcast_S384_S1x384_1 g))

/-- The same of rows of 256 entries. -/
abbrev RMS256 (x : FVec Ideal S4096x256 .f32) (g : FVec Ideal S256 .f32) : FVec Ideal S4096x256 .f32 :=
  mulf (X256 x) (broadcastInDim S4096x256 ![0, 1] bcast_S1x256_S4096x256_0_1 (broadcastInDim S1x256 ![1] bcast_S256_S1x256_1 g))

/-- Three arrays side by side. -/
abbrev JOIN (a b : FVec Ideal S4096x384 .f32) (c : FVec Ideal S4096x256 .f32) : FVec Ideal S4096x1024 .f32 :=
  concatenate S4096x1024 1 [⟨S4096x384, a⟩, ⟨S4096x384, b⟩, ⟨S4096x256, c⟩] concatenates_S4096x384_S4096x384_S4096x256_S4096x1024_d1

/-- The normed rows side by side; `g` holds the three scales. -/
abbrev BLEND (a b : FVec Ideal S4096x384 .f32) (y : FVec Ideal S4096x256 .f32) (w : FVec Ideal S256x256 .f32) (g : FVec Ideal S1024 .f32) :
    FVec Ideal S4096x1024 .f32 :=
  JOIN (RMS384 a (extractStridedSlice S384 ![0] g slices_S1024_S384_0)) (RMS384 b (extractStridedSlice S384 ![384] g slices_S1024_S384_384))
    (RMS256 (GATED y w) (extractStridedSlice S256 ![768] g slices_S1024_S256_768))

/-- The weighed residual and the projected rows. -/
abbrev PRE (x o : FVec Ideal S4096x1024 .f32) (w : FVec Ideal S1024x1024 .f32) : FVec Ideal S4096x1024 .f32 :=
  addf (mulf (broadcastInDim S4096x1024 ![] bcast_S_S4096x1024 (constant S_ .f32 0x3FB504F3#32)) x)
    (Host.dotGeneral dot_S4096x1024_S1024x1024_S4096x1024_1_0_0_1_n_n none o w)

theorem GELU_at (y : FVec Ideal S4096x256 .f32) (t : Fin 4096) (e : Fin 256) : GELU y (ix2 t e) = gelu (y (ix2 t e)) := by
  unfold gelu bend
  pointwise

theorem OPEN_at (y : FVec Ideal S4096x256 .f32) (w : FVec Ideal S256x256 .f32) (t : Fin 4096) (e : Fin 256) :
    OPEN y w (ix2 t e) = Ideal.logistic (logit (fun k => gelu (y (ix2 t k))) (fun k e => w (ix2 k e)) e) := by
  unfold logit
  simp only [← GELU_at]
  unfold OPEN
  generalize GELU y = z
  simp only [← GateGrad.logistic_def]
  pointwise

theorem GATED_at (y : FVec Ideal S4096x256 .f32) (w : FVec Ideal S256x256 .f32) (t : Fin 4096) (e : Fin 256) :
    GATED y w (ix2 t e) = gated (fun k => y (ix2 t k)) (fun k e => w (ix2 k e)) e := by
  unfold gated
  rw [← OPEN_at, ← GELU_at]
  unfold GATED
  generalize GELU y = z
  generalize OPEN y w = s
  pointwise

theorem SQ384_at (x : FVec Ideal S4096x384 .f32) (t : Fin 4096) (z : Fin 1) :
    SQ384 x (ix2 t z) = square (Ideal.ofBits FTy.f32 0x43C00000#32) fun d => x (ix2 t d) := by
  unfold square
  pointwise

theorem SQ256_at (x : FVec Ideal S4096x256 .f32) (t : Fin 4096) (z : Fin 1) :
    SQ256 x (ix2 t z) = square (Ideal.ofBits FTy.f32 0x43800000#32) fun d => x (ix2 t d) := by
  unfold square
  pointwise

theorem X384_at (x : FVec Ideal S4096x384 .f32) (t : Fin 4096) (d : Fin 384) :
    X384 x (ix2 t d) = x (ix2 t d) * Ideal.rsqrt (square (Ideal.ofBits FTy.f32 0x43C00000#32) fun d => x (ix2 t d)) := by
  rw [← SQ384_at x t 0]
  unfold X384
  generalize SQ384 x = s
  pointwise

theorem X256_at (x : FVec Ideal S4096x256 .f32) (t : Fin 4096) (d : Fin 256) :
    X256 x (ix2 t d) = x (ix2 t d) * Ideal.rsqrt (square (Ideal.ofBits FTy.f32 0x43800000#32) fun d => x (ix2 t d)) := by
  rw [← SQ256_at x t 0]
  unfold X256
  generalize SQ256 x = s
  pointwise

theorem RMS384_at (x : FVec Ideal S4096x384 .f32) (g : FVec Ideal S384 .f32) (t : Fin 4096) (d : Fin 384) :
    RMS384 x g (ix2 t d) = rms (Ideal.ofBits FTy.f32 0x43C00000#32) (fun d => x (ix2 t d)) (fun d => g (ix1 d)) d := by
  unfold rms
  rw [← X384_at]
  unfold RMS384
  generalize X384 x = s
  pointwise

theorem RMS256_at (x : FVec Ideal S4096x256 .f32) (g : FVec Ideal S256 .f32) (t : Fin 4096) (d : Fin 256) :
    RMS256 x g (ix2 t d) = rms (Ideal.ofBits FTy.f32 0x43800000#32) (fun d => x (ix2 t d)) (fun d => g (ix1 d)) d := by
  unfold rms
  rw [← X256_at]
  unfold RMS256
  generalize X256 x = s
  pointwise

theorem JOIN_at (a b : FVec Ideal S4096x384 .f32) (c : FVec Ideal S4096x256 .f32) (t : Fin 4096) (d : Fin 1024) :
    JOIN a b c (ix2 t d) = joined (fun d => a (ix2 t d)) (fun d => b (ix2 t d)) (fun d => c (ix2 t d)) d := by
  unfold joined
  pointwise

/-- The part of the scales that starts at column `n`. -/
def part {k : ℕ} (n : ℕ) (h : n + k ≤ 1024) (g : Fin 1024 → EReal) (d : Fin k) : EReal := g ⟨n + d.val, by omega⟩

theorem BLEND_at (a b : FVec Ideal S4096x384 .f32) (y : FVec Ideal S4096x256 .f32) (w : FVec Ideal S256x256 .f32) (g : FVec Ideal S1024 .f32)
    (t : Fin 4096) (d : Fin 1024) :
    BLEND a b y w g (ix2 t d) = blend (fun d => a (ix2 t d)) (fun d => b (ix2 t d)) (gated (fun k => y (ix2 t k)) (fun k e => w (ix2 k e)))
      (part 0 (by omega) fun d => g (ix1 d)) (part 384 (by omega) fun d => g (ix1 d)) (part 768 (by omega) fun d => g (ix1 d)) d := by
  have h0 : (fun d => extractStridedSlice S384 ![0] g slices_S1024_S384_0 (ix1 d)) = part 0 (by omega) fun d => g (ix1 d) :=
    funext fun d => by unfold part; pointwise
  have h1 : (fun d => extractStridedSlice S384 ![384] g slices_S1024_S384_384 (ix1 d)) = part 384 (by omega) fun d => g (ix1 d) :=
    funext fun d => by unfold part; pointwise
  have h2 : (fun d => extractStridedSlice S256 ![768] g slices_S1024_S256_768 (ix1 d)) = part 768 (by omega) fun d => g (ix1 d) :=
    funext fun d => by unfold part; pointwise
  refine (JOIN_at _ _ _ t d).trans ?_
  unfold blend
  simp only [RMS384_at, RMS256_at, GATED_at, h0, h1, h2]

theorem PRE_at (x o : FVec Ideal S4096x1024 .f32) (w : FVec Ideal S1024x1024 .f32) (t : Fin 4096) (d : Fin 1024) :
    PRE x o w (ix2 t d) = pre (fun d => x (ix2 t d)) (fun d => o (ix2 t d)) (fun k d => w (ix2 k d)) d := by
  unfold pre
  pointwise

end Cert.MixOutMath

end
-- ==== Proof.MixOutValue.lean ====
/- The mixers' output: the array the tiled kernel leaves is the reference's.  The kernel takes 512 tokens at a time. -/
module

public import proofs.«01_k».proof.Proof.Gen.MixOutKernelIdeal.Value
public import proofs.«01_k».proof.Proof.MixOutMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutKernelIdeal.Hand

open Cert.MixOutKernelIdeal Cert.MixOutKernelIdeal.Gen
open Cert.MixOutMath (bend gelu gelu_eq logit gated square rms joined blend pre part)

variable (m : (ℓ : Loc nD τ sig) → Buf (Elt Ideal) ℓ)

/-- The first mixer's output. -/
abbrev aA (c : Dev nD) : FVec Ideal S4096x384 .f32 := m ((c : Thread nD τ).loc main_arg0)
/-- The second mixer's output. -/
abbrev aB (c : Dev nD) : FVec Ideal S4096x384 .f32 := m ((c : Thread nD τ).loc main_arg1)
/-- The third mixer's output, before its gate. -/
abbrev aY (c : Dev nD) : FVec Ideal S4096x256 .f32 := m ((c : Thread nD τ).loc main_arg2)
/-- The residual. -/
abbrev aX (c : Dev nD) : FVec Ideal S4096x1024 .f32 := m ((c : Thread nD τ).loc main_arg3)
/-- The three norms' scales. -/
abbrev aG (c : Dev nD) : FVec Ideal S1024 .f32 := m ((c : Thread nD τ).loc main_arg4)
/-- The gate's projection. -/
abbrev aW (c : Dev nD) : FVec Ideal S256x256 .f32 := m ((c : Thread nD τ).loc main_arg5)
/-- The output projection. -/
abbrev aO (c : Dev nD) : FVec Ideal S1024x1024 .f32 := m ((c : Thread nD τ).loc main_arg6)
/-- The layer norm's scale. -/
abbrev aS (c : Dev nD) : FVec Ideal S1024 .f32 := m ((c : Thread nD τ).loc main_arg7)
/-- The layer norm's shift. -/
abbrev aT (c : Dev nD) : FVec Ideal S1024 .f32 := m ((c : Thread nD τ).loc main_arg8)

/-- Which block each window shows at grid point `t`: tile `t` of the tokens, or the whole of a window of parameters. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-! ## The input blocks -/

/-- The token at row `p` of tile `t`. -/
def row (t : Fin cfg0.N) (p : Fin 512) : Fin 4096 :=
  ⟨t.val * 512 + p.val, by have := lt_of_lt_of_eq t.isLt N_0; omega⟩

theorem a_blk (c : Dev nD) (t : Fin cfg0.N) (p : Fin 512) (k : Fin 384) (r : Fin 4096) (hr : r.val = t.val * 512 + p.val) :
    (show FVec Ideal S512x384 .f32 from iblk m c 0 t) (ix2 p k) = aA m c (ix2 r k) := by
  blk_ext [iblk, V, idx t]

theorem b_blk (c : Dev nD) (t : Fin cfg0.N) (p : Fin 512) (k : Fin 384) (r : Fin 4096) (hr : r.val = t.val * 512 + p.val) :
    (show FVec Ideal S512x384 .f32 from iblk m c 1 t) (ix2 p k) = aB m c (ix2 r k) := by
  blk_ext [iblk, V, idx t]

theorem y_blk (c : Dev nD) (t : Fin cfg0.N) (p : Fin 512) (k : Fin 256) (r : Fin 4096) (hr : r.val = t.val * 512 + p.val) :
    (show FVec Ideal S512x256 .f32 from iblk m c 2 t) (ix2 p k) = aY m c (ix2 r k) := by
  blk_ext [iblk, V, idx t]

theorem x_blk (c : Dev nD) (t : Fin cfg0.N) (p : Fin 512) (k : Fin 1024) (r : Fin 4096) (hr : r.val = t.val * 512 + p.val) :
    (show FVec Ideal S512x1024 .f32 from iblk m c 3 t) (ix2 p k) = aX m c (ix2 r k) := by
  blk_ext [iblk, V, idx t]

theorem ga_blk (c : Dev nD) (t : Fin cfg0.N) (z : Fin 1) (k : Fin 384) :
    (show FVec Ideal S1x384 .f32 from iblk m c 4 t) (ix2 z k) = part 0 (by omega) (fun d => aG m c (ix1 d)) k := by
  unfold part
  blk_simp [iblk, idx t]
  entry_read
  pointwise
  blk_point [iblk, V, idx t]

theorem gb_blk (c : Dev nD) (t : Fin cfg0.N) (z : Fin 1) (k : Fin 384) :
    (show FVec Ideal S1x384 .f32 from iblk m c 5 t) (ix2 z k) = part 384 (by omega) (fun d => aG m c (ix1 d)) k := by
  unfold part
  blk_simp [iblk, idx t]
  entry_read
  pointwise
  blk_point [iblk, V, idx t]

theorem gc_blk (c : Dev nD) (t : Fin cfg0.N) (z : Fin 1) (k : Fin 256) :
    (show FVec Ideal S1x256 .f32 from iblk m c 6 t) (ix2 z k) = part 768 (by omega) (fun d => aG m c (ix1 d)) k := by
  unfold part
  blk_simp [iblk, idx t]
  entry_read
  pointwise
  blk_point [iblk, V, idx t]

theorem w_blk (c : Dev nD) (t : Fin cfg0.N) (k e : Fin 256) :
    (show FVec Ideal S256x256 .f32 from iblk m c 7 t) (ix2 k e) = aW m c (ix2 k e) := by
  blk_ext [iblk, V, idx t]

theorem o_blk (c : Dev nD) (t : Fin cfg0.N) (k d : Fin 1024) :
    (show FVec Ideal S1024x1024 .f32 from iblk m c 8 t) (ix2 k d) = aO m c (ix2 k d) := by
  blk_ext [iblk, V, idx t]

theorem scale_blk (c : Dev nD) (t : Fin cfg0.N) (z : Fin 1) (k : Fin 1024) :
    (show FVec Ideal S1x1024 .f32 from iblk m c 9 t) (ix2 z k) = aS m c (ix1 k) := by
  blk_simp [iblk, idx t]
  entry_read
  pointwise
  blk_point [iblk, V, idx t]

theorem shift_blk (c : Dev nD) (t : Fin cfg0.N) (z : Fin 1) (k : Fin 1024) :
    (show FVec Ideal S1x1024 .f32 from iblk m c 10 t) (ix2 z k) = aT m c (ix1 k) := by
  blk_simp [iblk, idx t]
  entry_read
  pointwise
  blk_point [iblk, V, idx t]

/-! ## What the body computes of one tile, row by row -/

theorem gelu_at (y : FVec Ideal S512x256 .f32) (p : Fin 512) (e : Fin 256) : k0_pay7 (F := Ideal) y (ix2 p e) = gelu (y (ix2 p e)) := by
  rw [← gelu_eq]
  unfold bend
  pointwise [k0_pay7]

theorem logit_at (y : FVec Ideal S512x256 .f32) (w : FVec Ideal S256x256 .f32) (p : Fin 512) (e : Fin 256) :
    k0_pay8 (F := Ideal) y w (ix2 p e) = logit (fun k => gelu (y (ix2 p k))) (fun k e => w (ix2 k e)) e := by
  unfold logit
  simp only [← gelu_at]
  unfold k0_pay8
  generalize k0_pay7 (F := Ideal) y = z
  pointwise

/-- The body's gated row, of the rectified entries `z` and the logits `s`. -/
theorem blend_at (a b : FVec Ideal S512x384 .f32) (ga gb : FVec Ideal S1x384 .f32) (gc : FVec Ideal S1x256 .f32) (z s : FVec Ideal S512x256 .f32)
    (p : Fin 512) (d : Fin 1024) : k0_pay9 (F := Ideal) a b ga gb gc z s (ix2 p d)
      = blend (fun d => a (ix2 p d)) (fun d => b (ix2 p d)) (fun d => z (ix2 p d) * Ideal.logistic (s (ix2 p d)))
          (fun d => ga (ix2 0 d)) (fun d => gb (ix2 0 d)) (fun d => gc (ix2 0 d)) d := by
  simp only [← GateGrad.logistic_def, ← zero_sub]
  unfold blend joined rms square
  pointwise [k0_pay9]

theorem pre_at (x o : FVec Ideal S512x1024 .f32) (w : FVec Ideal S1024x1024 .f32) (g b : FVec Ideal S1x1024 .f32) (p : Fin 512) (d : Fin 1024) :
    k0_pay1 (F := Ideal) w g b o (k0_pay10 (F := Ideal) x) (ix2 p d)
      = LayerNorm.norm (pre (fun d => x (ix2 p d)) (fun d => o (ix2 p d)) fun k d => w (ix2 k d)) (fun d => g (ix2 0 d)) (fun d => b (ix2 0 d)) d := by
  unfold LayerNorm.norm LayerNorm.invDev LayerNorm.mean pre
  pointwise [k0_pay1, k0_pay10]

/-- The output row at one token. -/
def out (c : Dev nD) (r : Fin 4096) (d : Fin 1024) : EReal :=
  LayerNorm.norm (pre (fun d => aX m c (ix2 r d)) (blend (fun d => aA m c (ix2 r d)) (fun d => aB m c (ix2 r d))
      (gated (fun k => aY m c (ix2 r k)) fun k e => aW m c (ix2 k e)) (part 0 (by omega) fun d => aG m c (ix1 d))
      (part 384 (by omega) fun d => aG m c (ix1 d)) (part 768 (by omega) fun d => aG m c (ix1 d))) fun k d => aO m c (ix2 k d))
    (fun d => aS m c (ix1 d)) (fun d => aT m c (ix1 d)) d

theorem gated_blk (c : Dev nD) (t : Fin cfg0.N) (p : Fin 512) (e : Fin 256) :
    k0_pay7 (F := Ideal) (iblk m c 2 t) (ix2 p e) * Ideal.logistic (k0_pay8 (F := Ideal) (iblk m c 2 t) (iblk m c 7 t) (ix2 p e))
      = gated (fun k => aY m c (ix2 (row t p) k)) (fun k e => aW m c (ix2 k e)) e := by
  have hy : (fun k => (show FVec Ideal S512x256 .f32 from iblk m c 2 t) (ix2 p k)) = fun k => aY m c (ix2 (row t p) k) :=
    funext fun k => y_blk m c t p k (row t p) rfl
  have hw : (fun k e => (show FVec Ideal S256x256 .f32 from iblk m c 7 t) (ix2 k e)) = fun k e => aW m c (ix2 k e) :=
    funext fun k => funext fun e => w_blk m c t k e
  rw [gelu_at, logit_at, ← hy, ← hw]
  rfl

theorem blend_blk (c : Dev nD) (t : Fin cfg0.N) (p : Fin 512) (d : Fin 1024) :
    k0_pay9 (F := Ideal) (iblk m c 0 t) (iblk m c 1 t) (k0_pay2 (F := Ideal) (iblk m c 4 t)) (k0_pay3 (F := Ideal) (iblk m c 5 t))
        (k0_pay4 (F := Ideal) (iblk m c 6 t)) (k0_pay7 (F := Ideal) (iblk m c 2 t)) (k0_pay8 (F := Ideal) (iblk m c 2 t) (iblk m c 7 t)) (ix2 p d)
      = blend (fun d => aA m c (ix2 (row t p) d)) (fun d => aB m c (ix2 (row t p) d))
          (gated (fun k => aY m c (ix2 (row t p) k)) fun k e => aW m c (ix2 k e)) (part 0 (by omega) fun d => aG m c (ix1 d))
          (part 384 (by omega) fun d => aG m c (ix1 d)) (part 768 (by omega) fun d => aG m c (ix1 d)) d := by
  have ha : (fun k => (show FVec Ideal S512x384 .f32 from iblk m c 0 t) (ix2 p k)) = fun k => aA m c (ix2 (row t p) k) :=
    funext fun k => a_blk m c t p k (row t p) rfl
  have hb : (fun k => (show FVec Ideal S512x384 .f32 from iblk m c 1 t) (ix2 p k)) = fun k => aB m c (ix2 (row t p) k) :=
    funext fun k => b_blk m c t p k (row t p) rfl
  have hga : (fun k => k0_pay2 (F := Ideal) (iblk m c 4 t) (ix2 0 k)) = part 0 (by omega) fun d => aG m c (ix1 d) :=
    funext fun k => Eq.trans (by pointwise [k0_pay2]) (ga_blk m c t 0 k)
  have hgb : (fun k => k0_pay3 (F := Ideal) (iblk m c 5 t) (ix2 0 k)) = part 384 (by omega) fun d => aG m c (ix1 d) :=
    funext fun k => Eq.trans (by pointwise [k0_pay3]) (gb_blk m c t 0 k)
  have hgc : (fun k => k0_pay4 (F := Ideal) (iblk m c 6 t) (ix2 0 k)) = part 768 (by omega) fun d => aG m c (ix1 d) :=
    funext fun k => Eq.trans (by pointwise [k0_pay4]) (gc_blk m c t 0 k)
  refine (blend_at _ _ _ _ _ _ _ p d).trans ?_
  rw [← ha, ← hb, hga, hgb, hgc]
  exact congrArg (fun z => blend _ _ z _ _ _ d) (funext fun e => gated_blk m c t p e)

/-- The rows the body writes out. -/
theorem out_blk (c : Dev nD) (t : Fin cfg0.N) (p : Fin 512) (d : Fin 1024) :
    k0_pay1 (F := Ideal) (iblk m c 8 t) (k0_pay5 (F := Ideal) (iblk m c 9 t)) (k0_pay6 (F := Ideal) (iblk m c 10 t))
        (k0_pay9 (F := Ideal) (iblk m c 0 t) (iblk m c 1 t) (k0_pay2 (F := Ideal) (iblk m c 4 t)) (k0_pay3 (F := Ideal) (iblk m c 5 t))
          (k0_pay4 (F := Ideal) (iblk m c 6 t)) (k0_pay7 (F := Ideal) (iblk m c 2 t)) (k0_pay8 (F := Ideal) (iblk m c 2 t) (iblk m c 7 t)))
        (k0_pay10 (F := Ideal) (iblk m c 3 t)) (ix2 p d) = out m c (row t p) d := by
  have hx : (fun k => (show FVec Ideal S512x1024 .f32 from iblk m c 3 t) (ix2 p k)) = fun k => aX m c (ix2 (row t p) k) :=
    funext fun k => x_blk m c t p k (row t p) rfl
  have ho : (fun k d => (show FVec Ideal S1024x1024 .f32 from iblk m c 8 t) (ix2 k d)) = fun k d => aO m c (ix2 k d) :=
    funext fun k => funext fun d => o_blk m c t k d
  have hs : (fun k => k0_pay5 (F := Ideal) (iblk m c 9 t) (ix2 0 k)) = fun k => aS m c (ix1 k) :=
    funext fun k => Eq.trans (by pointwise [k0_pay5]) (scale_blk m c t 0 k)
  have hb : (fun k => k0_pay6 (F := Ideal) (iblk m c 10 t) (ix2 0 k)) = fun k => aT m c (ix1 k) :=
    funext fun k => Eq.trans (by pointwise [k0_pay6]) (shift_blk m c t 0 k)
  refine (pre_at _ _ _ _ _ p d).trans ?_
  unfold out
  rw [hs, hb, ← hx, ← ho]
  exact congrArg (fun z => LayerNorm.norm (pre _ z _) _ _ d) (funext fun e => blend_blk m c t p e)

/-- The array after the run. -/
theorem final (c : Dev nD) : (dats m 0 c).arrAt 11 (cfgs 0).N = fun i : S4096x1024.Idx => out m c (i 0) (i 1) := by
  refine (dats m 0 c).arrAt_eq_of_covers 11 _ (by decide +kernel) fun t hf y => ?_
  blk_simp
  have hr : ((win0_11.blk t).view.emb y 0 : Fin 4096) = row t (y 0) := Fin.ext (by
    unfold row
    blk_simp [idx t])
  have hd : ((win0_11.blk t).view.emb y 1 : Fin 1024) = (y 1 : Fin 1024) := Fin.ext (by
    blk_simp [idx t] <;> try omega)
  rw [after0_11, hr, hd]
  unfold out0_11
  frame_out
  exact (congrArg _ (eq_ix2 (n0 := 512) (n1 := 1024) y)).trans (out_blk m c t (y 0) (y 1))

end Cert.MixOutKernelIdeal.Hand

end
-- ==== Proof.MixOutClaim.lean ====
/- The claims about the mixers' output. -/
module

public import proofs.«01_k».proof.Defs
public import proofs.«01_k».proof.Proof.Gen.MixOutKernel.Frame
public import proofs.«01_k».proof.Proof.Gen.MixOutKernelIdeal.Frame
public import proofs.«01_k».proof.Proof.MixOutValue
public import Idealize.ShloMosaic.Adequacy
public import Idealize.ShloMosaic.Init

@[expose] public section

set_option maxRecDepth 16384

noncomputable section

open Idealize.ShloMosaic Idealize.ShloMosaic.TcCoe Idealize.SL.Sem

namespace Cert.MixOutClaim

/-- The kernel ends with its arguments as they were and every semaphore at zero. -/
theorem kernel : @Cert.quiescent_MixOutKernel Cert.MixOutKernel.Gen.facts := fun m ρ _ => Cert.MixOutKernel.Gen.frame m ρ

/-- So does the idealized kernel. -/
theorem kernelIdeal : @Cert.quiescent_MixOutKernelIdeal Cert.MixOutKernelIdeal.Gen.facts := fun m ρ _ => Cert.MixOutKernelIdeal.Gen.frame m ρ

/-- So does the reference. -/
theorem referenceIdeal : @Cert.quiescent_MixOutReferenceIdeal Cert.MixOutReferenceIdeal.Gen.facts := fun m ρ _ =>
  (θ_run Cert.MixOutReferenceIdeal.defs _ _).mono (fun r h => ⟨fun c => (h c).2, Idealize.ShloMosaic.sem_eq_zero_of_no_sems (by decide) r.2⟩)
    (Cert.MixOutReferenceIdeal.Value.run (F := Ideal) m ρ)

open Cert.MixOutReferenceIdeal Cert.MixOutMath in
/-- The reference's array, read at an index. -/
theorem ref_at (a b : FVec Ideal S4096x384 .f32) (y : FVec Ideal S4096x256 .f32) (x : FVec Ideal S4096x1024 .f32) (g : FVec Ideal S1024 .f32)
    (w : FVec Ideal S256x256 .f32) (o : FVec Ideal S1024x1024 .f32) (s h : FVec Ideal S1024 .f32) (t : Fin 4096) (d : Fin 1024) :
    LayerNorm.LN (PRE x (BLEND a b y w g) o) s h (ix2 t d)
      = LayerNorm.norm (pre (fun d => x (ix2 t d)) (blend (fun d => a (ix2 t d)) (fun d => b (ix2 t d))
          (gated (fun k => y (ix2 t k)) fun k e => w (ix2 k e)) (part 0 (by omega) fun d => g (ix1 d))
          (part 384 (by omega) fun d => g (ix1 d)) (part 768 (by omega) fun d => g (ix1 d))) fun k d => o (ix2 k d))
        (fun d => s (ix1 d)) (fun d => h (ix1 d)) d := by
  refine (LayerNorm.LN_at _ _ _ t d).trans (congrArg (fun p => LayerNorm.norm p _ _ d) (funext fun d => ?_))
  refine (PRE_at _ _ _ t d).trans (congrArg (fun p => pre _ p _ d) (funext fun k => ?_))
  exact BLEND_at _ _ _ _ _ t k

/-- On the extended reals the kernel and the reference leave the same array. -/
theorem algebraic : @Cert.algebraic_MixOutKernelIdeal_MixOutReferenceIdeal Cert.MixOutKernelIdeal.Gen.facts
    Cert.MixOutReferenceIdeal.Gen.facts := by
  intro m ρ m' ρ' _ hagree
  refine ⟨fun c => _, (θ_run Cert.MixOutKernelIdeal.defs _ _).mono (fun _ h c =>
    ⟨(h c).1.trans (Cert.MixOutKernelIdeal.Hand.final m c), (h c).2⟩)
    (Cert.MixOutKernelIdeal.Value.run_blocks (F := Ideal) m ρ), ?_⟩
  refine (θ_run Cert.MixOutReferenceIdeal.defs _ _).mono (fun _ h c => ?_) (Cert.MixOutReferenceIdeal.Value.run (F := Ideal) m' ρ')
  obtain ⟨h0, h1, h2, h3, h4, h5, h6, h7, h8⟩ := hagree c
  obtain ⟨r0, r1⟩ := h c
  unfold Cert.MixOutReferenceIdeal.Value.res_main_v91 at r0
  rw [h0, h1, h2, h3, h4, h5, h6, h7, h8] at r0
  refine ⟨r0.trans ?_, r1⟩
  funext i
  exact (congrArg _ (eq_ix2 (n0 := 4096) (n1 := 1024) i)).trans (ref_at _ _ _ _ _ _ _ _ _ (i 0) (i 1))

end Cert.MixOutClaim

end
-- ==== Proof.MixOutBwdMath.lean ====
/- The gradient of the mixers' output at one token, and the two scalar identities behind it: the derivatives of the gate and
   of the smooth rectifier, as the tiled kernel writes them and as the reference does. -/
module

public import proofs.«01_k».proof.Proof.MixOutMath
public import proofs.«01_k».proof.Proof.LnGrad
public import Idealize.ShloMosaic.Lib.Pointwise

@[expose] public section

set_option maxRecDepth 16384

noncomputable section

open Idealize.ShloMosaic Idealize.ShloMosaic.TcCoe Idealize.SL.Sem

namespace Cert.MixOutBwdMath

open Cert.MixOutMath (bend gelu gelu_eq logit gated square rms joined blend pre part)
open Cert.LayerNorm (mean invDev)

/-! ## The gate's derivative -/

/-- The derivative of the logistic function, as a quotient and as a product. -/
theorem logistic_grad (l : EReal) : Ideal.div 1 ((1 + Ideal.exp (-l)) * (1 + Ideal.exp (-l))) * Ideal.exp (-l)
    = Ideal.logistic l * (1 - Ideal.logistic l) := by
  have h1 : (1 : EReal) - 1 = 0 := by
    rw [← EReal.coe_one, ← EReal.coe_sub, sub_self, EReal.coe_zero]
  induction l with
  | bot =>
    have ht : (1 : EReal) + ⊤ = ⊤ := by rw [← EReal.coe_one]; exact EReal.coe_add_top 1
    rw [EReal.neg_bot, Ideal.exp_top, Ideal.logistic_bot, ht, EReal.top_mul_top, zero_mul]
    exact (congrArg (· * (⊤ : EReal)) (show Ideal.div 1 ⊤ = 0 by simp [Ideal.div])).trans (zero_mul _)
  | top =>
    simp only [EReal.neg_top, Ideal.exp_bot, Ideal.logistic_top, add_zero, mul_one, h1, mul_zero]
  | coe r =>
    have hp : 0 < 1 + Real.exp (-r) := by positivity
    rw [Ideal.logistic_coe, ← EReal.coe_neg, Ideal.exp_coe, ← EReal.coe_one, ← EReal.coe_add, ← EReal.coe_mul,
      Ideal.div_coe (mul_pos hp hp).ne']
    norm_cast
    field_simp
    ring

/-- The logit's cotangent as the kernel signs it. -/
theorem gate_grad (z c l : EReal) :
    0 - (0 - z * c * Ideal.div 1 ((1 + Ideal.exp (0 - l)) * (1 + Ideal.exp (0 - l))) * 1) * Ideal.exp (0 - l)
      = z * c * (Ideal.logistic l * (1 - Ideal.logistic l)) := by
  simp only [zero_sub, mul_one, EReal.neg_mul, neg_neg]
  rw [mul_assoc, logistic_grad]

/-! ## The smooth rectifier's derivative -/

theorem three_val : Ideal.ofBits FTy.f32 0x40400000#32 = ((3 : ℝ) : EReal) := by
  simp [Ideal.ofBits, Ideal.ieee, -EReal.coe_mul]
  norm_num

theorem three_mul' (a : EReal) : a + a + a = Ideal.ofBits FTy.f32 0x40400000#32 * a := by
  rw [three_val]
  induction a with
  | bot => rw [EReal.coe_mul_bot_of_pos (by norm_num)]; rfl
  | top => rw [EReal.coe_mul_top_of_pos (by norm_num)]; rfl
  | coe r => rw [← EReal.coe_add, ← EReal.coe_add, ← EReal.coe_mul]; congr 1; ring

/-- What reaches the rectifier's tangent; `c` is the rectifier's cotangent. -/
def inner (y c : EReal) : EReal :=
  Ideal.ofBits FTy.f32 0x3F4C422A#32 * (Ideal.ofBits FTy.f32 0x3F000000#32 * (y * c) * ((1 + bend y) * (1 - bend y)))

/-- The cotangent of the rectifier's input. -/
def geluGrad (y c : EReal) : EReal :=
  c * (Ideal.ofBits FTy.f32 0x3F000000#32 * (1 + bend y)) + inner y c
    + Ideal.ofBits FTy.f32 0x3D372713#32 * inner y c * (Ideal.ofBits FTy.f32 0x40400000#32 * (y * y))

/-- The cotangent as the kernel sums it, the cube's derivative in three terms. -/
theorem geluGrad_eq (y c : EReal) :
    Ideal.ofBits FTy.f32 0x3F4C422A#32 * (Ideal.ofBits FTy.f32 0x3F000000#32 * y * c * ((1 + bend y) * (1 - bend y)))
      + y * y * (Ideal.ofBits FTy.f32 0x3D372713#32
          * (Ideal.ofBits FTy.f32 0x3F4C422A#32 * (Ideal.ofBits FTy.f32 0x3F000000#32 * y * c * ((1 + bend y) * (1 - bend y)))))
      + y * (Ideal.ofBits FTy.f32 0x3D372713#32
          * (Ideal.ofBits FTy.f32 0x3F4C422A#32 * (Ideal.ofBits FTy.f32 0x3F000000#32 * y * c * ((1 + bend y) * (1 - bend y)))) * y)
      + Ideal.ofBits FTy.f32 0x3D372713#32
          * (Ideal.ofBits FTy.f32 0x3F4C422A#32 * (Ideal.ofBits FTy.f32 0x3F000000#32 * y * c * ((1 + bend y) * (1 - bend y)))) * y * y
      + Ideal.ofBits FTy.f32 0x3F000000#32 * (c * (1 + bend y)) = geluGrad y c := by
  have hu : Ideal.ofBits FTy.f32 0x3F4C422A#32 * (Ideal.ofBits FTy.f32 0x3F000000#32 * y * c * ((1 + bend y) * (1 - bend y))) = inner y c := by
    unfold inner
    rw [mul_assoc (Ideal.ofBits FTy.f32 0x3F000000#32) y c]
  unfold geluGrad
  rw [hu]
  generalize inner y c = u
  generalize 1 + bend y = b
  generalize Ideal.ofBits FTy.f32 0x3F000000#32 = h
  generalize Ideal.ofBits FTy.f32 0x3D372713#32 = k
  have e1 : y * y * (k * u) = k * u * (y * y) := mul_comm _ _
  have e2 : y * (k * u * y) = k * u * (y * y) := by rw [mul_left_comm]
  have e3 : k * u * y * y = k * u * (y * y) := mul_assoc _ _ _
  have e4 : k * u * (Ideal.ofBits FTy.f32 0x40400000#32 * (y * y)) = k * u * (y * y) + k * u * (y * y) + k * u * (y * y) := by
    rw [three_mul', mul_left_comm]
  have e5 : h * (c * b) = c * (h * b) := mul_left_comm _ _ _
  rw [e1, e2, e3, e4, e5]
  generalize k * u * (y * y) = v
  generalize c * (h * b) = w
  rw [add_comm w u, add_assoc u w, add_comm w, ← add_assoc, ← add_assoc, ← add_assoc]

/-! ## The gradient of a row over its root mean square -/

/-- The derivative of the reciprocal root. -/
def bendRoot (w : EReal) {n : ℕ} (p : Fin n → EReal) : EReal :=
  Ideal.ofBits FTy.f32 0xBF000000#32 * Ideal.div (Ideal.rsqrt (square w p)) (square w p)

/-- What reaches the mean of the row's squares, spread over its entries; `c` is the norm's cotangent and `g` its scale. -/
def rmsPull (w : EReal) {n : ℕ} (p g c : Fin n → EReal) : EReal := Ideal.div ((∑ d : Fin n, p d * (c d * g d)) * bendRoot w p) w

/-- The cotangent of entry `d` of the row. -/
def rmsGrad (w : EReal) {n : ℕ} (p g c : Fin n → EReal) (d : Fin n) : EReal :=
  c d * g d * Ideal.rsqrt (square w p) + p d * rmsPull w p g c + rmsPull w p g c * p d

/-- Entry `d` of the scale's cotangent. -/
def rmsScale (w : EReal) {n : ℕ} (p c : Fin n → EReal) (d : Fin n) : EReal := p d * Ideal.rsqrt (square w p) * c d

/-! ## One token -/

/-- What the block reads at one token: the rows of the mixers' outputs, of the residual and of the output's cotangent, and
    the parameters. -/
structure Rows where
  a : Fin 384 → EReal
  b : Fin 384 → EReal
  y : Fin 256 → EReal
  x : Fin 1024 → EReal
  c : Fin 1024 → EReal
  ga : Fin 384 → EReal
  gb : Fin 384 → EReal
  gc : Fin 256 → EReal
  w : Fin 256 → Fin 256 → EReal
  o : Fin 1024 → Fin 1024 → EReal
  s : Fin 1024 → EReal

namespace Rows

variable (R : Rows)

/-- The gate's logits. -/
def lg (e : Fin 256) : EReal := logit (fun k => gelu (R.y k)) R.w e

/-- The third mixer's gated row. -/
def oc : Fin 256 → EReal := gated R.y R.w

/-- The normed rows side by side. -/
def mix : Fin 1024 → EReal := blend R.a R.b R.oc R.ga R.gb R.gc

/-- The layer norm's input. -/
def inp : Fin 1024 → EReal := pre R.x R.mix R.o

/-- The cotangent of the layer norm's input. -/
def dInp : Fin 1024 → EReal := LnGrad.grad R.inp R.s R.c

/-- The cotangent of the normed rows. -/
def dMix (k : Fin 1024) : EReal := ∑ d : Fin 1024, R.dInp d * R.o k d

/-- The cotangents of the three norms' outputs. -/
def dA : Fin 384 → EReal := part 0 (by omega) R.dMix
def dB : Fin 384 → EReal := part 384 (by omega) R.dMix
def dC : Fin 256 → EReal := part 768 (by omega) R.dMix

/-- The cotangent of the gated row. -/
def dOc : Fin 256 → EReal := rmsGrad (Ideal.ofBits FTy.f32 0x43800000#32) R.oc R.gc R.dC

/-- The cotangent of the gate's logits. -/
def dLg (e : Fin 256) : EReal :=
  gelu (R.y e) * R.dOc e * (Ideal.logistic (R.lg e) * (1 - Ideal.logistic (R.lg e)))

/-- The cotangent of the rectified row. -/
def dZ (e : Fin 256) : EReal := R.dOc e * Ideal.logistic (R.lg e) + ∑ k : Fin 256, R.dLg k * R.w e k

/-- The cotangents the block returns at this token: of the mixers' outputs and of the residual. -/
def outA : Fin 384 → EReal := rmsGrad (Ideal.ofBits FTy.f32 0x43C00000#32) R.a R.ga R.dA
def outB : Fin 384 → EReal := rmsGrad (Ideal.ofBits FTy.f32 0x43C00000#32) R.b R.gb R.dB
def outY (e : Fin 256) : EReal := geluGrad (R.y e) (R.dZ e)
def outX (d : Fin 1024) : EReal := Ideal.ofBits FTy.f32 0x3FB504F3#32 * R.dInp d

/-- This token's parts of the parameters' gradients. -/
def outGa : Fin 384 → EReal := rmsScale (Ideal.ofBits FTy.f32 0x43C00000#32) R.a R.dA
def outGb : Fin 384 → EReal := rmsScale (Ideal.ofBits FTy.f32 0x43C00000#32) R.b R.dB
def outGc : Fin 256 → EReal := rmsScale (Ideal.ofBits FTy.f32 0x43800000#32) R.oc R.dC
def outW (k e : Fin 256) : EReal := gelu (R.y k) * R.dLg e
def outO (k d : Fin 1024) : EReal := R.mix k * R.dInp d
def outS (d : Fin 1024) : EReal := (R.inp d - mean R.inp) * invDev R.inp * R.c d

end Rows

end Cert.MixOutBwdMath

end
-- ==== Proof.MixOutBwdBody.lean ====
/- The gradient of the mixers' output: what the tiled kernel's body computes of one tile of 512 tokens, row by row. -/
module

public import proofs.«01_k».proof.Proof.Gen.MixOutBwdKernelIdeal.Skeleton
public import proofs.«01_k».proof.Proof.MixOutBwdMath
public import Idealize.ShloMosaic.Lib.Pointwise

@[expose] public section

set_option maxRecDepth 16384

noncomputable section

open Idealize.ShloMosaic Idealize.ShloMosaic.TcCoe Idealize.SL.Sem

namespace Cert.MixOutBwdKernelIdeal.Body

open Cert.MixOutBwdKernelIdeal Cert.MixOutBwdKernelIdeal.Gen
open Cert.MixOutMath (bend gelu gelu_eq logit gated square rms joined blend pre part)
open Cert.LayerNorm (mean invDev)
open Cert.LnGrad (spread direct pull grad)
open Cert.MixOutBwdMath

/-! ## A row over its root mean square -/

section

variable (v : FVec Ideal S512x384 .f32) (p : Fin 512)

theorem sqA_at (z : Fin 1) : k0_pay24 (F := Ideal) v (ix2 p z) = square (Ideal.ofBits FTy.f32 0x43C00000#32) fun d => v (ix2 p d) := by
  unfold square
  pointwise [k0_pay24]

theorem rootA_at (z : Fin 1) : k0_pay25 (F := Ideal) v (ix2 p z) = Ideal.rsqrt (square (Ideal.ofBits FTy.f32 0x43C00000#32) fun d => v (ix2 p d)) := by
  rw [← sqA_at v p z]
  unfold k0_pay25
  generalize k0_pay24 (F := Ideal) v = s
  pointwise

theorem bendA_at (z : Fin 1) : k0_pay26 (F := Ideal) v (ix2 p z) = bendRoot (Ideal.ofBits FTy.f32 0x43C00000#32) fun d => v (ix2 p d) := by
  unfold bendRoot
  rw [← rootA_at v p z, ← sqA_at v p z]
  unfold k0_pay26
  generalize k0_pay25 (F := Ideal) v = r
  generalize k0_pay24 (F := Ideal) v = s
  pointwise

theorem unitA_at (d : Fin 384) : k0_pay27 (F := Ideal) v (ix2 p d)
    = v (ix2 p d) * Ideal.rsqrt (square (Ideal.ofBits FTy.f32 0x43C00000#32) fun d => v (ix2 p d)) := by
  rw [← rootA_at v p 0]
  unfold k0_pay27
  generalize k0_pay25 (F := Ideal) v = r
  pointwise

theorem normA_at (g : FVec Ideal S1x384 .f32) (d : Fin 384) : k0_pay28 (F := Ideal) v g (ix2 p d)
    = rms (Ideal.ofBits FTy.f32 0x43C00000#32) (fun d => v (ix2 p d)) (fun d => g (ix2 0 d)) d := by
  unfold rms
  rw [← unitA_at v p]
  unfold k0_pay28
  generalize k0_pay27 (F := Ideal) v = r
  pointwise

theorem sqB_at (z : Fin 1) : k0_pay29 (F := Ideal) v (ix2 p z) = square (Ideal.ofBits FTy.f32 0x43C00000#32) fun d => v (ix2 p d) := by
  unfold square
  pointwise [k0_pay29]

theorem rootB_at (z : Fin 1) : k0_pay30 (F := Ideal) v (ix2 p z) = Ideal.rsqrt (square (Ideal.ofBits FTy.f32 0x43C00000#32) fun d => v (ix2 p d)) := by
  rw [← sqB_at v p z]
  unfold k0_pay30
  generalize k0_pay29 (F := Ideal) v = s
  pointwise

theorem bendB_at (z : Fin 1) : k0_pay31 (F := Ideal) v (ix2 p z) = bendRoot (Ideal.ofBits FTy.f32 0x43C00000#32) fun d => v (ix2 p d) := by
  unfold bendRoot
  rw [← rootB_at v p z, ← sqB_at v p z]
  unfold k0_pay31
  generalize k0_pay30 (F := Ideal) v = r
  generalize k0_pay29 (F := Ideal) v = s
  pointwise

theorem unitB_at (d : Fin 384) : k0_pay32 (F := Ideal) v (ix2 p d)
    = v (ix2 p d) * Ideal.rsqrt (square (Ideal.ofBits FTy.f32 0x43C00000#32) fun d => v (ix2 p d)) := by
  rw [← rootB_at v p 0]
  unfold k0_pay32
  generalize k0_pay30 (F := Ideal) v = r
  pointwise

theorem normB_at (g : FVec Ideal S1x384 .f32) (d : Fin 384) : k0_pay33 (F := Ideal) v g (ix2 p d)
    = rms (Ideal.ofBits FTy.f32 0x43C00000#32) (fun d => v (ix2 p d)) (fun d => g (ix2 0 d)) d := by
  unfold rms
  rw [← unitB_at v p]
  unfold k0_pay33
  generalize k0_pay32 (F := Ideal) v = r
  pointwise

/-- The cotangents of a normed row's entries, of the norm's cotangents `c`, scale `g`, reciprocal root `r` and its derivative `h`. -/
theorem gradA_at (g : FVec Ideal S1x384 .f32) (r h : FVec Ideal S512x1 .f32) (c : FVec Ideal S512x384 .f32) (d : Fin 384) :
    k0_pay62 (F := Ideal) v g r h c (ix2 p d) = c (ix2 p d) * g (ix2 0 d) * r (ix2 p 0)
      + v (ix2 p d) * Ideal.div ((∑ d : Fin 384, v (ix2 p d) * (c (ix2 p d) * g (ix2 0 d))) * h (ix2 p 0)) (Ideal.ofBits FTy.f32 0x43C00000#32)
      + Ideal.div ((∑ d : Fin 384, v (ix2 p d) * (c (ix2 p d) * g (ix2 0 d))) * h (ix2 p 0)) (Ideal.ofBits FTy.f32 0x43C00000#32) * v (ix2 p d) := by
  pointwise [k0_pay62]
  simp only [Fin.sum_univ_one]

theorem gradB_at (g : FVec Ideal S1x384 .f32) (r h : FVec Ideal S512x1 .f32) (c : FVec Ideal S512x384 .f32) (d : Fin 384) :
    k0_pay60 (F := Ideal) v g r h c (ix2 p d) = c (ix2 p d) * g (ix2 0 d) * r (ix2 p 0)
      + v (ix2 p d) * Ideal.div ((∑ d : Fin 384, v (ix2 p d) * (c (ix2 p d) * g (ix2 0 d))) * h (ix2 p 0)) (Ideal.ofBits FTy.f32 0x43C00000#32)
      + Ideal.div ((∑ d : Fin 384, v (ix2 p d) * (c (ix2 p d) * g (ix2 0 d))) * h (ix2 p 0)) (Ideal.ofBits FTy.f32 0x43C00000#32) * v (ix2 p d) := by
  pointwise [k0_pay60]
  simp only [Fin.sum_univ_one]

theorem rmsA_at (g : FVec Ideal S1x384 .f32) (c : FVec Ideal S512x384 .f32) (d : Fin 384) :
    k0_pay62 (F := Ideal) v g (k0_pay25 (F := Ideal) v) (k0_pay26 (F := Ideal) v) c (ix2 p d)
      = rmsGrad (Ideal.ofBits FTy.f32 0x43C00000#32) (fun d => v (ix2 p d)) (fun d => g (ix2 0 d)) (fun d => c (ix2 p d)) d := by
  unfold rmsGrad rmsPull
  rw [gradA_at, rootA_at, bendA_at]

theorem rmsB_at (g : FVec Ideal S1x384 .f32) (c : FVec Ideal S512x384 .f32) (d : Fin 384) :
    k0_pay60 (F := Ideal) v g (k0_pay30 (F := Ideal) v) (k0_pay31 (F := Ideal) v) c (ix2 p d)
      = rmsGrad (Ideal.ofBits FTy.f32 0x43C00000#32) (fun d => v (ix2 p d)) (fun d => g (ix2 0 d)) (fun d => c (ix2 p d)) d := by
  unfold rmsGrad rmsPull
  rw [gradB_at, rootB_at, bendB_at]

theorem scaleA_at (z : Fin 1) (c : FVec Ideal S512x384 .f32) (d : Fin 384) : k0_pay61 (F := Ideal) v c (ix2 z d)
    = ∑ p : Fin 512, v (ix2 p d) * c (ix2 p d) := by
  pointwise [k0_pay61]

theorem scaleB_at (z : Fin 1) (c : FVec Ideal S512x384 .f32) (d : Fin 384) : k0_pay59 (F := Ideal) v c (ix2 z d)
    = ∑ p : Fin 512, v (ix2 p d) * c (ix2 p d) := by
  pointwise [k0_pay59]

end

/-! ## The body's values -/

/-- What the body reads: the tiles, the parameters, and the scales as one row each. -/
structure Tile where
  a : FVec Ideal S512x384 .f32
  b : FVec Ideal S512x384 .f32
  y : FVec Ideal S512x256 .f32
  x : FVec Ideal S512x1024 .f32
  c : FVec Ideal S512x1024 .f32
  ga : FVec Ideal S1x384 .f32
  gb : FVec Ideal S1x384 .f32
  gc : FVec Ideal S1x256 .f32
  w : FVec Ideal S256x256 .f32
  o : FVec Ideal S1024x1024 .f32
  s : FVec Ideal S1x1024 .f32

namespace Tile

variable (T : Tile)

/-- What the block reads at row `p`. -/
def rows (p : Fin 512) : Rows where
  a := fun d => T.a (ix2 p d)
  b := fun d => T.b (ix2 p d)
  y := fun e => T.y (ix2 p e)
  x := fun d => T.x (ix2 p d)
  c := fun d => T.c (ix2 p d)
  ga := fun d => T.ga (ix2 0 d)
  gb := fun d => T.gb (ix2 0 d)
  gc := fun d => T.gc (ix2 0 d)
  w := fun k e => T.w (ix2 k e)
  o := fun k d => T.o (ix2 k d)
  s := fun d => T.s (ix2 0 d)

/-- The rectifier's tangents, the rectified entries, the exponentials, the gates, their derivatives' factors, the gated rows. -/
abbrev tan : FVec Ideal S512x256 .f32 := k0_pay14 (F := Ideal) T.y
abbrev rect : FVec Ideal S512x256 .f32 := k0_pay18 (F := Ideal) (k0_pay12 (F := Ideal) T.y) T.tan (k0_pay16 (F := Ideal))
abbrev ex : FVec Ideal S512x256 .f32 := k0_pay19 (F := Ideal) T.w (k0_pay12 (F := Ideal) T.y) T.tan (k0_pay16 (F := Ideal))
abbrev gate : FVec Ideal S512x256 .f32 := k0_pay21 (F := Ideal) T.w (k0_pay12 (F := Ideal) T.y) T.tan (k0_pay16 (F := Ideal))
abbrev steep : FVec Ideal S512x256 .f32 := k0_pay22 (F := Ideal) T.w (k0_pay12 (F := Ideal) T.y) T.tan (k0_pay16 (F := Ideal))
abbrev oc : FVec Ideal S512x256 .f32 := k0_pay23 (F := Ideal) T.w (k0_pay12 (F := Ideal) T.y) T.tan (k0_pay16 (F := Ideal))

/-- The squares of the gated rows, and the normed rows. -/
abbrev oc2 : FVec Ideal S512x256 .f32 := k0_pay34 (F := Ideal) T.w (k0_pay12 (F := Ideal) T.y) T.tan (k0_pay16 (F := Ideal))
abbrev na : FVec Ideal S512x384 .f32 := k0_pay28 (F := Ideal) T.a T.ga
abbrev nb : FVec Ideal S512x384 .f32 := k0_pay33 (F := Ideal) T.b T.gb
abbrev mix : FVec Ideal S512x1024 .f32 := k0_pay39 (F := Ideal) T.gc T.oc T.na T.nb T.oc2

/-- The layer norm's input past its mean, the reciprocal deviations and their derivatives, and the cotangents of its input. -/
abbrev dev : FVec Ideal S512x1024 .f32 := k0_pay40 (F := Ideal) T.x T.gc T.o T.oc T.na T.nb T.oc2
abbrev inv : FVec Ideal S512x1 .f32 := k0_pay42 (F := Ideal) T.x T.gc T.o T.oc T.na T.nb T.oc2
abbrev bendInv : FVec Ideal S512x1 .f32 := k0_pay43 (F := Ideal) T.x T.gc T.o T.oc T.na T.nb T.oc2
abbrev ct : FVec Ideal S512x1024 .f32 := k0_pay44 (F := Ideal) T.c
abbrev dInp : FVec Ideal S512x1024 .f32 := k0_pay47 (F := Ideal) T.s T.dev T.inv T.bendInv T.ct

/-- The cotangents of the three norms' outputs. -/
abbrev dMix : FVec Ideal S512x1024 .f32 := k0_pay48 (F := Ideal) T.o T.s T.dev T.inv T.bendInv T.ct
abbrev dA : FVec Ideal S512x384 .f32 := k0_pay51 (F := Ideal) T.o T.s T.dev T.inv T.bendInv T.ct
abbrev dB : FVec Ideal S512x384 .f32 := k0_pay52 (F := Ideal) T.o T.s T.dev T.inv T.bendInv T.ct
abbrev dC : FVec Ideal S512x256 .f32 := k0_pay53 (F := Ideal) T.o T.s T.dev T.inv T.bendInv T.ct

/-- The cotangents of the gated rows and of the gate's logits. -/
abbrev dOc : FVec Ideal S512x256 .f32 :=
  k0_pay58 (F := Ideal) T.oc (k0_pay37 (F := Ideal) T.oc2) (k0_pay56 (F := Ideal) T.gc T.o T.s T.oc T.dev T.inv T.bendInv T.ct)
    (k0_pay57 (F := Ideal) T.gc T.o T.s (k0_pay36 (F := Ideal) T.oc2) T.dev T.inv T.bendInv T.ct)
abbrev dLg : FVec Ideal S512x256 .f32 := k0_pay63 (F := Ideal) T.rect T.ex T.steep T.dOc

variable (p : Fin 512)

theorem tan_at (e : Fin 256) : T.tan (ix2 p e) = bend (T.y (ix2 p e)) := by
  unfold bend
  pointwise [k0_pay14, k0_pay13]

theorem rect_at (e : Fin 256) : T.rect (ix2 p e) = gelu ((T.rows p).y e) := by
  show T.rect (ix2 p e) = gelu (T.y (ix2 p e))
  rw [← gelu_eq, ← tan_at]
  unfold rect
  generalize T.tan = t
  pointwise [k0_pay18, k0_pay17, k0_pay16, k0_pay12]

theorem ex_at (e : Fin 256) : T.ex (ix2 p e) = Ideal.exp (0 - (T.rows p).lg e) := by
  unfold Rows.lg logit
  simp only [← rect_at]
  unfold ex k0_pay19
  show _ = Ideal.exp (0 - ∑ k : Fin 256, k0_pay18 (F := Ideal) (k0_pay12 (F := Ideal) T.y) T.tan (k0_pay16 (F := Ideal)) (ix2 p k) * T.w (ix2 k e))
  generalize k0_pay18 (F := Ideal) (k0_pay12 (F := Ideal) T.y) T.tan (k0_pay16 (F := Ideal)) = z
  pointwise

theorem open_at (e : Fin 256) : k0_pay20 (F := Ideal) T.w (k0_pay12 (F := Ideal) T.y) T.tan (k0_pay16 (F := Ideal)) (ix2 p e)
    = 1 + Ideal.exp (0 - (T.rows p).lg e) := by
  rw [← ex_at]
  unfold ex k0_pay20
  generalize k0_pay19 (F := Ideal) T.w (k0_pay12 (F := Ideal) T.y) T.tan (k0_pay16 (F := Ideal)) = z
  pointwise

theorem gate_at (e : Fin 256) : T.gate (ix2 p e) = Ideal.logistic ((T.rows p).lg e) := by
  rw [← GateGrad.logistic_def, ← zero_sub, ← open_at]
  unfold gate k0_pay21
  generalize k0_pay20 (F := Ideal) T.w (k0_pay12 (F := Ideal) T.y) T.tan (k0_pay16 (F := Ideal)) = z
  pointwise

theorem steep_at (e : Fin 256) : T.steep (ix2 p e)
    = Ideal.div 1 ((1 + Ideal.exp (0 - (T.rows p).lg e)) * (1 + Ideal.exp (0 - (T.rows p).lg e))) := by
  rw [← open_at]
  unfold steep k0_pay22
  generalize k0_pay20 (F := Ideal) T.w (k0_pay12 (F := Ideal) T.y) T.tan (k0_pay16 (F := Ideal)) = z
  pointwise

theorem oc_at (e : Fin 256) : T.oc (ix2 p e) = (T.rows p).oc e := by
  refine Eq.trans (b := T.rect (ix2 p e) * T.gate (ix2 p e)) ?_ (by rw [rect_at, gate_at]; rfl)
  unfold oc k0_pay23 rect gate
  generalize k0_pay18 (F := Ideal) (k0_pay12 (F := Ideal) T.y) T.tan (k0_pay16 (F := Ideal)) = z
  generalize k0_pay21 (F := Ideal) T.w (k0_pay12 (F := Ideal) T.y) T.tan (k0_pay16 (F := Ideal)) = s
  pointwise

theorem oc2_at (e : Fin 256) : T.oc2 (ix2 p e) = (T.rows p).oc e * (T.rows p).oc e := by
  rw [← oc_at]
  unfold oc2 k0_pay34 oc
  generalize k0_pay23 (F := Ideal) T.w (k0_pay12 (F := Ideal) T.y) T.tan (k0_pay16 (F := Ideal)) = z
  pointwise

theorem sqC_at (z : Fin 1) : k0_pay35 (F := Ideal) T.oc2 (ix2 p z) = square (Ideal.ofBits FTy.f32 0x43800000#32) (T.rows p).oc := by
  unfold square
  simp only [← oc2_at]
  generalize T.oc2 = q
  pointwise [k0_pay35]

theorem rootC_at (z : Fin 1) : k0_pay36 (F := Ideal) T.oc2 (ix2 p z) = Ideal.rsqrt (square (Ideal.ofBits FTy.f32 0x43800000#32) (T.rows p).oc) := by
  rw [← sqC_at T p z]
  unfold k0_pay36
  generalize k0_pay35 (F := Ideal) T.oc2 = s
  pointwise

theorem bendC_at (z : Fin 1) : k0_pay37 (F := Ideal) T.oc2 (ix2 p z) = bendRoot (Ideal.ofBits FTy.f32 0x43800000#32) (T.rows p).oc := by
  unfold bendRoot
  rw [← rootC_at T p z, ← sqC_at T p z]
  unfold k0_pay37
  generalize k0_pay36 (F := Ideal) T.oc2 = r
  generalize k0_pay35 (F := Ideal) T.oc2 = s
  pointwise

theorem unitC_at (d : Fin 256) : k0_pay38 (F := Ideal) T.oc T.oc2 (ix2 p d)
    = (T.rows p).oc d * Ideal.rsqrt (square (Ideal.ofBits FTy.f32 0x43800000#32) (T.rows p).oc) := by
  rw [← rootC_at T p 0, ← oc_at]
  unfold k0_pay38
  generalize k0_pay36 (F := Ideal) T.oc2 = r
  generalize T.oc = x
  pointwise

theorem mix_at (d : Fin 1024) : T.mix (ix2 p d) = (T.rows p).mix d := by
  have ha : (fun d => T.na (ix2 p d)) = rms (Ideal.ofBits FTy.f32 0x43C00000#32) (T.rows p).a (T.rows p).ga :=
    funext fun d => normA_at T.a p T.ga d
  have hb : (fun d => T.nb (ix2 p d)) = rms (Ideal.ofBits FTy.f32 0x43C00000#32) (T.rows p).b (T.rows p).gb :=
    funext fun d => normB_at T.b p T.gb d
  have hc : (fun d => k0_pay38 (F := Ideal) T.oc T.oc2 (ix2 p d) * T.gc (ix2 0 d))
      = rms (Ideal.ofBits FTy.f32 0x43800000#32) (T.rows p).oc (T.rows p).gc :=
    funext fun d => congrArg (· * T.gc (ix2 0 d)) (unitC_at T p d)
  unfold Rows.mix blend
  rw [← ha, ← hb, ← hc]
  unfold mix k0_pay39 joined
  generalize k0_pay38 (F := Ideal) T.oc T.oc2 = x
  generalize T.na = u
  generalize T.nb = v
  pointwise

/-- The layer norm's input past its mean, of any normed rows. -/
theorem dev_of (x : FVec Ideal S512x1024 .f32) (gc : FVec Ideal S1x256 .f32) (o : FVec Ideal S1024x1024 .f32) (u q : FVec Ideal S512x256 .f32)
    (a b : FVec Ideal S512x384 .f32) (d : Fin 1024) : k0_pay40 (F := Ideal) x gc o u a b q (ix2 p d)
      = pre (fun d => x (ix2 p d)) (fun d => k0_pay39 (F := Ideal) gc u a b q (ix2 p d)) (fun k d => o (ix2 k d)) d
        - mean (pre (fun d => x (ix2 p d)) (fun d => k0_pay39 (F := Ideal) gc u a b q (ix2 p d)) fun k d => o (ix2 k d)) := by
  unfold mean pre k0_pay40
  generalize k0_pay39 (F := Ideal) gc u a b q = m
  pointwise

theorem dev_at (d : Fin 1024) : T.dev (ix2 p d) = (T.rows p).inp d - mean (T.rows p).inp := by
  refine (dev_of p T.x T.gc T.o T.oc T.oc2 T.na T.nb d).trans ?_
  exact congrArg (fun m => pre (T.rows p).x m (T.rows p).o d - mean (pre (T.rows p).x m (T.rows p).o)) (funext fun d => mix_at T p d)

theorem spread_at (z : Fin 1) : k0_pay41 (F := Ideal) T.x T.gc T.o T.oc T.na T.nb T.oc2 (ix2 p z) = spread (T.rows p).inp := by
  unfold spread
  simp only [← dev_at]
  unfold k0_pay41 dev
  generalize k0_pay40 (F := Ideal) T.x T.gc T.o T.oc T.na T.nb T.oc2 = x
  pointwise

theorem inv_at (z : Fin 1) : T.inv (ix2 p z) = invDev (T.rows p).inp := by
  refine Eq.trans (b := Ideal.rsqrt (k0_pay41 (F := Ideal) T.x T.gc T.o T.oc T.na T.nb T.oc2 (ix2 p z))) ?_ (by rw [spread_at]; rfl)
  unfold inv k0_pay42
  generalize k0_pay41 (F := Ideal) T.x T.gc T.o T.oc T.na T.nb T.oc2 = x
  pointwise

theorem bendInv_at (z : Fin 1) : T.bendInv (ix2 p z)
    = Ideal.ofBits FTy.f32 0xBF000000#32 * Ideal.div (invDev (T.rows p).inp) (spread (T.rows p).inp) := by
  rw [← inv_at T p z, ← spread_at T p z]
  unfold bendInv k0_pay43 inv
  generalize k0_pay42 (F := Ideal) T.x T.gc T.o T.oc T.na T.nb T.oc2 = r
  generalize k0_pay41 (F := Ideal) T.x T.gc T.o T.oc T.na T.nb T.oc2 = x
  pointwise

theorem ct_at (d : Fin 1024) : T.ct (ix2 p d) = (T.rows p).c d := by
  show _ = T.c (ix2 p d)
  pointwise [k0_pay44]

/-- The layer norm's gradient of a row past its mean, before the mean's part. -/
def core (g x c : Fin 1024 → EReal) (r h : EReal) (d : Fin 1024) : EReal :=
  c d * g d * r + x d * Ideal.div ((∑ d : Fin 1024, x d * (c d * g d)) * h) (Ideal.ofBits FTy.f32 0x44800000#32)
    + Ideal.div ((∑ d : Fin 1024, x d * (c d * g d)) * h) (Ideal.ofBits FTy.f32 0x44800000#32) * x d

theorem core_at (g : FVec Ideal S1x1024 .f32) (x c : FVec Ideal S512x1024 .f32) (r h : FVec Ideal S512x1 .f32) (d : Fin 1024) :
    k0_pay47 (F := Ideal) g x r h c (ix2 p d)
      = core (fun d => g (ix2 0 d)) (fun d => x (ix2 p d)) (fun d => c (ix2 p d)) (r (ix2 p 0)) (h (ix2 p 0)) d
        + Ideal.div (∑ k : Fin 1024, (0 - core (fun d => g (ix2 0 d)) (fun d => x (ix2 p d)) (fun d => c (ix2 p d)) (r (ix2 p 0)) (h (ix2 p 0)) k))
          (Ideal.ofBits FTy.f32 0x44800000#32) := by
  unfold core
  pointwise [k0_pay47]
  simp only [Fin.sum_univ_one]

variable (hs : ∀ d, ∃ r : ℝ, T.s (ix2 0 d) = r) (hc : ∀ p d, ∃ r : ℝ, T.c (ix2 p d) = r)

include hs hc

theorem dInp_at (d : Fin 1024) : T.dInp (ix2 p d) = (T.rows p).dInp d := by
  have h : ∀ d, core (fun d => T.s (ix2 0 d)) (fun d => T.dev (ix2 p d)) (fun d => T.ct (ix2 p d)) (T.inv (ix2 p 0)) (T.bendInv (ix2 p 0)) d
      = direct (T.rows p).inp (T.rows p).s (T.rows p).c d + ((T.rows p).inp d - mean (T.rows p).inp) * pull (T.rows p).inp (T.rows p).s (T.rows p).c
        + pull (T.rows p).inp (T.rows p).s (T.rows p).c * ((T.rows p).inp d - mean (T.rows p).inp) := fun d => by
    unfold core direct pull
    simp only [dev_at, ct_at, inv_at, bendInv_at]
    rfl
  refine (core_at p _ _ _ _ _ d).trans ?_
  simp only [h]
  exact LnGrad.grad_eq _ _ _ hs (hc p) d

theorem dMix_at (k : Fin 1024) : T.dMix (ix2 p k) = (T.rows p).dMix k := by
  unfold Rows.dMix
  simp only [← fun d => dInp_at T p hs hc d]
  show _ = ∑ d : Fin 1024, T.dInp (ix2 p d) * T.o (ix2 k d)
  unfold dMix k0_pay48 dInp
  generalize k0_pay47 (F := Ideal) T.s T.dev T.inv T.bendInv T.ct = x
  pointwise

theorem dA_at (d : Fin 384) : T.dA (ix2 p d) = (T.rows p).dA d := by
  unfold Rows.dA part
  rw [← dMix_at T p hs hc]
  unfold dA k0_pay51 dMix
  generalize k0_pay48 (F := Ideal) T.o T.s T.dev T.inv T.bendInv T.ct = x
  pointwise

theorem dB_at (d : Fin 384) : T.dB (ix2 p d) = (T.rows p).dB d := by
  unfold Rows.dB part
  rw [← dMix_at T p hs hc]
  unfold dB k0_pay52 dMix
  generalize k0_pay48 (F := Ideal) T.o T.s T.dev T.inv T.bendInv T.ct = x
  pointwise

theorem dC_at (d : Fin 256) : T.dC (ix2 p d) = (T.rows p).dC d := by
  unfold Rows.dC part
  rw [← dMix_at T p hs hc]
  unfold dC k0_pay53 dMix
  generalize k0_pay48 (F := Ideal) T.o T.s T.dev T.inv T.bendInv T.ct = x
  pointwise

theorem weigh_at (d : Fin 256) : k0_pay55 (F := Ideal) T.gc T.o T.s T.dev T.inv T.bendInv T.ct (ix2 p d)
    = (T.rows p).dC d * (T.rows p).gc d := by
  rw [← dC_at T p hs hc]
  show _ = T.dC (ix2 p d) * T.gc (ix2 0 d)
  unfold k0_pay55 dC
  generalize k0_pay53 (F := Ideal) T.o T.s T.dev T.inv T.bendInv T.ct = x
  pointwise

omit hs hc in
theorem dOc_of (u : FVec Ideal S512x256 .f32) (h q : FVec Ideal S512x1 .f32) (v : FVec Ideal S512x256 .f32) (d : Fin 256) :
    k0_pay58 (F := Ideal) u h q v (ix2 p d) = v (ix2 p d)
      + u (ix2 p d) * Ideal.div (q (ix2 p 0) * h (ix2 p 0)) (Ideal.ofBits FTy.f32 0x43800000#32)
      + Ideal.div (q (ix2 p 0) * h (ix2 p 0)) (Ideal.ofBits FTy.f32 0x43800000#32) * u (ix2 p d) := by
  pointwise [k0_pay58]
  simp only [Fin.sum_univ_one]

theorem dot_at (z : Fin 1) : k0_pay56 (F := Ideal) T.gc T.o T.s T.oc T.dev T.inv T.bendInv T.ct (ix2 p z)
    = ∑ d : Fin 256, (T.rows p).oc d * ((T.rows p).dC d * (T.rows p).gc d) := by
  simp only [← fun d => weigh_at T p hs hc d, ← oc_at]
  unfold k0_pay56
  generalize k0_pay55 (F := Ideal) T.gc T.o T.s T.dev T.inv T.bendInv T.ct = x
  generalize T.oc = u
  pointwise

theorem spreadC_at (d : Fin 256) : k0_pay57 (F := Ideal) T.gc T.o T.s (k0_pay36 (F := Ideal) T.oc2) T.dev T.inv T.bendInv T.ct (ix2 p d)
    = (T.rows p).dC d * (T.rows p).gc d * Ideal.rsqrt (square (Ideal.ofBits FTy.f32 0x43800000#32) (T.rows p).oc) := by
  rw [← weigh_at T p hs hc, ← rootC_at T p 0]
  unfold k0_pay57
  generalize k0_pay55 (F := Ideal) T.gc T.o T.s T.dev T.inv T.bendInv T.ct = x
  generalize k0_pay36 (F := Ideal) T.oc2 = r
  pointwise

theorem dOc_at (d : Fin 256) : T.dOc (ix2 p d) = (T.rows p).dOc d := by
  refine (dOc_of p _ _ _ _ d).trans ?_
  rw [spreadC_at T p hs hc, oc_at, dot_at T p hs hc, bendC_at]
  rfl

theorem dLg_at (e : Fin 256) : T.dLg (ix2 p e) = (T.rows p).dLg e := by
  unfold Rows.dLg
  rw [← gate_grad, ← dOc_at T p hs hc, ← rect_at, ← steep_at, ← ex_at]
  unfold dLg
  generalize T.rect = z
  generalize T.ex = x
  generalize T.steep = s
  generalize T.dOc = c
  pointwise [k0_pay63]

/-! ## What the body writes out -/

theorem outA_at (d : Fin 384) : k0_pay62 (F := Ideal) T.a T.ga (k0_pay25 (F := Ideal) T.a) (k0_pay26 (F := Ideal) T.a) T.dA (ix2 p d)
    = (T.rows p).outA d := by
  refine (rmsA_at T.a p T.ga T.dA d).trans ?_
  exact congrArg (fun c => rmsGrad _ (T.rows p).a (T.rows p).ga c d) (funext fun d => dA_at T p hs hc d)

theorem outB_at (d : Fin 384) : k0_pay60 (F := Ideal) T.b T.gb (k0_pay30 (F := Ideal) T.b) (k0_pay31 (F := Ideal) T.b) T.dB (ix2 p d)
    = (T.rows p).outB d := by
  refine (rmsB_at T.b p T.gb T.dB d).trans ?_
  exact congrArg (fun c => rmsGrad _ (T.rows p).b (T.rows p).gb c d) (funext fun d => dB_at T p hs hc d)

omit hs hc in
/-- The body's last cotangent, of its arguments. -/
theorem outY_of (y half sq u v z x g s c : FVec Ideal S512x256 .f32) (w : FVec Ideal S256x256 .f32) (e : Fin 256) :
    k0_pay65 (F := Ideal) y w half sq u v z x g s c (ix2 p e)
      = Ideal.ofBits FTy.f32 0x3F4C422A#32 * (half (ix2 p e) * (c (ix2 p e) * g (ix2 p e) + ∑ k : Fin 256, k0_pay63 (F := Ideal) z x s c (ix2 p k) * w (ix2 e k)) * u (ix2 p e))
        + sq (ix2 p e) * (Ideal.ofBits FTy.f32 0x3D372713#32
          * (Ideal.ofBits FTy.f32 0x3F4C422A#32 * (half (ix2 p e) * (c (ix2 p e) * g (ix2 p e) + ∑ k : Fin 256, k0_pay63 (F := Ideal) z x s c (ix2 p k) * w (ix2 e k)) * u (ix2 p e))))
        + y (ix2 p e) * (Ideal.ofBits FTy.f32 0x3D372713#32
          * (Ideal.ofBits FTy.f32 0x3F4C422A#32 * (half (ix2 p e) * (c (ix2 p e) * g (ix2 p e) + ∑ k : Fin 256, k0_pay63 (F := Ideal) z x s c (ix2 p k) * w (ix2 e k)) * u (ix2 p e))) * y (ix2 p e))
        + Ideal.ofBits FTy.f32 0x3D372713#32
          * (Ideal.ofBits FTy.f32 0x3F4C422A#32 * (half (ix2 p e) * (c (ix2 p e) * g (ix2 p e) + ∑ k : Fin 256, k0_pay63 (F := Ideal) z x s c (ix2 p k) * w (ix2 e k)) * u (ix2 p e))) * y (ix2 p e) * y (ix2 p e)
        + Ideal.ofBits FTy.f32 0x3F000000#32
          * ((c (ix2 p e) * g (ix2 p e) + ∑ k : Fin 256, k0_pay63 (F := Ideal) z x s c (ix2 p k) * w (ix2 e k)) * v (ix2 p e)) := by
  unfold k0_pay65
  generalize k0_pay63 (F := Ideal) z x s c = l
  pointwise

omit hs hc in
theorem half_at (y : FVec Ideal S512x256 .f32) (e : Fin 256) : k0_pay12 (F := Ideal) y (ix2 p e) = Ideal.ofBits FTy.f32 0x3F000000#32 * y (ix2 p e) := by
  pointwise [k0_pay12]

omit hs hc in
theorem sq_at (y : FVec Ideal S512x256 .f32) (e : Fin 256) : k0_pay13 (F := Ideal) y (ix2 p e) = y (ix2 p e) * y (ix2 p e) := by
  pointwise [k0_pay13]

omit hs hc in
theorem slope_at (e : Fin 256) : k0_pay15 (F := Ideal) T.y (ix2 p e) = (1 + bend (T.y (ix2 p e))) * (1 - bend (T.y (ix2 p e))) := by
  rw [← tan_at]
  unfold k0_pay15 tan
  generalize k0_pay14 (F := Ideal) T.y = t
  pointwise

omit hs hc in
theorem lift_at (e : Fin 256) : k0_pay17 (F := Ideal) T.tan (k0_pay16 (F := Ideal)) (ix2 p e) = 1 + bend (T.y (ix2 p e)) := by
  rw [← tan_at]
  generalize T.tan = t
  pointwise [k0_pay17, k0_pay16]

theorem outY_at (e : Fin 256) : k0_pay65 (F := Ideal) T.y T.w (k0_pay12 (F := Ideal) T.y) (k0_pay13 (F := Ideal) T.y) (k0_pay15 (F := Ideal) T.y)
      (k0_pay17 (F := Ideal) T.tan (k0_pay16 (F := Ideal))) T.rect T.ex T.gate T.steep T.dOc (ix2 p e) = (T.rows p).outY e := by
  have hz : T.dOc (ix2 p e) * T.gate (ix2 p e) + ∑ k : Fin 256, T.dLg (ix2 p k) * T.w (ix2 e k) = (T.rows p).dZ e := by
    rw [dOc_at T p hs hc, gate_at]
    exact congrArg (fun q => _ + q) (Finset.sum_congr rfl fun k _ => congrArg (· * T.w (ix2 e k)) (dLg_at T p hs hc k))
  refine (outY_of p _ _ _ _ _ _ _ _ _ _ _ e).trans ?_
  rw [hz, half_at, sq_at, slope_at, lift_at, geluGrad_eq]
  rfl

theorem outX_at (d : Fin 1024) : k0_pay50 (F := Ideal) T.s T.dev T.inv T.bendInv T.ct (ix2 p d) = (T.rows p).outX d := by
  unfold Rows.outX
  rw [← dInp_at T p hs hc]
  unfold k0_pay50 dInp
  generalize k0_pay47 (F := Ideal) T.s T.dev T.inv T.bendInv T.ct = x
  pointwise

theorem outGa_at (z : Fin 1) (d : Fin 384) : k0_pay61 (F := Ideal) (k0_pay27 (F := Ideal) T.a) T.dA (ix2 z d) = ∑ p : Fin 512, (T.rows p).outGa d := by
  refine (scaleA_at _ z _ d).trans (Finset.sum_congr rfl fun p _ => ?_)
  rw [unitA_at, dA_at T p hs hc]
  rfl

theorem outGb_at (z : Fin 1) (d : Fin 384) : k0_pay59 (F := Ideal) (k0_pay32 (F := Ideal) T.b) T.dB (ix2 z d) = ∑ p : Fin 512, (T.rows p).outGb d := by
  refine (scaleB_at _ z _ d).trans (Finset.sum_congr rfl fun p _ => ?_)
  rw [unitB_at, dB_at T p hs hc]
  rfl

theorem outGc_at (z : Fin 1) (d : Fin 256) : k0_pay54 (F := Ideal) T.o T.s (k0_pay38 (F := Ideal) T.oc T.oc2) T.dev T.inv T.bendInv T.ct (ix2 z d)
    = ∑ p : Fin 512, (T.rows p).outGc d := by
  refine Eq.trans (b := ∑ p : Fin 512, k0_pay38 (F := Ideal) T.oc T.oc2 (ix2 p d) * T.dC (ix2 p d)) ?_ (Finset.sum_congr rfl fun p _ => ?_)
  · unfold k0_pay54 dC
    generalize k0_pay53 (F := Ideal) T.o T.s T.dev T.inv T.bendInv T.ct = x
    generalize k0_pay38 (F := Ideal) T.oc T.oc2 = u
    pointwise
  · rw [unitC_at, dC_at T p hs hc]
    rfl

theorem outW_at (k e : Fin 256) : k0_pay64 (F := Ideal) T.rect T.ex T.steep T.dOc (ix2 k e) = ∑ p : Fin 512, (T.rows p).outW k e := by
  refine Eq.trans (b := ∑ p : Fin 512, T.rect (ix2 p k) * T.dLg (ix2 p e)) ?_ (Finset.sum_congr rfl fun p _ => ?_)
  · unfold k0_pay64 dLg
    generalize k0_pay63 (F := Ideal) T.rect T.ex T.steep T.dOc = x
    generalize T.rect = u
    pointwise
  · rw [rect_at, dLg_at T p hs hc]
    rfl

theorem outO_at (k d : Fin 1024) : k0_pay49 (F := Ideal) T.s T.mix T.dev T.inv T.bendInv T.ct (ix2 k d) = ∑ p : Fin 512, (T.rows p).outO k d := by
  refine Eq.trans (b := ∑ p : Fin 512, T.mix (ix2 p k) * T.dInp (ix2 p d)) ?_ (Finset.sum_congr rfl fun p _ => ?_)
  · unfold k0_pay49 dInp
    generalize k0_pay47 (F := Ideal) T.s T.dev T.inv T.bendInv T.ct = x
    generalize T.mix = u
    pointwise
  · rw [mix_at, dInp_at T p hs hc]
    rfl

omit hs hc in
theorem outS_at (z : Fin 1) (d : Fin 1024) : k0_pay46 (F := Ideal) T.x T.gc T.o T.c T.oc T.na T.nb T.oc2 (ix2 z d)
    = ∑ p : Fin 512, (T.rows p).outS d := by
  refine Eq.trans (b := ∑ p : Fin 512, T.dev (ix2 p d) * T.inv (ix2 p 0) * T.ct (ix2 p d)) ?_ (Finset.sum_congr rfl fun p _ => ?_)
  · unfold k0_pay46 dev inv ct
    generalize k0_pay40 (F := Ideal) T.x T.gc T.o T.oc T.na T.nb T.oc2 = x
    generalize k0_pay42 (F := Ideal) T.x T.gc T.o T.oc T.na T.nb T.oc2 = r
    generalize k0_pay44 (F := Ideal) T.c = c
    pointwise
  · rw [dev_at, inv_at, ct_at]
    rfl

omit hs hc in
theorem outT_at (z : Fin 1) (d : Fin 1024) : k0_pay45 (F := Ideal) T.c (ix2 z d) = ∑ p : Fin 512, (T.rows p).c d := by
  show _ = ∑ p : Fin 512, T.c (ix2 p d)
  pointwise [k0_pay45]

end Tile

end Cert.MixOutBwdKernelIdeal.Body

end
-- ==== Proof.MixOutBwdRef.lean ====
/- The arrays the reference's gradient of the mixers' output leaves, at an index. -/
module

public import proofs.«01_k».proof.Proof.Gen.MixOutBwdReferenceIdeal.Run
public import proofs.«01_k».proof.Proof.MixOutBwdMath
public import Idealize.ShloMosaic.Lib.Pointwise

@[expose] public section

set_option maxRecDepth 16384

noncomputable section

open Idealize.ShloMosaic Idealize.ShloMosaic.TcCoe Idealize.SL.Sem

namespace Cert.MixOutBwdRef

open Cert.MixOutBwdReferenceIdeal Cert.MixOutBwdReferenceIdeal.Gen
open Cert.MixOutMath (bend gelu logit gated square part)
open Cert.MixOutBwdMath

/-! ## The arrays -/

/-- The scale of one norm on every row. -/
abbrev G384 (g : FVec Ideal S384 .f32) : FVec Ideal S4096x384 .f32 :=
  broadcastInDim S4096x384 ![0, 1] bcast_S1x384_S4096x384_0_1 (broadcastInDim S1x384 ![1] bcast_S384_S1x384_1 g)
abbrev G256 (g : FVec Ideal S256 .f32) : FVec Ideal S4096x256 .f32 :=
  broadcastInDim S4096x256 ![0, 1] bcast_S1x256_S4096x256_0_1 (broadcastInDim S1x256 ![1] bcast_S256_S1x256_1 g)

/-- What reaches the mean of every row's squares, spread over its entries; `u` is the norm's cotangent times its scale and
    `s` the means of the squares. -/
abbrev Q384 (x u : FVec Ideal S4096x384 .f32) (s : FVec Ideal S4096x1 .f32) : FVec Ideal S4096x384 .f32 :=
  broadcastInDim S4096x384 ![0] bcast_S4096_S4096x384_0 (Host.reduceAdd (Host.divf (mulf (shapeCast _ (Host.reduceAdd (mulf x u) (constant S_ .f32 0x00000000#32) reducesTo_S4096x384_S4096_d1 h_S_) shapeCasts_S4096_S4096x1)
    (mulf (broadcastInDim S4096x1 ![] bcast_S_S4096x1 (constant S_ .f32 0xBF000000#32)) (Host.divf (Host.rsqrt s) s)))
    (broadcastInDim S4096x1 ![] bcast_S_S4096x1 (constant S_ .f32 0x43C00000#32))) (constant S_ .f32 0x00000000#32) reducesTo_S4096x1_S4096_d1 h_S_)
abbrev Q256 (x u : FVec Ideal S4096x256 .f32) (s : FVec Ideal S4096x1 .f32) : FVec Ideal S4096x256 .f32 :=
  broadcastInDim S4096x256 ![0] bcast_S4096_S4096x256_0 (Host.reduceAdd (Host.divf (mulf (shapeCast _ (Host.reduceAdd (mulf x u) (constant S_ .f32 0x00000000#32) reducesTo_S4096x256_S4096_d1 h_S_) shapeCasts_S4096_S4096x1)
    (mulf (broadcastInDim S4096x1 ![] bcast_S_S4096x1 (constant S_ .f32 0xBF000000#32)) (Host.divf (Host.rsqrt s) s)))
    (broadcastInDim S4096x1 ![] bcast_S_S4096x1 (constant S_ .f32 0x43800000#32))) (constant S_ .f32 0x00000000#32) reducesTo_S4096x1_S4096_d1 h_S_)

/-- The cotangents of the normed rows' input. -/
abbrev RG384 (x u : FVec Ideal S4096x384 .f32) (s : FVec Ideal S4096x1 .f32) : FVec Ideal S4096x384 .f32 :=
  addf (addf (mulf u (broadcastInDim S4096x384 ![0, 1] bcast_S4096x1_S4096x384_0_1 (Host.rsqrt s))) (mulf x (Q384 x u s))) (mulf (Q384 x u s) x)
abbrev RG256 (x u : FVec Ideal S4096x256 .f32) (s : FVec Ideal S4096x1 .f32) : FVec Ideal S4096x256 .f32 :=
  addf (addf (mulf u (broadcastInDim S4096x256 ![0, 1] bcast_S4096x1_S4096x256_0_1 (Host.rsqrt s))) (mulf x (Q256 x u s))) (mulf (Q256 x u s) x)

/-- The sum of the columns, a row. -/
abbrev SUM384 (x : FVec Ideal S4096x384 .f32) : FVec Ideal S1x384 .f32 :=
  shapeCast _ (Host.reduceAdd (shapeCast _ (Host.reduceAdd x (constant S_ .f32 0x00000000#32) reducesTo_S4096x384_S384_d0 h_S_) shapeCasts_S384_S1x384)
    (constant S_ .f32 0x00000000#32) reducesTo_S1x384_S384_d0 h_S_) shapeCasts_S384_S1x384
abbrev SUM256 (x : FVec Ideal S4096x256 .f32) : FVec Ideal S1x256 .f32 :=
  shapeCast _ (Host.reduceAdd (shapeCast _ (Host.reduceAdd x (constant S_ .f32 0x00000000#32) reducesTo_S4096x256_S256_d0 h_S_) shapeCasts_S256_S1x256)
    (constant S_ .f32 0x00000000#32) reducesTo_S1x256_S256_d0 h_S_) shapeCasts_S256_S1x256

/-- The rows `c` against the rows of `o`. -/
abbrev BACK (c : FVec Ideal S4096x1024 .f32) (o : FVec Ideal S1024x1024 .f32) : FVec Ideal S4096x1024 .f32 :=
  Host.dotGeneral dot_S4096x1024_S1024x1024_S4096x1024_1_1_0_0_n_n none c o

/-- The three parts of an array's columns. -/
abbrev CA (x : FVec Ideal S4096x1024 .f32) : FVec Ideal S4096x384 .f32 := extractStridedSlice S4096x384 ![0, 0] x slices_S4096x1024_S4096x384_0_0
abbrev CB (x : FVec Ideal S4096x1024 .f32) : FVec Ideal S4096x384 .f32 := extractStridedSlice S4096x384 ![0, 384] x slices_S4096x1024_S4096x384_0_384
abbrev CC (x : FVec Ideal S4096x1024 .f32) : FVec Ideal S4096x256 .f32 := extractStridedSlice S4096x256 ![0, 768] x slices_S4096x1024_S4096x256_0_768

/-- The cotangents of the gate's logits; `z` are the rectified rows, `u` the gates and `c` the gated rows' cotangents. -/
abbrev DLG (z c u : FVec Ideal S4096x256 .f32) : FVec Ideal S4096x256 .f32 :=
  mulf (mulf z c) (mulf u (subf (broadcastInDim S4096x256 ![] bcast_S_S4096x256 (constant S_ .f32 0x3F800000#32)) u))

/-- The cotangents of the rectified rows. -/
abbrev DZ (c u l : FVec Ideal S4096x256 .f32) (w : FVec Ideal S256x256 .f32) : FVec Ideal S4096x256 .f32 :=
  addf (mulf c u) (Host.dotGeneral dot_S4096x256_S256x256_S4096x256_1_1_0_0_n_n none l w)

/-- The rectifier's tangents. -/
abbrev TAN (y : FVec Ideal S4096x256 .f32) : FVec Ideal S4096x256 .f32 :=
  Host.tanh (mulf (broadcastInDim S4096x256 ![] bcast_S_S4096x256 (constant S_ .f32 0x3F4C422A#32)) (addf y (mulf (broadcastInDim S4096x256 ![] bcast_S_S4096x256 (constant S_ .f32 0x3D372713#32)) (mulf (mulf y y) y))))

/-- What reaches the tangents' argument; `h` are the tangents. -/
abbrev INNER (y c h : FVec Ideal S4096x256 .f32) : FVec Ideal S4096x256 .f32 :=
  mulf (broadcastInDim S4096x256 ![] bcast_S_S4096x256 (constant S_ .f32 0x3F4C422A#32)) (mulf (mulf (broadcastInDim S4096x256 ![] bcast_S_S4096x256 (constant S_ .f32 0x3F000000#32)) (mulf y c)) (mulf (addf (broadcastInDim S4096x256 ![] bcast_S_S4096x256 (constant S_ .f32 0x3F800000#32)) h) (subf (broadcastInDim S4096x256 ![] bcast_S_S4096x256 (constant S_ .f32 0x3F800000#32)) h)))

/-- The cotangents of the rectifier's input. -/
abbrev DY (y c h : FVec Ideal S4096x256 .f32) : FVec Ideal S4096x256 .f32 :=
  addf (addf (mulf c (mulf (broadcastInDim S4096x256 ![] bcast_S_S4096x256 (constant S_ .f32 0x3F000000#32)) (addf (broadcastInDim S4096x256 ![] bcast_S_S4096x256 (constant S_ .f32 0x3F800000#32)) h))) (INNER y c h))
    (mulf (mulf (broadcastInDim S4096x256 ![] bcast_S_S4096x256 (constant S_ .f32 0x3D372713#32)) (INNER y c h)) (mulf (broadcastInDim S4096x256 ![] bcast_S_S4096x256 (constant S_ .f32 0x40400000#32)) (mulf y y)))

/-- The matrices' gradients. -/
abbrev DW (l z : FVec Ideal S4096x256 .f32) : FVec Ideal S256x256 .f32 :=
  transpose S256x256 [1, 0] (Host.dotGeneral dot_S4096x256_S4096x256_S256x256_0_0_1_1_n_n none l z) transposes_S256x256_S256x256_1_0
abbrev DO (c o : FVec Ideal S4096x1024 .f32) : FVec Ideal S1024x1024 .f32 :=
  transpose S1024x1024 [1, 0] (Host.dotGeneral dot_S4096x1024_S4096x1024_S1024x1024_0_0_1_1_n_n none c o) transposes_S1024x1024_S1024x1024_1_0

/-! ## Each at an index -/

section

variable (t : Fin 4096)

theorem U384_at (c : FVec Ideal S4096x384 .f32) (g : FVec Ideal S384 .f32) (d : Fin 384) : mulf c (G384 g) (ix2 t d) = c (ix2 t d) * g (ix1 d) := by
  pointwise

theorem U256_at (c : FVec Ideal S4096x256 .f32) (g : FVec Ideal S256 .f32) (d : Fin 256) : mulf c (G256 g) (ix2 t d) = c (ix2 t d) * g (ix1 d) := by
  pointwise

theorem Q384_at (x u : FVec Ideal S4096x384 .f32) (s : FVec Ideal S4096x1 .f32) (d : Fin 384) :
    Q384 x u s (ix2 t d) = Ideal.div ((∑ d : Fin 384, x (ix2 t d) * u (ix2 t d)) * (Ideal.ofBits FTy.f32 0xBF000000#32
      * Ideal.div (Ideal.rsqrt (s (ix2 t 0))) (s (ix2 t 0)))) (Ideal.ofBits FTy.f32 0x43C00000#32) := by
  pointwise
  rw [Fin.sum_univ_one]

theorem Q256_at (x u : FVec Ideal S4096x256 .f32) (s : FVec Ideal S4096x1 .f32) (d : Fin 256) :
    Q256 x u s (ix2 t d) = Ideal.div ((∑ d : Fin 256, x (ix2 t d) * u (ix2 t d)) * (Ideal.ofBits FTy.f32 0xBF000000#32
      * Ideal.div (Ideal.rsqrt (s (ix2 t 0))) (s (ix2 t 0)))) (Ideal.ofBits FTy.f32 0x43800000#32) := by
  pointwise
  rw [Fin.sum_univ_one]

theorem RG384_at (x c : FVec Ideal S4096x384 .f32) (g : FVec Ideal S384 .f32) (d : Fin 384) :
    RG384 x (mulf c (G384 g)) (MixOutMath.SQ384 x) (ix2 t d)
      = rmsGrad (Ideal.ofBits FTy.f32 0x43C00000#32) (fun d => x (ix2 t d)) (fun d => g (ix1 d)) (fun d => c (ix2 t d)) d := by
  unfold rmsGrad rmsPull bendRoot
  simp only [← U384_at, ← MixOutMath.SQ384_at x t 0]
  generalize mulf c (G384 g) = u
  generalize MixOutMath.SQ384 x = s
  rw [← Q384_at t x u s d]
  unfold RG384
  generalize Q384 x u s = q
  pointwise

theorem RG256_at (x c : FVec Ideal S4096x256 .f32) (g : FVec Ideal S256 .f32) (d : Fin 256) :
    RG256 x (mulf c (G256 g)) (MixOutMath.SQ256 x) (ix2 t d)
      = rmsGrad (Ideal.ofBits FTy.f32 0x43800000#32) (fun d => x (ix2 t d)) (fun d => g (ix1 d)) (fun d => c (ix2 t d)) d := by
  unfold rmsGrad rmsPull bendRoot
  simp only [← U256_at, ← MixOutMath.SQ256_at x t 0]
  generalize mulf c (G256 g) = u
  generalize MixOutMath.SQ256 x = s
  rw [← Q256_at t x u s d]
  unfold RG256
  generalize Q256 x u s = q
  pointwise

theorem SUM384_at (x : FVec Ideal S4096x384 .f32) (z : Fin 1) (d : Fin 384) : SUM384 x (ix2 z d) = ∑ t : Fin 4096, x (ix2 t d) := by
  pointwise
  exact Fin.sum_univ_one _

theorem SUM256_at (x : FVec Ideal S4096x256 .f32) (z : Fin 1) (d : Fin 256) : SUM256 x (ix2 z d) = ∑ t : Fin 4096, x (ix2 t d) := by
  pointwise
  exact Fin.sum_univ_one _

theorem BACK_at (c : FVec Ideal S4096x1024 .f32) (o : FVec Ideal S1024x1024 .f32) (k : Fin 1024) :
    BACK c o (ix2 t k) = ∑ d : Fin 1024, c (ix2 t d) * o (ix2 k d) := by
  pointwise

theorem CA_at (x : FVec Ideal S4096x1024 .f32) (d : Fin 384) : CA x (ix2 t d) = part 0 (by omega) (fun k => x (ix2 t k)) d := by
  unfold part
  pointwise

theorem CB_at (x : FVec Ideal S4096x1024 .f32) (d : Fin 384) : CB x (ix2 t d) = part 384 (by omega) (fun k => x (ix2 t k)) d := by
  unfold part
  pointwise

theorem CC_at (x : FVec Ideal S4096x1024 .f32) (d : Fin 256) : CC x (ix2 t d) = part 768 (by omega) (fun k => x (ix2 t k)) d := by
  unfold part
  pointwise

theorem DLG_at (z c u : FVec Ideal S4096x256 .f32) (e : Fin 256) :
    DLG z c u (ix2 t e) = z (ix2 t e) * c (ix2 t e) * (u (ix2 t e) * (1 - u (ix2 t e))) := by
  pointwise

theorem DZ_at (c u l : FVec Ideal S4096x256 .f32) (w : FVec Ideal S256x256 .f32) (e : Fin 256) :
    DZ c u l w (ix2 t e) = c (ix2 t e) * u (ix2 t e) + ∑ k : Fin 256, l (ix2 t k) * w (ix2 e k) := by
  pointwise

theorem TAN_at (y : FVec Ideal S4096x256 .f32) (e : Fin 256) : TAN y (ix2 t e) = bend (y (ix2 t e)) := by
  unfold bend
  pointwise

theorem INNER_at (y c : FVec Ideal S4096x256 .f32) (e : Fin 256) : INNER y c (TAN y) (ix2 t e) = inner (y (ix2 t e)) (c (ix2 t e)) := by
  unfold MixOutBwdMath.inner
  rw [← TAN_at]
  unfold INNER
  generalize TAN y = h
  pointwise

theorem DY_at (y c : FVec Ideal S4096x256 .f32) (e : Fin 256) : DY y c (TAN y) (ix2 t e) = geluGrad (y (ix2 t e)) (c (ix2 t e)) := by
  unfold geluGrad
  rw [← INNER_at, ← TAN_at]
  unfold DY
  generalize INNER y c (TAN y) = n
  generalize TAN y = h
  pointwise

theorem DW_at (l z : FVec Ideal S4096x256 .f32) (k e : Fin 256) : DW l z (ix2 k e) = ∑ t : Fin 4096, l (ix2 t e) * z (ix2 t k) := by
  pointwise

theorem DO_at (c o : FVec Ideal S4096x1024 .f32) (k d : Fin 1024) : DO c o (ix2 k d) = ∑ t : Fin 4096, c (ix2 t d) * o (ix2 t k) := by
  pointwise

end

/-! ## The whole gradient -/

section

variable (a b : FVec Ideal S4096x384 .f32) (y : FVec Ideal S4096x256 .f32) (x : FVec Ideal S4096x1024 .f32) (g : FVec Ideal S1024 .f32)
  (w : FVec Ideal S256x256 .f32) (o : FVec Ideal S1024x1024 .f32) (s : FVec Ideal S1024 .f32) (c : FVec Ideal S4096x1024 .f32)

/-- What the block reads at token `t`. -/
def rows (t : Fin 4096) : Rows where
  a := fun d => a (ix2 t d)
  b := fun d => b (ix2 t d)
  y := fun e => y (ix2 t e)
  x := fun d => x (ix2 t d)
  c := fun d => c (ix2 t d)
  ga := part 0 (by omega) fun d => g (ix1 d)
  gb := part 384 (by omega) fun d => g (ix1 d)
  gc := part 768 (by omega) fun d => g (ix1 d)
  w := fun k e => w (ix2 k e)
  o := fun k d => o (ix2 k d)
  s := fun d => s (ix1 d)

abbrev GA : FVec Ideal S384 .f32 := extractStridedSlice S384 ![0] g slices_S1024_S384_0
abbrev GB : FVec Ideal S384 .f32 := extractStridedSlice S384 ![384] g slices_S1024_S384_384
abbrev GC : FVec Ideal S256 .f32 := extractStridedSlice S256 ![768] g slices_S1024_S256_768

/-- The norm's input, its cotangents, and the cotangents of the normed rows. -/
abbrev INP : FVec Ideal S4096x1024 .f32 := MixOutMath.PRE x (MixOutMath.BLEND a b y w g) o
abbrev DINP : FVec Ideal S4096x1024 .f32 := LnGrad.DP (INP a b y x g w o) s c
abbrev DMIX : FVec Ideal S4096x1024 .f32 := BACK (DINP a b y x g w o s c) o

/-- The cotangents of the gated rows, of the logits and of the rectified rows. -/
abbrev DOC : FVec Ideal S4096x256 .f32 :=
  RG256 (MixOutMath.GATED y w) (mulf (CC (DMIX a b y x g w o s c)) (G256 (GC g))) (MixOutMath.SQ256 (MixOutMath.GATED y w))
abbrev DLOG : FVec Ideal S4096x256 .f32 := DLG (MixOutMath.GELU y) (DOC a b y x g w o s c) (MixOutMath.OPEN y w)
abbrev DRECT : FVec Ideal S4096x256 .f32 := DZ (DOC a b y x g w o s c) (MixOutMath.OPEN y w) (DLOG a b y x g w o s c) w

theorem GA_at (d : Fin 384) : GA g (ix1 d) = part 0 (by omega) (fun d => g (ix1 d)) d := by
  unfold part
  pointwise

theorem GB_at (d : Fin 384) : GB g (ix1 d) = part 384 (by omega) (fun d => g (ix1 d)) d := by
  unfold part
  pointwise

theorem GC_at (d : Fin 256) : GC g (ix1 d) = part 768 (by omega) (fun d => g (ix1 d)) d := by
  unfold part
  pointwise

variable (t : Fin 4096)

theorem MIX_at (d : Fin 1024) : MixOutMath.BLEND a b y w g (ix2 t d) = (rows a b y x g w o s c t).mix d :=
  MixOutMath.BLEND_at a b y w g t d

theorem INP_at (d : Fin 1024) : INP a b y x g w o (ix2 t d) = (rows a b y x g w o s c t).inp d := by
  refine (MixOutMath.PRE_at x _ o t d).trans ?_
  exact congrArg (fun p => MixOutMath.pre _ p _ d) (funext fun d => MIX_at a b y x g w o s c t d)

theorem DINP_at (d : Fin 1024) : DINP a b y x g w o s c (ix2 t d) = (rows a b y x g w o s c t).dInp d := by
  refine (LnGrad.DP_at _ s c t d).trans ?_
  exact congrArg (fun p => LnGrad.grad p _ _ d) (funext fun d => INP_at a b y x g w o s c t d)

theorem DMIX_at (k : Fin 1024) : DMIX a b y x g w o s c (ix2 t k) = (rows a b y x g w o s c t).dMix k := by
  refine (BACK_at t _ o k).trans ?_
  exact Finset.sum_congr rfl fun d _ => congrArg (fun p => p * o (ix2 k d)) (DINP_at a b y x g w o s c t d)

theorem DA_at (d : Fin 384) : CA (DMIX a b y x g w o s c) (ix2 t d) = (rows a b y x g w o s c t).dA d :=
  (CA_at t _ d).trans (congrArg (fun p => part 0 (by omega) p d) (funext fun k => DMIX_at a b y x g w o s c t k))

theorem DB_at (d : Fin 384) : CB (DMIX a b y x g w o s c) (ix2 t d) = (rows a b y x g w o s c t).dB d :=
  (CB_at t _ d).trans (congrArg (fun p => part 384 (by omega) p d) (funext fun k => DMIX_at a b y x g w o s c t k))

theorem DC_at (d : Fin 256) : CC (DMIX a b y x g w o s c) (ix2 t d) = (rows a b y x g w o s c t).dC d :=
  (CC_at t _ d).trans (congrArg (fun p => part 768 (by omega) p d) (funext fun k => DMIX_at a b y x g w o s c t k))

theorem OUTA_at (d : Fin 384) : RG384 a (mulf (CA (DMIX a b y x g w o s c)) (G384 (GA g))) (MixOutMath.SQ384 a) (ix2 t d)
    = (rows a b y x g w o s c t).outA d := by
  refine (RG384_at t a _ (GA g) d).trans ?_
  exact congrArg₂ (fun p q => rmsGrad _ _ p q d) (funext fun d => GA_at g d) (funext fun d => DA_at a b y x g w o s c t d)

theorem OUTB_at (d : Fin 384) : RG384 b (mulf (CB (DMIX a b y x g w o s c)) (G384 (GB g))) (MixOutMath.SQ384 b) (ix2 t d)
    = (rows a b y x g w o s c t).outB d := by
  refine (RG384_at t b _ (GB g) d).trans ?_
  exact congrArg₂ (fun p q => rmsGrad _ _ p q d) (funext fun d => GB_at g d) (funext fun d => DB_at a b y x g w o s c t d)

theorem GATED_at (d : Fin 256) : MixOutMath.GATED y w (ix2 t d) = (rows a b y x g w o s c t).oc d := MixOutMath.GATED_at y w t d

theorem OPEN_at (e : Fin 256) : MixOutMath.OPEN y w (ix2 t e) = Ideal.logistic ((rows a b y x g w o s c t).lg e) := MixOutMath.OPEN_at y w t e

theorem DOC_at (d : Fin 256) : DOC a b y x g w o s c (ix2 t d) = (rows a b y x g w o s c t).dOc d := by
  refine (RG256_at t _ _ (GC g) d).trans ?_
  have h : (fun d => MixOutMath.GATED y w (ix2 t d)) = (rows a b y x g w o s c t).oc := funext fun d => GATED_at a b y x g w o s c t d
  rw [h]
  exact congrArg₂ (fun p q => rmsGrad _ _ p q d) (funext fun d => GC_at g d) (funext fun d => DC_at a b y x g w o s c t d)

theorem DLOG_at (e : Fin 256) : DLOG a b y x g w o s c (ix2 t e) = (rows a b y x g w o s c t).dLg e := by
  refine (DLG_at t _ _ _ e).trans ?_
  rw [MixOutMath.GELU_at, DOC_at, OPEN_at a b y x g w o s c t e]
  rfl

theorem DRECT_at (e : Fin 256) : DRECT a b y x g w o s c (ix2 t e) = (rows a b y x g w o s c t).dZ e := by
  refine (DZ_at t _ _ _ w e).trans ?_
  rw [DOC_at, OPEN_at a b y x g w o s c t e]
  exact congrArg (fun p => _ + p) (Finset.sum_congr rfl fun k _ => congrArg (fun p => p * w (ix2 e k)) (DLOG_at a b y x g w o s c t k))

theorem OUTY_at (e : Fin 256) : DY y (DRECT a b y x g w o s c) (TAN y) (ix2 t e) = (rows a b y x g w o s c t).outY e := by
  refine (DY_at t y _ e).trans ?_
  rw [DRECT_at]
  rfl

theorem OUTX_at (d : Fin 1024) :
    mulf (broadcastInDim S4096x1024 ![] bcast_S_S4096x1024 (constant S_ .f32 0x3FB504F3#32)) (DINP a b y x g w o s c) (ix2 t d)
      = (rows a b y x g w o s c t).outX d := by
  refine Eq.trans (b := Ideal.ofBits FTy.f32 0x3FB504F3#32 * DINP a b y x g w o s c (ix2 t d)) ?_ (by rw [DINP_at]; rfl)
  generalize DINP a b y x g w o s c = p
  pointwise

variable (z : Fin 1)

theorem OUTGA_at (d : Fin 384) : SUM384 (mulf (MixOutMath.X384 a) (CA (DMIX a b y x g w o s c))) (ix2 z d)
    = ∑ t : Fin 4096, (rows a b y x g w o s c t).outGa d := by
  refine (SUM384_at _ z d).trans (Finset.sum_congr rfl fun t _ => ?_)
  exact congrArg₂ (fun p q : EReal => p * q) (MixOutMath.X384_at a t d) (DA_at a b y x g w o s c t d)

theorem OUTGB_at (d : Fin 384) : SUM384 (mulf (MixOutMath.X384 b) (CB (DMIX a b y x g w o s c))) (ix2 z d)
    = ∑ t : Fin 4096, (rows a b y x g w o s c t).outGb d := by
  refine (SUM384_at _ z d).trans (Finset.sum_congr rfl fun t _ => ?_)
  exact congrArg₂ (fun p q : EReal => p * q) (MixOutMath.X384_at b t d) (DB_at a b y x g w o s c t d)

theorem OUTGC_at (d : Fin 256) : SUM256 (mulf (MixOutMath.X256 (MixOutMath.GATED y w)) (CC (DMIX a b y x g w o s c))) (ix2 z d)
    = ∑ t : Fin 4096, (rows a b y x g w o s c t).outGc d := by
  refine (SUM256_at _ z d).trans (Finset.sum_congr rfl fun t _ => ?_)
  refine congrArg₂ (fun p q : EReal => p * q) ((MixOutMath.X256_at _ t d).trans ?_) (DC_at a b y x g w o s c t d)
  exact congrArg (fun p : Fin 256 → EReal => p d * Ideal.rsqrt (square _ p)) (funext fun d => GATED_at a b y x g w o s c t d)

theorem OUTW_at (k e : Fin 256) : DW (DLOG a b y x g w o s c) (MixOutMath.GELU y) (ix2 k e)
    = ∑ t : Fin 4096, (rows a b y x g w o s c t).outW k e := by
  refine (DW_at _ _ k e).trans (Finset.sum_congr rfl fun t _ => ?_)
  rw [DLOG_at, MixOutMath.GELU_at, mul_comm]
  rfl

theorem OUTO_at (k d : Fin 1024) : DO (DINP a b y x g w o s c) (MixOutMath.BLEND a b y w g) (ix2 k d)
    = ∑ t : Fin 4096, (rows a b y x g w o s c t).outO k d := by
  refine (DO_at _ _ k d).trans (Finset.sum_congr rfl fun t _ => ?_)
  rw [DINP_at, MIX_at a b y x g w o s c t k, mul_comm]
  rfl

theorem OUTS_at (d : Fin 1024) : LnGrad.SUM (LnGrad.XC (INP a b y x g w o) c) (ix2 z d)
    = ∑ t : Fin 4096, (rows a b y x g w o s c t).outS d := by
  refine (LnGrad.SUM_at _ z d).trans (Finset.sum_congr rfl fun t _ => (LnGrad.XC_at _ c t d).trans ?_)
  exact congrArg (fun p : Fin 1024 → EReal => (p d - LayerNorm.mean p) * LayerNorm.invDev p * c (ix2 t d))
    (funext fun d => INP_at a b y x g w o s c t d)

end

/-! ## The reference's own terms -/

section

open Cert.MixOutBwdReferenceIdeal.Value

variable (V : Valuation τ sig (Elt Ideal))

abbrev va : FVec Ideal S4096x384 .f32 := V (Proc.devRef .tc main_arg0)
abbrev vb : FVec Ideal S4096x384 .f32 := V (Proc.devRef .tc main_arg1)
abbrev vy : FVec Ideal S4096x256 .f32 := V (Proc.devRef .tc main_arg2)
abbrev vx : FVec Ideal S4096x1024 .f32 := V (Proc.devRef .tc main_arg3)
abbrev vg : FVec Ideal S1024 .f32 := V (Proc.devRef .tc main_arg4)
abbrev vw : FVec Ideal S256x256 .f32 := V (Proc.devRef .tc main_arg5)
abbrev vo : FVec Ideal S1024x1024 .f32 := V (Proc.devRef .tc main_arg6)
abbrev vs : FVec Ideal S1024 .f32 := V (Proc.devRef .tc main_arg7)
abbrev vc : FVec Ideal S4096x1024 .f32 := V (Proc.devRef .tc main_arg9)

theorem v13 : res_main_v13 V = TAN (vy V) := rfl
theorem v23 : res_main_v23 V = MixOutMath.GELU (vy V) := rfl
theorem v30 : res_main_v30 V = MixOutMath.OPEN (vy V) (vw V) := rfl
theorem v34 : res_main_v34 V = MixOutMath.GATED (vy V) (vw V) := rfl
theorem v41 : res_main_v41 V = MixOutMath.SQ384 (va V) := rfl
theorem v57 : res_main_v57 V = MixOutMath.SQ384 (vb V) := rfl
theorem v73 : res_main_v73 V = MixOutMath.SQ256 (MixOutMath.GATED (vy V) (vw V)) := rfl
theorem v79 : res_main_v79 V = MixOutMath.X256 (MixOutMath.GATED (vy V) (vw V)) := rfl
theorem v83 : res_main_v83 V = MixOutMath.BLEND (va V) (vb V) (vy V) (vw V) (vg V) := rfl

theorem v87 : res_main_v87 V = INP (va V) (vb V) (vy V) (vx V) (vg V) (vw V) (vo V) := by
  unfold res_main_v87
  rw [v83]
  rfl

theorem v110 : mulf (res_main_v110 V) (res_main_v117 V) = LnGrad.XC (INP (va V) (vb V) (vy V) (vx V) (vg V) (vw V) (vo V)) (vc V) := by
  unfold res_main_v110 res_main_v102 res_main_v105 res_main_v104 res_main_v93 res_main_v91 res_main_v117
  rw [v87]
  rfl

theorem v150 : res_main_v150 V = DINP (va V) (vb V) (vy V) (vx V) (vg V) (vw V) (vo V) (vs V) (vc V) := by
  unfold res_main_v150 res_main_v140 res_main_v131 res_main_v125 res_main_v111 res_main_v102 res_main_v105 res_main_v104 res_main_v93
    res_main_v91 res_main_v117
  rw [v87]
  rfl

theorem v153 : res_main_v153 V = DMIX (va V) (vb V) (vy V) (vx V) (vg V) (vw V) (vo V) (vs V) (vc V) := by
  unfold res_main_v153
  rw [v150]

theorem v156 : res_main_v156 V = CA (DMIX (va V) (vb V) (vy V) (vx V) (vg V) (vw V) (vo V) (vs V) (vc V)) := by
  unfold res_main_v156
  rw [v153]

theorem v157 : res_main_v157 V = CB (DMIX (va V) (vb V) (vy V) (vx V) (vg V) (vw V) (vo V) (vs V) (vc V)) := by
  unfold res_main_v157
  rw [v153]

theorem v158 : res_main_v158 V = CC (DMIX (va V) (vb V) (vy V) (vx V) (vg V) (vw V) (vo V) (vs V) (vc V)) := by
  unfold res_main_v158
  rw [v153]

theorem v178 : res_main_v178 V = DOC (va V) (vb V) (vy V) (vx V) (vg V) (vw V) (vo V) (vs V) (vc V) := by
  unfold res_main_v178 res_main_v174 res_main_v163 res_main_v80 res_main_v74
  rw [v158, v34, v73]

theorem v221 : res_main_v221 V = DLOG (va V) (vb V) (vy V) (vx V) (vg V) (vw V) (vo V) (vs V) (vc V) := by
  unfold res_main_v221
  rw [v178, v23, v30]

theorem v225 : res_main_v225 V = DRECT (va V) (vb V) (vy V) (vx V) (vg V) (vw V) (vo V) (vs V) (vc V) := by
  unfold res_main_v225
  rw [v221, v178, v30]

/-- The cotangents of the first mixer's output. -/
theorem v218 : addf (addf (mulf (res_main_v203 V) (broadcastInDim S4096x384 ![0, 1] bcast_S4096x1_S4096x384_0_1 (res_main_v42 V)))
      (mulf (va V) (res_main_v214 V))) (mulf (res_main_v214 V) (va V))
    = RG384 (va V) (mulf (CA (DMIX (va V) (vb V) (vy V) (vx V) (vg V) (vw V) (vo V) (vs V) (vc V))) (G384 (GA (vg V)))) (MixOutMath.SQ384 (va V)) := by
  unfold res_main_v214 res_main_v203 res_main_v48 res_main_v42
  rw [v156, v41]

/-- The cotangents of the second mixer's output. -/
theorem v198 : addf (addf (mulf (res_main_v183 V) (broadcastInDim S4096x384 ![0, 1] bcast_S4096x1_S4096x384_0_1 (res_main_v58 V)))
      (mulf (vb V) (res_main_v194 V))) (mulf (res_main_v194 V) (vb V))
    = RG384 (vb V) (mulf (CB (DMIX (va V) (vb V) (vy V) (vx V) (vg V) (vw V) (vo V) (vs V) (vc V))) (G384 (GB (vg V)))) (MixOutMath.SQ384 (vb V)) := by
  unfold res_main_v194 res_main_v183 res_main_v64 res_main_v58
  rw [v157, v57]

/-- The cotangents of the rectifier's input. -/
theorem v237 : addf (addf (mulf (res_main_v225 V) (res_main_v22 V)) (res_main_v232 V))
      (mulf (mulf (broadcastInDim S4096x256 ![] bcast_S_S4096x256 (constant S_ .f32 0x3D372713#32)) (res_main_v232 V))
        (mulf (broadcastInDim S4096x256 ![] bcast_S_S4096x256 (constant S_ .f32 0x40400000#32)) (mulf (vy V) (vy V))))
    = DY (vy V) (DRECT (va V) (vb V) (vy V) (vx V) (vg V) (vw V) (vo V) (vs V) (vc V)) (TAN (vy V)) := by
  unfold res_main_v232 res_main_v22
  rw [v225, v13]

theorem v47 : res_main_v47 V = MixOutMath.X384 (va V) := rfl
theorem v63 : res_main_v63 V = MixOutMath.X384 (vb V) := rfl

end

end Cert.MixOutBwdRef

end
-- ==== Proof.MixOutBwdTile.lean ====
/- The gradient of the mixers' output: the tiles the kernel's body reads, in terms of the arrays.  The kernel takes 512
   tokens at a time. -/
module

public import proofs.«01_k».proof.Proof.Gen.MixOutBwdKernelIdeal.Frame
public import proofs.«01_k».proof.Proof.MixOutBwdBody
public import proofs.«01_k».proof.Proof.MixOutBwdRef
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutBwdKernelIdeal.Hand

open Cert.MixOutBwdKernelIdeal Cert.MixOutBwdKernelIdeal.Gen
open Cert.MixOutMath (part)
open Cert.MixOutBwdMath (Rows)
open Cert.MixOutBwdKernelIdeal.Body (Tile)

variable (m : (ℓ : Loc nD τ sig) → Buf (Elt Ideal) ℓ)

/-- The first mixer's output. -/
abbrev aA (c : Dev nD) : FVec Ideal S4096x384 .f32 := m ((c : Thread nD τ).loc main_arg0)
/-- The second mixer's output. -/
abbrev aB (c : Dev nD) : FVec Ideal S4096x384 .f32 := m ((c : Thread nD τ).loc main_arg1)
/-- The third mixer's output, before its gate. -/
abbrev aY (c : Dev nD) : FVec Ideal S4096x256 .f32 := m ((c : Thread nD τ).loc main_arg2)
/-- The residual. -/
abbrev aX (c : Dev nD) : FVec Ideal S4096x1024 .f32 := m ((c : Thread nD τ).loc main_arg3)
/-- The three norms' scales. -/
abbrev aG (c : Dev nD) : FVec Ideal S1024 .f32 := m ((c : Thread nD τ).loc main_arg4)
/-- The gate's projection. -/
abbrev aW (c : Dev nD) : FVec Ideal S256x256 .f32 := m ((c : Thread nD τ).loc main_arg5)
/-- The output projection. -/
abbrev aO (c : Dev nD) : FVec Ideal S1024x1024 .f32 := m ((c : Thread nD τ).loc main_arg6)
/-- The layer norm's scale. -/
abbrev aS (c : Dev nD) : FVec Ideal S1024 .f32 := m ((c : Thread nD τ).loc main_arg7)
/-- The block's cotangent. -/
abbrev aC (c : Dev nD) : FVec Ideal S4096x1024 .f32 := m ((c : Thread nD τ).loc main_arg9)

/-- Which block each window shows at grid point `t`: tile `t` of the tokens, or the whole of a window of parameters. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0] ∧ win0_18.index t = ![0, 0]
    ∧ win0_19.index t = ![0, 0] ∧ win0_20.index t = ![0, 0] ∧ win0_21.index t = ![0, 0] ∧ win0_22.index t = ![0, 0] :=
  (by decide +kernel : ∀ t : Fin grid0.N, _)

/-! ## The input blocks -/

/-- The token at row `p` of tile `t`. -/
def row (t : Fin cfg0.N) (p : Fin 512) : Fin 4096 :=
  ⟨t.val * 512 + p.val, by have := lt_of_lt_of_eq t.isLt N_0; omega⟩

theorem a_blk (c : Dev nD) (t : Fin cfg0.N) (p : Fin 512) (k : Fin 384) (r : Fin 4096) (hr : r.val = t.val * 512 + p.val) :
    (show FVec Ideal S512x384 .f32 from iblk m c 0 t) (ix2 p k) = aA m c (ix2 r k) := by
  blk_ext [iblk, V, idx t]

theorem b_blk (c : Dev nD) (t : Fin cfg0.N) (p : Fin 512) (k : Fin 384) (r : Fin 4096) (hr : r.val = t.val * 512 + p.val) :
    (show FVec Ideal S512x384 .f32 from iblk m c 1 t) (ix2 p k) = aB m c (ix2 r k) := by
  blk_ext [iblk, V, idx t]

theorem y_blk (c : Dev nD) (t : Fin cfg0.N) (p : Fin 512) (k : Fin 256) (r : Fin 4096) (hr : r.val = t.val * 512 + p.val) :
    (show FVec Ideal S512x256 .f32 from iblk m c 2 t) (ix2 p k) = aY m c (ix2 r k) := by
  blk_ext [iblk, V, idx t]

theorem x_blk (c : Dev nD) (t : Fin cfg0.N) (p : Fin 512) (k : Fin 1024) (r : Fin 4096) (hr : r.val = t.val * 512 + p.val) :
    (show FVec Ideal S512x1024 .f32 from iblk m c 3 t) (ix2 p k) = aX m c (ix2 r k) := by
  blk_ext [iblk, V, idx t]

theorem c_blk (c : Dev nD) (t : Fin cfg0.N) (p : Fin 512) (k : Fin 1024) (r : Fin 4096) (hr : r.val = t.val * 512 + p.val) :
    (show FVec Ideal S512x1024 .f32 from iblk m c 11 t) (ix2 p k) = aC m c (ix2 r k) := by
  blk_ext [iblk, V, idx t]

theorem ga_blk (c : Dev nD) (t : Fin cfg0.N) (z : Fin 1) (k : Fin 384) :
    (show FVec Ideal S1x384 .f32 from iblk m c 4 t) (ix2 z k) = part 0 (by omega) (fun d => aG m c (ix1 d)) k := by
  unfold part
  blk_simp [iblk, idx t]
  entry_read
  pointwise
  blk_point [iblk, V, idx t]

theorem gb_blk (c : Dev nD) (t : Fin cfg0.N) (z : Fin 1) (k : Fin 384) :
    (show FVec Ideal S1x384 .f32 from iblk m c 5 t) (ix2 z k) = part 384 (by omega) (fun d => aG m c (ix1 d)) k := by
  unfold part
  blk_simp [iblk, idx t]
  entry_read
  pointwise
  blk_point [iblk, V, idx t]

theorem gc_blk (c : Dev nD) (t : Fin cfg0.N) (z : Fin 1) (k : Fin 256) :
    (show FVec Ideal S1x256 .f32 from iblk m c 6 t) (ix2 z k) = part 768 (by omega) (fun d => aG m c (ix1 d)) k := by
  unfold part
  blk_simp [iblk, idx t]
  entry_read
  pointwise
  blk_point [iblk, V, idx t]

theorem w_blk (c : Dev nD) (t : Fin cfg0.N) (k e : Fin 256) :
    (show FVec Ideal S256x256 .f32 from iblk m c 7 t) (ix2 k e) = aW m c (ix2 k e) := by
  blk_ext [iblk, V, idx t]

theorem o_blk (c : Dev nD) (t : Fin cfg0.N) (k e : Fin 1024) :
    (show FVec Ideal S1024x1024 .f32 from iblk m c 8 t) (ix2 k e) = aO m c (ix2 k e) := by
  blk_ext [iblk, V, idx t]

theorem scale_blk (c : Dev nD) (t : Fin cfg0.N) (z : Fin 1) (k : Fin 1024) :
    (show FVec Ideal S1x1024 .f32 from iblk m c 9 t) (ix2 z k) = aS m c (ix1 k) := by
  blk_simp [iblk, idx t]
  entry_read
  pointwise
  blk_point [iblk, V, idx t]

/-- What the body reads at grid point `t`. -/
abbrev tile (c : Dev nD) (t : Fin cfg0.N) : Tile where
  a := iblk m c 0 t
  b := iblk m c 1 t
  y := iblk m c 2 t
  x := iblk m c 3 t
  c := iblk m c 11 t
  ga := k0_pay8 (F := Ideal) (iblk m c 4 t)
  gb := k0_pay9 (F := Ideal) (iblk m c 5 t)
  gc := k0_pay10 (F := Ideal) (iblk m c 6 t)
  w := iblk m c 7 t
  o := iblk m c 8 t
  s := k0_pay11 (F := Ideal) (iblk m c 9 t)

/-- What the block reads at token `r`. -/
abbrev rows (c : Dev nD) (r : Fin 4096) : Rows := MixOutBwdRef.rows (aA m c) (aB m c) (aY m c) (aX m c) (aG m c) (aW m c) (aO m c) (aS m c) (aC m c) r

theorem s_at (c : Dev nD) (t : Fin cfg0.N) (d : Fin 1024) : (tile m c t).s (ix2 0 d) = aS m c (ix1 d) :=
  Eq.trans (by pointwise [k0_pay11]) (scale_blk m c t 0 d)

theorem rows_blk (c : Dev nD) (t : Fin cfg0.N) (p : Fin 512) : (tile m c t).rows p = rows m c (row t p) := by
  unfold rows MixOutBwdRef.rows Tile.rows
  rw [Rows.mk.injEq]
  exact ⟨funext fun d => a_blk m c t p d _ rfl, funext fun d => b_blk m c t p d _ rfl, funext fun d => y_blk m c t p d _ rfl,
    funext fun d => x_blk m c t p d _ rfl, funext fun d => c_blk m c t p d _ rfl,
    funext fun d => Eq.trans (by pointwise [k0_pay8]) (ga_blk m c t 0 d), funext fun d => Eq.trans (by pointwise [k0_pay9]) (gb_blk m c t 0 d),
    funext fun d => Eq.trans (by pointwise [k0_pay10]) (gc_blk m c t 0 d), funext fun k => funext fun e => w_blk m c t k e,
    funext fun k => funext fun d => o_blk m c t k d, funext fun d => s_at m c t d⟩

theorem s_real (c : Dev nD) (t : Fin cfg0.N) (hs : ∀ i, ∃ r : ℝ, aS m c i = r) (d : Fin 1024) : ∃ r : ℝ, (tile m c t).s (ix2 0 d) = r :=
  (hs (ix1 d)).imp fun r hr => (s_at m c t d).trans hr

theorem c_real (c : Dev nD) (t : Fin cfg0.N) (hc : ∀ i, ∃ r : ℝ, aC m c i = r) (p : Fin 512) (d : Fin 1024) : ∃ r : ℝ, (tile m c t).c (ix2 p d) = r :=
  (hc (ix2 (row t p) d)).imp fun r hr => (c_blk m c t p d _ rfl).trans hr

end Cert.MixOutBwdKernelIdeal.Hand

end
-- ==== Proof.MixOutBwdValue.lean ====
/- The gradient of the mixers' output: the cotangents the tiled kernel leaves of the mixers' outputs and of the residual. -/
module

public import proofs.«01_k».proof.Proof.Gen.MixOutBwdKernelIdeal.Value
public import proofs.«01_k».proof.Proof.MixOutBwdTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutBwdKernelIdeal.Hand

open Cert.MixOutBwdKernelIdeal Cert.MixOutBwdKernelIdeal.Gen
open Cert.MixOutMath (part)
open Cert.MixOutBwdMath (Rows)
open Cert.MixOutBwdKernelIdeal.Body (Tile)

variable (m : (ℓ : Loc nD τ sig) → Buf (Elt Ideal) ℓ)

/-- The cotangents of the first mixer's output. -/
theorem final12 (c : Dev nD) (hs : ∀ i, ∃ r : ℝ, aS m c i = r) (hc : ∀ i, ∃ r : ℝ, aC m c i = r) :
    (dats m 0 c).arrAt 12 (cfgs 0).N = fun i : S4096x384.Idx => (rows m c (i 0)).outA (i 1) := by
  refine (dats m 0 c).arrAt_eq_of_covers 12 _ (by decide +kernel) fun t hf y => ?_
  blk_simp
  have h : (outsAt0 m c t.val t.isLt).1 = k0_pay62 (F := Ideal) (tile m c t).a (tile m c t).ga (k0_pay25 (F := Ideal) (tile m c t).a) (k0_pay26 (F := Ideal) (tile m c t).a) (tile m c t).dA := by
    have hN := lt_of_lt_of_eq t.isLt N_0
    by_cases h0 : t.val % 8 = 0
    · rw [outsAt0_A m c t h0 (by omega)]; frame_out
    · rw [outsAt0_B m c t h0 (by omega)]; frame_out
  have hr : ((win0_12.blk t).view.emb y 0 : Fin 4096) = row t (y 0) := Fin.ext (by
    unfold row
    blk_simp [idx t])
  have hd : ((win0_12.blk t).view.emb y 1 : Fin 384) = (y 1 : Fin 384) := Fin.ext (by
    blk_simp [idx t] <;> try omega)
  rw [after0_12, h, hr, hd]
  exact (congrArg _ (eq_ix2 (n0 := 512) (n1 := 384) y)).trans ((Tile.outA_at (tile m c t) (y 0) (s_real m c t hs) (c_real m c t hc) (y 1)).trans
    (congrArg (fun R : Rows => R.outA (y 1)) (rows_blk m c t (y 0))))

/-- The cotangents of the second mixer's output. -/
theorem final13 (c : Dev nD) (hs : ∀ i, ∃ r : ℝ, aS m c i = r) (hc : ∀ i, ∃ r : ℝ, aC m c i = r) :
    (dats m 0 c).arrAt 13 (cfgs 0).N = fun i : S4096x384.Idx => (rows m c (i 0)).outB (i 1) := by
  refine (dats m 0 c).arrAt_eq_of_covers 13 _ (by decide +kernel) fun t hf y => ?_
  blk_simp
  have h : (outsAt0 m c t.val t.isLt).2.1 = k0_pay60 (F := Ideal) (tile m c t).b (tile m c t).gb (k0_pay30 (F := Ideal) (tile m c t).b) (k0_pay31 (F := Ideal) (tile m c t).b) (tile m c t).dB := by
    have hN := lt_of_lt_of_eq t.isLt N_0
    by_cases h0 : t.val % 8 = 0
    · rw [outsAt0_A m c t h0 (by omega)]; frame_out
    · rw [outsAt0_B m c t h0 (by omega)]; frame_out
  have hr : ((win0_13.blk t).view.emb y 0 : Fin 4096) = row t (y 0) := Fin.ext (by
    unfold row
    blk_simp [idx t])
  have hd : ((win0_13.blk t).view.emb y 1 : Fin 384) = (y 1 : Fin 384) := Fin.ext (by
    blk_simp [idx t] <;> try omega)
  rw [after0_13, h, hr, hd]
  exact (congrArg _ (eq_ix2 (n0 := 512) (n1 := 384) y)).trans ((Tile.outB_at (tile m c t) (y 0) (s_real m c t hs) (c_real m c t hc) (y 1)).trans
    (congrArg (fun R : Rows => R.outB (y 1)) (rows_blk m c t (y 0))))

/-- The cotangents of the third mixer's output, before its gate. -/
theorem final14 (c : Dev nD) (hs : ∀ i, ∃ r : ℝ, aS m c i = r) (hc : ∀ i, ∃ r : ℝ, aC m c i = r) :
    (dats m 0 c).arrAt 14 (cfgs 0).N = fun i : S4096x256.Idx => (rows m c (i 0)).outY (i 1) := by
  refine (dats m 0 c).arrAt_eq_of_covers 14 _ (by decide +kernel) fun t hf y => ?_
  blk_simp
  have h : (outsAt0 m c t.val t.isLt).2.2.1 = k0_pay65 (F := Ideal) (tile m c t).y (tile m c t).w (k0_pay12 (F := Ideal) (tile m c t).y) (k0_pay13 (F := Ideal) (tile m c t).y) (k0_pay15 (F := Ideal) (tile m c t).y)
      (k0_pay17 (F := Ideal) (tile m c t).tan (k0_pay16 (F := Ideal))) (tile m c t).rect (tile m c t).ex (tile m c t).gate (tile m c t).steep (tile m c t).dOc := by
    have hN := lt_of_lt_of_eq t.isLt N_0
    by_cases h0 : t.val % 8 = 0
    · rw [outsAt0_A m c t h0 (by omega)]; frame_out
    · rw [outsAt0_B m c t h0 (by omega)]; frame_out
  have hr : ((win0_14.blk t).view.emb y 0 : Fin 4096) = row t (y 0) := Fin.ext (by
    unfold row
    blk_simp [idx t])
  have hd : ((win0_14.blk t).view.emb y 1 : Fin 256) = (y 1 : Fin 256) := Fin.ext (by
    blk_simp [idx t] <;> try omega)
  rw [after0_14, h, hr, hd]
  exact (congrArg _ (eq_ix2 (n0 := 512) (n1 := 256) y)).trans ((Tile.outY_at (tile m c t) (y 0) (s_real m c t hs) (c_real m c t hc) (y 1)).trans
    (congrArg (fun R : Rows => R.outY (y 1)) (rows_blk m c t (y 0))))

/-- The cotangents of the residual. -/
theorem final15 (c : Dev nD) (hs : ∀ i, ∃ r : ℝ, aS m c i = r) (hc : ∀ i, ∃ r : ℝ, aC m c i = r) :
    (dats m 0 c).arrAt 15 (cfgs 0).N = fun i : S4096x1024.Idx => (rows m c (i 0)).outX (i 1) := by
  refine (dats m 0 c).arrAt_eq_of_covers 15 _ (by decide +kernel) fun t hf y => ?_
  blk_simp
  have h : (outsAt0 m c t.val t.isLt).2.2.2.1 = k0_pay50 (F := Ideal) (tile m c t).s (tile m c t).dev (tile m c t).inv (tile m c t).bendInv (tile m c t).ct := by
    have hN := lt_of_lt_of_eq t.isLt N_0
    by_cases h0 : t.val % 8 = 0
    · rw [outsAt0_A m c t h0 (by omega)]; frame_out
    · rw [outsAt0_B m c t h0 (by omega)]; frame_out
  have hr : ((win0_15.blk t).view.emb y 0 : Fin 4096) = row t (y 0) := Fin.ext (by
    unfold row
    blk_simp [idx t])
  have hd : ((win0_15.blk t).view.emb y 1 : Fin 1024) = (y 1 : Fin 1024) := Fin.ext (by
    blk_simp [idx t] <;> try omega)
  rw [after0_15, h, hr, hd]
  exact (congrArg _ (eq_ix2 (n0 := 512) (n1 := 1024) y)).trans ((Tile.outX_at (tile m c t) (y 0) (s_real m c t hs) (c_real m c t hc) (y 1)).trans
    (congrArg (fun R : Rows => R.outX (y 1)) (rows_blk m c t (y 0))))

end Cert.MixOutBwdKernelIdeal.Hand

end
-- ==== Proof.MixOutBwdSums.lean ====
/- The gradient of the mixers' output: the parameters' gradients the tiled kernel leaves, to which every tile adds its part. -/
module

public import proofs.«01_k».proof.Proof.Gen.MixOutBwdKernelIdeal.Value
public import proofs.«01_k».proof.Proof.MixOutBwdTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutBwdKernelIdeal.Hand

open Cert.MixOutBwdKernelIdeal Cert.MixOutBwdKernelIdeal.Gen
open Cert.MixOutMath (part)
open Cert.MixOutBwdMath (Rows)
open Cert.MixOutBwdKernelIdeal.Body (Tile)

variable (m : (ℓ : Loc nD τ sig) → Buf (Elt Ideal) ℓ)

theorem add16_at (a b : FVec Ideal S1x384 .f32) (y : S1x384.Idx) : k0_pay1 (F := Ideal) a b y = b y + a y := by
  pointwise [k0_pay1]

theorem part16 (c : Dev nD) (t : Fin cfg0.N) (hs : ∀ i, ∃ r : ℝ, aS m c i = r) (hc : ∀ i, ∃ r : ℝ, aC m c i = r) (y : S1x384.Idx) :
    k0_pay61 (F := Ideal) (k0_pay27 (F := Ideal) (tile m c t).a) (tile m c t).dA y
      = ∑ p : Fin 512, (rows m c (row t p)).outGa (y 1) := by
  refine (congrArg _ (eq_ix2 (n0 := 1) (n1 := 384) y)).trans ((Tile.outGa_at (tile m c t) (s_real m c t hs) (c_real m c t hc) (y 0) (y 1)).trans ?_)
  exact Finset.sum_congr rfl fun p _ => by rw [rows_blk]

theorem first16 (c : Dev nD) (t : Fin cfg0.N) (h : t.val % 8 = 0) : (outsAt0 m c t.val t.isLt).2.2.2.2.1 = k0_pay61 (F := Ideal) (k0_pay27 (F := Ideal) (tile m c t).a) (tile m c t).dA := by
  have := lt_of_lt_of_eq t.isLt N_0
  rw [outsAt0_A m c t h (by omega)]; frame_out

theorem next16 (c : Dev nD) (t : Fin cfg0.N) (h : ¬t.val % 8 = 0) : (outsAt0 m c t.val t.isLt).2.2.2.2.1
    = k0_pay1 (F := Ideal) (k0_pay61 (F := Ideal) (k0_pay27 (F := Ideal) (tile m c t).a) (tile m c t).dA) ((outsAt0 m c (t.val - 1) (Nat.lt_of_le_of_lt (Nat.sub_le _ _) t.isLt)).2.2.2.2.1) := by
  rw [outsAt0_B m c t h (by omega)]; frame_out

/-- The gradient of the first norm's scale. -/
theorem final16 (c : Dev nD) (hs : ∀ i, ∃ r : ℝ, aS m c i = r) (hc : ∀ i, ∃ r : ℝ, aC m c i = r) :
    (dats m 0 c).arrAt 16 (cfgs 0).N = fun i : S1x384.Idx => ∑ r : Fin 4096, (rows m c r).outGa (i 1) := by
  refine (dats m 0 c).arrAt_eq_of_covers 16 _ (by decide +kernel) fun t hf y => ?_
  have h7 : t.val % 8 = 7 := (flush0_16 t).mp hf
  blk_simp
  have hd : ((win0_16.blk t).view.emb y 1 : Fin 384) = (y 1 : Fin 384) := Fin.ext (by
    blk_simp [idx t] <;> try omega)
  rw [after0_16, hd, Pipeline.eq_sum_fin_of_reset_step_apply_of_flush (fun n h => (outsAt0 m c n h).2.2.2.2.1) 8 (fun _ => (0 : EReal))
    (fun q y => ∑ p : Fin 512, (rows m c (row q p)).outGa (y 1))
    (fun t h j => (congrFun (first16 m c t h) j).trans ((part16 m c t hs hc j).trans (zero_add _).symm))
    (fun t h j => (congrFun (next16 m c t h) j).trans ((add16_at _ _ j).trans (congrArg (_ + ·) (part16 m c t hs hc j))))
    t h7 _, zero_add]
  refine Fin.sum_mul_add_congr fun s k hl => ?_
  refine congrArg (fun a => (rows m c a).outGa (y 1)) (Fin.ext ?_)
  have := lt_of_lt_of_eq t.isLt N_0
  show (8 * (t.val / 8) + s.val) * 512 + k.val = s.val * 512 + k.val
  omega

theorem add17_at (a b : FVec Ideal S1x384 .f32) (y : S1x384.Idx) : k0_pay2 (F := Ideal) a b y = b y + a y := by
  pointwise [k0_pay2]

theorem part17 (c : Dev nD) (t : Fin cfg0.N) (hs : ∀ i, ∃ r : ℝ, aS m c i = r) (hc : ∀ i, ∃ r : ℝ, aC m c i = r) (y : S1x384.Idx) :
    k0_pay59 (F := Ideal) (k0_pay32 (F := Ideal) (tile m c t).b) (tile m c t).dB y
      = ∑ p : Fin 512, (rows m c (row t p)).outGb (y 1) := by
  refine (congrArg _ (eq_ix2 (n0 := 1) (n1 := 384) y)).trans ((Tile.outGb_at (tile m c t) (s_real m c t hs) (c_real m c t hc) (y 0) (y 1)).trans ?_)
  exact Finset.sum_congr rfl fun p _ => by rw [rows_blk]

theorem first17 (c : Dev nD) (t : Fin cfg0.N) (h : t.val % 8 = 0) : (outsAt0 m c t.val t.isLt).2.2.2.2.2.1 = k0_pay59 (F := Ideal) (k0_pay32 (F := Ideal) (tile m c t).b) (tile m c t).dB := by
  have := lt_of_lt_of_eq t.isLt N_0
  rw [outsAt0_A m c t h (by omega)]; frame_out

theorem next17 (c : Dev nD) (t : Fin cfg0.N) (h : ¬t.val % 8 = 0) : (outsAt0 m c t.val t.isLt).2.2.2.2.2.1
    = k0_pay2 (F := Ideal) (k0_pay59 (F := Ideal) (k0_pay32 (F := Ideal) (tile m c t).b) (tile m c t).dB) ((outsAt0 m c (t.val - 1) (Nat.lt_of_le_of_lt (Nat.sub_le _ _) t.isLt)).2.2.2.2.2.1) := by
  rw [outsAt0_B m c t h (by omega)]; frame_out

/-- The gradient of the second norm's scale. -/
theorem final17 (c : Dev nD) (hs : ∀ i, ∃ r : ℝ, aS m c i = r) (hc : ∀ i, ∃ r : ℝ, aC m c i = r) :
    (dats m 0 c).arrAt 17 (cfgs 0).N = fun i : S1x384.Idx => ∑ r : Fin 4096, (rows m c r).outGb (i 1) := by
  refine (dats m 0 c).arrAt_eq_of_covers 17 _ (by decide +kernel) fun t hf y => ?_
  have h7 : t.val % 8 = 7 := (flush0_17 t).mp hf
  blk_simp
  have hd : ((win0_17.blk t).view.emb y 1 : Fin 384) = (y 1 : Fin 384) := Fin.ext (by
    blk_simp [idx t] <;> try omega)
  rw [after0_17, hd, Pipeline.eq_sum_fin_of_reset_step_apply_of_flush (fun n h => (outsAt0 m c n h).2.2.2.2.2.1) 8 (fun _ => (0 : EReal))
    (fun q y => ∑ p : Fin 512, (rows m c (row q p)).outGb (y 1))
    (fun t h j => (congrFun (first17 m c t h) j).trans ((part17 m c t hs hc j).trans (zero_add _).symm))
    (fun t h j => (congrFun (next17 m c t h) j).trans ((add17_at _ _ j).trans (congrArg (_ + ·) (part17 m c t hs hc j))))
    t h7 _, zero_add]
  refine Fin.sum_mul_add_congr fun s k hl => ?_
  refine congrArg (fun a => (rows m c a).outGb (y 1)) (Fin.ext ?_)
  have := lt_of_lt_of_eq t.isLt N_0
  show (8 * (t.val / 8) + s.val) * 512 + k.val = s.val * 512 + k.val
  omega

theorem add18_at (a b : FVec Ideal S1x256 .f32) (y : S1x256.Idx) : k0_pay3 (F := Ideal) a b y = b y + a y := by
  pointwise [k0_pay3]

theorem part18 (c : Dev nD) (t : Fin cfg0.N) (hs : ∀ i, ∃ r : ℝ, aS m c i = r) (hc : ∀ i, ∃ r : ℝ, aC m c i = r) (y : S1x256.Idx) :
    k0_pay54 (F := Ideal) (tile m c t).o (tile m c t).s (k0_pay38 (F := Ideal) (tile m c t).oc (tile m c t).oc2) (tile m c t).dev (tile m c t).inv (tile m c t).bendInv (tile m c t).ct y
      = ∑ p : Fin 512, (rows m c (row t p)).outGc (y 1) := by
  refine (congrArg _ (eq_ix2 (n0 := 1) (n1 := 256) y)).trans ((Tile.outGc_at (tile m c t) (s_real m c t hs) (c_real m c t hc) (y 0) (y 1)).trans ?_)
  exact Finset.sum_congr rfl fun p _ => by rw [rows_blk]

theorem first18 (c : Dev nD) (t : Fin cfg0.N) (h : t.val % 8 = 0) : (outsAt0 m c t.val t.isLt).2.2.2.2.2.2.1 = k0_pay54 (F := Ideal) (tile m c t).o (tile m c t).s (k0_pay38 (F := Ideal) (tile m c t).oc (tile m c t).oc2) (tile m c t).dev (tile m c t).inv (tile m c t).bendInv (tile m c t).ct := by
  have := lt_of_lt_of_eq t.isLt N_0
  rw [outsAt0_A m c t h (by omega)]; frame_out

theorem next18 (c : Dev nD) (t : Fin cfg0.N) (h : ¬t.val % 8 = 0) : (outsAt0 m c t.val t.isLt).2.2.2.2.2.2.1
    = k0_pay3 (F := Ideal) (k0_pay54 (F := Ideal) (tile m c t).o (tile m c t).s (k0_pay38 (F := Ideal) (tile m c t).oc (tile m c t).oc2) (tile m c t).dev (tile m c t).inv (tile m c t).bendInv (tile m c t).ct) ((outsAt0 m c (t.val - 1) (Nat.lt_of_le_of_lt (Nat.sub_le _ _) t.isLt)).2.2.2.2.2.2.1) := by
  rw [outsAt0_B m c t h (by omega)]; frame_out

/-- The gradient of the third norm's scale. -/
theorem final18 (c : Dev nD) (hs : ∀ i, ∃ r : ℝ, aS m c i = r) (hc : ∀ i, ∃ r : ℝ, aC m c i = r) :
    (dats m 0 c).arrAt 18 (cfgs 0).N = fun i : S1x256.Idx => ∑ r : Fin 4096, (rows m c r).outGc (i 1) := by
  refine (dats m 0 c).arrAt_eq_of_covers 18 _ (by decide +kernel) fun t hf y => ?_
  have h7 : t.val % 8 = 7 := (flush0_18 t).mp hf
  blk_simp
  have hd : ((win0_18.blk t).view.emb y 1 : Fin 256) = (y 1 : Fin 256) := Fin.ext (by
    blk_simp [idx t] <;> try omega)
  rw [after0_18, hd, Pipeline.eq_sum_fin_of_reset_step_apply_of_flush (fun n h => (outsAt0 m c n h).2.2.2.2.2.2.1) 8 (fun _ => (0 : EReal))
    (fun q y => ∑ p : Fin 512, (rows m c (row q p)).outGc (y 1))
    (fun t h j => (congrFun (first18 m c t h) j).trans ((part18 m c t hs hc j).trans (zero_add _).symm))
    (fun t h j => (congrFun (next18 m c t h) j).trans ((add18_at _ _ j).trans (congrArg (_ + ·) (part18 m c t hs hc j))))
    t h7 _, zero_add]
  refine Fin.sum_mul_add_congr fun s k hl => ?_
  refine congrArg (fun a => (rows m c a).outGc (y 1)) (Fin.ext ?_)
  have := lt_of_lt_of_eq t.isLt N_0
  show (8 * (t.val / 8) + s.val) * 512 + k.val = s.val * 512 + k.val
  omega

theorem add19_at (a b : FVec Ideal S256x256 .f32) (y : S256x256.Idx) : k0_pay4 (F := Ideal) a b y = b y + a y := by
  pointwise [k0_pay4]

theorem part19 (c : Dev nD) (t : Fin cfg0.N) (hs : ∀ i, ∃ r : ℝ, aS m c i = r) (hc : ∀ i, ∃ r : ℝ, aC m c i = r) (y : S256x256.Idx) :
    k0_pay64 (F := Ideal) (tile m c t).rect (tile m c t).ex (tile m c t).steep (tile m c t).dOc y
      = ∑ p : Fin 512, (rows m c (row t p)).outW (y 0) (y 1) := by
  refine (congrArg _ (eq_ix2 (n0 := 256) (n1 := 256) y)).trans ((Tile.outW_at (tile m c t) (s_real m c t hs) (c_real m c t hc) (y 0) (y 1)).trans ?_)
  exact Finset.sum_congr rfl fun p _ => by rw [rows_blk]

theorem first19 (c : Dev nD) (t : Fin cfg0.N) (h : t.val % 8 = 0) : (outsAt0 m c t.val t.isLt).2.2.2.2.2.2.2.1 = k0_pay64 (F := Ideal) (tile m c t).rect (tile m c t).ex (tile m c t).steep (tile m c t).dOc := by
  have := lt_of_lt_of_eq t.isLt N_0
  rw [outsAt0_A m c t h (by omega)]; frame_out

theorem next19 (c : Dev nD) (t : Fin cfg0.N) (h : ¬t.val % 8 = 0) : (outsAt0 m c t.val t.isLt).2.2.2.2.2.2.2.1
    = k0_pay4 (F := Ideal) (k0_pay64 (F := Ideal) (tile m c t).rect (tile m c t).ex (tile m c t).steep (tile m c t).dOc) ((outsAt0 m c (t.val - 1) (Nat.lt_of_le_of_lt (Nat.sub_le _ _) t.isLt)).2.2.2.2.2.2.2.1) := by
  rw [outsAt0_B m c t h (by omega)]; frame_out

/-- The gradient of the gate's projection. -/
theorem final19 (c : Dev nD) (hs : ∀ i, ∃ r : ℝ, aS m c i = r) (hc : ∀ i, ∃ r : ℝ, aC m c i = r) :
    (dats m 0 c).arrAt 19 (cfgs 0).N = fun i : S256x256.Idx => ∑ r : Fin 4096, (rows m c r).outW (i 0) (i 1) := by
  refine (dats m 0 c).arrAt_eq_of_covers 19 _ (by decide +kernel) fun t hf y => ?_
  have h7 : t.val % 8 = 7 := (flush0_19 t).mp hf
  blk_simp
  have hr : ((win0_19.blk t).view.emb y 0 : Fin 256) = (y 0 : Fin 256) := Fin.ext (by
    blk_simp [idx t] <;> try omega)
  have hd : ((win0_19.blk t).view.emb y 1 : Fin 256) = (y 1 : Fin 256) := Fin.ext (by
    blk_simp [idx t] <;> try omega)
  rw [after0_19, hr, hd, Pipeline.eq_sum_fin_of_reset_step_apply_of_flush (fun n h => (outsAt0 m c n h).2.2.2.2.2.2.2.1) 8 (fun _ => (0 : EReal))
    (fun q y => ∑ p : Fin 512, (rows m c (row q p)).outW (y 0) (y 1))
    (fun t h j => (congrFun (first19 m c t h) j).trans ((part19 m c t hs hc j).trans (zero_add _).symm))
    (fun t h j => (congrFun (next19 m c t h) j).trans ((add19_at _ _ j).trans (congrArg (_ + ·) (part19 m c t hs hc j))))
    t h7 _, zero_add]
  refine Fin.sum_mul_add_congr fun s k hl => ?_
  refine congrArg (fun a => (rows m c a).outW (y 0) (y 1)) (Fin.ext ?_)
  have := lt_of_lt_of_eq t.isLt N_0
  show (8 * (t.val / 8) + s.val) * 512 + k.val = s.val * 512 + k.val
  omega

theorem add20_at (a b : FVec Ideal S1024x1024 .f32) (y : S1024x1024.Idx) : k0_pay5 (F := Ideal) a b y = b y + a y := by
  pointwise [k0_pay5]

theorem part20 (c : Dev nD) (t : Fin cfg0.N) (hs : ∀ i, ∃ r : ℝ, aS m c i = r) (hc : ∀ i, ∃ r : ℝ, aC m c i = r) (y : S1024x1024.Idx) :
    k0_pay49 (F := Ideal) (tile m c t).s (tile m c t).mix (tile m c t).dev (tile m c t).inv (tile m c t).bendInv (tile m c t).ct y
      = ∑ p : Fin 512, (rows m c (row t p)).outO (y 0) (y 1) := by
  refine (congrArg _ (eq_ix2 (n0 := 1024) (n1 := 1024) y)).trans ((Tile.outO_at (tile m c t) (s_real m c t hs) (c_real m c t hc) (y 0) (y 1)).trans ?_)
  exact Finset.sum_congr rfl fun p _ => by rw [rows_blk]

theorem first20 (c : Dev nD) (t : Fin cfg0.N) (h : t.val % 8 = 0) : (outsAt0 m c t.val t.isLt).2.2.2.2.2.2.2.2.1 = k0_pay49 (F := Ideal) (tile m c t).s (tile m c t).mix (tile m c t).dev (tile m c t).inv (tile m c t).bendInv (tile m c t).ct := by
  have := lt_of_lt_of_eq t.isLt N_0
  rw [outsAt0_A m c t h (by omega)]; frame_out

theorem next20 (c : Dev nD) (t : Fin cfg0.N) (h : ¬t.val % 8 = 0) : (outsAt0 m c t.val t.isLt).2.2.2.2.2.2.2.2.1
    = k0_pay5 (F := Ideal) (k0_pay49 (F := Ideal) (tile m c t).s (tile m c t).mix (tile m c t).dev (tile m c t).inv (tile m c t).bendInv (tile m c t).ct) ((outsAt0 m c (t.val - 1) (Nat.lt_of_le_of_lt (Nat.sub_le _ _) t.isLt)).2.2.2.2.2.2.2.2.1) := by
  rw [outsAt0_B m c t h (by omega)]; frame_out

/-- The gradient of the output projection. -/
theorem final20 (c : Dev nD) (hs : ∀ i, ∃ r : ℝ, aS m c i = r) (hc : ∀ i, ∃ r : ℝ, aC m c i = r) :
    (dats m 0 c).arrAt 20 (cfgs 0).N = fun i : S1024x1024.Idx => ∑ r : Fin 4096, (rows m c r).outO (i 0) (i 1) := by
  refine (dats m 0 c).arrAt_eq_of_covers 20 _ (by decide +kernel) fun t hf y => ?_
  have h7 : t.val % 8 = 7 := (flush0_20 t).mp hf
  blk_simp
  have hr : ((win0_20.blk t).view.emb y 0 : Fin 1024) = (y 0 : Fin 1024) := Fin.ext (by
    blk_simp [idx t] <;> try omega)
  have hd : ((win0_20.blk t).view.emb y 1 : Fin 1024) = (y 1 : Fin 1024) := Fin.ext (by
    blk_simp [idx t] <;> try omega)
  rw [after0_20, hr, hd, Pipeline.eq_sum_fin_of_reset_step_apply_of_flush (fun n h => (outsAt0 m c n h).2.2.2.2.2.2.2.2.1) 8 (fun _ => (0 : EReal))
    (fun q y => ∑ p : Fin 512, (rows m c (row q p)).outO (y 0) (y 1))
    (fun t h j => (congrFun (first20 m c t h) j).trans ((part20 m c t hs hc j).trans (zero_add _).symm))
    (fun t h j => (congrFun (next20 m c t h) j).trans ((add20_at _ _ j).trans (congrArg (_ + ·) (part20 m c t hs hc j))))
    t h7 _, zero_add]
  refine Fin.sum_mul_add_congr fun s k hl => ?_
  refine congrArg (fun a => (rows m c a).outO (y 0) (y 1)) (Fin.ext ?_)
  have := lt_of_lt_of_eq t.isLt N_0
  show (8 * (t.val / 8) + s.val) * 512 + k.val = s.val * 512 + k.val
  omega

theorem add21_at (a b : FVec Ideal S1x1024 .f32) (y : S1x1024.Idx) : k0_pay6 (F := Ideal) a b y = b y + a y := by
  pointwise [k0_pay6]

theorem part21 (c : Dev nD) (t : Fin cfg0.N)  (y : S1x1024.Idx) :
    k0_pay46 (F := Ideal) (tile m c t).x (tile m c t).gc (tile m c t).o (tile m c t).c (tile m c t).oc (tile m c t).na (tile m c t).nb (tile m c t).oc2 y
      = ∑ p : Fin 512, (rows m c (row t p)).outS (y 1) := by
  refine (congrArg _ (eq_ix2 (n0 := 1) (n1 := 1024) y)).trans ((Tile.outS_at (tile m c t) (y 0) (y 1)).trans ?_)
  exact Finset.sum_congr rfl fun p _ => by rw [rows_blk]

theorem first21 (c : Dev nD) (t : Fin cfg0.N) (h : t.val % 8 = 0) : (outsAt0 m c t.val t.isLt).2.2.2.2.2.2.2.2.2.1 = k0_pay46 (F := Ideal) (tile m c t).x (tile m c t).gc (tile m c t).o (tile m c t).c (tile m c t).oc (tile m c t).na (tile m c t).nb (tile m c t).oc2 := by
  have := lt_of_lt_of_eq t.isLt N_0
  rw [outsAt0_A m c t h (by omega)]; frame_out

theorem next21 (c : Dev nD) (t : Fin cfg0.N) (h : ¬t.val % 8 = 0) : (outsAt0 m c t.val t.isLt).2.2.2.2.2.2.2.2.2.1
    = k0_pay6 (F := Ideal) (k0_pay46 (F := Ideal) (tile m c t).x (tile m c t).gc (tile m c t).o (tile m c t).c (tile m c t).oc (tile m c t).na (tile m c t).nb (tile m c t).oc2) ((outsAt0 m c (t.val - 1) (Nat.lt_of_le_of_lt (Nat.sub_le _ _) t.isLt)).2.2.2.2.2.2.2.2.2.1) := by
  rw [outsAt0_B m c t h (by omega)]; frame_out

/-- The gradient of the layer norm's scale. -/
theorem final21 (c : Dev nD)  :
    (dats m 0 c).arrAt 21 (cfgs 0).N = fun i : S1x1024.Idx => ∑ r : Fin 4096, (rows m c r).outS (i 1) := by
  refine (dats m 0 c).arrAt_eq_of_covers 21 _ (by decide +kernel) fun t hf y => ?_
  have h7 : t.val % 8 = 7 := (flush0_21 t).mp hf
  blk_simp
  have hd : ((win0_21.blk t).view.emb y 1 : Fin 1024) = (y 1 : Fin 1024) := Fin.ext (by
    blk_simp [idx t] <;> try omega)
  rw [after0_21, hd, Pipeline.eq_sum_fin_of_reset_step_apply_of_flush (fun n h => (outsAt0 m c n h).2.2.2.2.2.2.2.2.2.1) 8 (fun _ => (0 : EReal))
    (fun q y => ∑ p : Fin 512, (rows m c (row q p)).outS (y 1))
    (fun t h j => (congrFun (first21 m c t h) j).trans ((part21 m c t j).trans (zero_add _).symm))
    (fun t h j => (congrFun (next21 m c t h) j).trans ((add21_at _ _ j).trans (congrArg (_ + ·) (part21 m c t j))))
    t h7 _, zero_add]
  refine Fin.sum_mul_add_congr fun s k hl => ?_
  refine congrArg (fun a => (rows m c a).outS (y 1)) (Fin.ext ?_)
  have := lt_of_lt_of_eq t.isLt N_0
  show (8 * (t.val / 8) + s.val) * 512 + k.val = s.val * 512 + k.val
  omega

theorem add22_at (a b : FVec Ideal S1x1024 .f32) (y : S1x1024.Idx) : k0_pay7 (F := Ideal) a b y = b y + a y := by
  pointwise [k0_pay7]

theorem part22 (c : Dev nD) (t : Fin cfg0.N)  (y : S1x1024.Idx) :
    k0_pay45 (F := Ideal) (tile m c t).c y
      = ∑ p : Fin 512, (rows m c (row t p)).c (y 1) := by
  refine (congrArg _ (eq_ix2 (n0 := 1) (n1 := 1024) y)).trans ((Tile.outT_at (tile m c t) (y 0) (y 1)).trans ?_)
  exact Finset.sum_congr rfl fun p _ => by rw [rows_blk]

theorem first22 (c : Dev nD) (t : Fin cfg0.N) (h : t.val % 8 = 0) : (outsAt0 m c t.val t.isLt).2.2.2.2.2.2.2.2.2.2 = k0_pay45 (F := Ideal) (tile m c t).c := by
  have := lt_of_lt_of_eq t.isLt N_0
  rw [outsAt0_A m c t h (by omega)]; frame_out

theorem next22 (c : Dev nD) (t : Fin cfg0.N) (h : ¬t.val % 8 = 0) : (outsAt0 m c t.val t.isLt).2.2.2.2.2.2.2.2.2.2
    = k0_pay7 (F := Ideal) (k0_pay45 (F := Ideal) (tile m c t).c) ((outsAt0 m c (t.val - 1) (Nat.lt_of_le_of_lt (Nat.sub_le _ _) t.isLt)).2.2.2.2.2.2.2.2.2.2) := by
  rw [outsAt0_B m c t h (by omega)]; frame_out

/-- The gradient of the layer norm's shift. -/
theorem final22 (c : Dev nD)  :
    (dats m 0 c).arrAt 22 (cfgs 0).N = fun i : S1x1024.Idx => ∑ r : Fin 4096, (rows m c r).c (i 1) := by
  refine (dats m 0 c).arrAt_eq_of_covers 22 _ (by decide +kernel) fun t hf y => ?_
  have h7 : t.val % 8 = 7 := (flush0_22 t).mp hf
  blk_simp
  have hd : ((win0_22.blk t).view.emb y 1 : Fin 1024) = (y 1 : Fin 1024) := Fin.ext (by
    blk_simp [idx t] <;> try omega)
  rw [after0_22, hd, Pipeline.eq_sum_fin_of_reset_step_apply_of_flush (fun n h => (outsAt0 m c n h).2.2.2.2.2.2.2.2.2.2) 8 (fun _ => (0 : EReal))
    (fun q y => ∑ p : Fin 512, (rows m c (row q p)).c (y 1))
    (fun t h j => (congrFun (first22 m c t h) j).trans ((part22 m c t j).trans (zero_add _).symm))
    (fun t h j => (congrFun (next22 m c t h) j).trans ((add22_at _ _ j).trans (congrArg (_ + ·) (part22 m c t j))))
    t h7 _, zero_add]
  refine Fin.sum_mul_add_congr fun s k hl => ?_
  refine congrArg (fun a => (rows m c a).c (y 1)) (Fin.ext ?_)
  have := lt_of_lt_of_eq t.isLt N_0
  show (8 * (t.val / 8) + s.val) * 512 + k.val = s.val * 512 + k.val
  omega

end Cert.MixOutBwdKernelIdeal.Hand

end
-- ==== Proof.MixOutBwdClaim.lean ====
/- The claims about the gradient of the mixers' output. -/
module

public import proofs.«01_k».proof.Defs
public import proofs.«01_k».proof.Proof.Gen.MixOutBwdKernel.Frame
public import proofs.«01_k».proof.Proof.Gen.MixOutBwdKernelIdeal.Frame
public import proofs.«01_k».proof.Proof.Gen.Pre_finite_out
public import proofs.«01_k».proof.Proof.MixOutBwdValue
public import proofs.«01_k».proof.Proof.MixOutBwdSums
public import proofs.«01_k».proof.Proof.FfnBwdRef
public import Idealize.ShloMosaic.Adequacy
public import Idealize.ShloMosaic.Init

@[expose] public section

set_option maxRecDepth 16384

noncomputable section

open Idealize.ShloMosaic Idealize.ShloMosaic.TcCoe Idealize.SL.Sem

namespace Cert.MixOutBwdClaim

/-- The kernel ends with its arguments as they were and every semaphore at zero. -/
theorem kernel : @Cert.quiescent_MixOutBwdKernel Cert.MixOutBwdKernel.Gen.facts := fun m ρ _ => Cert.MixOutBwdKernel.Gen.frame m ρ

/-- So does the idealized kernel. -/
theorem kernelIdeal : @Cert.quiescent_MixOutBwdKernelIdeal Cert.MixOutBwdKernelIdeal.Gen.facts := fun m ρ _ => Cert.MixOutBwdKernelIdeal.Gen.frame m ρ

/-- So does the reference. -/
theorem referenceIdeal : @Cert.quiescent_MixOutBwdReferenceIdeal Cert.MixOutBwdReferenceIdeal.Gen.facts := fun m ρ _ =>
  (θ_run Cert.MixOutBwdReferenceIdeal.defs _ _).mono (fun r h => ⟨fun c => (h c).2.2.2.2.2.2.2.2.2.2.2, Idealize.ShloMosaic.sem_eq_zero_of_no_sems (by decide) r.2⟩)
    (Cert.MixOutBwdReferenceIdeal.Value.run (F := Ideal) m ρ)

/-- The idealized kernel's frame, the layer norm's scale and the cotangent finite. -/
theorem kernelIdeal_pre : @Cert.quiescent_MixOutBwdKernelIdeal_pre_finite_out Cert.MixOutBwdKernelIdeal.Gen.facts Cert.Pre_finite_out.Gen.facts :=
  fun m ρ _ => kernelIdeal m ρ trivial

/-- The reference's frame, the layer norm's scale and the cotangent finite. -/
theorem referenceIdeal_pre : @Cert.quiescent_MixOutBwdReferenceIdeal_pre_finite_out Cert.MixOutBwdReferenceIdeal.Gen.facts Cert.Pre_finite_out.Gen.facts :=
  fun m ρ _ => referenceIdeal m ρ trivial

open Cert.MixOutBwdReferenceIdeal in
/-- What the precondition says of the layer norm's scale and the cotangent. -/
theorem finite_of_pre [Cert.Pre_finite_out.Facts] {a b : FVec Ideal S4096x384 .f32} {y : FVec Ideal S4096x256 .f32} {x c : FVec Ideal S4096x1024 .f32}
    {g s h : FVec Ideal S1024 .f32} {w : FVec Ideal S256x256 .f32} {o : FVec Ideal S1024x1024 .f32}
    (hp : (Cert.Pre_finite_out.fn (F := Ideal) a b y x g w o s h c).1 = (fun _ => 1#1)
      ∧ (Cert.Pre_finite_out.fn (F := Ideal) a b y x g w o s h c).2 = (fun _ => 1#1)) :
    (∀ i, ∃ r : ℝ, s i = r) ∧ ∀ i, ∃ r : ℝ, c i = r :=
  ⟨FfnBwdMath.finite_of_test s _ hp.1, FfnBwdMath.finite_of_test c _ hp.2⟩

/-- On the extended reals the kernel and the reference leave the same eleven arrays, the layer norm's scale and the cotangent
    finite. -/
theorem algebraic : @Cert.algebraic_MixOutBwdKernelIdeal_MixOutBwdReferenceIdeal_pre_finite_out Cert.MixOutBwdKernelIdeal.Gen.facts
    Cert.MixOutBwdReferenceIdeal.Gen.facts Cert.Pre_finite_out.Gen.facts := by
  intro m ρ m' ρ' hpre hagree
  have hf := fun c => @finite_of_pre Cert.Pre_finite_out.Gen.facts _ _ _ _ _ _ _ _ _ _ (hpre c)
  refine ⟨fun c => _, fun c => _, fun c => _, fun c => _, fun c => _, fun c => _, fun c => _, fun c => _, fun c => _, fun c => _, fun c => _,
    (θ_run Cert.MixOutBwdKernelIdeal.defs _ _).mono (fun _ h c => ⟨
      (h c).1.trans (Cert.MixOutBwdKernelIdeal.Hand.final12 m c (hf c).1 (hf c).2),
      (h c).2.1.trans (Cert.MixOutBwdKernelIdeal.Hand.final13 m c (hf c).1 (hf c).2),
      (h c).2.2.1.trans (Cert.MixOutBwdKernelIdeal.Hand.final14 m c (hf c).1 (hf c).2),
      (h c).2.2.2.1.trans (Cert.MixOutBwdKernelIdeal.Hand.final15 m c (hf c).1 (hf c).2),
      (h c).2.2.2.2.1.trans (Cert.MixOutBwdKernelIdeal.Hand.final16 m c (hf c).1 (hf c).2),
      (h c).2.2.2.2.2.1.trans (Cert.MixOutBwdKernelIdeal.Hand.final17 m c (hf c).1 (hf c).2),
      (h c).2.2.2.2.2.2.1.trans (Cert.MixOutBwdKernelIdeal.Hand.final18 m c (hf c).1 (hf c).2),
      (h c).2.2.2.2.2.2.2.1.trans (Cert.MixOutBwdKernelIdeal.Hand.final19 m c (hf c).1 (hf c).2),
      (h c).2.2.2.2.2.2.2.2.1.trans (Cert.MixOutBwdKernelIdeal.Hand.final20 m c (hf c).1 (hf c).2),
      (h c).2.2.2.2.2.2.2.2.2.1.trans (Cert.MixOutBwdKernelIdeal.Hand.final21 m c),
      (h c).2.2.2.2.2.2.2.2.2.2.1.trans (Cert.MixOutBwdKernelIdeal.Hand.final22 m c),
      (h c).2.2.2.2.2.2.2.2.2.2.2⟩)
    (Cert.MixOutBwdKernelIdeal.Value.run_blocks (F := Ideal) m ρ), ?_⟩
  refine (θ_run Cert.MixOutBwdReferenceIdeal.defs _ _).mono (fun _ h c => ?_) (Cert.MixOutBwdReferenceIdeal.Value.run (F := Ideal) m' ρ')
  obtain ⟨h0, h1, h2, h3, h4, h5, h6, h7, h8, h9⟩ := hagree c
  obtain ⟨r0, r1, r2, r3, r4, r5, r6, r7, r8, r9, r10, ra⟩ := h c
  have ea : MixOutBwdRef.va (StableHlo.launchContents m' c) = Cert.MixOutBwdKernelIdeal.Hand.aA m c := h0
  have eb : MixOutBwdRef.vb (StableHlo.launchContents m' c) = Cert.MixOutBwdKernelIdeal.Hand.aB m c := h1
  have ey : MixOutBwdRef.vy (StableHlo.launchContents m' c) = Cert.MixOutBwdKernelIdeal.Hand.aY m c := h2
  have ex : MixOutBwdRef.vx (StableHlo.launchContents m' c) = Cert.MixOutBwdKernelIdeal.Hand.aX m c := h3
  have eg : MixOutBwdRef.vg (StableHlo.launchContents m' c) = Cert.MixOutBwdKernelIdeal.Hand.aG m c := h4
  have ew : MixOutBwdRef.vw (StableHlo.launchContents m' c) = Cert.MixOutBwdKernelIdeal.Hand.aW m c := h5
  have eo : MixOutBwdRef.vo (StableHlo.launchContents m' c) = Cert.MixOutBwdKernelIdeal.Hand.aO m c := h6
  have es : MixOutBwdRef.vs (StableHlo.launchContents m' c) = Cert.MixOutBwdKernelIdeal.Hand.aS m c := h7
  have ec : MixOutBwdRef.vc (StableHlo.launchContents m' c) = Cert.MixOutBwdKernelIdeal.Hand.aC m c := h9
  refine ⟨r0.trans ?_, r1.trans ?_, r2.trans ?_, r3.trans ?_, r4.trans ?_, r5.trans ?_, r6.trans ?_, r7.trans ?_, r8.trans ?_, r9.trans ?_, r10.trans ?_, ra⟩
  · refine (MixOutBwdRef.v218 (StableHlo.launchContents m' c)).trans ?_
    rw [ea, eb, ey, ex, eg, ew, eo, es, ec]
    funext i
    exact (congrArg _ (eq_ix2 (n0 := 4096) (n1 := 384) i)).trans (MixOutBwdRef.OUTA_at _ _ _ _ _ _ _ _ _ (i 0) (i 1))
  · refine (MixOutBwdRef.v198 (StableHlo.launchContents m' c)).trans ?_
    rw [ea, eb, ey, ex, eg, ew, eo, es, ec]
    funext i
    exact (congrArg _ (eq_ix2 (n0 := 4096) (n1 := 384) i)).trans (MixOutBwdRef.OUTB_at _ _ _ _ _ _ _ _ _ (i 0) (i 1))
  · refine (MixOutBwdRef.v237 (StableHlo.launchContents m' c)).trans ?_
    rw [ea, eb, ey, ex, eg, ew, eo, es, ec]
    funext i
    exact (congrArg _ (eq_ix2 (n0 := 4096) (n1 := 256) i)).trans (MixOutBwdRef.OUTY_at _ _ _ _ _ _ _ _ _ (i 0) (i 1))
  · rw [MixOutBwdRef.v150, ea, eb, ey, ex, eg, ew, eo, es, ec]
    funext i
    exact (congrArg _ (eq_ix2 (n0 := 4096) (n1 := 1024) i)).trans (MixOutBwdRef.OUTX_at _ _ _ _ _ _ _ _ _ (i 0) (i 1))
  · rw [MixOutBwdRef.v47, MixOutBwdRef.v156, ea, eb, ey, ex, eg, ew, eo, es, ec]
    funext i
    exact (congrArg _ (eq_ix2 (n0 := 1) (n1 := 384) i)).trans (MixOutBwdRef.OUTGA_at _ _ _ _ _ _ _ _ _ (i 0) (i 1))
  · rw [MixOutBwdRef.v63, MixOutBwdRef.v157, ea, eb, ey, ex, eg, ew, eo, es, ec]
    funext i
    exact (congrArg _ (eq_ix2 (n0 := 1) (n1 := 384) i)).trans (MixOutBwdRef.OUTGB_at _ _ _ _ _ _ _ _ _ (i 0) (i 1))
  · rw [MixOutBwdRef.v79, MixOutBwdRef.v158, ea, eb, ey, ex, eg, ew, eo, es, ec]
    funext i
    exact (congrArg _ (eq_ix2 (n0 := 1) (n1 := 256) i)).trans (MixOutBwdRef.OUTGC_at _ _ _ _ _ _ _ _ _ (i 0) (i 1))
  · rw [MixOutBwdRef.v221, MixOutBwdRef.v23, ea, eb, ey, ex, eg, ew, eo, es, ec]
    funext i
    exact (congrArg _ (eq_ix2 (n0 := 256) (n1 := 256) i)).trans (MixOutBwdRef.OUTW_at _ _ _ _ _ _ _ _ _ (i 0) (i 1))
  · rw [MixOutBwdRef.v150, MixOutBwdRef.v83, ea, eb, ey, ex, eg, ew, eo, es, ec]
    funext i
    exact (congrArg _ (eq_ix2 (n0 := 1024) (n1 := 1024) i)).trans (MixOutBwdRef.OUTO_at _ _ _ _ _ _ _ _ _ (i 0) (i 1))
  · rw [MixOutBwdRef.v110, ea, eb, ey, ex, eg, ew, eo, ec]
    funext i
    exact (congrArg _ (eq_ix2 (n0 := 1) (n1 := 1024) i)).trans (MixOutBwdRef.OUTS_at _ _ _ _ _ _ _ (Cert.MixOutBwdKernelIdeal.Hand.aS m c) _ (i 0) (i 1))
  · refine Eq.trans (b := LnGrad.SUM (MixOutBwdRef.vc (StableHlo.launchContents m' c))) rfl ?_
    rw [ec]
    funext i
    exact (congrArg _ (eq_ix2 (n0 := 1) (n1 := 1024) i)).trans (LnGrad.SUM_at _ (i 0) (i 1))

end Cert.MixOutBwdClaim

end
-- ==== Proof.LossClaim.lean ====
/- The loss and its gradient.  The kernel takes 512 rows at a time; the loss is the first lane of one row, to which every tile
   adds its part. -/
module

public import proofs.«01_k».proof.Defs
public import proofs.«01_k».proof.Proof.LnGrad
public import proofs.«01_k».proof.Proof.Gen.LossKernel.Frame
public import proofs.«01_k».proof.Proof.Gen.LossKernelIdeal.Value
public import proofs.«01_k».proof.Proof.Gen.LossReferenceIdeal.Run
public import Idealize.ShloMosaic.Adequacy
public import Idealize.ShloMosaic.Init
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossMath

/-- The sum of the squares of a row of differences. -/
def square (y t : Fin 1024 → EReal) : EReal := ∑ k : Fin 1024, (y k - t k) * (y k - t k)

/-- Half the sum over `n` rows of the mean square of a row's differences. -/
def half {n : ℕ} (y t : Fin n → Fin 1024 → EReal) : EReal :=
  Ideal.ofBits FTy.f32 0x3F000000#32 * ∑ r : Fin n, square (y r) (t r) * Ideal.ofBits FTy.f32 0x3A800000#32

theorem half_val : Ideal.ofBits FTy.f32 0x3F000000#32 = ((1 / 2 : ℝ) : EReal) := by
  simp [Ideal.ofBits, Ideal.ieee, -EReal.coe_mul]
  norm_num

theorem one_val : Ideal.ofBits FTy.f32 0x3F800000#32 = ((1 : ℝ) : EReal) := by
  simp [Ideal.ofBits, Ideal.ieee, -EReal.coe_mul]
  norm_num

theorem share_val : Ideal.ofBits FTy.f32 0x3A800000#32 = ((1 / 1024 : ℝ) : EReal) := by
  simp [Ideal.ofBits, Ideal.ieee, -EReal.coe_mul]
  norm_num

/-- To divide by the row's width is to multiply by its reciprocal. -/
theorem div_width (a : EReal) : Ideal.div a (Ideal.ofBits FTy.f32 0x44800000#32) = a * Ideal.ofBits FTy.f32 0x3A800000#32 := by
  rw [LnGrad.width_val, share_val, Ideal.div_coe (by norm_num)]

/-- The gradient's factors, one after the other and in one. -/
theorem grad_eq (e : EReal) : Ideal.div (Ideal.ofBits FTy.f32 0x3F000000#32 * Ideal.ofBits FTy.f32 0x3F800000#32) (Ideal.ofBits FTy.f32 0x44800000#32)
    * (Ideal.ofBits FTy.f32 0x40000000#32 * e) = e * Ideal.ofBits FTy.f32 0x3A800000#32 := by
  rw [div_width, half_val, one_val, share_val, LnGrad.two_val, ← mul_assoc, ← EReal.coe_mul, ← EReal.coe_mul, ← EReal.coe_mul, mul_comm]
  norm_num

/-- A number that is not negative goes into a sum. -/
theorem mul_sum' {n : ℕ} (f : Fin n → EReal) : Ideal.ofBits FTy.f32 0x3F000000#32 * ∑ r, f r = ∑ r, Ideal.ofBits FTy.f32 0x3F000000#32 * f r := by
  induction n with
  | zero => simp
  | succ n ih =>
    rw [Fin.sum_univ_succ, Fin.sum_univ_succ, ← ih]
    refine EReal.left_distrib_of_nonneg_of_ne_top ?_ ?_ _ _ <;> rw [half_val]
    · exact EReal.coe_nonneg.mpr (by norm_num)
    · exact EReal.coe_ne_top _

end Cert.LossMath

namespace Cert.LossKernelIdeal.Hand

open Cert.LossKernelIdeal Cert.LossKernelIdeal.Gen
open Cert.LossMath

variable (m : (ℓ : Loc nD τ sig) → Buf (Elt Ideal) ℓ)

/-- The last block's output and the target. -/
abbrev aY (c : Dev nD) : FVec Ideal S4096x1024 .f32 := m ((c : Thread nD τ).loc main_arg0)
abbrev aT (c : Dev nD) : FVec Ideal S4096x1024 .f32 := m ((c : Thread nD τ).loc main_arg1)

/-- Which block each window shows at grid point `t`: tile `t` of the rows, or the one row of the loss. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The row of the arrays at row `p` of tile `t`. -/
def row (t : Fin cfg0.N) (p : Fin 512) : Fin 4096 :=
  ⟨t.val * 512 + p.val, by have := lt_of_lt_of_eq t.isLt N_0; omega⟩

theorem y_blk (c : Dev nD) (t : Fin cfg0.N) (p : Fin 512) (k : Fin 1024) (r : Fin 4096) (hr : r.val = t.val * 512 + p.val) :
    (show FVec Ideal S512x1024 .f32 from iblk m c 0 t) (ix2 p k) = aY m c (ix2 r k) := by
  blk_ext [iblk, V, idx t]

theorem t_blk (c : Dev nD) (t : Fin cfg0.N) (p : Fin 512) (k : Fin 1024) (r : Fin 4096) (hr : r.val = t.val * 512 + p.val) :
    (show FVec Ideal S512x1024 .f32 from iblk m c 1 t) (ix2 p k) = aT m c (ix2 r k) := by
  blk_ext [iblk, V, idx t]

section

variable (v0 v1 : FVec Ideal S512x1024 .f32)

theorem grad_at (j : S512x1024.Idx) : k0_pay2 (F := Ideal) v0 v1 j = (v0 j - v1 j) * Ideal.ofBits FTy.f32 0x3A800000#32 := by
  pointwise [k0_pay2, k0_pay1]

theorem part_at (z : Fin 1) (l : Fin 128) : k0_pay3 (F := Ideal) v0 v1 (ix2 z l)
    = if l.val = 0 then half (fun p k => v0 (ix2 p k)) (fun p k => v1 (ix2 p k)) else 0 := by
  unfold half square
  pointwise [k0_pay3, k0_pay1]
  fin_cases l <;> rfl

theorem add_at (a : FVec Ideal S1x128 .f32) (y : S1x128.Idx) : k0_pay4 (F := Ideal) v0 v1 a y = a y + k0_pay3 (F := Ideal) v0 v1 y := by
  unfold k0_pay4
  generalize k0_pay3 (F := Ideal) v0 v1 = b
  pointwise

end

/-- The gradient in the last block's output. -/
theorem final2 (c : Dev nD) : (dats m 0 c).arrAt 2 (cfgs 0).N
    = fun i : S4096x1024.Idx => (aY m c i - aT m c i) * Ideal.ofBits FTy.f32 0x3A800000#32 := by
  refine (dats m 0 c).arrAt_eq_of_covers 2 _ (by decide +kernel) fun t hf y => ?_
  have h : (outsAt0 m c t.val t.isLt).1 = k0_pay2 (F := Ideal) (iblk m c 0 t) (iblk m c 1 t) := by
    have := lt_of_lt_of_eq t.isLt N_0
    by_cases h0 : t.val % 8 = 0
    · rw [outsAt0_A m c t h0 (by omega)]; frame_out
    · rw [outsAt0_B m c t h0 (by omega)]; frame_out
  blk_simp
  rw [after0_2, h]
  refine (grad_at _ _ _).trans ?_
  refine congrArg₂ (fun a b : EReal => (a - b) * Ideal.ofBits FTy.f32 0x3A800000#32) ?_ ?_
  all_goals blk_point [iblk, V, idx t]

/-- One tile's part of the loss, in terms of the arrays. -/
theorem part_blk (c : Dev nD) (t : Fin cfg0.N) (y : S1x128.Idx) :
    k0_pay3 (F := Ideal) (iblk m c 0 t) (iblk m c 1 t) y
      = if (y 1).val = 0 then half (fun p k => aY m c (ix2 (row t p) k)) (fun p k => aT m c (ix2 (row t p) k)) else 0 := by
  refine (congrArg _ (eq_ix2 (n0 := 1) (n1 := 128) y)).trans ((part_at _ _ (y 0) (y 1)).trans ?_)
  exact congrArg₂ (fun a b => if (y 1).val = 0 then half a b else 0) (funext fun p => funext fun k => y_blk m c t p k _ rfl)
    (funext fun p => funext fun k => t_blk m c t p k _ rfl)

/-- The loss. -/
theorem final3 (c : Dev nD) : (dats m 0 c).arrAt 3 (cfgs 0).N = fun i : S1x128.Idx =>
    if (i 1).val = 0 then half (fun r k => aY m c (ix2 r k)) (fun r k => aT m c (ix2 r k)) else 0 := by
  refine (dats m 0 c).arrAt_eq_of_covers 3 _ (by decide +kernel) fun t hf y => ?_
  have h7 : t.val % 8 = 7 := (flush0_3 t).mp hf
  blk_simp
  have hd : win0_3.index t 1 = 0 := by rw [(idx t).2.2.2]; rfl
  rw [after0_3, hd, Nat.zero_mul, Nat.zero_add, Pipeline.eq_sum_fin_of_reset_step_apply_of_flush (fun n h => (outsAt0 m c n h).2) 8 (fun _ => (0 : EReal))
    (fun q y => if (y 1).val = 0 then half (fun p k => aY m c (ix2 (row q p) k)) (fun p k => aT m c (ix2 (row q p) k)) else 0)
    (fun t h j => by
      have := lt_of_lt_of_eq t.isLt N_0
      rw [outsAt0_A m c t h (by omega), ← part_blk, zero_add]; frame_out)
    (fun t h j => by
      rw [outsAt0_B m c t h (by omega), ← part_blk]; frame_out
      exact add_at _ _ _ j)
    t h7 _, zero_add]
  by_cases h0 : (y 1).val = 0
  · simp only [if_pos h0]
    unfold half
    simp only [mul_sum']
    refine Fin.sum_mul_add_congr fun s k hl => ?_
    refine congrArg (fun a => Ideal.ofBits FTy.f32 0x3F000000#32 * (square (fun d => aY m c (ix2 a d)) (fun d => aT m c (ix2 a d))
      * Ideal.ofBits FTy.f32 0x3A800000#32)) (Fin.ext ?_)
    have := lt_of_lt_of_eq t.isLt N_0
    show (8 * (t.val / 8) + s.val) * 512 + k.val = s.val * 512 + k.val
    omega
  · simp only [if_neg h0, Finset.sum_const_zero]

end Cert.LossKernelIdeal.Hand

namespace Cert.LossReferenceIdeal.Hand

open Cert.LossReferenceIdeal Cert.LossReferenceIdeal.Gen
open Cert.LossMath

variable (y t : FVec Ideal S4096x1024 .f32)

/-- The reference's gradient. -/
abbrev GRAD : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y t))

/-- The reference's loss, in the first lane of a row. -/
abbrev LOSS : FVec Ideal S1x128 .f32 := pad S1x128 ![0, 0] ![0, 127] ![0, 0] (shapeCast _ (mulf (constant S_ .f32 0x3F000000#32) (Host.reduceAdd (Host.divf (Host.reduceAdd (mulf (subf y t) (subf y t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1) (sitofp .f32 (constantI S_ 32 0#32)) pads_S1x1_S1x128_000_01270 h_S_

theorem grad_at (j : S4096x1024.Idx) : GRAD y t j = (y j - t j) * Ideal.ofBits FTy.f32 0x3A800000#32 := by
  refine Eq.trans ?_ (grad_eq _)
  pointwise [GRAD]

theorem loss_at (z : Fin 1) (l : Fin 128) : LOSS y t (ix2 z l) = if l.val = 0 then half (fun r k => y (ix2 r k)) (fun r k => t (ix2 r k)) else 0 := by
  unfold half square
  simp only [← div_width]
  pointwise [LOSS]
  by_cases h : l.val = 0
  · rw [dif_pos (by omega), if_pos h]
  · rw [dif_neg (by omega), if_neg h]
    show (((0#32 : BitVec 32).toInt : ℝ) : EReal) = 0
    simp

end Cert.LossReferenceIdeal.Hand

namespace Cert.LossClaim

/-- The kernel ends with its arguments as they were and every semaphore at zero. -/
theorem kernel : @Cert.quiescent_LossKernel Cert.LossKernel.Gen.facts := fun m ρ _ => Cert.LossKernel.Gen.frame m ρ

/-- So does the idealized kernel. -/
theorem kernelIdeal : @Cert.quiescent_LossKernelIdeal Cert.LossKernelIdeal.Gen.facts := fun m ρ _ => Cert.LossKernelIdeal.Gen.frame m ρ

/-- So does the reference. -/
theorem referenceIdeal : @Cert.quiescent_LossReferenceIdeal Cert.LossReferenceIdeal.Gen.facts := fun m ρ _ =>
  (θ_run Cert.LossReferenceIdeal.defs _ _).mono (fun r h => ⟨fun c => (h c).2.2, Idealize.ShloMosaic.sem_eq_zero_of_no_sems (by decide) r.2⟩)
    (Cert.LossReferenceIdeal.Value.run (F := Ideal) m ρ)

open Cert.LossReferenceIdeal.Hand in
/-- On the extended reals the kernel and the reference leave the same loss and the same gradient. -/
theorem algebraic : @Cert.algebraic_LossKernelIdeal_LossReferenceIdeal Cert.LossKernelIdeal.Gen.facts
    Cert.LossReferenceIdeal.Gen.facts := by
  intro m ρ m' ρ' _ hagree
  refine ⟨fun c => _, fun c => _, (θ_run Cert.LossKernelIdeal.defs _ _).mono (fun _ h c =>
    ⟨(h c).1.trans (Cert.LossKernelIdeal.Hand.final2 m c), (h c).2.1.trans (Cert.LossKernelIdeal.Hand.final3 m c), (h c).2.2⟩)
    (Cert.LossKernelIdeal.Value.run_blocks (F := Ideal) m ρ), ?_⟩
  refine (θ_run Cert.LossReferenceIdeal.defs _ _).mono (fun _ h c => ?_) (Cert.LossReferenceIdeal.Value.run (F := Ideal) m' ρ')
  obtain ⟨h0, h1⟩ := hagree c
  obtain ⟨r0, r1, ra⟩ := h c
  rw [h0, h1] at r0
  rw [h0, h1] at r1
  exact ⟨r0.trans (funext fun i => grad_at _ _ i),
    r1.trans (funext fun i => (congrArg _ (eq_ix2 (n0 := 1) (n1 := 128) i)).trans (loss_at _ _ (i 0) (i 1))), ra⟩

end Cert.LossClaim

end
-- ==== Proof.AdamMath.lean ====
/- The optimiser's step, at any shape: what the kernel's and the reference's expressions are, and that two runs that end with
   them end with the same three arrays. -/
module

public import Idealize.ShloMosaic.Lib.Pointwise
public import Idealize.ShloMosaic.Machine.Run

@[expose] public section

noncomputable section

open Idealize.ShloMosaic Idealize.SL.Sem

namespace Cert.AdamMath

variable {s : Shape}

/-! ## The kernel's expressions, entry by entry: of the weight `w`, its gradient `g` and its moments `p` and `q` -/

/-- A constant. -/
abbrev K (b : BitVec 32) : Ideal .f32 := Scalar.ofBits (F := Ideal) .f32 b

/-- The new first moment, -/
abbrev kFirst (g p : s.Idx → Elt Ideal .f32) : s.Idx → Elt Ideal .f32 := fun i =>
  FloatOps.addf (FloatOps.mulf (K 0x3F666666#32) (p i)) (FloatOps.mulf (K 0x3DCCCCCD#32) (g i))

/-- the new second moment -/
abbrev kSecond (g q : s.Idx → Elt Ideal .f32) : s.Idx → Elt Ideal .f32 := fun i =>
  FloatOps.addf (FloatOps.mulf (K 0x3F7FBE77#32) (q i)) (FloatOps.mulf (K 0x3A83126F#32) (FloatOps.mulf (g i) (g i)))

/-- and the change of the weight. -/
abbrev kChange (g p q w : s.Idx → Elt Ideal .f32) : s.Idx → Elt Ideal .f32 := fun i =>
  FloatOps.mulf (K 0xBA83126F#32) (FloatOps.addf (FloatOps.divf (FloatOps.divf (kFirst g p i) (K 0x3F26BD02#32))
    (FloatOps.addf (FloatOps.sqrt (FloatOps.divf (kSecond g q i) (K 0x3C231ACC#32))) (K 0x322BCC77#32)))
    (FloatOps.mulf (K 0x3C23D70A#32) (w i)))

/-! ## The reference's expressions of a whole array -/

variable (h : (⟨0, ![]⟩ : Shape).BroadcastsInDim s (![] : Fin 0 → Fin s.rank)) (w g p q : FVec Ideal s .f32)

/-- One number in every entry. -/
abbrev R (b : BitVec 32) : FVec Ideal s .f32 := broadcastInDim s ![] h (constant ⟨0, ![]⟩ .f32 b)

abbrev rFirst : FVec Ideal s .f32 := addf (mulf (R h 0x3F666666#32) p) (mulf (R h 0x3DCCCCCD#32) g)
abbrev rSecond : FVec Ideal s .f32 := addf (mulf (R h 0x3F7FBE77#32) q) (mulf (R h 0x3A83126F#32) (mulf g g))
abbrev rChange : FVec Ideal s .f32 :=
  mulf (R h 0xBA83126F#32) (addf (Host.divf (Host.divf (rFirst h g p) (R h 0x3F26BD02#32)) (addf (Host.sqrt (Host.divf (rSecond h g q)
    (R h 0x3C231ACC#32))) (R h 0x322BCC77#32))) (mulf (R h 0x3C23D70A#32) w))

/-! ## They are the same arrays -/

theorem first_eq : rFirst h g p = kFirst g p := rfl
theorem second_eq : rSecond h g q = kSecond g q := rfl
theorem change_eq : rChange h w g p q = kChange g p q w := rfl

/-- A run that ends on every device with the kernel's three arrays and with `kept`, and a run that ends there with the reference's
    three arrays of the same four arguments and with `kept'`, end with the same three arrays. -/
theorem same_arrays {A A' D : Type} {P : WPT A} {P' : WPT A'} {x y z : A → D → FVec Ideal s .f32} {x' y' z' : A' → D → FVec Ideal s .f32}
    {kept : A → D → Prop} {kept' : A' → D → Prop} {aw ag ap aq bw bg bp bq : D → FVec Ideal s .f32}
    (same : ∀ c, bw c = aw c ∧ bg c = ag c ∧ bp c = ap c ∧ bq c = aq c)
    (run : P fun r => ∀ c, x r c = kChange (ag c) (ap c) (aq c) (aw c) ∧ y r c = kFirst (ag c) (ap c) ∧ z r c = kSecond (ag c) (aq c) ∧ kept r c)
    (run' : P' fun r => ∀ c, x' r c = rChange h (bw c) (bg c) (bp c) (bq c) ∧ y' r c = rFirst h (bg c) (bp c)
      ∧ z' r c = rSecond h (bg c) (bq c) ∧ kept' r c) :
    ∃ u v t : D → FVec Ideal s .f32, (P fun r => ∀ c, x r c = u c ∧ y r c = v c ∧ z r c = t c ∧ kept r c)
      ∧ P' fun r => ∀ c, x' r c = u c ∧ y' r c = v c ∧ z' r c = t c ∧ kept' r c := by
  refine ⟨_, _, _, run, P'.mono (fun r e c => ?_) run'⟩
  obtain ⟨hw, hg, hp, hq⟩ := same c
  obtain ⟨e1, e2, e3, e4⟩ := e c
  rw [hw, hg, hp, hq, change_eq] at e1
  rw [hg, hp, first_eq] at e2
  rw [hg, hq, second_eq] at e3
  exact ⟨e1, e2, e3, e4⟩

/-- A run of a program without semaphores that ends with three facts and `kept` on every device ends with `kept`, and every
    semaphore at zero. -/
theorem kept_only {A D S : Type} {P : WPT A} {x y z kept : A → D → Prop} {sem : A → S} {zero : S} (none : ∀ r, sem r = zero)
    (run : P fun r => ∀ c, x r c ∧ y r c ∧ z r c ∧ kept r c) : P fun r => (∀ c, kept r c) ∧ sem r = zero :=
  P.mono (fun r e => ⟨fun c => (e c).2.2.2, none r⟩) run

end Cert.AdamMath

end
-- ==== Proof.AdamClaim.lean ====
/- The claims about the optimiser's step at its six shapes: each applies `AdamMath.same_arrays` to the runs of its two programs. -/
module

public import proofs.«01_k».proof.Defs
public import proofs.«01_k».proof.Proof.AdamMath
public import proofs.«01_k».proof.Proof.Gen.AdamFfnKernel.Frame
public import proofs.«01_k».proof.Proof.Gen.AdamFfnKernelIdeal.Value
public import proofs.«01_k».proof.Proof.Gen.AdamFfnReferenceIdeal.Run
public import proofs.«01_k».proof.Proof.Gen.AdamInKernel.Frame
public import proofs.«01_k».proof.Proof.Gen.AdamInKernelIdeal.Value
public import proofs.«01_k».proof.Proof.Gen.AdamInReferenceIdeal.Run
public import proofs.«01_k».proof.Proof.Gen.AdamOutKernel.Frame
public import proofs.«01_k».proof.Proof.Gen.AdamOutKernelIdeal.Value
public import proofs.«01_k».proof.Proof.Gen.AdamOutReferenceIdeal.Run
public import proofs.«01_k».proof.Proof.Gen.AdamGluKernel.Frame
public import proofs.«01_k».proof.Proof.Gen.AdamGluKernelIdeal.Value
public import proofs.«01_k».proof.Proof.Gen.AdamGluReferenceIdeal.Run
public import proofs.«01_k».proof.Proof.Gen.AdamConvKernel.Frame
public import proofs.«01_k».proof.Proof.Gen.AdamConvKernelIdeal.Value
public import proofs.«01_k».proof.Proof.Gen.AdamConvReferenceIdeal.Run
public import proofs.«01_k».proof.Proof.Gen.AdamSmallKernel.Frame
public import proofs.«01_k».proof.Proof.Gen.AdamSmallKernelIdeal.Value
public import proofs.«01_k».proof.Proof.Gen.AdamSmallReferenceIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.AdamClaim

open Cert.AdamMath

/-! A feed-forward weight, 352 rows at a time. -/

theorem referenceFfn : @Cert.quiescent_AdamFfnReferenceIdeal Cert.AdamFfnReferenceIdeal.Gen.facts := fun m ρ _ =>
  kept_only (fun r => sem_eq_zero_of_no_sems (by decide) r.2) (Cert.AdamFfnReferenceIdeal.Value.run (F := Ideal) m ρ)

theorem algebraicFfn : @Cert.algebraic_AdamFfnKernelIdeal_AdamFfnReferenceIdeal Cert.AdamFfnKernelIdeal.Gen.facts
    Cert.AdamFfnReferenceIdeal.Gen.facts := fun m ρ m' ρ' _ same =>
  same_arrays _ same (Cert.AdamFfnKernelIdeal.Value.run (F := Ideal) m ρ) (Cert.AdamFfnReferenceIdeal.Value.run (F := Ideal) m' ρ')

/-! The input projection. -/

theorem referenceIn : @Cert.quiescent_AdamInReferenceIdeal Cert.AdamInReferenceIdeal.Gen.facts := fun m ρ _ =>
  kept_only (fun r => sem_eq_zero_of_no_sems (by decide) r.2) (Cert.AdamInReferenceIdeal.Value.run (F := Ideal) m ρ)

theorem algebraicIn : @Cert.algebraic_AdamInKernelIdeal_AdamInReferenceIdeal Cert.AdamInKernelIdeal.Gen.facts
    Cert.AdamInReferenceIdeal.Gen.facts := fun m ρ m' ρ' _ same =>
  same_arrays _ same (Cert.AdamInKernelIdeal.Value.run (F := Ideal) m ρ) (Cert.AdamInReferenceIdeal.Value.run (F := Ideal) m' ρ')

/-! The output projection. -/

theorem referenceOut : @Cert.quiescent_AdamOutReferenceIdeal Cert.AdamOutReferenceIdeal.Gen.facts := fun m ρ _ =>
  kept_only (fun r => sem_eq_zero_of_no_sems (by decide) r.2) (Cert.AdamOutReferenceIdeal.Value.run (F := Ideal) m ρ)

theorem algebraicOut : @Cert.algebraic_AdamOutKernelIdeal_AdamOutReferenceIdeal Cert.AdamOutKernelIdeal.Gen.facts
    Cert.AdamOutReferenceIdeal.Gen.facts := fun m ρ m' ρ' _ same =>
  same_arrays _ same (Cert.AdamOutKernelIdeal.Value.run (F := Ideal) m ρ) (Cert.AdamOutReferenceIdeal.Value.run (F := Ideal) m' ρ')

/-! The gate's projection of the third mixer. -/

theorem referenceGlu : @Cert.quiescent_AdamGluReferenceIdeal Cert.AdamGluReferenceIdeal.Gen.facts := fun m ρ _ =>
  kept_only (fun r => sem_eq_zero_of_no_sems (by decide) r.2) (Cert.AdamGluReferenceIdeal.Value.run (F := Ideal) m ρ)

theorem algebraicGlu : @Cert.algebraic_AdamGluKernelIdeal_AdamGluReferenceIdeal Cert.AdamGluKernelIdeal.Gen.facts
    Cert.AdamGluReferenceIdeal.Gen.facts := fun m ρ m' ρ' _ same =>
  same_arrays _ same (Cert.AdamGluKernelIdeal.Value.run (F := Ideal) m ρ) (Cert.AdamGluReferenceIdeal.Value.run (F := Ideal) m' ρ')

/-! The convolution's taps. -/

theorem referenceConv : @Cert.quiescent_AdamConvReferenceIdeal Cert.AdamConvReferenceIdeal.Gen.facts := fun m ρ _ =>
  kept_only (fun r => sem_eq_zero_of_no_sems (by decide) r.2) (Cert.AdamConvReferenceIdeal.Value.run (F := Ideal) m ρ)

theorem algebraicConv : @Cert.algebraic_AdamConvKernelIdeal_AdamConvReferenceIdeal Cert.AdamConvKernelIdeal.Gen.facts
    Cert.AdamConvReferenceIdeal.Gen.facts := fun m ρ m' ρ' _ same =>
  same_arrays _ same (Cert.AdamConvKernelIdeal.Value.run (F := Ideal) m ρ) (Cert.AdamConvReferenceIdeal.Value.run (F := Ideal) m' ρ')

/-! The small weights, packed. -/

theorem referenceSmall : @Cert.quiescent_AdamSmallReferenceIdeal Cert.AdamSmallReferenceIdeal.Gen.facts := fun m ρ _ =>
  kept_only (fun r => sem_eq_zero_of_no_sems (by decide) r.2) (Cert.AdamSmallReferenceIdeal.Value.run (F := Ideal) m ρ)

theorem algebraicSmall : @Cert.algebraic_AdamSmallKernelIdeal_AdamSmallReferenceIdeal Cert.AdamSmallKernelIdeal.Gen.facts
    Cert.AdamSmallReferenceIdeal.Gen.facts := fun m ρ m' ρ' _ same =>
  same_arrays _ same (Cert.AdamSmallKernelIdeal.Value.run (F := Ideal) m ρ) (Cert.AdamSmallReferenceIdeal.Value.run (F := Ideal) m' ρ')

end Cert.AdamClaim

end
-- ==== Proof.FgateFwdRun.lean ====
/- The run of the forget gate's sums: what the body's loop leaves in the result's block. -/
module

public import proofs.«01_k».proof.Proof.Gen.FgateFwdKernelIdeal.Frame
public import Idealize.ShloMosaic.Lib.WritesUnit
public import Idealize.ShloMosaic.Lib.VecWindow
public import Idealize.ShloMosaic.Lib.Pointwise.Index
public import Idealize.ShloMosaic.Lib.Ring

@[expose] public section

set_option maxRecDepth 16384

noncomputable section

namespace Cert.FgateFwdKernelIdeal.Hand

open Cert.FgateFwdKernelIdeal Cert.FgateFwdKernelIdeal.Gen
open Idealize.ShloMosaic Idealize.ShloMosaic.TcCoe

variable {F : FTy → Type} [FloatOps F]

/-- Eight rows of an array, from row `8 * g`. -/
def rows8 (x : Vec F S4096x128 .f32) (g : ℕ) : Vec F S8x128 .f32 := fun y => x (ix2 (Fin.ofNat 4096 (8 * g + (y 0).val)) (y 1))

/-- The row that the scan carries into its trip `k`. -/
def carry (x : Vec F S4096x128 .f32) : ℕ → Vec F S1x128 .f32
  | 0 => k0_pay2
  | k + 1 => k0_pay4 (carry x k) (rows8 x k)

/-- What the scan leaves: the rows of group `g` are written by trip `g`. -/
def scan (x : Vec F S4096x128 .f32) : Vec F S4096x128 .f32 := fun y =>
  k0_pay3 (carry x ((y 0).val / 8)) (rows8 x ((y 0).val / 8)) (ix2 (Fin.ofNat 8 ((y 0).val % 8)) (y 1))

section
variable (𝒱 : Variants) (c : Dev nD) (bd : Option 𝒱.V) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole)

/-- The loop has 512 trips. -/
theorem trips_eq : k0_t1_loop.trips = 512 := by decide

/-- What trip `k` loads. -/
theorem load_rows (v : View sig .tc .vmem S4096x128 .f32) (X : BufTy.Contents (Elt F) v.ty) (k : Fin k0_t1_loop.trips)
    (inb : ∀ a, k0_off1 k a + S8x128.size a ≤ S4096x128.size a) :
    v.readAt (Elt F) (Rect.unit (s := S4096x128) (k0_off1 k) S8x128.size inb).toLoadRect X = rows8 (v.read (Elt F) X) k.val := by
  have hk : k.val < 512 := trips_eq ▸ k.isLt
  have e0 : k0_off1 k 0 = 8 * k.val := congrFun (k0_off1_eq k) 0
  have e1 : k0_off1 k 1 = 0 := congrFun (k0_off1_eq k) 1
  funext y
  have hy0 : (y 0).val < 8 := (y 0).isLt
  refine congrArg (v.read (Elt F) X) (funext fun a => Fin.ext ?_)
  match a with
  | ⟨0, _⟩ =>
    show k0_off1 k 0 + 1 * (y 0).val = (8 * k.val + (y 0).val) % 4096
    omega
  | ⟨1, _⟩ =>
    show k0_off1 k 1 + 1 * (y 1).val = (y 1).val
    omega

theorem trip_result (X : BufTy.Contents (Elt F) arg3.view.ty) (k : Fin k0_t1_loop.trips) (acc : FVec F S1x128 .f32) :
    tripR_k0_t1 (F := F) 𝒱 c bd i arg1 harg1 arg2 harg2 arg3 harg3 k acc X = k0_pay4 acc (rows8 (arg3.view.read (Elt F) X) k.val) := by
  unfold tripR_k0_t1 trip_k0_t1
  exact congrArg (k0_pay4 acc) (load_rows _ X k _)

theorem trip_stores (X : BufTy.Contents (Elt F) arg3.view.ty) (k : Fin k0_t1_loop.trips) (acc : FVec F S1x128 .f32) :
    tripL_k0_t1 (F := F) 𝒱 c bd i arg1 harg1 arg2 harg2 arg3 harg3 k acc X
      = [⟨Rect.unit (s := S4096x128) (k0_off1 k) S8x128.size (k0_off1_inb k), k0_pay3 acc (rows8 (arg3.view.read (Elt F) X) k.val)⟩] := by
  unfold tripL_k0_t1 trip_k0_t1
  rw [← load_rows _ X k (k0_off1_inb k)]

/-- Before trip `k` the carried row is `carry k`; the first `8 * k` rows hold the scan and the others what they held. -/
theorem state (G : BufTy.Contents (Elt F) arg3.view.ty) (k : ℕ) (hk : k ≤ 512) :
    (st_k0_t1 (F := F) 𝒱 c bd i arg1 harg1 arg2 harg2 arg3 harg3 G k0_pay2 k).1 = carry (arg3.view.read (Elt F) G) k
      ∧ ∀ y : S4096x128.Idx,
        arg3.view.read (Elt F) (arg3.view.writes (Elt F) G (st_k0_t1 (F := F) 𝒱 c bd i arg1 harg1 arg2 harg2 arg3 harg3 G k0_pay2 k).2) y
          = if (y 0).val < 8 * k then scan (arg3.view.read (Elt F) G) y else arg3.view.read (Elt F) G y := by
  induction k with
  | zero => exact ⟨rfl, fun y => (if_neg (Nat.not_lt_zero _)).symm⟩
  | succ k ih =>
    obtain ⟨h1, h2⟩ := ih (by omega)
    have hr : rows8 (arg3.view.read (Elt F) (arg3.view.writes (Elt F) G (st_k0_t1 (F := F) 𝒱 c bd i arg1 harg1 arg2 harg2 arg3 harg3 G k0_pay2 k).2)) k
        = rows8 (arg3.view.read (Elt F) G) k := funext fun y => (h2 _).trans (if_neg (by
      have hy : (y 0).val < 8 := (y 0).isLt
      show ¬ (8 * k + (y 0).val) % 4096 < 8 * k
      omega))
    have es := st_k0_t1_succ (F := F) 𝒱 c bd i arg1 harg1 arg2 harg2 arg3 harg3 G k0_pay2 ⟨k, trips_eq.symm ▸ (by omega)⟩
    simp only [trip_result, trip_stores, h1, hr] at es
    rw [es]
    refine ⟨rfl, fun y => ?_⟩
    have hy0 : (y 0).val < 4096 := (y 0).isLt
    have e := k0_off1_eq ⟨k, trips_eq.symm ▸ (by omega)⟩
    by_cases h : 8 * k ≤ (y 0).val ∧ (y 0).val < 8 * (k + 1)
    · refine (View.read_writes_cons_rows_of_mem (o := 8 * k) arg3.view G _ _ _ y (ix2 (Fin.ofNat 8 ((y 0).val % 8)) (y 1)) e ?_ rfl).trans
        (Eq.trans ?_ (if_pos h.2).symm)
      · show (y 0).val = 8 * k + (y 0).val % 8 % 8
        omega
      · have hg : k = (y 0).val / 8 := by omega
        unfold scan
        rw [← hg]
        rfl
    · refine (View.read_writes_cons_rows_of_not_mem (o := 8 * k) (W := 8) arg3.view G _ _ _ y e rfl (by omega)).trans ((h2 y).trans ?_)
      by_cases hl : (y 0).val < 8 * k
      · rw [if_pos hl, if_pos (by omega)]
      · rw [if_neg hl, if_neg (by omega)]

end

/-- The body leaves the scan of the gate's logarithms. -/
theorem out_eq (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole)
    (x0 : Vec F S4096x128 .f32) (x1 : Vec F S1x128 .f32) :
    out0_A_2 c i arg1 harg1 arg2 harg2 arg3 harg3 x0 x1 = scan (k0_pay1 x0 x1) := by
  have e0 : View.readAt (Elt F) arg1.view (Rect.unit ![0, 0] S4096x128.size inb_S4096x128_S4096x128_0_0).toLoadRect (harg1.unread x0) = x0 :=
    (View.readAt_full arg1.view _ _).trans (harg1.read_unread _)
  have e1 : View.readAt (Elt F) arg2.view (Rect.unit ![0, 0] S1x128.size inb_S1x128_S1x128_0_0).toLoadRect (harg2.unread x1) = x1 :=
    (View.readAt_full arg2.view _ _).trans (harg2.read_unread _)
  have eG : arg3.view.read (Elt F) (arg3.view.writes (Elt F) arg3.view.junk (kernelRun0_A.sl.H2_1 c arg1 harg1 arg2 harg2 x0 x1)) = k0_pay1 x0 x1 := by
    unfold kernelRun0_A.sl.H2_1
    rw [e0, e1]
    exact View.read_writes_full arg3.view _ _ _ _
  funext y
  unfold out0_A_2
  rw [View.read_writes_junk_apply_eq_canon, ← View.read_writes_junk_apply_eq_canon arg3.view]
  unfold kernelRun0_A
  dsimp only
  rw [View.writes_append]
  refine ((state (F := F) Variants.none c none i arg1 harg1 arg2 harg2 arg3 harg3 _ 512 le_rfl).2 y).trans ((if_pos ?_).trans ?_)
  · have hy : (y 0).val < 4096 := (y 0).isLt
    omega
  · rw [eG]

end Cert.FgateFwdKernelIdeal.Hand

end
-- ==== Proof.FgateFwdMath.lean ====
/- The forget gate's cumulative logarithm: sums over the tokens so far. -/
module

public import proofs.«01_k».proof.Proof.FgateBwdMath
public import Idealize.ShloMosaic.Lib.Pointwise
public import Idealize.ShloMosaic.PureOps.Ideal.Laws

@[expose] public section

noncomputable section

open Idealize.ShloMosaic Idealize.ShloMosaic.TcCoe

namespace Cert.FgateFwdMath

open Cert.FgateBwdMath (softplus foldl_add)

/-- The sum of a sequence's first `t` entries. -/
def head (f : ℕ → EReal) (t : ℕ) : EReal := ∑ s ∈ Finset.range t, f s

/-- The forget gate's logit, in the first six of 128 columns. -/
def logit (z : FVec Ideal ⟨2, ![4096, 2182]⟩ .f32) (b : FVec Ideal ⟨1, ![6]⟩ .f32) (r : Fin 4096) (d : Fin 128) : EReal :=
  (if h : d.val < 6 then z (ix2 r ⟨1920 + d.val, by omega⟩) else 0) + (if h : d.val < 6 then b (ix1 ⟨d.val, h⟩) else 0)

/-- The logarithm of the sigmoid. -/
def logGate (v : EReal) : EReal := -softplus (-v)

/-- Its sums over the tokens so far. -/
def cum (z : FVec Ideal ⟨2, ![4096, 2182]⟩ .f32) (b : FVec Ideal ⟨1, ![6]⟩ .f32) (r : Fin 4096) (d : Fin 128) : EReal :=
  head (fun s => logGate (logit z b (Fin.ofNat 4096 s) d)) (r.val + 1)

/-- The smaller of a value and its negative is the negative of the larger. -/
theorem min_neg (y : EReal) : min y (-y) = -max y (-y) := by
  rcases le_total y (-y) with h | h
  · rw [min_eq_left h, max_eq_right h, neg_neg]
  · rw [min_eq_right h, max_eq_left h]

/-- The kernel's form of the logarithm. -/
theorem logGate_eq (v : EReal) :
    0 - (max (0 - v) 0 + Ideal.log (1 + Ideal.exp (min (0 - v) (0 - (0 - v))))) = logGate v := by
  simp only [zero_sub]
  rw [min_neg]
  rfl

/-- A sum over windows that end at each entry and start before the first is the sum of the entries up to there. -/
theorem window_at (g : FVec Ideal ⟨2, ![128, 4096]⟩ .f32) (h : Shape.ReduceWindows (s := ⟨2, ![128, 4096]⟩) ![1, 4096] ![1, 1] ![0, 4095] ![0, 0] ⟨2, ![128, 4096]⟩)
    (a : Fin 128) (r : Fin 4096) :
    Ideal.hostReduceWindowAdd ![1, 4096] ![1, 1] ![0, 4095] ![0, 0] h g 0 (ix2 a r)
      = head (fun s => g (ix2 a (Fin.ofNat 4096 s))) (r.val + 1) := by
  have hr : r.val < 4096 := r.isLt
  unfold Ideal.hostReduceWindowAdd Host.reduceWindow
  refine (foldl_add _).trans ?_
  refine (Fintype.sum_equiv (Shape.rowMajor ⟨2, ![1, 4096]⟩).symm _
    (fun i => if 4095 ≤ r.val + (i 1).val then g (ix2 a (Fin.ofNat 4096 (r.val + (i 1).val - 4095))) else 0) fun n => ?_).trans ?_
  · have hi0 : ((Shape.rowMajor ⟨2, ![1, 4096]⟩).symm n (0 : Fin 2)).val < 1 := ((Shape.rowMajor ⟨2, ![1, 4096]⟩).symm n (0 : Fin 2)).isLt
    have hi1 : ((Shape.rowMajor ⟨2, ![1, 4096]⟩).symm n (1 : Fin 2)).val < 4096 := ((Shape.rowMajor ⟨2, ![1, 4096]⟩).symm n (1 : Fin 2)).isLt
    have ha : a.val < 128 := a.isLt
    by_cases hc : 4095 ≤ r.val + ((Shape.rowMajor ⟨2, ![1, 4096]⟩).symm n (1 : Fin 2)).val
    · refine (dif_pos (Fin.forall_fin_two.mpr ⟨⟨Nat.zero_le _, ?_⟩, ⟨?_, ?_⟩⟩)).trans (Eq.trans ?_ (if_pos hc).symm)
      · refine congrArg g (funext fun b => Fin.ext ?_)
        match b with
        | ⟨0, _⟩ =>
          show a.val * 1 + ((Shape.rowMajor ⟨2, ![1, 4096]⟩).symm n (0 : Fin 2)).val - 0 = a.val
          omega
        | ⟨1, _⟩ =>
          show r.val * 1 + ((Shape.rowMajor ⟨2, ![1, 4096]⟩).symm n (1 : Fin 2)).val - 4095
            = (r.val + ((Shape.rowMajor ⟨2, ![1, 4096]⟩).symm n (1 : Fin 2)).val - 4095) % 4096
          omega
      · show a.val * 1 + ((Shape.rowMajor ⟨2, ![1, 4096]⟩).symm n (0 : Fin 2)).val - 0 < 128
        omega
      · show 4095 ≤ r.val * 1 + ((Shape.rowMajor ⟨2, ![1, 4096]⟩).symm n (1 : Fin 2)).val
        omega
      · show r.val * 1 + ((Shape.rowMajor ⟨2, ![1, 4096]⟩).symm n (1 : Fin 2)).val - 4095 < 4096
        omega
    · refine (dif_neg fun h => hc ?_).trans (if_neg hc).symm
      have h1 : 4095 ≤ r.val * 1 + ((Shape.rowMajor ⟨2, ![1, 4096]⟩).symm n (1 : Fin 2)).val := (h (1 : Fin 2)).1
      omega
  · rw [sum_idx2, Fin.sum_univ_one]
    simp only [ix2_1]
    unfold head
    refine (Fin.sum_univ_eq_sum_range (fun k => if 4095 ≤ r.val + k then g (ix2 a (Fin.ofNat 4096 (r.val + k - 4095))) else 0) 4096).trans ?_
    have hf : (Finset.range 4096).filter (fun k => 4095 ≤ r.val + k) = Finset.Ico (4095 - r.val) 4096 := Finset.ext fun k => by
      simp only [Finset.mem_filter, Finset.mem_range, Finset.mem_Ico]
      omega
    rw [← Finset.sum_filter, hf, Finset.sum_Ico_eq_sum_range, show 4096 - (4095 - r.val) = r.val + 1 by omega]
    refine Finset.sum_congr rfl fun k _ => ?_
    rw [show r.val + (4095 - r.val + k) - 4095 = k by omega]

end Cert.FgateFwdMath

end
-- ==== Proof.FgateFwdValue.lean ====
/- The forget gate's sums: the array the kernel's scan leaves, on the extended reals. -/
module

public import proofs.«01_k».proof.Proof.FgateFwdRun
public import proofs.«01_k».proof.Proof.FgateFwdMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FgateFwdKernelIdeal.Hand

open Cert.FgateFwdKernelIdeal Cert.FgateFwdKernelIdeal.Gen Cert.FgateFwdMath

/-! ## The scan as a sum -/

/-- One trip's rows: the sum over the rows of the group up to row `p`, and the carried row. -/
theorem pay3_apply (a : FVec Ideal S1x128 .f32) (v : FVec Ideal S8x128 .f32) (p : Fin 8) (d : Fin 128) :
    k0_pay3 (F := Ideal) a v (ix2 p d) = (∑ q ∈ Finset.range (p.val + 1), v (ix2 (Fin.ofNat 8 q) d)) + a (ix2 0 d) := by
  have h1 : Fin.ofNat 8 1 = 1 := rfl
  match p with
  | ⟨0, _⟩ | ⟨1, _⟩ | ⟨2, _⟩ | ⟨3, _⟩ | ⟨4, _⟩ | ⟨5, _⟩ | ⟨6, _⟩ | ⟨7, _⟩ =>
    refine Eq.trans (by pointwise [k0_pay3]; rfl) (congrArg (· + a (ix2 0 d)) (Eq.trans ?_ (by simp only [Finset.sum_range_succ, Finset.sum_range_zero, h1]; rfl)))
    simp [Scalar.select, IntOp.cmpi]
    try abel

/-- The carried row is the last rows' last. -/
theorem pay4_apply (a : FVec Ideal S1x128 .f32) (v : FVec Ideal S8x128 .f32) (z : Fin 1) (d : Fin 128) :
    k0_pay4 (F := Ideal) a v (ix2 z d) = k0_pay3 (F := Ideal) a v (ix2 7 d) := by
  refine Eq.trans (b := ∑ q : Fin 8, Scalar.select (IntOp.cmpi .eq (BitVec.ofNat 32 q.val) 7#32) (k0_pay3 (F := Ideal) a v (ix2 q d)) 0)
    (by pointwise [k0_pay4]) ?_
  refine (Finset.sum_eq_single (7 : Fin 8) (fun q _ hq => ?_) (fun h => absurd (Finset.mem_univ _) h)).trans rfl
  have : IntOp.cmpi .eq (BitVec.ofNat 32 q.val) 7#32 = 0#1 := by revert q; decide
  rw [this]
  rfl

/-- The rows of one group up to row `p`, and the sum of the rows before the group, are the sum up to that row. -/
theorem group_head (x : FVec Ideal S4096x128 .f32) (d : Fin 128) (g p : ℕ) (hp : p ≤ 8) :
    (∑ q ∈ Finset.range p, rows8 (F := Ideal) x g (ix2 (Fin.ofNat 8 q) d)) + head (fun s => x (ix2 (Fin.ofNat 4096 s) d)) (8 * g)
      = head (fun s => x (ix2 (Fin.ofNat 4096 s) d)) (8 * g + p) := by
  unfold head
  rw [Finset.sum_range_add, add_comm]
  refine congrArg (_ + ·) (Finset.sum_congr rfl fun q hq => ?_)
  have h8 : q < 8 := lt_of_lt_of_le (Finset.mem_range.mp hq) hp
  show x (ix2 (Fin.ofNat 4096 (8 * g + (Fin.ofNat 8 q).val)) d) = x (ix2 (Fin.ofNat 4096 (8 * g + q)) d)
  rw [show (Fin.ofNat 8 q).val = q from Nat.mod_eq_of_lt h8]

/-- The carried row before trip `k`: the sum over the first `8 * k` rows. -/
theorem carry_apply (x : FVec Ideal S4096x128 .f32) (d : Fin 128) (k : ℕ) (z : Fin 1) :
    carry (F := Ideal) x k (ix2 z d) = head (fun s => x (ix2 (Fin.ofNat 4096 s) d)) (8 * k) := by
  induction k generalizing z with
  | zero => exact Eq.trans (b := (0 : EReal)) (by unfold carry; pointwise [k0_pay2]) (by simp [head])
  | succ k ih =>
    have e : carry (F := Ideal) x (k + 1) = k0_pay4 (F := Ideal) (carry (F := Ideal) x k) (rows8 x k) := rfl
    rw [e, pay4_apply, pay3_apply, ih]
    exact group_head x d k 8 le_rfl

theorem scan_apply (x : FVec Ideal S4096x128 .f32) (r : Fin 4096) (d : Fin 128) :
    scan (F := Ideal) x (ix2 r d) = head (fun s => x (ix2 (Fin.ofNat 4096 s) d)) (r.val + 1) := by
  have hr : r.val < 4096 := r.isLt
  refine (pay3_apply (carry (F := Ideal) x (r.val / 8)) (rows8 (F := Ideal) x (r.val / 8)) (Fin.ofNat 8 (r.val % 8)) d).trans ?_
  rw [carry_apply]
  have e : (Fin.ofNat 8 (r.val % 8)).val = r.val % 8 := Nat.mod_mod _ _
  rw [e]
  refine (group_head x d (r.val / 8) (r.val % 8 + 1) (by omega)).trans (congrArg _ ?_)
  omega

/-- The logarithms the scan adds. -/
theorem pay1_apply (x : FVec Ideal S4096x128 .f32) (b : FVec Ideal S1x128 .f32) (r : Fin 4096) (d : Fin 128) :
    k0_pay1 (F := Ideal) x b (ix2 r d) = logGate (x (ix2 r d) + b (ix2 0 d)) := by
  refine Eq.trans ?_ (logGate_eq _)
  pointwise [k0_pay1]

/-! ## The blocks -/

variable (m : (ℓ : Loc nD τ sig) → Buf (Elt Ideal) ℓ)

/-- The mixer's input projection. -/
abbrev aZ (c : Dev nD) : FVec Ideal S4096x2182 .f32 := m ((c : Thread nD τ).loc main_arg0)
/-- The gate's bias. -/
abbrev aB (c : Dev nD) : FVec Ideal S6 .f32 := m ((c : Thread nD τ).loc main_arg1)

/-- The one point's blocks. -/
theorem idx : ∀ t : Fin cfg0.N, win0_0.index t = ![0, 15] ∧ win0_1.index t = ![0, 0] ∧ win0_2.index t = ![0, 0] :=
  (by decide +kernel : ∀ t : Fin grid0.N, _)

/-- The projection with the gap the kernel's tiles want after the gate's columns. -/
theorem entry_z (c : Dev nD) : (show FVec Ideal S4096x2304 .f32 from V m c main_v5)
    = concatenate S4096x2304 1 [⟨S4096x1926, extractStridedSlice S4096x1926 ![0, 0] (aZ m c) slices_S4096x2182_S4096x1926_0_0⟩,
        ⟨S4096x122, broadcastInDim S4096x122 ![] bcast_S_S4096x122 (constant S_ .f32 0x00000000#32)⟩,
        ⟨S4096x256, extractStridedSlice S4096x256 ![0, 1926] (aZ m c) slices_S4096x2182_S4096x256_0_1926⟩]
        concatenates_S4096x1926_S4096x122_S4096x256_S4096x2304_d1 := by
  show StableHlo.after _ _ (Proc.devRef .tc main_v5) = _
  after_reads_simp
  rfl

/-- The bias, padded. -/
theorem entry_b (c : Dev nD) : (show FVec Ideal S1x128 .f32 from V m c main_v1)
    = pad S1x128 ![0, 0] ![0, 122] ![0, 0] (shapeCast S1x6 (aB m c) shapeCasts_S6_S1x6) (sitofp .f32 (constantI S_ 32 0#32)) pads_S1x6_S1x128_000_01220 h_S_ := by
  show StableHlo.after _ _ (Proc.devRef .tc main_v1) = _
  after_reads_simp
  rfl

/-- The logits' block: the projection's columns from 1920 on, and zeros. -/
theorem z_blk (c : Dev nD) (t : Fin cfg0.N) (r : Fin 4096) (d : Fin 128) :
    (show FVec Ideal S4096x128 .f32 from iblk m c 0 t) (ix2 r d) = if h : d.val < 6 then aZ m c (ix2 r ⟨1920 + d.val, by omega⟩) else 0 := by
  refine Eq.trans (b := (show FVec Ideal S4096x2304 .f32 from V m c main_v5) (ix2 r ⟨1920 + d.val, by omega⟩)) (by blk_ext [iblk, idx t]) ?_
  rw [entry_z]
  pointwise
  by_cases h : d.val < 6
  · rw [dif_pos (by omega), dif_pos h]
  · rw [dif_neg (by omega), dif_neg h, dif_pos (by omega)]

/-- The bias's block, padded with zeros. -/
theorem b_blk (c : Dev nD) (t : Fin cfg0.N) (z : Fin 1) (d : Fin 128) :
    (show FVec Ideal S1x128 .f32 from iblk m c 1 t) (ix2 z d) = if h : d.val < 6 then aB m c (ix1 ⟨d.val, h⟩) else 0 := by
  refine Eq.trans (b := (show FVec Ideal S1x128 .f32 from V m c main_v1) (ix2 z d)) (by blk_ext [iblk, idx t]) ?_
  rw [entry_b]
  pointwise
  have h0 : FloatOps.sitofp (F := Ideal) FTy.f32 0#32 = (0 : EReal) := by simp [FloatOps.sitofp]
  rw [h0]

/-- The sums of the gate's logarithms. -/
theorem final2 (c : Dev nD) : (dats m 0 c).arrAt 2 (cfgs 0).N
    = fun i : S4096x128.Idx => cum (aZ m c) (aB m c) (i 0) (i 1) := by
  refine (dats m 0 c).arrAt_eq_of_covers 2 _ (by decide +kernel) fun t hf y => ?_
  blk_simp
  have hr : ((win0_2.blk t).view.emb y 0 : Fin 4096) = (y 0 : Fin 4096) := Fin.ext (by blk_simp [idx t] <;> try omega)
  have hd : ((win0_2.blk t).view.emb y 1 : Fin 128) = (y 1 : Fin 128) := Fin.ext (by blk_simp [idx t] <;> try omega)
  rw [after0_2, hr, hd]
  unfold outsAt0
  rw [out_eq]
  refine (congrArg _ (eq_ix2 (n0 := 4096) (n1 := 128) y)).trans ((scan_apply _ _ _).trans (congrArg (fun f => head f _) (funext fun s => ?_)))
  exact (pay1_apply _ _ _ _).trans <| congrArg logGate (congrArg₂ (· + ·) (z_blk m c t _ _) (b_blk m c t _ _))

end Cert.FgateFwdKernelIdeal.Hand

end
-- ==== Proof.FgateFwdRef.lean ====
/- The forget gate's sums: the array of the reference. -/
module

public import proofs.«01_k».proof.FgateFwdReferenceIdeal
public import proofs.«01_k».proof.Proof.FgateFwdMath
public import proofs.«01_k».proof.Proof.Gen.FgateFwdReferenceIdeal.Run
public import Idealize.ShloMosaic.Lib.Pointwise

@[expose] public section

set_option maxRecDepth 16384

noncomputable section

open Idealize.ShloMosaic Idealize.ShloMosaic.TcCoe Idealize.SL.Sem

namespace Cert.FgateFwdReferenceIdeal.Hand

open Cert.FgateFwdReferenceIdeal Cert.FgateFwdReferenceIdeal.Gen Cert.FgateFwdReferenceIdeal.Value Cert.FgateFwdMath
open Cert.FgateBwdMath (softplus)

variable (z : FVec Ideal S4096x2182 .f32) (b : FVec Ideal S6 .f32)

/-- An array of zeros. -/
abbrev Z0 : FVec Ideal S4096x128 .f32 := broadcastInDim S4096x128 ![] bcast_S_S4096x128 (constant S_ .f32 0x00000000#32)
/-- The logits with their signs turned, -/
abbrev Y : FVec Ideal S4096x128 .f32 :=
  Host.negf (addf (pad S4096x128 ![0, 0] ![0, 122] ![0, 0] (extractStridedSlice S4096x6 ![0, 1920] z slices_S4096x2182_S4096x6_0_1920)
      (constant S_ .f32 0x00000000#32) pads_S4096x6_S4096x128_000_01220 h_S_)
    (broadcastInDim S4096x128 ![0, 1] bcast_S1x128_S4096x128_0_1 (broadcastInDim S1x128 ![1] bcast_S128_S1x128_1
      (pad S128 ![0] ![122] ![0] b (constant S_ .f32 0x00000000#32) pads_S6_S128_01220 h_S_))))
/-- the gate's logarithms, -/
abbrev L (y : FVec Ideal S4096x128 .f32) : FVec Ideal S4096x128 .f32 :=
  Host.negf (select (cmpf .une (subf y Z0) (subf y Z0)) (addf y Z0) (addf (maximumf y Z0) (Host.log1p (Host.exp (Host.negf (Host.absf (subf y Z0)))))))
/-- and their sums over the tokens so far. -/
abbrev C (l : FVec Ideal S4096x128 .f32) : FVec Ideal S128x4096 .f32 :=
  Host.reduceWindowAdd ![1, 4096] ![1, 1] ![0, 4095] ![0, 0] (transpose S128x4096 [1, 0] l transposes_S4096x128_S128x4096_1_0)
    (broadcastInDim S_ ![] bcast_S_S_ (constant S_ .f32 0x00000000#32)) reduceWindows_S128x4096_S128x4096_w1s1p0_0_w4096s1p4095_0 h_S_
/-- The result. -/
abbrev R : FVec Ideal S4096x128 .f32 := transpose S4096x128 [1, 0] (C (L (Y z b))) transposes_S128x4096_S4096x128_1_0

theorem Y_at (r : Fin 4096) (d : Fin 128) : Y z b (ix2 r d) = -logit z b r d := by
  unfold logit
  pointwise

theorem L_at (y : FVec Ideal S4096x128 .f32) (i : S4096x128.Idx) : L y i = -softplus (y i) := by
  refine Eq.trans (b := -(if y i ≠ y i then (y i : EReal) else softplus (y i))) ?_ (congrArg Neg.neg (if_neg (not_not.mpr rfl)))
  unfold softplus
  pointwise
  rfl

theorem C_at (l : FVec Ideal S4096x128 .f32) (d : Fin 128) (r : Fin 4096) :
    C l (ix2 d r) = head (fun s => l (ix2 (Fin.ofNat 4096 s) d)) (r.val + 1) := by
  unfold C Host.reduceWindowAdd
  rw [Ideal.hostReduceWindowAdd_def]
  have h0 : Ideal.ofBits FTy.f32 0x00000000#32 = (0 : EReal) := by simp [Ideal.ofBits, Ideal.ieee]
  have e : broadcastInDim S_ ![] bcast_S_S_ (constant (F := Ideal) S_ .f32 0x00000000#32) (Shape.Idx.first h_S_) = (0 : EReal) := h0
  rw [e]
  refine (window_at _ reduceWindows_S128x4096_S128x4096_w1s1p0_0_w4096s1p4095_0 d r).trans (congrArg (fun f => head f _) (funext fun s => ?_))
  pointwise

theorem R_at (r : Fin 4096) (d : Fin 128) : R z b (ix2 r d) = cum z b r d := by
  have e : ∀ w : FVec Ideal S128x4096 .f32, transpose S4096x128 [1, 0] w transposes_S128x4096_S4096x128_1_0 (ix2 r d) = w (ix2 d r) := fun w => by
    pointwise
  refine (e _).trans ((C_at _ d r).trans (congrArg (fun f => head f _) (funext fun s => ?_)))
  rw [L_at, Y_at]
  rfl

end Cert.FgateFwdReferenceIdeal.Hand

end
-- ==== Proof.FgateFwdClaim.lean ====
/- The claims about the forget gate's sums. -/
module

public import proofs.«01_k».proof.Defs
public import proofs.«01_k».proof.Proof.Gen.FgateFwdKernelIdeal.Value
public import proofs.«01_k».proof.Proof.FgateFwdValue
public import proofs.«01_k».proof.Proof.FgateFwdRef
public import Idealize.ShloMosaic.Adequacy
public import Idealize.ShloMosaic.Init

@[expose] public section

set_option maxRecDepth 16384

noncomputable section

open Idealize.ShloMosaic Idealize.ShloMosaic.TcCoe Idealize.SL.Sem

namespace Cert.FgateFwdClaim

theorem referenceIdeal : @Cert.quiescent_FgateFwdReferenceIdeal Cert.FgateFwdReferenceIdeal.Gen.facts := fun m ρ _ =>
  (θ_run Cert.FgateFwdReferenceIdeal.defs _ _).mono (fun r h => ⟨fun c => (h c).2, sem_eq_zero_of_no_sems (by decide) r.2⟩)
    (Cert.FgateFwdReferenceIdeal.Value.run (F := Ideal) m ρ)

open Cert.FgateFwdReferenceIdeal.Hand in
/-- On the extended reals the kernel and the reference leave the same array. -/
theorem algebraic : @Cert.algebraic_FgateFwdKernelIdeal_FgateFwdReferenceIdeal Cert.FgateFwdKernelIdeal.Gen.facts
    Cert.FgateFwdReferenceIdeal.Gen.facts := by
  intro m ρ m' ρ' _ hagree
  refine ⟨fun c => _, (θ_run Cert.FgateFwdKernelIdeal.defs _ _).mono (fun _ h c =>
    ⟨((h c).1).trans (Cert.FgateFwdKernelIdeal.Hand.final2 m c), (h c).2⟩) (Cert.FgateFwdKernelIdeal.Value.run_blocks (F := Ideal) m ρ), ?_⟩
  refine (θ_run Cert.FgateFwdReferenceIdeal.defs _ _).mono (fun _ h c => ⟨((h c).1).trans ?_, (h c).2⟩)
    (Cert.FgateFwdReferenceIdeal.Value.run (F := Ideal) m' ρ')
  obtain ⟨h0, h1⟩ := hagree c
  rw [h0, h1]
  funext i
  exact (congrArg _ (eq_ix2 (n0 := 4096) (n1 := 128) i)).trans (R_at _ _ (i 0) (i 1))

end Cert.FgateFwdClaim

end
-- ==== Proof.SumSmallClaim.lean ====
/- The claims about the sum of the devices' gradients of the small parameters. -/
module

public import proofs.«01_k».proof.Defs
public import proofs.«01_k».proof.Proof.Gen.SumSmallKernel.Frame
public import proofs.«01_k».proof.Proof.Gen.SumSmallKernelIdeal.Value
public import proofs.«01_k».proof.Proof.Gen.SumSmallReferenceIdeal.Run
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.SumSmallClaim

theorem referenceIdeal : @Cert.quiescent_SumSmallReferenceIdeal Cert.SumSmallReferenceIdeal.Gen.facts := fun m ρ _ =>
  (θ_run Cert.SumSmallReferenceIdeal.defs _ _).mono (fun r h => ⟨fun c => (h c).2, sem_eq_zero_of_no_sems (by decide) r.2⟩)
    (Cert.SumSmallReferenceIdeal.Value.run (F := Ideal) m ρ)

/-- Adding the eight arrays one after the other is their sum over the first axis. -/
theorem sum_eq (x : FVec Ideal ⟨3, ![8, 1992, 128]⟩ .f32) :
    Host.reduceAdd x (constant Cert.SumSmallReferenceIdeal.S_ .f32 0x00000000#32) Cert.SumSmallReferenceIdeal.Gen.reducesTo_S8x1992x128_S1992x128_d0
        Cert.SumSmallReferenceIdeal.Gen.h_S_
      = Cert.SumSmallKernelIdeal.Value.G1 (F := Ideal) x := by
  funext y
  pointwise [Cert.SumSmallKernelIdeal.Value.G1, Cert.SumSmallKernelIdeal.Gen.k0_pay1]
  rw [Fin.sum_univ_eight]

theorem algebraic : @Cert.algebraic_SumSmallKernelIdeal_SumSmallReferenceIdeal Cert.SumSmallKernelIdeal.Gen.facts
    Cert.SumSmallReferenceIdeal.Gen.facts := by
  intro m ρ m' ρ' _ hagree
  refine ⟨fun c => _, Cert.SumSmallKernelIdeal.Value.run (F := Ideal) m ρ, ?_⟩
  refine (θ_run Cert.SumSmallReferenceIdeal.defs _ _).mono (fun _ h c => ⟨((h c).1).trans ?_, (h c).2⟩) (Cert.SumSmallReferenceIdeal.Value.run (F := Ideal) m' ρ')
  rw [hagree c]
  exact sum_eq _

end Cert.SumSmallClaim

end
-- ==== Proof.lean ====
module

public import proofs.«01_k».proof.Defs
public import proofs.«01_k».proof.Proof.FfnBwdClaim
public import proofs.«01_k».proof.Proof.FfnDwClaim
public import proofs.«01_k».proof.Proof.FfnFwdClaim
public import proofs.«01_k».proof.Proof.FgateBwdClaim
public import proofs.«01_k».proof.Proof.MixInClaim
public import proofs.«01_k».proof.Proof.LnBwdClaim
public import proofs.«01_k».proof.Proof.MixOutClaim
public import proofs.«01_k».proof.Proof.MixOutBwdClaim
public import proofs.«01_k».proof.Proof.LossClaim
public import proofs.«01_k».proof.Proof.AdamClaim
public import proofs.«01_k».proof.Proof.FgateFwdClaim
public import proofs.«01_k».proof.Proof.SumSmallClaim
public import proofs.«01_k».proof.Proof.Gen.Pre_finite_inputs
public import proofs.«01_k».proof.Proof.Gen.Pre_finite_norm
public import proofs.«01_k».proof.Proof.Gen.MixOutKernel.Frame
public import proofs.«01_k».proof.Proof.Gen.MixOutKernelIdeal.Frame
public import proofs.«01_k».proof.Proof.Gen.MixOutKernelIdeal.Value
public import proofs.«01_k».proof.Proof.Gen.MixOutReferenceIdeal.Run
public import proofs.«01_k».proof.Proof.Gen.MixOutBwdKernel.Frame
public import proofs.«01_k».proof.Proof.Gen.MixOutBwdKernelIdeal.Frame
public import proofs.«01_k».proof.Proof.Gen.MixOutBwdKernelIdeal.Value
public import proofs.«01_k».proof.Proof.Gen.MixOutBwdReferenceIdeal.Run
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.AdamFfnKernel.Frame
public import proofs.«01_k».proof.Proof.Gen.AdamFfnKernelIdeal.Frame
public import proofs.«01_k».proof.Proof.Gen.AdamFfnKernelIdeal.Value
public import proofs.«01_k».proof.Proof.Gen.AdamFfnReferenceIdeal.Run
public import proofs.«01_k».proof.Proof.Gen.AdamInKernel.Frame
public import proofs.«01_k».proof.Proof.Gen.AdamInKernelIdeal.Frame
public import proofs.«01_k».proof.Proof.Gen.AdamInKernelIdeal.Value
public import proofs.«01_k».proof.Proof.Gen.AdamInReferenceIdeal.Run
public import proofs.«01_k».proof.Proof.Gen.AdamOutKernel.Frame
public import proofs.«01_k».proof.Proof.Gen.AdamOutKernelIdeal.Frame
public import proofs.«01_k».proof.Proof.Gen.AdamOutKernelIdeal.Value
public import proofs.«01_k».proof.Proof.Gen.AdamOutReferenceIdeal.Run
public import proofs.«01_k».proof.Proof.Gen.AdamGluKernel.Frame
public import proofs.«01_k».proof.Proof.Gen.AdamGluKernelIdeal.Frame
public import proofs.«01_k».proof.Proof.Gen.AdamGluKernelIdeal.Value
public import proofs.«01_k».proof.Proof.Gen.AdamGluReferenceIdeal.Run
public import proofs.«01_k».proof.Proof.Gen.AdamConvKernel.Frame
public import proofs.«01_k».proof.Proof.Gen.AdamConvKernelIdeal.Frame
public import proofs.«01_k».proof.Proof.Gen.AdamConvKernelIdeal.Value
public import proofs.«01_k».proof.Proof.Gen.AdamConvReferenceIdeal.Run
public import proofs.«01_k».proof.Proof.Gen.AdamSmallKernel.Frame
public import proofs.«01_k».proof.Proof.Gen.AdamSmallKernelIdeal.Frame
public import proofs.«01_k».proof.Proof.Gen.AdamSmallKernelIdeal.Value
public import proofs.«01_k».proof.Proof.Gen.AdamSmallReferenceIdeal.Run
public import proofs.«01_k».proof.Proof.Gen.FgateFwdKernel.Frame
public import proofs.«01_k».proof.Proof.Gen.FgateFwdKernelIdeal.Frame
public import proofs.«01_k».proof.Proof.Gen.FgateFwdKernelIdeal.Value
public import proofs.«01_k».proof.Proof.Gen.FgateFwdReferenceIdeal.Run
public import proofs.«01_k».proof.Proof.Gen.SumSmallKernel.Frame
public import proofs.«01_k».proof.Proof.Gen.SumSmallKernelIdeal.Frame
public import proofs.«01_k».proof.Proof.Gen.SumSmallKernelIdeal.Value
public import proofs.«01_k».proof.Proof.Gen.SumSmallReferenceIdeal.Run
public import proofs.«01_k».proof.Proof.Gen.Pre_finite_out

@[expose] public section

noncomputable section

namespace Cert.Proof

open Idealize.ShloMosaic Idealize.SL.Sem

theorem claim : Cert.Claim :=
  ⟨Cert.FfnBwdKernel.Gen.facts, Cert.FfnBwdKernelIdeal.Gen.facts, Cert.FfnBwdReferenceIdeal.Gen.facts,
    Cert.FfnDwKernel.Gen.facts, Cert.FfnDwKernelIdeal.Gen.facts, Cert.FfnDwReferenceIdeal.Gen.facts,
    Cert.FfnFwdKernel.Gen.facts, Cert.FfnFwdKernelIdeal.Gen.facts, Cert.FfnFwdReferenceIdeal.Gen.facts,
    Cert.FgateBwdKernel.Gen.facts, Cert.FgateBwdKernelIdeal.Gen.facts, Cert.FgateBwdReferenceIdeal.Gen.facts,
    Cert.MixInKernel.Gen.facts, Cert.MixInKernelIdeal.Gen.facts, Cert.MixInReferenceIdeal.Gen.facts,
    Cert.MixInDxKernel.Gen.facts, Cert.MixInDxKernelIdeal.Gen.facts, Cert.MixInDxReferenceIdeal.Gen.facts,
    Cert.MixInDwKernel.Gen.facts, Cert.MixInDwKernelIdeal.Gen.facts, Cert.MixInDwReferenceIdeal.Gen.facts,
    Cert.LnBwdKernel.Gen.facts, Cert.LnBwdKernelIdeal.Gen.facts, Cert.LnBwdReferenceIdeal.Gen.facts,
    Cert.MixOutKernel.Gen.facts, Cert.MixOutKernelIdeal.Gen.facts, Cert.MixOutReferenceIdeal.Gen.facts,
    Cert.MixOutBwdKernel.Gen.facts, Cert.MixOutBwdKernelIdeal.Gen.facts, Cert.MixOutBwdReferenceIdeal.Gen.facts,
    Cert.LossKernel.Gen.facts, Cert.LossKernelIdeal.Gen.facts, Cert.LossReferenceIdeal.Gen.facts,
    Cert.AdamFfnKernel.Gen.facts, Cert.AdamFfnKernelIdeal.Gen.facts, Cert.AdamFfnReferenceIdeal.Gen.facts,
    Cert.AdamInKernel.Gen.facts, Cert.AdamInKernelIdeal.Gen.facts, Cert.AdamInReferenceIdeal.Gen.facts,
    Cert.AdamOutKernel.Gen.facts, Cert.AdamOutKernelIdeal.Gen.facts, Cert.AdamOutReferenceIdeal.Gen.facts,
    Cert.AdamGluKernel.Gen.facts, Cert.AdamGluKernelIdeal.Gen.facts, Cert.AdamGluReferenceIdeal.Gen.facts,
    Cert.AdamConvKernel.Gen.facts, Cert.AdamConvKernelIdeal.Gen.facts, Cert.AdamConvReferenceIdeal.Gen.facts,
    Cert.AdamSmallKernel.Gen.facts, Cert.AdamSmallKernelIdeal.Gen.facts, Cert.AdamSmallReferenceIdeal.Gen.facts,
    Cert.FgateFwdKernel.Gen.facts, Cert.FgateFwdKernelIdeal.Gen.facts, Cert.FgateFwdReferenceIdeal.Gen.facts,
    Cert.SumSmallKernel.Gen.facts, Cert.SumSmallKernelIdeal.Gen.facts, Cert.SumSmallReferenceIdeal.Gen.facts,
    Cert.Pre_finite_inputs.Gen.facts, Cert.Pre_finite_norm.Gen.facts, Cert.Pre_finite_out.Gen.facts,
    FfnBwdClaim.kernel, FfnBwdClaim.kernelIdeal, FfnBwdClaim.kernelIdeal_pre, FfnBwdClaim.referenceIdeal,
    FfnBwdClaim.referenceIdeal_pre,
    FfnDwClaim.kernel, FfnDwClaim.kernelIdeal, FfnDwClaim.referenceIdeal,
    FfnFwdClaim.kernel, FfnFwdClaim.kernelIdeal, FfnFwdClaim.referenceIdeal,
    FgateBwdClaim.kernel, FgateBwdClaim.kernelIdeal, FgateBwdClaim.referenceIdeal,
    MixInClaim.kernel, MixInClaim.kernelIdeal, MixInClaim.referenceIdeal,
    MixInClaim.kernelDx, MixInClaim.kernelIdealDx, MixInClaim.referenceIdealDx,
    MixInClaim.kernelDw, MixInClaim.kernelIdealDw, MixInClaim.referenceIdealDw,
    LnBwdClaim.kernel, LnBwdClaim.kernelIdeal, LnBwdClaim.kernelIdeal_pre, LnBwdClaim.referenceIdeal,
    LnBwdClaim.referenceIdeal_pre,
    MixOutClaim.kernel, MixOutClaim.kernelIdeal, MixOutClaim.referenceIdeal,
    MixOutBwdClaim.kernel, MixOutBwdClaim.kernelIdeal, MixOutBwdClaim.kernelIdeal_pre, MixOutBwdClaim.referenceIdeal,
    MixOutBwdClaim.referenceIdeal_pre,
    LossClaim.kernel, LossClaim.kernelIdeal, LossClaim.referenceIdeal,
    fun m ρ _ => Cert.AdamFfnKernel.Gen.frame m ρ, fun m ρ _ => Cert.AdamFfnKernelIdeal.Gen.frame m ρ, AdamClaim.referenceFfn,
    fun m ρ _ => Cert.AdamInKernel.Gen.frame m ρ, fun m ρ _ => Cert.AdamInKernelIdeal.Gen.frame m ρ, AdamClaim.referenceIn,
    fun m ρ _ => Cert.AdamOutKernel.Gen.frame m ρ, fun m ρ _ => Cert.AdamOutKernelIdeal.Gen.frame m ρ, AdamClaim.referenceOut,
    fun m ρ _ => Cert.AdamGluKernel.Gen.frame m ρ, fun m ρ _ => Cert.AdamGluKernelIdeal.Gen.frame m ρ, AdamClaim.referenceGlu,
    fun m ρ _ => Cert.AdamConvKernel.Gen.frame m ρ, fun m ρ _ => Cert.AdamConvKernelIdeal.Gen.frame m ρ, AdamClaim.referenceConv,
    fun m ρ _ => Cert.AdamSmallKernel.Gen.frame m ρ, fun m ρ _ => Cert.AdamSmallKernelIdeal.Gen.frame m ρ, AdamClaim.referenceSmall,
    fun m ρ _ => Cert.FgateFwdKernel.Gen.frame m ρ, fun m ρ _ => Cert.FgateFwdKernelIdeal.Gen.frame m ρ, FgateFwdClaim.referenceIdeal,
    fun m ρ _ => Cert.SumSmallKernel.Gen.frame m ρ, fun m ρ _ => Cert.SumSmallKernelIdeal.Gen.frame m ρ, SumSmallClaim.referenceIdeal,
    trivial, FfnBwdClaim.algebraic, trivial, FfnDwClaim.algebraic, trivial, FfnFwdClaim.algebraic,
    trivial, FgateBwdClaim.algebraic,
    trivial, MixInClaim.algebraic, trivial, MixInClaim.algebraicDx, trivial, MixInClaim.algebraicDw,
    trivial, LnBwdClaim.algebraic, trivial, MixOutClaim.algebraic, trivial, MixOutBwdClaim.algebraic,
    trivial, LossClaim.algebraic,
    trivial, AdamClaim.algebraicFfn, trivial, AdamClaim.algebraicIn, trivial, AdamClaim.algebraicOut,
    trivial, AdamClaim.algebraicGlu, trivial, AdamClaim.algebraicConv, trivial, AdamClaim.algebraicSmall,
    trivial, FgateFwdClaim.algebraic, trivial, SumSmallClaim.algebraic⟩

end Cert.Proof

end
